-- ==== Defs.lean ====
def Pre_Kernel [hPre_dest_of_messages : Cert.Pre_dest_of_messages.Facts] (m : (ℓ : Loc Cert.Kernel.nD Cert.Kernel.τ Cert.Kernel.sig) → Buf (Elt Bits) ℓ) : Prop :=
  ∀ c : Dev Cert.Kernel.nD,
    (Cert.Pre_dest_of_messages.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_dest_of_messages : Cert.Pre_dest_of_messages.Facts] (m : (ℓ : Loc Cert.KernelIdeal.nD Cert.KernelIdeal.τ Cert.KernelIdeal.sig) → Buf (Elt Ideal) ℓ) : Prop :=
  ∀ c : Dev Cert.KernelIdeal.nD,
    (Cert.Pre_dest_of_messages.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dest_of_messages [hPre_dest_of_messages : Cert.Pre_dest_of_messages.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_of_messages.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Sender (m : (ℓ : Loc Cert.Sender.nD Cert.Sender.τ Cert.Sender.sig) → Buf (Elt Bits) ℓ) : Prop :=
  True

def Pre_SenderIdeal (m : (ℓ : Loc Cert.SenderIdeal.nD Cert.SenderIdeal.τ Cert.SenderIdeal.sig) → Buf (Elt Ideal) ℓ) : Prop :=
  True

def Pre_SenderIdeal_finite_readout [hPre_finite_readout : Cert.Pre_finite_readout.Facts] (m : (ℓ : Loc Cert.SenderIdeal.nD Cert.SenderIdeal.τ Cert.SenderIdeal.sig) → Buf (Elt Ideal) ℓ) : Prop :=
  ∀ c : Dev Cert.SenderIdeal.nD,
    (Cert.Pre_finite_readout.fn (F := Ideal) (m ((c.tc : Thread Cert.SenderIdeal.nD Cert.SenderIdeal.τ).loc Cert.SenderIdeal.main_arg0)) (m ((c.tc : Thread Cert.SenderIdeal.nD Cert.SenderIdeal.τ).loc Cert.SenderIdeal.main_arg1)) (m ((c.tc : Thread Cert.SenderIdeal.nD Cert.SenderIdeal.τ).loc Cert.SenderIdeal.main_arg2)) (m ((c.tc : Thread Cert.SenderIdeal.nD Cert.SenderIdeal.τ).loc Cert.SenderIdeal.main_arg3))) = (fun _ => 1#1)

def Pre_SenderReferenceIdeal (m : (ℓ : Loc Cert.SenderReferenceIdeal.nD Cert.SenderReferenceIdeal.τ Cert.SenderReferenceIdeal.sig) → Buf (Elt Ideal) ℓ) : Prop :=
  True

def Pre_SenderReferenceIdeal_finite_readout [hPre_finite_readout : Cert.Pre_finite_readout.Facts] (m : (ℓ : Loc Cert.SenderReferenceIdeal.nD Cert.SenderReferenceIdeal.τ Cert.SenderReferenceIdeal.sig) → Buf (Elt Ideal) ℓ) : Prop :=
  ∀ c : Dev Cert.SenderReferenceIdeal.nD,
    (Cert.Pre_finite_readout.fn (F := Ideal) (m ((c.tc : Thread Cert.SenderReferenceIdeal.nD Cert.SenderReferenceIdeal.τ).loc Cert.SenderReferenceIdeal.main_arg0)) (m ((c.tc : Thread Cert.SenderReferenceIdeal.nD Cert.SenderReferenceIdeal.τ).loc Cert.SenderReferenceIdeal.main_arg1)) (m ((c.tc : Thread Cert.SenderReferenceIdeal.nD Cert.SenderReferenceIdeal.τ).loc Cert.SenderReferenceIdeal.main_arg2)) (m ((c.tc : Thread Cert.SenderReferenceIdeal.nD Cert.SenderReferenceIdeal.τ).loc Cert.SenderReferenceIdeal.main_arg3))) = (fun _ => 1#1)

def Pre_WholeIdeal (m : (ℓ : Loc Cert.WholeIdeal.nD Cert.WholeIdeal.τ Cert.WholeIdeal.sig) → Buf (Elt Ideal) ℓ) : Prop :=
  True

def Pre_WholeIdeal_finite_readout [hPre_finite_readout : Cert.Pre_finite_readout.Facts] (m : (ℓ : Loc Cert.WholeIdeal.nD Cert.WholeIdeal.τ Cert.WholeIdeal.sig) → Buf (Elt Ideal) ℓ) : Prop :=
  ∀ c : Dev Cert.WholeIdeal.nD,
    (Cert.Pre_finite_readout.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_finite_readout [hPre_finite_readout : Cert.Pre_finite_readout.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_finite_readout.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2)) (m ((c.tc : Thread Cert.WholeReferenceIdeal.nD Cert.WholeReferenceIdeal.τ).loc Cert.WholeReferenceIdeal.main_arg3))) = (fun _ => 1#1)

def quiescent_Kernel [hKernel : Cert.Kernel.Facts] [hPre_dest_of_messages : Cert.Pre_dest_of_messages.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_dest_of_messages : Cert.Pre_dest_of_messages.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_dest_of_messages [hReferenceIdeal : Cert.ReferenceIdeal.Facts] [hPre_dest_of_messages : Cert.Pre_dest_of_messages.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dest_of_messages m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Sender [hSender : Cert.Sender.Facts] : Prop :=
  ∀ (m : (ℓ : Loc Cert.Sender.nD Cert.Sender.τ Cert.Sender.sig) → Buf (Elt Bits) ℓ) (g : Dev Cert.Sender.nD → PrngReg), Pre_Sender m →
    θ_run (Cert.Sender.defs (F := Bits)) (onTc (τ := Cert.Sender.τ) (Cert.Sender.main (F := Bits))) ⟨m, fun _ => 0, g⟩ (fun r => (∀ c : Dev Cert.Sender.nD,
      r.2.mem ((c.tc : Thread Cert.Sender.nD Cert.Sender.τ).loc Cert.Sender.main_arg0) = m ((c.tc : Thread Cert.Sender.nD Cert.Sender.τ).loc Cert.Sender.main_arg0)
      ∧ r.2.mem ((c.tc : Thread Cert.Sender.nD Cert.Sender.τ).loc Cert.Sender.main_arg1) = m ((c.tc : Thread Cert.Sender.nD Cert.Sender.τ).loc Cert.Sender.main_arg1)
      ∧ r.2.mem ((c.tc : Thread Cert.Sender.nD Cert.Sender.τ).loc Cert.Sender.main_arg2) = m ((c.tc : Thread Cert.Sender.nD Cert.Sender.τ).loc Cert.Sender.main_arg2)
      ∧ r.2.mem ((c.tc : Thread Cert.Sender.nD Cert.Sender.τ).loc Cert.Sender.main_arg3) = m ((c.tc : Thread Cert.Sender.nD Cert.Sender.τ).loc Cert.Sender.main_arg3))
      ∧ r.2.sem = fun _ => 0)

def quiescent_SenderIdeal [hSenderIdeal : Cert.SenderIdeal.Facts] : Prop :=
  ∀ (m : (ℓ : Loc Cert.SenderIdeal.nD Cert.SenderIdeal.τ Cert.SenderIdeal.sig) → Buf (Elt Ideal) ℓ) (g : Dev Cert.SenderIdeal.nD → PrngReg), Pre_SenderIdeal m →
    θ_run (Cert.SenderIdeal.defs (F := Ideal)) (onTc (τ := Cert.SenderIdeal.τ) (Cert.SenderIdeal.main (F := Ideal))) ⟨m, fun _ => 0, g⟩ (fun r => (∀ c : Dev Cert.SenderIdeal.nD,
      r.2.mem ((c.tc : Thread Cert.SenderIdeal.nD Cert.SenderIdeal.τ).loc Cert.SenderIdeal.main_arg0) = m ((c.tc : Thread Cert.SenderIdeal.nD Cert.SenderIdeal.τ).loc Cert.SenderIdeal.main_arg0)
      ∧ r.2.mem ((c.tc : Thread Cert.SenderIdeal.nD Cert.SenderIdeal.τ).loc Cert.SenderIdeal.main_arg1) = m ((c.tc : Thread Cert.SenderIdeal.nD Cert.SenderIdeal.τ).loc Cert.SenderIdeal.main_arg1)
      ∧ r.2.mem ((c.tc : Thread Cert.SenderIdeal.nD Cert.SenderIdeal.τ).loc Cert.SenderIdeal.main_arg2) = m ((c.tc : Thread Cert.SenderIdeal.nD Cert.SenderIdeal.τ).loc Cert.SenderIdeal.main_arg2)
      ∧ r.2.mem ((c.tc : Thread Cert.SenderIdeal.nD Cert.SenderIdeal.τ).loc Cert.SenderIdeal.main_arg3) = m ((c.tc : Thread Cert.SenderIdeal.nD Cert.SenderIdeal.τ).loc Cert.SenderIdeal.main_arg3))
      ∧ r.2.sem = fun _ => 0)

def quiescent_SenderIdeal_pre_finite_readout [hSenderIdeal : Cert.SenderIdeal.Facts] [hPre_finite_readout : Cert.Pre_finite_readout.Facts] : Prop :=
  ∀ (m : (ℓ : Loc Cert.SenderIdeal.nD Cert.SenderIdeal.τ Cert.SenderIdeal.sig) → Buf (Elt Ideal) ℓ) (g : Dev Cert.SenderIdeal.nD → PrngReg), Pre_SenderIdeal_finite_readout m →
    θ_run (Cert.SenderIdeal.defs (F := Ideal)) (onTc (τ := Cert.SenderIdeal.τ) (Cert.SenderIdeal.main (F := Ideal))) ⟨m, fun _ => 0, g⟩ (fun r => (∀ c : Dev Cert.SenderIdeal.nD,
      r.2.mem ((c.tc : Thread Cert.SenderIdeal.nD Cert.SenderIdeal.τ).loc Cert.SenderIdeal.main_arg0) = m ((c.tc : Thread Cert.SenderIdeal.nD Cert.SenderIdeal.τ).loc Cert.SenderIdeal.main_arg0)
      ∧ r.2.mem ((c.tc : Thread Cert.SenderIdeal.nD Cert.SenderIdeal.τ).loc Cert.SenderIdeal.main_arg1) = m ((c.tc : Thread Cert.SenderIdeal.nD Cert.SenderIdeal.τ).loc Cert.SenderIdeal.main_arg1)
      ∧ r.2.mem ((c.tc : Thread Cert.SenderIdeal.nD Cert.SenderIdeal.τ).loc Cert.SenderIdeal.main_arg2) = m ((c.tc : Thread Cert.SenderIdeal.nD Cert.SenderIdeal.τ).loc Cert.SenderIdeal.main_arg2)
      ∧ r.2.mem ((c.tc : Thread Cert.SenderIdeal.nD Cert.SenderIdeal.τ).loc Cert.SenderIdeal.main_arg3) = m ((c.tc : Thread Cert.SenderIdeal.nD Cert.SenderIdeal.τ).loc Cert.SenderIdeal.main_arg3))
      ∧ r.2.sem = fun _ => 0)

def quiescent_SenderReferenceIdeal [hSenderReferenceIdeal : Cert.SenderReferenceIdeal.Facts] : Prop :=
  ∀ (m : (ℓ : Loc Cert.SenderReferenceIdeal.nD Cert.SenderReferenceIdeal.τ Cert.SenderReferenceIdeal.sig) → Buf (Elt Ideal) ℓ) (g : Dev Cert.SenderReferenceIdeal.nD → PrngReg), Pre_SenderReferenceIdeal m →
    θ_run (Cert.SenderReferenceIdeal.defs (F := Ideal)) (onTc (τ := Cert.SenderReferenceIdeal.τ) (Cert.SenderReferenceIdeal.main (F := Ideal))) ⟨m, fun _ => 0, g⟩ (fun r => (∀ c : Dev Cert.SenderReferenceIdeal.nD,
      r.2.mem ((c.tc : Thread Cert.SenderReferenceIdeal.nD Cert.SenderReferenceIdeal.τ).loc Cert.SenderReferenceIdeal.main_arg0) = m ((c.tc : Thread Cert.SenderReferenceIdeal.nD Cert.SenderReferenceIdeal.τ).loc Cert.SenderReferenceIdeal.main_arg0)
      ∧ r.2.mem ((c.tc : Thread Cert.SenderReferenceIdeal.nD Cert.SenderReferenceIdeal.τ).loc Cert.SenderReferenceIdeal.main_arg1) = m ((c.tc : Thread Cert.SenderReferenceIdeal.nD Cert.SenderReferenceIdeal.τ).loc Cert.SenderReferenceIdeal.main_arg1)
      ∧ r.2.mem ((c.tc : Thread Cert.SenderReferenceIdeal.nD Cert.SenderReferenceIdeal.τ).loc Cert.SenderReferenceIdeal.main_arg2) = m ((c.tc : Thread Cert.SenderReferenceIdeal.nD Cert.SenderReferenceIdeal.τ).loc Cert.SenderReferenceIdeal.main_arg2)
      ∧ r.2.mem ((c.tc : Thread Cert.SenderReferenceIdeal.nD Cert.SenderReferenceIdeal.τ).loc Cert.SenderReferenceIdeal.main_arg3) = m ((c.tc : Thread Cert.SenderReferenceIdeal.nD Cert.SenderReferenceIdeal.τ).loc Cert.SenderReferenceIdeal.main_arg3))
      ∧ r.2.sem = fun _ => 0)

def quiescent_SenderReferenceIdeal_pre_finite_readout [hSenderReferenceIdeal : Cert.SenderReferenceIdeal.Facts] [hPre_finite_readout : Cert.Pre_finite_readout.Facts] : Prop :=
  ∀ (m : (ℓ : Loc Cert.SenderReferenceIdeal.nD Cert.SenderReferenceIdeal.τ Cert.SenderReferenceIdeal.sig) → Buf (Elt Ideal) ℓ) (g : Dev Cert.SenderReferenceIdeal.nD → PrngReg), Pre_SenderReferenceIdeal_finite_readout m →
    θ_run (Cert.SenderReferenceIdeal.defs (F := Ideal)) (onTc (τ := Cert.SenderReferenceIdeal.τ) (Cert.SenderReferenceIdeal.main (F := Ideal))) ⟨m, fun _ => 0, g⟩ (fun r => (∀ c : Dev Cert.SenderReferenceIdeal.nD,
      r.2.mem ((c.tc : Thread Cert.SenderReferenceIdeal.nD Cert.SenderReferenceIdeal.τ).loc Cert.SenderReferenceIdeal.main_arg0) = m ((c.tc : Thread Cert.SenderReferenceIdeal.nD Cert.SenderReferenceIdeal.τ).loc Cert.SenderReferenceIdeal.main_arg0)
      ∧ r.2.mem ((c.tc : Thread Cert.SenderReferenceIdeal.nD Cert.SenderReferenceIdeal.τ).loc Cert.SenderReferenceIdeal.main_arg1) = m ((c.tc : Thread Cert.SenderReferenceIdeal.nD Cert.SenderReferenceIdeal.τ).loc Cert.SenderReferenceIdeal.main_arg1)
      ∧ r.2.mem ((c.tc : Thread Cert.SenderReferenceIdeal.nD Cert.SenderReferenceIdeal.τ).loc Cert.SenderReferenceIdeal.main_arg2) = m ((c.tc : Thread Cert.SenderReferenceIdeal.nD Cert.SenderReferenceIdeal.τ).loc Cert.SenderReferenceIdeal.main_arg2)
      ∧ r.2.mem ((c.tc : Thread Cert.SenderReferenceIdeal.nD Cert.SenderReferenceIdeal.τ).loc Cert.SenderReferenceIdeal.main_arg3) = m ((c.tc : Thread Cert.SenderReferenceIdeal.nD Cert.SenderReferenceIdeal.τ).loc Cert.SenderReferenceIdeal.main_arg3))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3))
      ∧ r.2.sem = fun _ => 0)

def quiescent_WholeIdeal_pre_finite_readout [hWholeIdeal : Cert.WholeIdeal.Facts] [hPre_finite_readout : Cert.Pre_finite_readout.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_finite_readout m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3))
      ∧ r.2.sem = fun _ => 0)

def quiescent_WholeReferenceIdeal_pre_finite_readout [hWholeReferenceIdeal : Cert.WholeReferenceIdeal.Facts] [hPre_finite_readout : Cert.Pre_finite_readout.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_finite_readout m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_of_messages : Cert.Pre_dest_of_messages.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Sender_SenderIdeal : Prop :=
  True

def algebraic_SenderIdeal_SenderReferenceIdeal_pre_finite_readout [hSenderIdeal : Cert.SenderIdeal.Facts] [hSenderReferenceIdeal : Cert.SenderReferenceIdeal.Facts] [hPre_finite_readout : Cert.Pre_finite_readout.Facts] : Prop :=
  ∀ (m : (ℓ : Loc Cert.SenderIdeal.nD Cert.SenderIdeal.τ Cert.SenderIdeal.sig) → Buf (Elt Ideal) ℓ) (g : Dev Cert.SenderIdeal.nD → PrngReg)
    (m' : (ℓ : Loc Cert.SenderReferenceIdeal.nD Cert.SenderReferenceIdeal.τ Cert.SenderReferenceIdeal.sig) → Buf (Elt Ideal) ℓ) (g' : Dev Cert.SenderReferenceIdeal.nD → PrngReg), Pre_SenderIdeal_finite_readout m →
    (∀ c : Dev Cert.SenderIdeal.nD,
      m' ((c.tc : Thread Cert.SenderReferenceIdeal.nD Cert.SenderReferenceIdeal.τ).loc Cert.SenderReferenceIdeal.main_arg0) = m ((c.tc : Thread Cert.SenderIdeal.nD Cert.SenderIdeal.τ).loc Cert.SenderIdeal.main_arg0)
      ∧ m' ((c.tc : Thread Cert.SenderReferenceIdeal.nD Cert.SenderReferenceIdeal.τ).loc Cert.SenderReferenceIdeal.main_arg1) = m ((c.tc : Thread Cert.SenderIdeal.nD Cert.SenderIdeal.τ).loc Cert.SenderIdeal.main_arg1)
      ∧ m' ((c.tc : Thread Cert.SenderReferenceIdeal.nD Cert.SenderReferenceIdeal.τ).loc Cert.SenderReferenceIdeal.main_arg2) = m ((c.tc : Thread Cert.SenderIdeal.nD Cert.SenderIdeal.τ).loc Cert.SenderIdeal.main_arg2)
      ∧ m' ((c.tc : Thread Cert.SenderReferenceIdeal.nD Cert.SenderReferenceIdeal.τ).loc Cert.SenderReferenceIdeal.main_arg3) = m ((c.tc : Thread Cert.SenderIdeal.nD Cert.SenderIdeal.τ).loc Cert.SenderIdeal.main_arg3)) →
    ∃ (v0 : (c : Dev Cert.SenderIdeal.nD) → Buf (Elt Ideal) ((c.tc : Thread Cert.SenderIdeal.nD Cert.SenderIdeal.τ).loc Cert.SenderIdeal.main_v5_0)) (v1 : (c : Dev Cert.SenderIdeal.nD) → Buf (Elt Ideal) ((c.tc : Thread Cert.SenderIdeal.nD Cert.SenderIdeal.τ).loc Cert.SenderIdeal.main_v5_1)) (v2 : (c : Dev Cert.SenderIdeal.nD) → Buf (Elt Ideal) ((c.tc : Thread Cert.SenderIdeal.nD Cert.SenderIdeal.τ).loc Cert.SenderIdeal.main_v5_2)) (v3 : (c : Dev Cert.SenderIdeal.nD) → Buf (Elt Ideal) ((c.tc : Thread Cert.SenderIdeal.nD Cert.SenderIdeal.τ).loc Cert.SenderIdeal.main_v5_3)),
      θ_run (Cert.SenderIdeal.defs (F := Ideal)) (onTc (τ := Cert.SenderIdeal.τ) (Cert.SenderIdeal.main (F := Ideal))) ⟨m, fun _ => 0, g⟩ (fun r => ∀ c : Dev Cert.SenderIdeal.nD,
          r.2.mem ((c.tc : Thread Cert.SenderIdeal.nD Cert.SenderIdeal.τ).loc Cert.SenderIdeal.main_v5_0) = v0 c
          ∧ r.2.mem ((c.tc : Thread Cert.SenderIdeal.nD Cert.SenderIdeal.τ).loc Cert.SenderIdeal.main_v5_1) = v1 c
          ∧ r.2.mem ((c.tc : Thread Cert.SenderIdeal.nD Cert.SenderIdeal.τ).loc Cert.SenderIdeal.main_v5_2) = v2 c
          ∧ r.2.mem ((c.tc : Thread Cert.SenderIdeal.nD Cert.SenderIdeal.τ).loc Cert.SenderIdeal.main_v5_3) = v3 c
          ∧ r.2.mem ((c.tc : Thread Cert.SenderIdeal.nD Cert.SenderIdeal.τ).loc Cert.SenderIdeal.main_arg0) = m ((c.tc : Thread Cert.SenderIdeal.nD Cert.SenderIdeal.τ).loc Cert.SenderIdeal.main_arg0)
          ∧ r.2.mem ((c.tc : Thread Cert.SenderIdeal.nD Cert.SenderIdeal.τ).loc Cert.SenderIdeal.main_arg1) = m ((c.tc : Thread Cert.SenderIdeal.nD Cert.SenderIdeal.τ).loc Cert.SenderIdeal.main_arg1)
          ∧ r.2.mem ((c.tc : Thread Cert.SenderIdeal.nD Cert.SenderIdeal.τ).loc Cert.SenderIdeal.main_arg2) = m ((c.tc : Thread Cert.SenderIdeal.nD Cert.SenderIdeal.τ).loc Cert.SenderIdeal.main_arg2)
          ∧ r.2.mem ((c.tc : Thread Cert.SenderIdeal.nD Cert.SenderIdeal.τ).loc Cert.SenderIdeal.main_arg3) = m ((c.tc : Thread Cert.SenderIdeal.nD Cert.SenderIdeal.τ).loc Cert.SenderIdeal.main_arg3))
      ∧ θ_run (Cert.SenderReferenceIdeal.defs (F := Ideal)) (onTc (τ := Cert.SenderReferenceIdeal.τ) (Cert.SenderReferenceIdeal.main (F := Ideal))) ⟨m', fun _ => 0, g'⟩ (fun r => ∀ c : Dev Cert.SenderReferenceIdeal.nD,
          r.2.mem ((c.tc : Thread Cert.SenderReferenceIdeal.nD Cert.SenderReferenceIdeal.τ).loc Cert.SenderReferenceIdeal.main_v7) = v0 c
          ∧ r.2.mem ((c.tc : Thread Cert.SenderReferenceIdeal.nD Cert.SenderReferenceIdeal.τ).loc Cert.SenderReferenceIdeal.main_v10) = v1 c
          ∧ r.2.mem ((c.tc : Thread Cert.SenderReferenceIdeal.nD Cert.SenderReferenceIdeal.τ).loc Cert.SenderReferenceIdeal.main_v14) = v2 c
          ∧ r.2.mem ((c.tc : Thread Cert.SenderReferenceIdeal.nD Cert.SenderReferenceIdeal.τ).loc Cert.SenderReferenceIdeal.main_v61) = v3 c
          ∧ r.2.mem ((c.tc : Thread Cert.SenderReferenceIdeal.nD Cert.SenderReferenceIdeal.τ).loc Cert.SenderReferenceIdeal.main_arg0) = m' ((c.tc : Thread Cert.SenderReferenceIdeal.nD Cert.SenderReferenceIdeal.τ).loc Cert.SenderReferenceIdeal.main_arg0)
          ∧ r.2.mem ((c.tc : Thread Cert.SenderReferenceIdeal.nD Cert.SenderReferenceIdeal.τ).loc Cert.SenderReferenceIdeal.main_arg1) = m' ((c.tc : Thread Cert.SenderReferenceIdeal.nD Cert.SenderReferenceIdeal.τ).loc Cert.SenderReferenceIdeal.main_arg1)
          ∧ r.2.mem ((c.tc : Thread Cert.SenderReferenceIdeal.nD Cert.SenderReferenceIdeal.τ).loc Cert.SenderReferenceIdeal.main_arg2) = m' ((c.tc : Thread Cert.SenderReferenceIdeal.nD Cert.SenderReferenceIdeal.τ).loc Cert.SenderReferenceIdeal.main_arg2)
          ∧ r.2.mem ((c.tc : Thread Cert.SenderReferenceIdeal.nD Cert.SenderReferenceIdeal.τ).loc Cert.SenderReferenceIdeal.main_arg3) = m' ((c.tc : Thread Cert.SenderReferenceIdeal.nD Cert.SenderReferenceIdeal.τ).loc Cert.SenderReferenceIdeal.main_arg3))

def algebraic_WholeIdeal_WholeReferenceIdeal_pre_finite_readout [hWholeIdeal : Cert.WholeIdeal.Facts] [hWholeReferenceIdeal : Cert.WholeReferenceIdeal.Facts] [hPre_finite_readout : Cert.Pre_finite_readout.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_finite_readout m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)) →
    ∃ (v0 : (c : Dev Cert.WholeIdeal.nD) → Buf (Elt Ideal) ((c.tc : Thread Cert.WholeIdeal.nD Cert.WholeIdeal.τ).loc Cert.WholeIdeal.main_v15_1)) (v1 : (c : Dev Cert.WholeIdeal.nD) → Buf (Elt Ideal) ((c.tc : Thread Cert.WholeIdeal.nD Cert.WholeIdeal.τ).loc Cert.WholeIdeal.main_v16)) (v2 : (c : Dev Cert.WholeIdeal.nD) → Buf (Elt Ideal) ((c.tc : Thread Cert.WholeIdeal.nD Cert.WholeIdeal.τ).loc Cert.WholeIdeal.main_v17)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v15_1) = v0 c
          ∧ r.2.mem ((c.tc : Thread Cert.WholeIdeal.nD Cert.WholeIdeal.τ).loc Cert.WholeIdeal.main_v16) = v1 c
          ∧ r.2.mem ((c.tc : Thread Cert.WholeIdeal.nD Cert.WholeIdeal.τ).loc Cert.WholeIdeal.main_v17) = v2 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v80) = v0 c
          ∧ r.2.mem ((c.tc : Thread Cert.WholeReferenceIdeal.nD Cert.WholeReferenceIdeal.τ).loc Cert.WholeReferenceIdeal.main_v90) = v1 c
          ∧ r.2.mem ((c.tc : Thread Cert.WholeReferenceIdeal.nD Cert.WholeReferenceIdeal.τ).loc Cert.WholeReferenceIdeal.main_v100) = v2 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3))

def Claim : Prop :=
  ∃ (hKernel : Cert.Kernel.Facts) (hKernelIdeal : Cert.KernelIdeal.Facts) (hReferenceIdeal : Cert.ReferenceIdeal.Facts) (hSender : Cert.Sender.Facts) (hSenderIdeal : Cert.SenderIdeal.Facts) (hSenderReferenceIdeal : Cert.SenderReferenceIdeal.Facts) (hWholeIdeal : Cert.WholeIdeal.Facts) (hWholeReferenceIdeal : Cert.WholeReferenceIdeal.Facts) (hPre_dest_of_messages : Cert.Pre_dest_of_messages.Facts) (hPre_finite_readout : Cert.Pre_finite_readout.Facts),
    quiescent_Kernel (hKernel := hKernel) (hPre_dest_of_messages := hPre_dest_of_messages)
    ∧ quiescent_KernelIdeal (hKernelIdeal := hKernelIdeal) (hPre_dest_of_messages := hPre_dest_of_messages)
    ∧ quiescent_ReferenceIdeal (hReferenceIdeal := hReferenceIdeal)
    ∧ quiescent_ReferenceIdeal_pre_dest_of_messages (hReferenceIdeal := hReferenceIdeal) (hPre_dest_of_messages := hPre_dest_of_messages)
    ∧ quiescent_Sender (hSender := hSender)
    ∧ quiescent_SenderIdeal (hSenderIdeal := hSenderIdeal)
    ∧ quiescent_SenderIdeal_pre_finite_readout (hSenderIdeal := hSenderIdeal) (hPre_finite_readout := hPre_finite_readout)
    ∧ quiescent_SenderReferenceIdeal (hSenderReferenceIdeal := hSenderReferenceIdeal)
    ∧ quiescent_SenderReferenceIdeal_pre_finite_readout (hSenderReferenceIdeal := hSenderReferenceIdeal) (hPre_finite_readout := hPre_finite_readout)
    ∧ quiescent_WholeIdeal (hWholeIdeal := hWholeIdeal)
    ∧ quiescent_WholeIdeal_pre_finite_readout (hWholeIdeal := hWholeIdeal) (hPre_finite_readout := hPre_finite_readout)
    ∧ quiescent_WholeReferenceIdeal (hWholeReferenceIdeal := hWholeReferenceIdeal)
    ∧ quiescent_WholeReferenceIdeal_pre_finite_readout (hWholeReferenceIdeal := hWholeReferenceIdeal) (hPre_finite_readout := hPre_finite_readout)
    ∧ preserves_Kernel_KernelIdeal
    ∧ algebraic_KernelIdeal_ReferenceIdeal (hKernelIdeal := hKernelIdeal) (hReferenceIdeal := hReferenceIdeal) (hPre_dest_of_messages := hPre_dest_of_messages)
    ∧ preserves_Sender_SenderIdeal
    ∧ algebraic_SenderIdeal_SenderReferenceIdeal_pre_finite_readout (hSenderIdeal := hSenderIdeal) (hSenderReferenceIdeal := hSenderReferenceIdeal) (hPre_finite_readout := hPre_finite_readout)
    ∧ algebraic_WholeIdeal_WholeReferenceIdeal_pre_finite_readout (hWholeIdeal := hWholeIdeal) (hWholeReferenceIdeal := hWholeReferenceIdeal) (hPre_finite_readout := hPre_finite_readout)
-- ==== Pre_dest_of_messages.lean ====
abbrev S16x8x512 : Shape := ⟨3, ![16, 8, 512]⟩
abbrev S_ : Shape := ⟨0, ![]⟩
abbrev S16x8 : Shape := ⟨2, ![16, 8]⟩
abbrev S16 : Shape := ⟨1, ![16]⟩
abbrev S512 : Shape := ⟨1, ![512]⟩
abbrev S1x1x512 : Shape := ⟨3, ![1, 1, 512]⟩
abbrev S16x8x1 : Shape := ⟨3, ![16, 8, 1]⟩
abbrev S16x1x1 : Shape := ⟨3, ![16, 1, 1]⟩

class Facts : Prop where
  bcast_S_S16x8x512 : S_.BroadcastsInDim S16x8x512 (![] : Fin 0 → Fin S16x8x512.rank)
  natLt_1_32 : 1 < 32
  bcast_S_S_ : S_.BroadcastsInDim S_ (![] : Fin 0 → Fin S_.rank)
  reduceWindows_S16x8x512_S16x8x512_w1s1p0_0_w1s1p0_0_w512s1p511_0 : S16x8x512.ReduceWindows (![1, 1, 512] : Fin 3 → Nat) ![1, 1, 1] ![0, 0, 511] ![0, 0, 0] S16x8x512
  h_S_ : 0 < S_.numel
  reducesTo_S16x8x512_S16x8_d2 : S16x8x512.ReducesTo [2] S16x8
  bcast_S_S16x8 : S_.BroadcastsInDim S16x8 (![] : Fin 0 → Fin S16x8.rank)
  reduceWindows_S16x8_S16x8_w1s1p0_0_w8s1p7_0 : S16x8.ReduceWindows (![1, 8] : Fin 2 → Nat) ![1, 1] ![0, 7] ![0, 0] S16x8
  reducesTo_S16x8_S16_d1 : S16x8.ReducesTo [1] S16
  bcast_S512_S1x1x512_2 : S512.BroadcastsInDim S1x1x512 (![2] : Fin 1 → Fin S1x1x512.rank)
  bcast_S16x8_S16x8x1_0_1 : S16x8.BroadcastsInDim S16x8x1 (![0, 1] : Fin 2 → Fin S16x8x1.rank)
  bcast_S1x1x512_S16x8x512_0_1_2 : S1x1x512.BroadcastsInDim S16x8x512 (![0, 1, 2] : Fin 3 → Fin S16x8x512.rank)
  bcast_S16x8x1_S16x8x512_0_1_2 : S16x8x1.BroadcastsInDim S16x8x512 (![0, 1, 2] : Fin 3 → Fin S16x8x512.rank)
  bcast_S16_S16x1x1_0 : S16.BroadcastsInDim S16x1x1 (![0] : Fin 1 → Fin S16x1x1.rank)
  bcast_S16x1x1_S16x8x1_0_1_2 : S16x1x1.BroadcastsInDim S16x8x1 (![0, 1, 2] : Fin 3 → Fin S16x8x1.rank)
  reducesTo_S16x8x512_S_d0_1_2 : S16x8x512.ReducesTo [0, 1, 2] S_

variable [Facts]

def fn_cumsum_0 {F : FTy → Type} [FloatOps F] (arg0 : IVec S16x8x512 32) : IVec S16x8x512 32 :=
  let c : IVec S_ 32 := constantI S_ 32 0#32
  let v0 : IVec S_ 32 := broadcastInDim S_ ![] bcast_S_S_ c
  let v1 : IVec S16x8x512 32 := (fun x v => Host.reduceWindow IntOp.addi ![1, 1, 512] ![1, 1, 1] ![0, 0, 511] ![0, 0, 0] x v reduceWindows_S16x8x512_S16x8x512_w1s1p0_0_w1s1p0_0_w512s1p511_0 h_S_) arg0 v0
  v1

def fn_cumsum {F : FTy → Type} [FloatOps F] (arg0 : IVec S16x8x512 1) : IVec S16x8x512 32 :=
  let v0 : IVec S16x8x512 32 := (extui 32 · natLt_1_32) arg0
  let v1 : IVec S16x8x512 32 := fn_cumsum_0 (F := F) v0
  v1

def fn_cumsum_2 {F : FTy → Type} [FloatOps F] (arg0 : IVec S16x8 32) : IVec S16x8 32 :=
  let c : IVec S_ 32 := constantI S_ 32 0#32
  let v0 : IVec S_ 32 := broadcastInDim S_ ![] bcast_S_S_ c
  let v1 : IVec S16x8 32 := (fun x v => Host.reduceWindow IntOp.addi ![1, 8] ![1, 1] ![0, 7] ![0, 0] x v reduceWindows_S16x8_S16x8_w1s1p0_0_w8s1p7_0 h_S_) arg0 v0
  v1

def fn_cumsum_1 {F : FTy → Type} [FloatOps F] (arg0 : IVec S16x8 32) : IVec S16x8 32 :=
  let v0 : IVec S16x8 32 := fn_cumsum_2 (F := F) arg0
  v0

def fn_where {F : FTy → Type} [FloatOps F] (arg0 : IVec S16x8x512 1) (arg1 : IVec S16x8x512 32) (arg2 : IVec S16x8x512 32) : IVec S16x8x512 32 :=
  let v0 : IVec S16x8x512 32 := select arg0 arg1 arg2
  v0

def fn_part2 {F : FTy → Type} [FloatOps F] (main_arg3 : IVec S16x8x512 32) (main_v27 : IVec S16x8x512 1) (main_v31 : IVec S16x8x512 32) (main_v35 : IVec S16x8x1 32) (main_v37 : IVec S16x8x512 32) (main_v38 : IVec S16x8x512 32) : IVec S_ 1 :=
  let main_v39 : IVec S16x8x512 32 := subi main_v37 main_v38
  let main_v40 : IVec S16x8x512 32 := broadcastInDim S16x8x512 ![0, 1, 2] bcast_S16x8x1_S16x8x512_0_1_2 main_v35
  let main_v41 : IVec S16x8x512 32 := addi main_v40 main_v39
  let main_v42 : IVec S16x8x512 32 := fn_where (F := F) main_v27 main_v31 main_v41
  let main_v43 : IVec S16x8x512 1 := cmpi .eq main_arg3 main_v42
  let main_c_8 : IVec S_ 1 := constantI S_ 1 1#1
  let main_v44 : IVec S_ 1 := (fun x v => Host.reduce IntOp.andi x v reducesTo_S16x8x512_S_d0_1_2 h_S_) main_v43 main_c_8
  main_v44

def fn_part1 {F : FTy → Type} [FloatOps F] (main_arg3 : IVec S16x8x512 32) (main_v14 : IVec S16x8 32) (main_v16 : IVec S16x8 32) : IVec S_ 1 :=
  let main_c_6 : IVec S_ 32 := constantI S_ 32 0#32
  let main_v17 : IVec S16 32 := (fun x v => Host.reduce IntOp.addi x v reducesTo_S16x8_S16_d1 h_S_) main_v14 main_c_6
  let main_c_7 : IVec S_ 32 := constantI S_ 32 512#32
  let main_v18 : IVec S16x8 32 := broadcastInDim S16x8 ![] bcast_S_S16x8 main_c_7
  let main_v19 : IVec S16x8 32 := subi main_v18 main_v14
  let main_v20 : IVec S16x8 32 := fn_cumsum_1 (F := F) main_v19
  let main_v21 : IVec S16x8 32 := subi main_v20 main_v19
  let main_v22 : IVec S512 32 := iotaInDim S512 32 0
  let main_v23 : IVec S1x1x512 32 := broadcastInDim S1x1x512 ![2] bcast_S512_S1x1x512_2 main_v22
  let main_v24 : IVec S16x8x1 32 := broadcastInDim S16x8x1 ![0, 1] bcast_S16x8_S16x8x1_0_1 main_v14
  let main_v25 : IVec S16x8x512 32 := broadcastInDim S16x8x512 ![0, 1, 2] bcast_S1x1x512_S16x8x512_0_1_2 main_v23
  let main_v26 : IVec S16x8x512 32 := broadcastInDim S16x8x512 ![0, 1, 2] bcast_S16x8x1_S16x8x512_0_1_2 main_v24
  let main_v27 : IVec S16x8x512 1 := cmpi .slt main_v25 main_v26
  let main_v28 : IVec S16x8x1 32 := broadcastInDim S16x8x1 ![0, 1] bcast_S16x8_S16x8x1_0_1 main_v16
  let main_v29 : IVec S16x8x512 32 := broadcastInDim S16x8x512 ![0, 1, 2] bcast_S16x8x1_S16x8x512_0_1_2 main_v28
  let main_v30 : IVec S16x8x512 32 := broadcastInDim S16x8x512 ![0, 1, 2] bcast_S1x1x512_S16x8x512_0_1_2 main_v23
  let main_v31 : IVec S16x8x512 32 := addi main_v29 main_v30
  let main_v32 : IVec S16x1x1 32 := broadcastInDim S16x1x1 ![0] bcast_S16_S16x1x1_0 main_v17
  let main_v33 : IVec S16x8x1 32 := broadcastInDim S16x8x1 ![0, 1] bcast_S16x8_S16x8x1_0_1 main_v21
  let main_v34 : IVec S16x8x1 32 := broadcastInDim S16x8x1 ![0, 1, 2] bcast_S16x1x1_S16x8x1_0_1_2 main_v32
  let main_v35 : IVec S16x8x1 32 := addi main_v34 main_v33
  let main_v36 : IVec S16x8x1 32 := broadcastInDim S16x8x1 ![0, 1] bcast_S16x8_S16x8x1_0_1 main_v14
  let main_v37 : IVec S16x8x512 32 := broadcastInDim S16x8x512 ![0, 1, 2] bcast_S1x1x512_S16x8x512_0_1_2 main_v23
  let main_v38 : IVec S16x8x512 32 := broadcastInDim S16x8x512 ![0, 1, 2] bcast_S16x8x1_S16x8x512_0_1_2 main_v36
  fn_part2 (F := F) main_arg3 main_v27 main_v31 main_v35 main_v37 main_v38

def fn {F : FTy → Type} [FloatOps F] (main_arg0 : IVec S16x8x512 32) (main_arg1 : FVec F S16x8x512 .f32) (main_arg2 : FVec F S16x8x512 .f32) (main_arg3 : IVec S16x8x512 32) : IVec S_ 1 :=
  let main_c : IVec S_ 32 := constantI S_ 32 0#32
  let main_v0 : IVec S16x8x512 32 := broadcastInDim S16x8x512 ![] bcast_S_S16x8x512 main_c
  let main_v1 : IVec S16x8x512 1 := cmpi .eq main_arg0 main_v0
  let main_v2 : IVec S16x8x512 32 := fn_cumsum (F := F) main_v1
  let main_c_0 : IVec S_ 32 := constantI S_ 32 0#32
  let main_v3 : IVec S16x8x512 32 := broadcastInDim S16x8x512 ![] bcast_S_S16x8x512 main_c_0
  let main_v4 : IVec S16x8x512 1 := cmpi .sgt main_v2 main_v3
  let main_v5 : IVec S16x8x512 32 := (extui 32 · natLt_1_32) main_v4
  let main_c_1 : IVec S_ 32 := constantI S_ 32 0#32
  let main_v6 : IVec S16x8 32 := (fun x v => Host.reduce IntOp.addi x v reducesTo_S16x8x512_S16x8_d2 h_S_) main_v5 main_c_1
  let main_c_2 : IVec S_ 32 := constantI S_ 32 512#32
  let main_v7 : IVec S16x8 32 := broadcastInDim S16x8 ![] bcast_S_S16x8 main_c_2
  let main_v8 : IVec S16x8 32 := subi main_v7 main_v6
  let main_c_3 : IVec S_ 32 := constantI S_ 32 1#32
  let main_v9 : IVec S16x8 32 := broadcastInDim S16x8 ![] bcast_S_S16x8 main_c_3
  let main_v10 : IVec S16x8 32 := addi main_v8 main_v9
  let main_c_4 : IVec S_ 32 := constantI S_ 32 512#32
  let main_v11 : IVec S16x8 32 := broadcastInDim S16x8 ![] bcast_S_S16x8 main_c_4
  let main_v12 : IVec S16x8 32 := minsi main_v10 main_v11
  let main_c_5 : IVec S_ 32 := constantI S_ 32 1#32
  let main_v13 : IVec S16x8 32 := broadcastInDim S16x8 ![] bcast_S_S16x8 main_c_5
  let main_v14 : IVec S16x8 32 := subi main_v12 main_v13
  let main_v15 : IVec S16x8 32 := fn_cumsum_1 (F := F) main_v14
  let main_v16 : IVec S16x8 32 := subi main_v15 main_v14
  fn_part1 (F := F) main_arg3 main_v14 main_v16
-- ==== Pre_finite_readout.lean ====
abbrev S16x8x256 : Shape := ⟨3, ![16, 8, 256]⟩
abbrev S256x512 : Shape := ⟨2, ![256, 512]⟩
abbrev S512x512 : Shape := ⟨2, ![512, 512]⟩
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S16x8x256 .f32) (main_arg1 : FVec F S256x512 .f32) (main_arg2 : FVec F S512x512 .f32) (main_arg3 : FVec F S512x128 .f32) : IVec S_ 1 :=
  let main_v0 : FVec F S512x128 .f32 := Host.absf main_arg3
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Kernel.lean ====
abbrev S16x8x512 : Shape := ⟨3, ![16, 8, 512]⟩
abbrev S16x4096 : Shape := ⟨2, ![16, 4096]⟩
abbrev S32x4096 : Shape := ⟨2, ![32, 4096]⟩
abbrev S4096 : Shape := ⟨1, ![4096]⟩
abbrev S_ : Shape := ⟨0, ![]⟩
abbrev S1x4096 : Shape := ⟨2, ![1, 4096]⟩
abbrev S16 : Shape := ⟨1, ![16]⟩

abbrev nBuf : Table → Nat
  | .hbm => 13
  | .local .scVector .vmem => 5
  | _ => 0

abbrev bufTy : (tb : Table) → Fin (nBuf tb) → BufTy
  | .hbm, ⟨0, _⟩ => ⟨S16x8x512, .i32⟩
  | .hbm, ⟨1, _⟩ => ⟨S16x8x512, .f32⟩
  | .hbm, ⟨2, _⟩ => ⟨S16x8x512, .f32⟩
  | .hbm, ⟨3, _⟩ => ⟨S16x8x512, .i32⟩
  | .hbm, ⟨4, _⟩ => ⟨S16x4096, .i32⟩
  | .hbm, ⟨5, _⟩ => ⟨S16x4096, .i32⟩
  | .hbm, ⟨6, _⟩ => ⟨S16x4096, .f32⟩
  | .hbm, ⟨7, _⟩ => ⟨S16x4096, .f32⟩
  | .hbm, ⟨8, _⟩ => ⟨S32x4096, .f32⟩
  | .hbm, ⟨9, _⟩ => ⟨S32x4096, .f32⟩
  | .hbm, ⟨10, _⟩ => ⟨S16x4096, .i32⟩
  | .hbm, ⟨11, _⟩ => ⟨S16x4096, .f32⟩
  | .hbm, ⟨12, _⟩ => ⟨S16x4096, .f32⟩
  | .local .scVector .vmem, ⟨0, _⟩ => ⟨S4096, .f32⟩
  | .local .scVector .vmem, ⟨1, _⟩ => ⟨S4096, .i32⟩
  | .local .scVector .vmem, ⟨2, _⟩ => ⟨S4096, .f32⟩
  | .local .scVector .vmem, ⟨3, _⟩ => ⟨S4096, .i32⟩
  | .local .scVector .vmem, ⟨4, _⟩ => ⟨S4096, .i32⟩
  | _, _ => ⟨S16x8x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v4_scv : Ref sig .scVector := ⟨.hbm, 8, rfl⟩
abbrev main_v0_scv : Ref sig .scVector := ⟨.hbm, 4, rfl⟩
abbrev main_v1_scv : Ref sig .scVector := ⟨.hbm, 5, rfl⟩
abbrev main_v5_0_scv : Ref sig .scVector := ⟨.hbm, 9, rfl⟩
abbrev main_v5_1_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r0 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.remsi v1 c16_i32
  let c0_i32_4_r1 : BitVec 32 := 0#32
  ![v2.toNat, 0]
@[reducible] def k0_t1_loop : Scf.Loop 32 :=
  let c0_i32_0 : BitVec 32 := 0#32
  let c256_i32 : BitVec 32 := 256#32
  let v3 : BitVec 32 := Scalar.addi c0_i32_0 c256_i32
  let c1_i32 : BitVec 32 := 1#32
  ⟨c0_i32_0, v3, c1_i32⟩
def k0_off3 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c16_i32_4 : BitVec 32 := 16#32
  let v7 : BitVec 32 := Scalar.muli arg12 c16_i32_4
  let v8 : Index := Scalar.indexCast v7
  ![v8.toNat]

def k0_chk1 (v9 : IVec S16 32) : Prop :=
  (∀ a x, ((![v9] : Fin 1 → IVec S16 32) a x).toNat < S4096.size a)
theorem k0_idx1_inb : ∀ (v9 : IVec S16 32) (k0_hw1 : k0_chk1 v9), ∀ a x, ((![v9] : Fin 1 → IVec S16 32) a x).toNat < S4096.size a := fun v9 k0_hw1 => k0_hw1
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_2 : BitVec 32 := 16#32
  let v4 : BitVec 1 := Scalar.cmpi .slt v1 c16_i32_2
  let v5 : BitVec 32 := Scalar.extui v4
  let c0_i32_3 : BitVec 32 := 0#32
  let v6 : BitVec 1 := Scalar.cmpi .ne v5 c0_i32_3
  v6

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9_r3 : BitVec 32 := 0#32
  ![v1.toNat, 0]
@[reducible] def k0_t2_loop : Scf.Loop 32 :=
  let c0_i32_5 : BitVec 32 := 0#32
  let c256_i32_6 : BitVec 32 := 256#32
  let v7 : BitVec 32 := Scalar.addi c0_i32_5 c256_i32_6
  let c1_i32_7 : BitVec 32 := 1#32
  ⟨c0_i32_5, v7, c1_i32_7⟩
def k0_off5 (k0_t2 : Fin k0_t2_loop.trips) : Fin 1 → Nat :=
  let c0_i32_5 : BitVec 32 := 0#32
  let c1_i32_7 : BitVec 32 := 1#32
  let arg12 : BitVec 32 := Scf.iv c0_i32_5 c1_i32_7 k0_t2
  let c16_i32_9 : BitVec 32 := 16#32
  let v8 : BitVec 32 := Scalar.muli arg12 c16_i32_9
  let v9 : Index := Scalar.indexCast v8
  ![v9.toNat]

def k0_chk2 (i : grid0.Coords) (v10 : IVec S16 32) : Prop :=
  (∀ (k0_h1 : k0_cond1 i = 1#1), ∀ a x, ((![v10] : Fin 1 → IVec S16 32) a x).toNat < S4096.size a)
theorem k0_idx2_inb : ∀ (i : grid0.Coords) (v10 : IVec S16 32) (k0_hw2 : k0_chk2 i v10), ∀ (k0_h1 : k0_cond1 i = 1#1), ∀ a x, ((![v10] : Fin 1 → IVec S16 32) a x).toNat < S4096.size a := fun i v10 k0_hw2 k0_h1 => k0_hw2 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x8x512 : Shape := ⟨3, ![16, 8, 512]⟩
abbrev S_ : Shape := ⟨0, ![]⟩
abbrev S16x8 : Shape := ⟨2, ![16, 8]⟩
abbrev S16 : Shape := ⟨1, ![16]⟩
abbrev S512 : Shape := ⟨1, ![512]⟩
abbrev S1x1x512 : Shape := ⟨3, ![1, 1, 512]⟩
abbrev S16x8x1 : Shape := ⟨3, ![16, 8, 1]⟩
abbrev S16x1x1 : Shape := ⟨3, ![16, 1, 1]⟩
abbrev S65536 : Shape := ⟨1, ![65536]⟩
abbrev S65536x1 : Shape := ⟨2, ![65536, 1]⟩
abbrev S16x4096 : Shape := ⟨2, ![16, 4096]⟩

abbrev nBuf : Space → Nat
  | .hbm => 110
  | .vmem => 0
  | .smem => 0
  | _ => 0

abbrev bufTy : (tb : Table) → Fin (tcTables nBuf tb) → BufTy
  | .hbm, ⟨0, _⟩ => ⟨S16x8x512, .i32⟩
  | .hbm, ⟨1, _⟩ => ⟨S16x8x512, .f32⟩
  | .hbm, ⟨2, _⟩ => ⟨S16x8x512, .f32⟩
  | .hbm, ⟨3, _⟩ => ⟨S16x8x512, .i32⟩
  | .hbm, ⟨4, _⟩ => ⟨S_, .i32⟩
  | .hbm, ⟨5, _⟩ => ⟨S16x8x512, .i32⟩
  | .hbm, ⟨6, _⟩ => ⟨S16x8x512, .i1⟩
  | .hbm, ⟨7, _⟩ => ⟨S16x8x512, .i32⟩
  | .hbm, ⟨8, _⟩ => ⟨S_, .i32⟩
  | .hbm, ⟨9, _⟩ => ⟨S_, .i32⟩
  | .hbm, ⟨10, _⟩ => ⟨S16x8x512, .i32⟩
  | .hbm, ⟨11, _⟩ => ⟨S_, .i32⟩
  | .hbm, ⟨12, _⟩ => ⟨S16x8x512, .i32⟩
  | .hbm, ⟨13, _⟩ => ⟨S16x8x512, .i1⟩
  | .hbm, ⟨14, _⟩ => ⟨S16x8x512, .i32⟩
  | .hbm, ⟨15, _⟩ => ⟨S_, .i32⟩
  | .hbm, ⟨16, _⟩ => ⟨S16x8, .i32⟩
  | .hbm, ⟨17, _⟩ => ⟨S_, .i32⟩
  | .hbm, ⟨18, _⟩ => ⟨S16x8, .i32⟩
  | .hbm, ⟨19, _⟩ => ⟨S16x8, .i32⟩
  | .hbm, ⟨20, _⟩ => ⟨S_, .i32⟩
  | .hbm, ⟨21, _⟩ => ⟨S16x8, .i32⟩
  | .hbm, ⟨22, _⟩ => ⟨S16x8, .i32⟩
  | .hbm, ⟨23, _⟩ => ⟨S_, .i32⟩
  | .hbm, ⟨24, _⟩ => ⟨S16x8, .i32⟩
  | .hbm, ⟨25, _⟩ => ⟨S16x8, .i32⟩
  | .hbm, ⟨26, _⟩ => ⟨S_, .i32⟩
  | .hbm, ⟨27, _⟩ => ⟨S16x8, .i32⟩
  | .hbm, ⟨28, _⟩ => ⟨S16x8, .i32⟩
  | .hbm, ⟨29, _⟩ => ⟨S_, .i32⟩
  | .hbm, ⟨30, _⟩ => ⟨S_, .i32⟩
  | .hbm, ⟨31, _⟩ => ⟨S16x8, .i32⟩
  | .hbm, ⟨32, _⟩ => ⟨S16x8, .i32⟩
  | .hbm, ⟨33, _⟩ => ⟨S_, .i32⟩
  | .hbm, ⟨34, _⟩ => ⟨S16, .i32⟩
  | .hbm, ⟨35, _⟩ => ⟨S_, .i32⟩
  | .hbm, ⟨36, _⟩ => ⟨S16x8, .i32⟩
  | .hbm, ⟨37, _⟩ => ⟨S16x8, .i32⟩
  | .hbm, ⟨38, _⟩ => ⟨S_, .i32⟩
  | .hbm, ⟨39, _⟩ => ⟨S_, .i32⟩
  | .hbm, ⟨40, _⟩ => ⟨S16x8, .i32⟩
  | .hbm, ⟨41, _⟩ => ⟨S16x8, .i32⟩
  | .hbm, ⟨42, _⟩ => ⟨S512, .i32⟩
  | .hbm, ⟨43, _⟩ => ⟨S1x1x512, .i32⟩
  | .hbm, ⟨44, _⟩ => ⟨S16x8x1, .i32⟩
  | .hbm, ⟨45, _⟩ => ⟨S16x8x512, .i32⟩
  | .hbm, ⟨46, _⟩ => ⟨S16x8x512, .i32⟩
  | .hbm, ⟨47, _⟩ => ⟨S16x8x512, .i1⟩
  | .hbm, ⟨48, _⟩ => ⟨S16x8x1, .i32⟩
  | .hbm, ⟨49, _⟩ => ⟨S16x8x512, .i32⟩
  | .hbm, ⟨50, _⟩ => ⟨S16x8x512, .i32⟩
  | .hbm, ⟨51, _⟩ => ⟨S16x8x512, .i32⟩
  | .hbm, ⟨52, _⟩ => ⟨S16x1x1, .i32⟩
  | .hbm, ⟨53, _⟩ => ⟨S16x8x1, .i32⟩
  | .hbm, ⟨54, _⟩ => ⟨S16x8x1, .i32⟩
  | .hbm, ⟨55, _⟩ => ⟨S16x8x1, .i32⟩
  | .hbm, ⟨56, _⟩ => ⟨S16x8x1, .i32⟩
  | .hbm, ⟨57, _⟩ => ⟨S16x8x512, .i32⟩
  | .hbm, ⟨58, _⟩ => ⟨S16x8x512, .i32⟩
  | .hbm, ⟨59, _⟩ => ⟨S16x8x512, .i32⟩
  | .hbm, ⟨60, _⟩ => ⟨S16x8x512, .i32⟩
  | .hbm, ⟨61, _⟩ => ⟨S16x8x512, .i32⟩
  | .hbm, ⟨62, _⟩ => ⟨S16x8x512, .i32⟩
  | .hbm, ⟨63, _⟩ => ⟨S16, .i32⟩
  | .hbm, ⟨64, _⟩ => ⟨S_, .i32⟩
  | .hbm, ⟨65, _⟩ => ⟨S16, .i32⟩
  | .hbm, ⟨66, _⟩ => ⟨S16, .i32⟩
  | .hbm, ⟨67, _⟩ => ⟨S16x1x1, .i32⟩
  | .hbm, ⟨68, _⟩ => ⟨S16x8x512, .i32⟩
  | .hbm, ⟨69, _⟩ => ⟨S16x8x512, .i32⟩
  | .hbm, ⟨70, _⟩ => ⟨S65536, .i32⟩
  | .hbm, ⟨71, _⟩ => ⟨S_, .i32⟩
  | .hbm, ⟨72, _⟩ => ⟨S65536, .i32⟩
  | .hbm, ⟨73, _⟩ => ⟨S65536, .i32⟩
  | .hbm, ⟨74, _⟩ => ⟨S_, .i32⟩
  | .hbm, ⟨75, _⟩ => ⟨S65536, .i32⟩
  | .hbm, ⟨76, _⟩ => ⟨S65536, .i1⟩
  | .hbm, ⟨77, _⟩ => ⟨S_, .i32⟩
  | .hbm, ⟨78, _⟩ => ⟨S65536, .i32⟩
  | .hbm, ⟨79, _⟩ => ⟨S65536, .i32⟩
  | .hbm, ⟨80, _⟩ => ⟨S65536, .i32⟩
  | .hbm, ⟨81, _⟩ => ⟨S65536x1, .i32⟩
  | .hbm, ⟨82, _⟩ => ⟨S65536, .i32⟩
  | .hbm, ⟨83, _⟩ => ⟨S16x4096, .i32⟩
  | .hbm, ⟨84, _⟩ => ⟨S_, .f32⟩
  | .hbm, ⟨85, _⟩ => ⟨S65536, .f32⟩
  | .hbm, ⟨86, _⟩ => ⟨S65536, .f32⟩
  | .hbm, ⟨87, _⟩ => ⟨S_, .i32⟩
  | .hbm, ⟨88, _⟩ => ⟨S65536, .i32⟩
  | .hbm, ⟨89, _⟩ => ⟨S65536, .i1⟩
  | .hbm, ⟨90, _⟩ => ⟨S_, .i32⟩
  | .hbm, ⟨91, _⟩ => ⟨S65536, .i32⟩
  | .hbm, ⟨92, _⟩ => ⟨S65536, .i32⟩
  | .hbm, ⟨93, _⟩ => ⟨S65536, .i32⟩
  | .hbm, ⟨94, _⟩ => ⟨S65536x1, .i32⟩
  | .hbm, ⟨95, _⟩ => ⟨S65536, .f32⟩
  | .hbm, ⟨96, _⟩ => ⟨S16x4096, .f32⟩
  | .hbm, ⟨97, _⟩ => ⟨S_, .f32⟩
  | .hbm, ⟨98, _⟩ => ⟨S65536, .f32⟩
  | .hbm, ⟨99, _⟩ => ⟨S65536, .f32⟩
  | .hbm, ⟨100, _⟩ => ⟨S_, .i32⟩
  | .hbm, ⟨101, _⟩ => ⟨S65536, .i32⟩
  | .hbm, ⟨102, _⟩ => ⟨S65536, .i1⟩
  | .hbm, ⟨103, _⟩ => ⟨S_, .i32⟩
  | .hbm, ⟨104, _⟩ => ⟨S65536, .i32⟩
  | .hbm, ⟨105, _⟩ => ⟨S65536, .i32⟩
  | .hbm, ⟨106, _⟩ => ⟨S65536, .i32⟩
  | .hbm, ⟨107, _⟩ => ⟨S65536x1, .i32⟩
  | .hbm, ⟨108, _⟩ => ⟨S65536, .f32⟩
  | .hbm, ⟨109, _⟩ => ⟨S16x4096, .f32⟩
  | _, _ => ⟨S16x8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_c_5 : Ref sig .tc := ⟨.hbm, 26, rfl⟩
abbrev main_v13 : Ref sig .tc := ⟨.hbm, 27, rfl⟩
abbrev main_v14 : Ref sig .tc := ⟨.hbm, 28, rfl⟩
abbrev main_call1_call0_c : Ref sig .tc := ⟨.hbm, 29, rfl⟩
abbrev main_call1_call0_v0 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_c_7 : Ref sig .tc := ⟨.hbm, 35, rfl⟩
abbrev main_v18 : Ref sig .tc := ⟨.hbm, 36, rfl⟩
abbrev main_v19 : Ref sig .tc := ⟨.hbm, 37, rfl⟩
abbrev main_call2_call0_c : Ref sig .tc := ⟨.hbm, 38, rfl⟩
abbrev main_call2_call0_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== Sender.lean ====
abbrev S16x8x256 : Shape := ⟨3, ![16, 8, 256]⟩
abbrev S256x512 : Shape := ⟨2, ![256, 512]⟩
abbrev S512x512 : Shape := ⟨2, ![512, 512]⟩
abbrev S512x128 : Shape := ⟨2, ![512, 128]⟩
abbrev S128x256 : Shape := ⟨2, ![128, 256]⟩
abbrev S256x128 : Shape := ⟨2, ![256, 128]⟩
abbrev S512x256 : Shape := ⟨2, ![512, 256]⟩
abbrev S128x512 : Shape := ⟨2, ![128, 512]⟩
abbrev S128x128 : Shape := ⟨2, ![128, 128]⟩
abbrev S128 : Shape := ⟨1, ![128]⟩
abbrev S1x128 : Shape := ⟨2, ![1, 128]⟩

abbrev nBuf : Space → Nat
  | .hbm => 13
  | .vmem => 8
  | .smem => 0
  | _ => 0

abbrev bufTy : (tb : Table) → Fin (tcTables nBuf tb) → BufTy
  | .hbm, ⟨0, _⟩ => ⟨S16x8x256, .f32⟩
  | .hbm, ⟨1, _⟩ => ⟨S256x512, .f32⟩
  | .hbm, ⟨2, _⟩ => ⟨S512x512, .f32⟩
  | .hbm, ⟨3, _⟩ => ⟨S512x128, .f32⟩
  | .hbm, ⟨4, _⟩ => ⟨S128x256, .f32⟩
  | .hbm, ⟨5, _⟩ => ⟨S256x128, .f32⟩
  | .hbm, ⟨6, _⟩ => ⟨S512x256, .f32⟩
  | .hbm, ⟨7, _⟩ => ⟨S512x512, .f32⟩
  | .hbm, ⟨8, _⟩ => ⟨S128x512, .f32⟩
  | .hbm, ⟨9, _⟩ => ⟨S512x128, .i32⟩
  | .hbm, ⟨10, _⟩ => ⟨S512x128, .f32⟩
  | .hbm, ⟨11, _⟩ => ⟨S512x128, .f32⟩
  | .hbm, ⟨12, _⟩ => ⟨S512x128, .i32⟩
  | .local _ .vmem, ⟨0, _⟩ => ⟨S256x128, .f32⟩
  | .local _ .vmem, ⟨1, _⟩ => ⟨S512x256, .f32⟩
  | .local _ .vmem, ⟨2, _⟩ => ⟨S512x512, .f32⟩
  | .local _ .vmem, ⟨3, _⟩ => ⟨S128x512, .f32⟩
  | .local _ .vmem, ⟨4, _⟩ => ⟨S512x128, .i32⟩
  | .local _ .vmem, ⟨5, _⟩ => ⟨S512x128, .f32⟩
  | .local _ .vmem, ⟨6, _⟩ => ⟨S512x128, .f32⟩
  | .local _ .vmem, ⟨7, _⟩ => ⟨S512x128, .i32⟩
  | _, _ => ⟨S16x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v11 : BitVec 32 := Scalar.addi c0_i32 c512_i32
  let c1_i32 : BitVec 32 := 1#32
  ⟨c0_i32, v11, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v148 : Index := Scalar.indexCast arg8
  let c0_51 : Index := 0#32
  ![v148.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SenderReferenceIdeal.lean ====
abbrev S16x8x256 : Shape := ⟨3, ![16, 8, 256]⟩
abbrev S256x512 : Shape := ⟨2, ![256, 512]⟩
abbrev S512x512 : Shape := ⟨2, ![512, 512]⟩
abbrev S512x128 : Shape := ⟨2, ![512, 128]⟩
abbrev S128x256 : Shape := ⟨2, ![128, 256]⟩
abbrev S128x512 : Shape := ⟨2, ![128, 512]⟩
abbrev S_ : Shape := ⟨0, ![]⟩
abbrev S512x128x512 : Shape := ⟨3, ![512, 128, 512]⟩
abbrev S1x128x512 : Shape := ⟨3, ![1, 128, 512]⟩
abbrev S512x128x128 : Shape := ⟨3, ![512, 128, 128]⟩
abbrev S512x128x1 : Shape := ⟨3, ![512, 128, 1]⟩
abbrev S512x128x1x1 : Shape := ⟨4, ![512, 128, 1, 1]⟩
abbrev S16x8x512 : Shape := ⟨3, ![16, 8, 512]⟩
abbrev S16x8 : Shape := ⟨2, ![16, 8]⟩
abbrev S16 : Shape := ⟨1, ![16]⟩
abbrev S512 : Shape := ⟨1, ![512]⟩
abbrev S1x1x512 : Shape := ⟨3, ![1, 1, 512]⟩
abbrev S16x8x1 : Shape := ⟨3, ![16, 8, 1]⟩
abbrev S16x1x1 : Shape := ⟨3, ![16, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S16x8x256, .f32⟩
  | .hbm, ⟨1, _⟩ => ⟨S256x512, .f32⟩
  | .hbm, ⟨2, _⟩ => ⟨S512x512, .f32⟩
  | .hbm, ⟨3, _⟩ => ⟨S512x128, .f32⟩
  | .hbm, ⟨4, _⟩ => ⟨S128x256, .f32⟩
  | .hbm, ⟨5, _⟩ => ⟨S128x512, .f32⟩
  | .hbm, ⟨6, _⟩ => ⟨S128x512, .f32⟩
  | .hbm, ⟨7, _⟩ => ⟨S_, .f32⟩
  | .hbm, ⟨8, _⟩ => ⟨S512x128x512, .f32⟩
  | .hbm, ⟨9, _⟩ => ⟨S_, .i32⟩
  | .hbm, ⟨10, _⟩ => ⟨S512x512, .f32⟩
  | .hbm, ⟨11, _⟩ => ⟨S_, .i32⟩
  | .hbm, ⟨12, _⟩ => ⟨S128x512, .f32⟩
  | .hbm, ⟨13, _⟩ => ⟨S512x128x512, .f32⟩
  | .hbm, ⟨14, _⟩ => ⟨S_, .i32⟩
  | .hbm, ⟨15, _⟩ => ⟨S_, .i1⟩
  | .hbm, ⟨16, _⟩ => ⟨S128x512, .f32⟩
  | .hbm, ⟨17, _⟩ => ⟨S128x512, .f32⟩
  | .hbm, ⟨18, _⟩ => ⟨S1x128x512, .f32⟩
  | .hbm, ⟨19, _⟩ => ⟨S_, .i32⟩
  | .hbm, ⟨20, _⟩ => ⟨S_, .i32⟩
  | .hbm, ⟨21, _⟩ => ⟨S512x128x512, .f32⟩
  | .hbm, ⟨22, _⟩ => ⟨S_, .i32⟩
  | .hbm, ⟨23, _⟩ => ⟨S_, .i32⟩
  | .hbm, ⟨24, _⟩ => ⟨S512x128x128, .f32⟩
  | .hbm, ⟨25, _⟩ => ⟨S_, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128x1, .f32⟩
  | .hbm, ⟨31, _⟩ => ⟨S512x128x128, .f32⟩
  | .hbm, ⟨32, _⟩ => ⟨S512x128x128, .f32⟩
  | .hbm, ⟨33, _⟩ => ⟨S512x128x128, .f32⟩
  | .hbm, ⟨34, _⟩ => ⟨S_, .f32⟩
  | .hbm, ⟨35, _⟩ => ⟨S512x128, .f32⟩
  | .hbm, ⟨36, _⟩ => ⟨S512x128x1, .f32⟩
  | .hbm, ⟨37, _⟩ => ⟨S512x128x1, .f32⟩
  | .hbm, ⟨38, _⟩ => ⟨S512x128x128, .f32⟩
  | .hbm, ⟨39, _⟩ => ⟨S512x128x128, .f32⟩
  | .hbm, ⟨40, _⟩ => ⟨S512x128x128, .i32⟩
  | .hbm, ⟨41, _⟩ => ⟨S_, .f32⟩
  | .hbm, ⟨42, _⟩ => ⟨S_, .i32⟩
  | .hbm, ⟨43, _⟩ => ⟨S512x128, .f32⟩
  | .hbm, ⟨44, _⟩ => ⟨S512x128, .i32⟩
  | .hbm, ⟨45, _⟩ => ⟨S512x128x1, .i32⟩
  | .hbm, ⟨46, _⟩ => ⟨S_, .i32⟩
  | .hbm, ⟨47, _⟩ => ⟨S512x128x1, .i32⟩
  | .hbm, ⟨48, _⟩ => ⟨S512x128x1, .i1⟩
  | .hbm, ⟨49, _⟩ => ⟨S_, .i32⟩
  | .hbm, ⟨50, _⟩ => ⟨S512x128x1, .i32⟩
  | .hbm, ⟨51, _⟩ => ⟨S512x128x1, .i32⟩
  | .hbm, ⟨52, _⟩ => ⟨S512x128x1, .i32⟩
  | .hbm, ⟨53, _⟩ => ⟨S512x128x1x1, .i32⟩
  | .hbm, ⟨54, _⟩ => ⟨S512x128x1, .f32⟩
  | .hbm, ⟨55, _⟩ => ⟨S512x128, .f32⟩
  | .hbm, ⟨56, _⟩ => ⟨S512x128x128, .f32⟩
  | .hbm, ⟨57, _⟩ => ⟨S512x128x128, .f32⟩
  | .hbm, ⟨58, _⟩ => ⟨S_, .f32⟩
  | .hbm, ⟨59, _⟩ => ⟨S512x128, .f32⟩
  | .hbm, ⟨60, _⟩ => ⟨S512x128, .f32⟩
  | .hbm, ⟨61, _⟩ => ⟨S128x512, .i32⟩
  | .hbm, ⟨62, _⟩ => ⟨S16x8x512, .i32⟩
  | .hbm, ⟨63, _⟩ => ⟨S_, .i32⟩
  | .hbm, ⟨64, _⟩ => ⟨S16x8x512, .i32⟩
  | .hbm, ⟨65, _⟩ => ⟨S16x8x512, .i1⟩
  | .hbm, ⟨66, _⟩ => ⟨S16x8x512, .i32⟩
  | .hbm, ⟨67, _⟩ => ⟨S_, .i32⟩
  | .hbm, ⟨68, _⟩ => ⟨S_, .i32⟩
  | .hbm, ⟨69, _⟩ => ⟨S16x8x512, .i32⟩
  | .hbm, ⟨70, _⟩ => ⟨S_, .i32⟩
  | .hbm, ⟨71, _⟩ => ⟨S16x8x512, .i32⟩
  | .hbm, ⟨72, _⟩ => ⟨S16x8x512, .i1⟩
  | .hbm, ⟨73, _⟩ => ⟨S16x8x512, .i32⟩
  | .hbm, ⟨74, _⟩ => ⟨S_, .i32⟩
  | .hbm, ⟨75, _⟩ => ⟨S16x8, .i32⟩
  | .hbm, ⟨76, _⟩ => ⟨S_, .i32⟩
  | .hbm, ⟨77, _⟩ => ⟨S16x8, .i32⟩
  | .hbm, ⟨78, _⟩ => ⟨S16x8, .i32⟩
  | .hbm, ⟨79, _⟩ => ⟨S_, .i32⟩
  | .hbm, ⟨80, _⟩ => ⟨S16x8, .i32⟩
  | .hbm, ⟨81, _⟩ => ⟨S16x8, .i32⟩
  | .hbm, ⟨82, _⟩ => ⟨S_, .i32⟩
  | .hbm, ⟨83, _⟩ => ⟨S16x8, .i32⟩
  | .hbm, ⟨84, _⟩ => ⟨S16x8, .i32⟩
  | .hbm, ⟨85, _⟩ => ⟨S_, .i32⟩
  | .hbm, ⟨86, _⟩ => ⟨S16x8, .i32⟩
  | .hbm, ⟨87, _⟩ => ⟨S16x8, .i32⟩
  | .hbm, ⟨88, _⟩ => ⟨S_, .i32⟩
  | .hbm, ⟨89, _⟩ => ⟨S_, .i32⟩
  | .hbm, ⟨90, _⟩ => ⟨S16x8, .i32⟩
  | .hbm, ⟨91, _⟩ => ⟨S16x8, .i32⟩
  | .hbm, ⟨92, _⟩ => ⟨S_, .i32⟩
  | .hbm, ⟨93, _⟩ => ⟨S16, .i32⟩
  | .hbm, ⟨94, _⟩ => ⟨S_, .i32⟩
  | .hbm, ⟨95, _⟩ => ⟨S16x8, .i32⟩
  | .hbm, ⟨96, _⟩ => ⟨S16x8, .i32⟩
  | .hbm, ⟨97, _⟩ => ⟨S_, .i32⟩
  | .hbm, ⟨98, _⟩ => ⟨S_, .i32⟩
  | .hbm, ⟨99, _⟩ => ⟨S16x8, .i32⟩
  | .hbm, ⟨100, _⟩ => ⟨S16x8, .i32⟩
  | .hbm, ⟨101, _⟩ => ⟨S512, .i32⟩
  | .hbm, ⟨102, _⟩ => ⟨S1x1x512, .i32⟩
  | .hbm, ⟨103, _⟩ => ⟨S16x8x1, .i32⟩
  | .hbm, ⟨104, _⟩ => ⟨S16x8x512, .i32⟩
  | .hbm, ⟨105, _⟩ => ⟨S16x8x512, .i32⟩
  | .hbm, ⟨106, _⟩ => ⟨S16x8x512, .i1⟩
  | .hbm, ⟨107, _⟩ => ⟨S16x8x1, .i32⟩
  | .hbm, ⟨108, _⟩ => ⟨S16x8x512, .i32⟩
  | .hbm, ⟨109, _⟩ => ⟨S16x8x512, .i32⟩
  | .hbm, ⟨110, _⟩ => ⟨S16x8x512, .i32⟩
  | .hbm, ⟨111, _⟩ => ⟨S16x1x1, .i32⟩
  | .hbm, ⟨112, _⟩ => ⟨S16x8x1, .i32⟩
  | .hbm, ⟨113, _⟩ => ⟨S16x8x1, .i32⟩
  | .hbm, ⟨114, _⟩ => ⟨S16x8x1, .i32⟩
  | .hbm, ⟨115, _⟩ => ⟨S16x8x1, .i32⟩
  | .hbm, ⟨116, _⟩ => ⟨S16x8x512, .i32⟩
  | .hbm, ⟨117, _⟩ => ⟨S16x8x512, .i32⟩
  | .hbm, ⟨118, _⟩ => ⟨S16x8x512, .i32⟩
  | .hbm, ⟨119, _⟩ => ⟨S16x8x512, .i32⟩
  | .hbm, ⟨120, _⟩ => ⟨S16x8x512, .i32⟩
  | .hbm, ⟨121, _⟩ => ⟨S16x8x512, .i32⟩
  | .hbm, ⟨122, _⟩ => ⟨S128x512, .i32⟩
  | .hbm, ⟨123, _⟩ => ⟨S512x128, .i32⟩
  | _, _ => ⟨S16x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_while0c_c_13 : Ref sig .tc := ⟨.hbm, 14, rfl⟩
abbrev main_while0c_v62 : Ref sig .tc := ⟨.hbm, 15, rfl⟩
abbrev main_while0b_v62 : Ref sig .tc := ⟨.hbm, 16, rfl⟩
abbrev main_while0b_v63 : Ref sig .tc := ⟨.hbm, 17, rfl⟩
abbrev main_while0b_call0_v0 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_v64 : Ref sig .tc := ⟨.hbm, 21, rfl⟩
abbrev main_while0b_c_13 : Ref sig .tc := ⟨.hbm, 22, rfl⟩
abbrev main_while0b_v65 : Ref sig .tc := ⟨.hbm, 23, rfl⟩
abbrev main_v5 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v6 : Ref sig .tc := ⟨.hbm, 39, rfl⟩
abbrev main_call2_v0 : Ref sig .tc := ⟨.hbm, 40, rfl⟩
abbrev main_call2_cst : Ref sig .tc := ⟨.hbm, 41, rfl⟩
abbrev main_call2_c : Ref sig .tc := ⟨.hbm, 42, rfl⟩
abbrev main_call2_v1_0 : Ref sig .tc := ⟨.hbm, 43, rfl⟩
abbrev main_v7 : Ref sig .tc := ⟨.hbm, 44, rfl⟩
abbrev main_v8 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_cst_0 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_c_1 : Ref sig .tc := ⟨.hbm, 63, rfl⟩
abbrev main_v17 : Ref sig .tc := ⟨.hbm, 64, rfl⟩
abbrev main_v18 : Ref sig .tc := ⟨.hbm, 65, rfl⟩
abbrev main_call4_v0 : Ref sig .tc := ⟨.hbm, 66, rfl⟩
abbrev main_call4_call0_c : Ref sig .tc := ⟨.hbm, 67, rfl⟩
abbrev main_call4_call0_v0 : Ref sig .tc := ⟨.hbm, 68, rfl⟩
abbrev main_v19 : Ref sig .tc := ⟨.hbm, 69, rfl⟩
abbrev main_c_2 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_c_3 : Ref sig .tc := ⟨.hbm, 74, rfl⟩
abbrev main_v23 : Ref sig .tc := ⟨.hbm, 75, rfl⟩
abbrev main_c_4 : Ref sig .tc := ⟨.hbm, 76, rfl⟩
abbrev main_v24 : Ref sig .tc := ⟨.hbm, 77, rfl⟩
abbrev main_v25 : Ref sig .tc := ⟨.hbm, 78, rfl⟩
abbrev main_c_5 : Ref sig .tc := ⟨.hbm, 79, rfl⟩
abbrev main_v26 : Ref sig .tc := ⟨.hbm, 80, rfl⟩
abbrev main_v27 : Ref sig .tc := ⟨.hbm, 81, rfl⟩
abbrev main_c_6 : Ref sig .tc := ⟨.hbm, 82, rfl⟩
abbrev main_v28 : Ref sig .tc := ⟨.hbm, 83, rfl⟩
abbrev main_v29 : Ref sig .tc := ⟨.hbm, 84, rfl⟩
abbrev main_c_7 : Ref sig .tc := ⟨.hbm, 85, rfl⟩
abbrev main_v30 : Ref sig .tc := ⟨.hbm, 86, rfl⟩
abbrev main_v31 : Ref sig .tc := ⟨.hbm, 87, rfl⟩
abbrev main_call5_call0_c : Ref sig .tc := ⟨.hbm, 88, rfl⟩
abbrev main_call5_call0_v0 : Ref sig .tc := ⟨.hbm, 89, rfl⟩
abbrev main_v32 : Ref sig .tc := ⟨.hbm, 90, rfl⟩
abbrev main_v33 : Ref sig .tc := ⟨.hbm, 91, rfl⟩
abbrev main_c_8 : Ref sig .tc := ⟨.hbm, 92, rfl⟩
abbrev main_v34 : Ref sig .tc := ⟨.hbm, 93, rfl⟩
abbrev main_c_9 : Ref sig .tc := ⟨.hbm, 94, rfl⟩
abbrev main_v35 : Ref sig .tc := ⟨.hbm, 95, rfl⟩
abbrev main_v36 : Ref sig .tc := ⟨.hbm, 96, rfl⟩
abbrev main_call6_call0_c : Ref sig .tc := ⟨.hbm, 97, rfl⟩
abbrev main_call6_call0_v0 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩

abbrev nD : Nat := 1
abbrev τ : Topo := Topo.v7x

variable {F : FTy → Type} [FloatOps F]

abbrev main_while0_count : Scf.Loop 32 := ⟨0#32, 512#32, 1#32⟩
-- ==== WholeIdeal.lean ====
abbrev S16x8x256 : Shape := ⟨3, ![16, 8, 256]⟩
abbrev S256x512 : Shape := ⟨2, ![256, 512]⟩
abbrev S512x512 : Shape := ⟨2, ![512, 512]⟩
abbrev S512x128 : Shape := ⟨2, ![512, 128]⟩
abbrev S128x256 : Shape := ⟨2, ![128, 256]⟩
abbrev S256x128 : Shape := ⟨2, ![256, 128]⟩
abbrev S512x256 : Shape := ⟨2, ![512, 256]⟩
abbrev S128x512 : Shape := ⟨2, ![128, 512]⟩
abbrev S128x128 : Shape := ⟨2, ![128, 128]⟩
abbrev S128 : Shape := ⟨1, ![128]⟩
abbrev S1x128 : Shape := ⟨2, ![1, 128]⟩
abbrev S16x4096 : Shape := ⟨2, ![16, 4096]⟩
abbrev S32x4096 : Shape := ⟨2, ![32, 4096]⟩
abbrev S4096 : Shape := ⟨1, ![4096]⟩
abbrev S_ : Shape := ⟨0, ![]⟩
abbrev S1x4096 : Shape := ⟨2, ![1, 4096]⟩
abbrev S16 : Shape := ⟨1, ![16]⟩

abbrev nBuf : Table → Nat
  | .hbm => 26
  | .local .tc .vmem => 8
  | .local .scVector .vmem => 5
  | _ => 0

abbrev bufTy : (tb : Table) → Fin (nBuf tb) → BufTy
  | .hbm, ⟨0, _⟩ => ⟨S16x8x256, .f32⟩
  | .hbm, ⟨1, _⟩ => ⟨S256x512, .f32⟩
  | .hbm, ⟨2, _⟩ => ⟨S512x512, .f32⟩
  | .hbm, ⟨3, _⟩ => ⟨S512x128, .f32⟩
  | .hbm, ⟨4, _⟩ => ⟨S128x256, .f32⟩
  | .hbm, ⟨5, _⟩ => ⟨S256x128, .f32⟩
  | .hbm, ⟨6, _⟩ => ⟨S512x256, .f32⟩
  | .hbm, ⟨7, _⟩ => ⟨S512x512, .f32⟩
  | .hbm, ⟨8, _⟩ => ⟨S128x512, .f32⟩
  | .hbm, ⟨9, _⟩ => ⟨S512x128, .i32⟩
  | .hbm, ⟨10, _⟩ => ⟨S512x128, .f32⟩
  | .hbm, ⟨11, _⟩ => ⟨S512x128, .f32⟩
  | .hbm, ⟨12, _⟩ => ⟨S512x128, .i32⟩
  | .hbm, ⟨13, _⟩ => ⟨S128x512, .i32⟩
  | .hbm, ⟨14, _⟩ => ⟨S128x512, .f32⟩
  | .hbm, ⟨15, _⟩ => ⟨S128x512, .f32⟩
  | .hbm, ⟨16, _⟩ => ⟨S128x512, .i32⟩
  | .hbm, ⟨17, _⟩ => ⟨S16x4096, .i32⟩
  | .hbm, ⟨18, _⟩ => ⟨S16x4096, .i32⟩
  | .hbm, ⟨19, _⟩ => ⟨S16x4096, .f32⟩
  | .hbm, ⟨20, _⟩ => ⟨S16x4096, .f32⟩
  | .hbm, ⟨21, _⟩ => ⟨S32x4096, .f32⟩
  | .hbm, ⟨22, _⟩ => ⟨S32x4096, .f32⟩
  | .hbm, ⟨23, _⟩ => ⟨S16x4096, .i32⟩
  | .hbm, ⟨24, _⟩ => ⟨S16x4096, .f32⟩
  | .hbm, ⟨25, _⟩ => ⟨S16x4096, .f32⟩
  | .local .tc .vmem, ⟨0, _⟩ => ⟨S256x128, .f32⟩
  | .local .tc .vmem, ⟨1, _⟩ => ⟨S512x256, .f32⟩
  | .local .tc .vmem, ⟨2, _⟩ => ⟨S512x512, .f32⟩
  | .local .tc .vmem, ⟨3, _⟩ => ⟨S128x512, .f32⟩
  | .local .tc .vmem, ⟨4, _⟩ => ⟨S512x128, .i32⟩
  | .local .tc .vmem, ⟨5, _⟩ => ⟨S512x128, .f32⟩
  | .local .tc .vmem, ⟨6, _⟩ => ⟨S512x128, .f32⟩
  | .local .tc .vmem, ⟨7, _⟩ => ⟨S512x128, .i32⟩
  | .local .scVector .vmem, ⟨0, _⟩ => ⟨S4096, .f32⟩
  | .local .scVector .vmem, ⟨1, _⟩ => ⟨S4096, .i32⟩
  | .local .scVector .vmem, ⟨2, _⟩ => ⟨S4096, .f32⟩
  | .local .scVector .vmem, ⟨3, _⟩ => ⟨S4096, .i32⟩
  | .local .scVector .vmem, ⟨4, _⟩ => ⟨S4096, .i32⟩
  | _, _ => ⟨S16x8x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v16 : Ref sig .tc := ⟨.hbm, 24, rfl⟩
abbrev main_v17 : Ref sig .tc := ⟨.hbm, 25, rfl⟩
abbrev main_v14_scv : Ref sig .scVector := ⟨.hbm, 21, rfl⟩
abbrev main_v10_scv : Ref sig .scVector := ⟨.hbm, 17, rfl⟩
abbrev main_v11_scv : Ref sig .scVector := ⟨.hbm, 18, rfl⟩
abbrev main_v15_0_scv : Ref sig .scVector := ⟨.hbm, 22, rfl⟩
abbrev main_v15_1_scv : Ref sig .scVector := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v11 : BitVec 32 := Scalar.addi c0_i32 c512_i32
  let c1_i32 : BitVec 32 := 1#32
  ⟨c0_i32, v11, c1_i32⟩
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let v148 : Index := Scalar.indexCast arg8
  let c0_51 : Index := 0#32
  ![v148.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r0 : BitVec 32 := 0#32
  ![v1.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.remsi v1 c16_i32
  let c0_i32_4_r1 : BitVec 32 := 0#32
  ![v2.toNat, 0]
@[reducible] def k1_t1_loop : Scf.Loop 32 :=
  let c0_i32_0 : BitVec 32 := 0#32
  let c256_i32 : BitVec 32 := 256#32
  let v3 : BitVec 32 := Scalar.addi c0_i32_0 c256_i32
  let c1_i32 : BitVec 32 := 1#32
  ⟨c0_i32_0, v3, c1_i32⟩
def k1_off3 (k1_t1 : Fin k1_t1_loop.trips) : Fin 1 → Nat :=
  let c0_i32_0 : BitVec 32 := 0#32
  let c1_i32 : BitVec 32 := 1#32
  let arg12 : BitVec 32 := Scf.iv c0_i32_0 c1_i32 k1_t1
  let c16_i32_4 : BitVec 32 := 16#32
  let v7 : BitVec 32 := Scalar.muli arg12 c16_i32_4
  let v8 : Index := Scalar.indexCast v7
  ![v8.toNat]

def k1_chk1 (v9 : IVec S16 32) : Prop :=
  (∀ a x, ((![v9] : Fin 1 → IVec S16 32) a x).toNat < S4096.size a)
theorem k1_idx1_inb : ∀ (v9 : IVec S16 32) (k1_hw1 : k1_chk1 v9), ∀ a x, ((![v9] : Fin 1 → IVec S16 32) a x).toNat < S4096.size a := fun v9 k1_hw1 => k1_hw1
def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_2 : BitVec 32 := 16#32
  let v4 : BitVec 1 := Scalar.cmpi .slt v1 c16_i32_2
  let v5 : BitVec 32 := Scalar.extui v4
  let c0_i32_3 : BitVec 32 := 0#32
  let v6 : BitVec 1 := Scalar.cmpi .ne v5 c0_i32_3
  v6

def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9_r3 : BitVec 32 := 0#32
  ![v1.toNat, 0]
@[reducible] def k1_t2_loop : Scf.Loop 32 :=
  let c0_i32_5 : BitVec 32 := 0#32
  let c256_i32_6 : BitVec 32 := 256#32
  let v7 : BitVec 32 := Scalar.addi c0_i32_5 c256_i32_6
  let c1_i32_7 : BitVec 32 := 1#32
  ⟨c0_i32_5, v7, c1_i32_7⟩
def k1_off5 (k1_t2 : Fin k1_t2_loop.trips) : Fin 1 → Nat :=
  let c0_i32_5 : BitVec 32 := 0#32
  let c1_i32_7 : BitVec 32 := 1#32
  let arg12 : BitVec 32 := Scf.iv c0_i32_5 c1_i32_7 k1_t2
  let c16_i32_9 : BitVec 32 := 16#32
  let v8 : BitVec 32 := Scalar.muli arg12 c16_i32_9
  let v9 : Index := Scalar.indexCast v8
  ![v9.toNat]

def k1_chk2 (i : grid1.Coords) (v10 : IVec S16 32) : Prop :=
  (∀ (k1_h1 : k1_cond1 i = 1#1), ∀ a x, ((![v10] : Fin 1 → IVec S16 32) a x).toNat < S4096.size a)
theorem k1_idx2_inb : ∀ (i : grid1.Coords) (v10 : IVec S16 32) (k1_hw2 : k1_chk2 i v10), ∀ (k1_h1 : k1_cond1 i = 1#1), ∀ a x, ((![v10] : Fin 1 → IVec S16 32) a x).toNat < S4096.size a := fun i v10 k1_hw2 k1_h1 => k1_hw2 k1_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== WholeReferenceIdeal.lean ====
abbrev S16x8x256 : Shape := ⟨3, ![16, 8, 256]⟩
abbrev S256x512 : Shape := ⟨2, ![256, 512]⟩
abbrev S512x512 : Shape := ⟨2, ![512, 512]⟩
abbrev S512x128 : Shape := ⟨2, ![512, 128]⟩
abbrev S128x256 : Shape := ⟨2, ![128, 256]⟩
abbrev S128x512 : Shape := ⟨2, ![128, 512]⟩
abbrev S_ : Shape := ⟨0, ![]⟩
abbrev S512x128x512 : Shape := ⟨3, ![512, 128, 512]⟩
abbrev S1x128x512 : Shape := ⟨3, ![1, 128, 512]⟩
abbrev S512x128x128 : Shape := ⟨3, ![512, 128, 128]⟩
abbrev S512x128x1 : Shape := ⟨3, ![512, 128, 1]⟩
abbrev S512x128x1x1 : Shape := ⟨4, ![512, 128, 1, 1]⟩
abbrev S16x8x512 : Shape := ⟨3, ![16, 8, 512]⟩
abbrev S16x8 : Shape := ⟨2, ![16, 8]⟩
abbrev S16 : Shape := ⟨1, ![16]⟩
abbrev S512 : Shape := ⟨1, ![512]⟩
abbrev S1x1x512 : Shape := ⟨3, ![1, 1, 512]⟩
abbrev S16x8x1 : Shape := ⟨3, ![16, 8, 1]⟩
abbrev S16x1x1 : Shape := ⟨3, ![16, 1, 1]⟩
abbrev S65536 : Shape := ⟨1, ![65536]⟩
abbrev S65536x1 : Shape := ⟨2, ![65536, 1]⟩
abbrev S16x4096 : Shape := ⟨2, ![16, 4096]⟩

abbrev nBuf : Space → Nat
  | .hbm => 173
  | .vmem => 0
  | .smem => 0
  | _ => 0

abbrev hbmTy0_0 (i : Nat) : BufTy := match i % 128 with
  | 0 => ⟨S16x8x256, .f32⟩
  | 1 => ⟨S256x512, .f32⟩
  | 2 => ⟨S512x512, .f32⟩
  | 3 => ⟨S512x128, .f32⟩
  | 4 => ⟨S128x256, .f32⟩
  | 5 => ⟨S128x512, .f32⟩
  | 6 => ⟨S128x512, .f32⟩
  | 7 => ⟨S_, .f32⟩
  | 8 => ⟨S512x128x512, .f32⟩
  | 9 => ⟨S_, .i32⟩
  | 10 => ⟨S512x512, .f32⟩
  | 11 => ⟨S_, .i32⟩
  | 12 => ⟨S128x512, .f32⟩
  | 13 => ⟨S512x128x512, .f32⟩
  | 14 => ⟨S_, .i32⟩
  | 15 => ⟨S_, .i1⟩
  | 16 => ⟨S128x512, .f32⟩
  | 17 => ⟨S128x512, .f32⟩
  | 18 => ⟨S1x128x512, .f32⟩
  | 19 => ⟨S_, .i32⟩
  | 20 => ⟨S_, .i32⟩
  | 21 => ⟨S512x128x512, .f32⟩
  | 22 => ⟨S_, .i32⟩
  | 23 => ⟨S_, .i32⟩
  | 24 => ⟨S512x128x128, .f32⟩
  | 25 => ⟨S_, .f32⟩
  | 26 => ⟨S512x128, .f32⟩
  | 27 => ⟨S_, .f32⟩
  | 28 => ⟨S512x128, .f32⟩
  | 29 => ⟨S512x128, .f32⟩
  | 30 => ⟨S512x128x1, .f32⟩
  | 31 => ⟨S512x128x128, .f32⟩
  | 32 => ⟨S512x128x128, .f32⟩
  | 33 => ⟨S512x128x128, .f32⟩
  | 34 => ⟨S_, .f32⟩
  | 35 => ⟨S512x128, .f32⟩
  | 36 => ⟨S512x128x1, .f32⟩
  | 37 => ⟨S512x128x1, .f32⟩
  | 38 => ⟨S512x128x128, .f32⟩
  | 39 => ⟨S512x128x128, .f32⟩
  | 40 => ⟨S512x128x128, .i32⟩
  | 41 => ⟨S_, .f32⟩
  | 42 => ⟨S_, .i32⟩
  | 43 => ⟨S512x128, .f32⟩
  | 44 => ⟨S512x128, .i32⟩
  | 45 => ⟨S512x128x1, .i32⟩
  | 46 => ⟨S_, .i32⟩
  | 47 => ⟨S512x128x1, .i32⟩
  | 48 => ⟨S512x128x1, .i1⟩
  | 49 => ⟨S_, .i32⟩
  | 50 => ⟨S512x128x1, .i32⟩
  | 51 => ⟨S512x128x1, .i32⟩
  | 52 => ⟨S512x128x1, .i32⟩
  | 53 => ⟨S512x128x1x1, .i32⟩
  | 54 => ⟨S512x128x1, .f32⟩
  | 55 => ⟨S512x128, .f32⟩
  | 56 => ⟨S512x128x128, .f32⟩
  | 57 => ⟨S512x128x128, .f32⟩
  | 58 => ⟨S_, .f32⟩
  | 59 => ⟨S512x128, .f32⟩
  | 60 => ⟨S512x128, .f32⟩
  | 61 => ⟨S128x512, .i32⟩
  | 62 => ⟨S16x8x512, .i32⟩
  | 63 => ⟨S128x512, .f32⟩
  | 64 => ⟨S16x8x512, .f32⟩
  | 65 => ⟨S128x512, .f32⟩
  | 66 => ⟨S16x8x512, .f32⟩
  | 67 => ⟨S_, .i32⟩
  | 68 => ⟨S16x8x512, .i32⟩
  | 69 => ⟨S16x8x512, .i1⟩
  | 70 => ⟨S16x8x512, .i32⟩
  | 71 => ⟨S_, .i32⟩
  | 72 => ⟨S_, .i32⟩
  | 73 => ⟨S16x8x512, .i32⟩
  | 74 => ⟨S_, .i32⟩
  | 75 => ⟨S16x8x512, .i32⟩
  | 76 => ⟨S16x8x512, .i1⟩
  | 77 => ⟨S16x8x512, .i32⟩
  | 78 => ⟨S_, .i32⟩
  | 79 => ⟨S16x8, .i32⟩
  | 80 => ⟨S_, .i32⟩
  | 81 => ⟨S16x8, .i32⟩
  | 82 => ⟨S16x8, .i32⟩
  | 83 => ⟨S_, .i32⟩
  | 84 => ⟨S16x8, .i32⟩
  | 85 => ⟨S16x8, .i32⟩
  | 86 => ⟨S_, .i32⟩
  | 87 => ⟨S16x8, .i32⟩
  | 88 => ⟨S16x8, .i32⟩
  | 89 => ⟨S_, .i32⟩
  | 90 => ⟨S16x8, .i32⟩
  | 91 => ⟨S16x8, .i32⟩
  | 92 => ⟨S_, .i32⟩
  | 93 => ⟨S_, .i32⟩
  | 94 => ⟨S16x8, .i32⟩
  | 95 => ⟨S16x8, .i32⟩
  | 96 => ⟨S_, .i32⟩
  | 97 => ⟨S16, .i32⟩
  | 98 => ⟨S_, .i32⟩
  | 99 => ⟨S16x8, .i32⟩
  | 100 => ⟨S16x8, .i32⟩
  | 101 => ⟨S_, .i32⟩
  | 102 => ⟨S_, .i32⟩
  | 103 => ⟨S16x8, .i32⟩
  | 104 => ⟨S16x8, .i32⟩
  | 105 => ⟨S512, .i32⟩
  | 106 => ⟨S1x1x512, .i32⟩
  | 107 => ⟨S16x8x1, .i32⟩
  | 108 => ⟨S16x8x512, .i32⟩
  | 109 => ⟨S16x8x512, .i32⟩
  | 110 => ⟨S16x8x512, .i1⟩
  | 111 => ⟨S16x8x1, .i32⟩
  | 112 => ⟨S16x8x512, .i32⟩
  | 113 => ⟨S16x8x512, .i32⟩
  | 114 => ⟨S16x8x512, .i32⟩
  | 115 => ⟨S16x1x1, .i32⟩
  | 116 => ⟨S16x8x1, .i32⟩
  | 117 => ⟨S16x8x1, .i32⟩
  | 118 => ⟨S16x8x1, .i32⟩
  | 119 => ⟨S16x8x1, .i32⟩
  | 120 => ⟨S16x8x512, .i32⟩
  | 121 => ⟨S16x8x512, .i32⟩
  | 122 => ⟨S16x8x512, .i32⟩
  | 123 => ⟨S16x8x512, .i32⟩
  | 124 => ⟨S16x8x512, .i32⟩
  | 125 => ⟨S16x8x512, .i32⟩
  | 126 => ⟨S16, .i32⟩
  | 127 => ⟨S_, .i32⟩
  | _ => ⟨S16x8x256, .f32⟩

abbrev hbmTy0_1 (i : Nat) : BufTy := match i % 128 with
  | 0 => ⟨S16, .i32⟩
  | 1 => ⟨S16, .i32⟩
  | 2 => ⟨S16x1x1, .i32⟩
  | 3 => ⟨S16x8x512, .i32⟩
  | 4 => ⟨S16x8x512, .i32⟩
  | 5 => ⟨S65536, .i32⟩
  | 6 => ⟨S_, .i32⟩
  | 7 => ⟨S65536, .i32⟩
  | 8 => ⟨S65536, .i32⟩
  | 9 => ⟨S_, .i32⟩
  | 10 => ⟨S65536, .i32⟩
  | 11 => ⟨S65536, .i1⟩
  | 12 => ⟨S_, .i32⟩
  | 13 => ⟨S65536, .i32⟩
  | 14 => ⟨S65536, .i32⟩
  | 15 => ⟨S65536, .i32⟩
  | 16 => ⟨S65536x1, .i32⟩
  | 17 => ⟨S65536, .i32⟩
  | 18 => ⟨S16x4096, .i32⟩
  | 19 => ⟨S_, .f32⟩
  | 20 => ⟨S65536, .f32⟩
  | 21 => ⟨S65536, .f32⟩
  | 22 => ⟨S_, .i32⟩
  | 23 => ⟨S65536, .i32⟩
  | 24 => ⟨S65536, .i1⟩
  | 25 => ⟨S_, .i32⟩
  | 26 => ⟨S65536, .i32⟩
  | 27 => ⟨S65536, .i32⟩
  | 28 => ⟨S65536, .i32⟩
  | 29 => ⟨S65536x1, .i32⟩
  | 30 => ⟨S65536, .f32⟩
  | 31 => ⟨S16x4096, .f32⟩
  | 32 => ⟨S_, .f32⟩
  | 33 => ⟨S65536, .f32⟩
  | 34 => ⟨S65536, .f32⟩
  | 35 => ⟨S_, .i32⟩
  | 36 => ⟨S65536, .i32⟩
  | 37 => ⟨S65536, .i1⟩
  | 38 => ⟨S_, .i32⟩
  | 39 => ⟨S65536, .i32⟩
  | 40 => ⟨S65536, .i32⟩
  | 41 => ⟨S65536, .i32⟩
  | 42 => ⟨S65536x1, .i32⟩
  | 43 => ⟨S65536, .f32⟩
  | 44 => ⟨S16x4096, .f32⟩
  | _ => ⟨S16x8x256, .f32⟩

abbrev hbmTy (i : Nat) : BufTy := match i / 128 with
  | 0 => hbmTy0_0 i
  | 1 => hbmTy0_1 i
  | _ => ⟨S16x8x256, .f32⟩

abbrev bufTy : (tb : Table) → Fin (tcTables nBuf tb) → BufTy
  | .hbm, ⟨i, _⟩ => hbmTy i
  | _, _ => ⟨S16x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_while0c_c_23 : Ref sig .tc := ⟨.hbm, 14, rfl⟩
abbrev main_while0c_v101 : Ref sig .tc := ⟨.hbm, 15, rfl⟩
abbrev main_while0b_v101 : Ref sig .tc := ⟨.hbm, 16, rfl⟩
abbrev main_while0b_v102 : Ref sig .tc := ⟨.hbm, 17, rfl⟩
abbrev main_while0b_call0_v0 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_v103 : Ref sig .tc := ⟨.hbm, 21, rfl⟩
abbrev main_while0b_c_23 : Ref sig .tc := ⟨.hbm, 22, rfl⟩
abbrev main_while0b_v104 : Ref sig .tc := ⟨.hbm, 23, rfl⟩
abbrev main_v5 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v6 : Ref sig .tc := ⟨.hbm, 39, rfl⟩
abbrev main_call2_v0 : Ref sig .tc := ⟨.hbm, 40, rfl⟩
abbrev main_call2_cst : Ref sig .tc := ⟨.hbm, 41, rfl⟩
abbrev main_call2_c : Ref sig .tc := ⟨.hbm, 42, rfl⟩
abbrev main_call2_v1_0 : Ref sig .tc := ⟨.hbm, 43, rfl⟩
abbrev main_v7 : Ref sig .tc := ⟨.hbm, 44, rfl⟩
abbrev main_v8 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_cst_0 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_c_1 : Ref sig .tc := ⟨.hbm, 67, rfl⟩
abbrev main_v21 : Ref sig .tc := ⟨.hbm, 68, rfl⟩
abbrev main_v22 : Ref sig .tc := ⟨.hbm, 69, rfl⟩
abbrev main_call4_v0 : Ref sig .tc := ⟨.hbm, 70, rfl⟩
abbrev main_call4_call0_c : Ref sig .tc := ⟨.hbm, 71, rfl⟩
abbrev main_call4_call0_v0 : Ref sig .tc := ⟨.hbm, 72, rfl⟩
abbrev main_v23 : Ref sig .tc := ⟨.hbm, 73, rfl⟩
abbrev main_c_2 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_c_3 : Ref sig .tc := ⟨.hbm, 78, rfl⟩
abbrev main_v27 : Ref sig .tc := ⟨.hbm, 79, rfl⟩
abbrev main_c_4 : Ref sig .tc := ⟨.hbm, 80, rfl⟩
abbrev main_v28 : Ref sig .tc := ⟨.hbm, 81, rfl⟩
abbrev main_v29 : Ref sig .tc := ⟨.hbm, 82, rfl⟩
abbrev main_c_5 : Ref sig .tc := ⟨.hbm, 83, rfl⟩
abbrev main_v30 : Ref sig .tc := ⟨.hbm, 84, rfl⟩
abbrev main_v31 : Ref sig .tc := ⟨.hbm, 85, rfl⟩
abbrev main_c_6 : Ref sig .tc := ⟨.hbm, 86, rfl⟩
abbrev main_v32 : Ref sig .tc := ⟨.hbm, 87, rfl⟩
abbrev main_v33 : Ref sig .tc := ⟨.hbm, 88, rfl⟩
abbrev main_c_7 : Ref sig .tc := ⟨.hbm, 89, rfl⟩
abbrev main_v34 : Ref sig .tc := ⟨.hbm, 90, rfl⟩
abbrev main_v35 : Ref sig .tc := ⟨.hbm, 91, rfl⟩
abbrev main_call5_call0_c : Ref sig .tc := ⟨.hbm, 92, rfl⟩
abbrev main_call5_call0_v0 : Ref sig .tc := ⟨.hbm, 93, rfl⟩
abbrev main_v36 : Ref sig .tc := ⟨.hbm, 94, rfl⟩
abbrev main_v37 : Ref sig .tc := ⟨.hbm, 95, rfl⟩
abbrev main_c_8 : Ref sig .tc := ⟨.hbm, 96, rfl⟩
abbrev main_v38 : Ref sig .tc := ⟨.hbm, 97, rfl⟩
abbrev main_c_9 : Ref sig .tc := ⟨.hbm, 98, rfl⟩
abbrev main_v39 : Ref sig .tc := ⟨.hbm, 99, rfl⟩
abbrev main_v40 : Ref sig .tc := ⟨.hbm, 100, rfl⟩
abbrev main_call6_call0_c : Ref sig .tc := ⟨.hbm, 101, rfl⟩
abbrev main_call6_call0_v0 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_c_10 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_c_11 : Ref sig .tc := ⟨.hbm, 134, rfl⟩
abbrev main_v71 : Ref sig .tc := ⟨.hbm, 135, rfl⟩
abbrev main_v72 : Ref sig .tc := ⟨.hbm, 136, rfl⟩
abbrev main_c_12 : Ref sig .tc := ⟨.hbm, 137, rfl⟩
abbrev main_v73 : Ref sig .tc := ⟨.hbm, 138, rfl⟩
abbrev main_v74 : Ref sig .tc := ⟨.hbm, 139, rfl⟩
abbrev main_c_13 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_cst_14 : Ref sig .tc := ⟨.hbm, 147, rfl⟩
abbrev main_v81 : Ref sig .tc := ⟨.hbm, 148, rfl⟩
abbrev main_v82 : Ref sig .tc := ⟨.hbm, 149, rfl⟩
abbrev main_c_15 : Ref sig .tc := ⟨.hbm, 150, rfl⟩
abbrev main_v83 : Ref sig .tc := ⟨.hbm, 151, rfl⟩
abbrev main_v84 : Ref sig .tc := ⟨.hbm, 152, rfl⟩
abbrev main_c_16 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_17 : Ref sig .tc := ⟨.hbm, 160, rfl⟩
abbrev main_v91 : Ref sig .tc := ⟨.hbm, 161, rfl⟩
abbrev main_v92 : Ref sig .tc := ⟨.hbm, 162, rfl⟩
abbrev main_c_18 : Ref sig .tc := ⟨.hbm, 163, rfl⟩
abbrev main_v93 : Ref sig .tc := ⟨.hbm, 164, rfl⟩
abbrev main_v94 : Ref sig .tc := ⟨.hbm, 165, rfl⟩
abbrev main_c_19 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩

abbrev nD : Nat := 1
abbrev τ : Topo := Topo.v7x

variable {F : FTy → Type} [FloatOps F]

abbrev main_while0_count : Scf.Loop 32 := ⟨0#32, 512#32, 1#32⟩
-- ==== Proof.Scat.lean ====
/-
  A scatter of a row, sixteen lanes a trip: what one indexed store leaves, what a prefix of the trips has done, and the
  row after the last trip.
-/
module

public import proofs.«01_k».proof.Defs
public import Idealize.ShloMosaic.Lib.SparseCore.Ops

@[expose] public section

noncomputable section

namespace Cert.Proof.Scat

open Idealize.ShloMosaic

variable {F : FTy → Type} [FloatOps F]

abbrev S4 : Shape := ⟨1, ![4096]⟩
abbrev S1 : Shape := ⟨1, ![16]⟩

/-- Element `n` of a row of 4096. -/
def at4 (n : Fin 4096) : S4.Idx := fun a => match a with | 0 => n
/-- Lane `k` of 16. -/
def at1 (n : Fin 16) : S1.Idx := fun a => match a with | 0 => n

theorem at4_eta (j : S4.Idx) : at4 (j 0) = j := by funext a; match a with | 0 => rfl
theorem at1_eta (j : S1.Idx) : at1 (j 0) = j := by funext a; match a with | 0 => rfl
theorem ofLane_eq (k : Fin 16) : (Shape.ofLane (d := ![16]) k : S1.Idx) = at1 k := by
  funext a; match a with | 0 => rfl

/-- A fold of overwrites at distinct places, read at a place one of them names. -/
theorem fold_hit {α β κ : Type} [DecidableEq κ] (l : List κ) (hnd : l.Nodup) (p : κ → β → Prop) [∀ k b, Decidable (p k b)] (v : κ → α) (f : β → α)
    (j : β) (k : κ) (hk : k ∈ l) (hj : p k j) (hu : ∀ k' ∈ l, p k' j → k' = k) :
    (l.foldl (fun g k' => fun b => if p k' b then v k' else g b) f) j = v k := by
  induction l using List.reverseRecOn with
  | nil => cases hk
  | append_singleton l x ih =>
    rw [List.foldl_append]
    simp only [List.foldl_cons, List.foldl_nil]
    by_cases hx : p x j
    · rw [if_pos hx, hu x (by simp) hx]
    · rw [if_neg hx]
      have hkl : k ∈ l := by
        rcases List.mem_append.mp hk with h | h
        · exact h
        · rw [List.mem_singleton] at h; exact absurd (h ▸ hj) hx
      exact ih (List.nodup_append.mp hnd).1 hkl fun k' hk' => hu k' (List.mem_append_left _ hk')

/-- A fold of overwrites read at a place none of them names. -/
theorem fold_miss {α β κ : Type} (l : List κ) (p : κ → β → Prop) [∀ k b, Decidable (p k b)] (v : κ → α) (f : β → α)
    (j : β) (hu : ∀ k' ∈ l, ¬ p k' j) :
    (l.foldl (fun g k' => fun b => if p k' b then v k' else g b) f) j = f j := by
  induction l using List.reverseRecOn with
  | nil => rfl
  | append_singleton l x ih =>
    rw [List.foldl_append]
    simp only [List.foldl_cons, List.foldl_nil]
    rw [if_neg (hu x (by simp)), ih fun k' hk' => hu k' (List.mem_append_left _ hk')]

variable {e : EltTy}

theorem storeIdx_eq (f : Vec F S4 e) (ix : IVec S1 32) (v : Vec F S1 e) (h : ∀ a x, ((![ix] : Fin 1 → IVec S1 32) a x).toNat < S4.size a) :
    storeIdx (s := S4) (d := ![16]) f ![ix] v (fun _ => 1#1) false h
      = (List.finRange 16).foldl (fun g k => fun j : S4.Idx => if (j 0).val = (ix (at1 k)).toNat then v (at1 k) else g j) f := by
  have key : ∀ (g : Vec F S4 e) (k : Fin 16) (j : S4.Idx),
      (if ∀ a, (j a).val = (idxAt (s := S4) ![ix] h (at1 k) a).val then v (at1 k) else g j)
        = if (j 0).val = (ix (at1 k)).toNat then v (at1 k) else g j := fun g k j => by
    have hh : (∀ a, (j a).val = (idxAt (s := S4) ![ix] h (at1 k) a).val) ↔ (j 0).val = (ix (at1 k)).toNat := by
      constructor
      · intro H; exact H 0
      · intro H a; match a with | 0 => exact H
    by_cases hc : (j 0).val = (ix (at1 k)).toNat
    · rw [if_pos hc]; exact if_pos (hh.mpr hc)
    · rw [if_neg hc]; exact if_neg fun H => hc (hh.mp H)
  unfold storeIdx
  simp only [Bool.false_eq_true, ↓reduceIte, show ((1#1 : BitVec 1) = 1) = True from eq_true rfl]
  refine congrArg (fun G => List.foldl G f (List.finRange 16)) (funext fun g => funext fun k => funext fun j => ?_)
  refine Eq.trans ?_ (key g k j)
  rw [ofLane_eq k]

/-- The store of sixteen lanes of a row of distinct places. -/
theorem storeIdx_hit (f : Vec F S4 e) (ix : IVec S1 32) (v : Vec F S1 e) (h : ∀ a x, ((![ix] : Fin 1 → IVec S1 32) a x).toNat < S4.size a)
    (hi : ∀ k k' : Fin 16, (ix (at1 k)).toNat = (ix (at1 k')).toNat → k = k') (k : Fin 16) (j : S4.Idx) (hj : (j 0).val = (ix (at1 k)).toNat) :
    storeIdx (s := S4) (d := ![16]) f ![ix] v (fun _ => 1#1) false h j = v (at1 k) := by
  rw [storeIdx_eq]
  exact fold_hit (List.finRange 16) (List.nodup_finRange 16) (fun k (j : S4.Idx) => (j 0).val = (ix (at1 k)).toNat) (fun k => v (at1 k)) f j k
    (List.mem_finRange k) hj fun k' _ hk' => hi k' k (hk'.symm.trans hj)

theorem storeIdx_miss (f : Vec F S4 e) (ix : IVec S1 32) (v : Vec F S1 e) (h : ∀ a x, ((![ix] : Fin 1 → IVec S1 32) a x).toNat < S4.size a)
    (j : S4.Idx) (hj : ∀ k : Fin 16, (j 0).val ≠ (ix (at1 k)).toNat) :
    storeIdx (s := S4) (d := ![16]) f ![ix] v (fun _ => 1#1) false h j = f j := by
  rw [storeIdx_eq]
  exact fold_miss (List.finRange 16) (fun k (j : S4.Idx) => (j 0).val = (ix (at1 k)).toNat) (fun k => v (at1 k)) f j fun k' _ => hj k'

/-! ## A row of places -/

/-- A row of places: each in the row, no two the same. -/
def RowOK (D : IVec S4 32) : Prop :=
  (∀ j, (D j).toNat < 4096) ∧ ∀ j j' : Fin 4096, (D (at4 j)).toNat = (D (at4 j')).toNat → j = j'

/-- Where element `j` of a row goes. -/
def pl (D : IVec S4 32) (h : RowOK D) (j : Fin 4096) : Fin 4096 := ⟨(D (at4 j)).toNat, h.1 _⟩

theorem pl_bij (D : IVec S4 32) (h : RowOK D) : Function.Bijective (pl D h) :=
  Finite.injective_iff_bijective.mp fun j j' e => h.2 j j' (by have := congrArg (fun x : Fin 4096 => x.val) e; exact this)

/-- The first `16 t` elements of a row have gone to their places. -/
def Done (D : IVec S4 32) (V : Vec F S4 e) (t : ℕ) (s : Vec F S4 e) : Prop :=
  ∀ j : Fin 4096, j.val < 16 * t → ∀ i : S4.Idx, (i 0).val = (D (at4 j)).toNat → s i = V (at4 j)

theorem done_zero (D : IVec S4 32) (V : Vec F S4 e) (s : Vec F S4 e) : Done D V 0 s := fun j hj => by omega

/-- One trip: sixteen lanes more. -/
theorem done_succ (D : IVec S4 32) (hD : RowOK D) (V : Vec F S4 e) (t : ℕ) (ht : 16 * t + 16 ≤ 4096) (s : Vec F S4 e) (hs : Done D V t s)
    (ix : IVec S1 32) (v : Vec F S1 e) (hix : ∀ k : Fin 16, ix (at1 k) = D (at4 ⟨16 * t + k.val, by omega⟩))
    (hv : ∀ k : Fin 16, v (at1 k) = V (at4 ⟨16 * t + k.val, by omega⟩))
    (h : ∀ a x, ((![ix] : Fin 1 → IVec S1 32) a x).toNat < S4.size a) :
    Done D V (t + 1) (storeIdx (s := S4) (d := ![16]) s ![ix] v (fun _ => 1#1) false h) := by
  have hi : ∀ k k' : Fin 16, (ix (at1 k)).toNat = (ix (at1 k')).toNat → k = k' := by
    intro k k' e
    rw [hix, hix] at e
    have := congrArg Fin.val (hD.2 _ _ e)
    exact Fin.ext (by simp at this; omega)
  intro j hj i hi'
  by_cases hc : 16 * t ≤ j.val
  · have ek : j = ⟨16 * t + (⟨j.val - 16 * t, by omega⟩ : Fin 16).val, by simp; omega⟩ := Fin.ext (by simp; omega)
    rw [storeIdx_hit s ix v h hi ⟨j.val - 16 * t, by omega⟩ i (by rw [hix, ← ek]; exact hi'), hv, ← ek]
  · rw [storeIdx_miss s ix v h i, hs j (by omega) i hi']
    intro k e
    rw [hi', hix] at e
    have := congrArg Fin.val (hD.2 _ _ e)
    simp at this; omega

/-- After the last trip every element is at its place. -/
theorem done_all (D : IVec S4 32) (V : Vec F S4 e) (s : Vec F S4 e) (hs : Done D V 256 s) (j : Fin 4096) (i : S4.Idx)
    (hi : (i 0).val = (D (at4 j)).toNat) : s i = V (at4 j) := hs j (by omega) i hi

/-- The element that went to place `i`. -/
def back (D : IVec S4 32) (h : RowOK D) (i : Fin 4096) : Fin 4096 := (Equiv.ofBijective _ (pl_bij D h)).symm i

theorem pl_back (D : IVec S4 32) (h : RowOK D) (i : Fin 4096) : (D (at4 (back D h i))).toNat = i.val :=
  congrArg Fin.val ((Equiv.ofBijective _ (pl_bij D h)).apply_symm_apply i)

theorem back_pl (D : IVec S4 32) (h : RowOK D) (j : Fin 4096) : back D h (pl D h j) = j :=
  (Equiv.ofBijective _ (pl_bij D h)).symm_apply_apply j

end Cert.Proof.Scat

end
-- ==== Proof.ScDefs.lean ====
/-
  The SparseCore call as the launch sees it: names of its arrays, the rows its tiles work on, what the handshakes carry.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Scat
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scat (RowOK Done at4 at1 back)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev xfLoc (d : Dev nD) : Loc nD τ sig := (SparseCore.T d).loc main_v4
abbrev xtLoc (d : Dev nD) : Loc nD τ sig := (SparseCore.T d).loc main_v0
abbrev xdLoc (d : Dev nD) : Loc nD τ sig := (SparseCore.T d).loc main_v1
abbrev ofLoc (d : Dev nD) : Loc nD τ sig := (SparseCore.T d).loc main_v5_0
abbrev oiLoc (d : Dev nD) : Loc nD τ sig := (SparseCore.T d).loc main_v5_1

local notation "xfV" => (Memref.whole Cert.KernelIdeal.main_v4_scv : Memref Cert.KernelIdeal.sig Kind.scVector Space.hbm Cert.KernelIdeal.S32x4096 EltTy.f32)
local notation "xtV" => (Memref.whole Cert.KernelIdeal.main_v0_scv : Memref Cert.KernelIdeal.sig Kind.scVector Space.hbm Cert.KernelIdeal.S16x4096 EltTy.i32)
local notation "xdV" => (Memref.whole Cert.KernelIdeal.main_v1_scv : Memref Cert.KernelIdeal.sig Kind.scVector Space.hbm Cert.KernelIdeal.S16x4096 EltTy.i32)
local notation "ofV" => (Memref.whole Cert.KernelIdeal.main_v5_0_scv : Memref Cert.KernelIdeal.sig Kind.scVector Space.hbm Cert.KernelIdeal.S32x4096 EltTy.f32)
local notation "oiV" => (Memref.whole Cert.KernelIdeal.main_v5_1_scv : Memref Cert.KernelIdeal.sig Kind.scVector Space.hbm Cert.KernelIdeal.S16x4096 EltTy.i32)

theorem fdiv : 32 ∣ S32x4096.size 0 := ⟨1, rfl⟩
theorem idiv : 16 ∣ S16x4096.size 0 := ⟨1, rfl⟩
abbrev frow (i : Fin 32) : Rect S32x4096 := Rect.part (s := S32x4096) (a₀ := 0) fdiv i
abbrev irow (i : Fin 16) : Rect S16x4096 := Rect.part (s := S16x4096) (a₀ := 0) idiv i
abbrev fRowSet (i : Fin 32) : Finset S32x4096.Idx := ((ofV).view.slice (frow i)).set
abbrev iRowSet (i : Fin 16) : Finset S16x4096.Idx := ((oiV).view.slice (irow i)).set

/-- Row `r`, column `c` of the two kinds of arrays. -/
def ixf (r : Fin 32) (c : Fin 4096) : S32x4096.Idx := fun a => match a with | 0 => r | 1 => c
def ixi (r : Fin 16) (c : Fin 4096) : S16x4096.Idx := fun a => match a with | 0 => r | 1 => c
theorem ixf_eta (i : S32x4096.Idx) : ixf (i 0) (i 1) = i := by funext a; match a with | 0 => rfl | 1 => rfl
theorem ixi_eta (i : S16x4096.Idx) : ixi (i 0) (i 1) = i := by funext a; match a with | 0 => rfl | 1 => rfl

/-! ## What is fed to the call, and what it leaves -/

variable (F) in
/-- The contents of the three arrays the call reads. -/
structure Feed where
  XF : Dev nD → S32x4096.Idx → Elt F .f32
  XT : Dev nD → S16x4096.Idx → Elt F .i32
  XD : Dev nD → S16x4096.Idx → Elt F .i32

namespace Feed
variable (X : Feed F)
/-- Row `b` of the places. -/
def dRow (d : Dev nD) (b : Fin 16) : S4096.Idx → Elt F .i32 := fun j => X.XD d (ixi b (j 0))
def fRow (d : Dev nD) (r : Fin 32) : S4096.Idx → Elt F .f32 := fun j => X.XF d (ixf r (j 0))
def tRow (d : Dev nD) (b : Fin 16) : S4096.Idx → Elt F .i32 := fun j => X.XT d (ixi b (j 0))
/-- Every row of the places is a rearrangement of the row. -/
def OK : Prop := ∀ d b, RowOK (X.dRow d b)
/-- The row of places that row `r` of 32 follows. -/
def bOf (r : Fin 32) : Fin 16 := ⟨r.val % 16, Nat.mod_lt _ (by decide)⟩
/-- The rearranged rows. -/
def GF (h : X.OK) (d : Dev nD) : S32x4096.Idx → Elt F .f32 := fun i => X.XF d (ixf (i 0) (back (X.dRow d (bOf (i 0))) (h d _) (i 1)))
def GI (h : X.OK) (d : Dev nD) : S16x4096.Idx → Elt F .i32 := fun i => X.XT d (ixi (i 0) (back (X.dRow d (i 0)) (h d _) (i 1)))
end Feed

variable (X : Feed F) (hX : X.OK)

/-! ## The shares of what every tile reads -/

abbrev cq (c : Fin 2) : PosShare TreeShare := Transfers.dealOf fullShare (Finset.univ : Finset (Fin 2)) c
abbrev tq (c : Fin 2) (s : Fin 16) : PosShare TreeShare := Transfers.dealOf (cq c) (Finset.univ : Finset (Fin 16)) s

/-- The row of 32 tile `(c, s)` works on. -/
def wN (c : Fin 2) (s : Fin 16) : Fin 32 := ⟨2 * s.val + c.val, by omega⟩

/-- The three arrays read, at a share. -/
abbrev inPts (d : Dev nD) (q : PosShare TreeShare) : sProp 𝕄 :=
  iprop((xfLoc d ↦{q} X.XF d) ∗ (xtLoc d ↦{q} X.XT d) ∗ (xdLoc d ↦{q} X.XD d))
abbrev ofRowPts (d : Dev nD) (r : Fin 32) (f : Buf (Elt F) (ofLoc d)) : sProp 𝕄 := ofLoc d ↦[fRowSet r]{fullShare} f
abbrev oiRowPts (d : Dev nD) (b : Fin 16) (f : Buf (Elt F) (oiLoc d)) : sProp 𝕄 := oiLoc d ↦[iRowSet b]{fullShare} f
/-- Row `r` of the integer result, for the first sixteen of the tiles; nothing for the rest. -/
def oiAny (d : Dev nD) (r : Fin 32) : sProp 𝕄 := if h : r.val < 16 then iprop(∃ f, oiRowPts d ⟨r.val, h⟩ f) else iprop(emp)
def oiAt (d : Dev nD) (r : Fin 32) (f : Buf (Elt F) (oiLoc d)) : sProp 𝕄 := if h : r.val < 16 then oiRowPts d ⟨r.val, h⟩ f else iprop(emp)

abbrev goT (d : Dev nD) (c : Fin 2) (s : Fin 16) : sProp 𝕄 :=
  iprop(inPts X d (tq c s) ∗ (∃ f, ofRowPts d (wN c s) f) ∗ oiAny d (wN c s))
abbrev tdT (d : Dev nD) (c : Fin 2) (s : Fin 16) : sProp 𝕄 :=
  iprop(inPts X d (tq c s) ∗ ofRowPts d (wN c s) (X.GF hX d) ∗ oiAt d (wN c s) (X.GI hX d))
abbrev stC (d : Dev nD) (c : Fin 2) : sProp 𝕄 :=
  iprop(inPts X d (cq c) ∗ (bigSep Finset.univ fun s : Fin 16 => iprop(∃ f, ofRowPts (F := F) d (wN c s) f)) ∗ bigSep Finset.univ fun s : Fin 16 => oiAny (F := F) d (wN c s))
abbrev dnC (d : Dev nD) (c : Fin 2) : sProp 𝕄 :=
  iprop(inPts X d (cq c) ∗ (bigSep Finset.univ fun s : Fin 16 => ofRowPts d (wN c s) (X.GF hX d)) ∗ bigSep Finset.univ fun s : Fin 16 => oiAt d (wN c s) (X.GI hX d))

instance oiAny_storable (d : Dev nD) (r : Fin 32) : BI.Storable (upEmb : UEmb _ 𝕄) (oiAny (F := F) d r) := by
  unfold oiAny; split <;> infer_instance
instance oiAt_storable (d : Dev nD) (r : Fin 32) (f : Buf (Elt F) (oiLoc d)) : BI.Storable (upEmb : UEmb _ 𝕄) (oiAt (F := F) d r f) := by
  unfold oiAt; split <;> infer_instance

abbrev cc (c : Fin ((K (F := F)).nCore 0)) : Fin 2 := Fin.cast nCore_zero c
abbrev ss (s : Fin ((K (F := F)).nSub 0)) : Fin 16 := Fin.cast nSub_zero s

variable [FloatOps F]

def P : (K (F := F)).Pay (nD := nD) (Val := Elt F) (Name := ℕ) (U := UU) where
  st := fun q d c => match q with | 0 => stC X d (cc (F := F) c)
  dn := fun q d c => match q with | 0 => dnC X hX d (cc (F := F) c)
  go := fun q d c i => match q with | 0 => goT X d (cc (F := F) c) (ss (F := F) i)
  td := fun q d c i => match q with | 0 => tdT X hX d (cc (F := F) c) (ss (F := F) i)
  x := fun _ _ => iprop(emp)

instance P_storable : (P (F := F) X hX).IsStorable where
  st q d c := match q with | 0 => (inferInstance : BI.Storable (upEmb : UEmb _ 𝕄) (stC X d (cc (F := F) c)))
  dn q d c := match q with | 0 => (inferInstance : BI.Storable (upEmb : UEmb _ 𝕄) (dnC X hX d (cc (F := F) c)))
  go q d c i := match q with | 0 => (inferInstance : BI.Storable (upEmb : UEmb _ 𝕄) (goT X d (cc (F := F) c) (ss (F := F) i)))
  td q d c i := match q with | 0 => (inferInstance : BI.Storable (upEmb : UEmb _ 𝕄) (tdT X hX d (cc (F := F) c) (ss (F := F) i)))

/-! ## A tile's coordinates, its rows as it addresses them -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
abbrev wL (L : grid0.Coords) : Fin 32 := wN (cL L) (jL L)

omit [FloatOps F] in
theorem cond1_iff : ∀ i : grid0.Coords, k0_cond1 i = 1#1 ↔ 2 * (i 1).val + (i 0).val < 16 := by decide +kernel

abbrev xfK (L : grid0.Coords) : Memref sig .scVector .hbm S4096 .f32 := ((xfV).slice (Rect.unit (s := S32x4096) (k0_off1 L) S1x4096.size (k0_off1_inb L)) (fun _ => rfl)).squeeze S4096 squeezes_S1x4096_S4096
abbrev xdK (L : grid0.Coords) : Memref sig .scVector .hbm S4096 .i32 := ((xdV).slice (Rect.unit (s := S16x4096) (k0_off2 L) S1x4096.size (k0_off2_inb L)) (fun _ => rfl)).squeeze S4096 squeezes_S1x4096_S4096
abbrev xtK (L : grid0.Coords) (h : k0_cond1 L = 1#1) : Memref sig .scVector .hbm S4096 .i32 := ((xtV).slice (Rect.unit (s := S16x4096) (k0_off4 L) S1x4096.size (k0_off4_inb L h)) (fun _ => rfl)).squeeze S4096 squeezes_S1x4096_S4096
abbrev ofK (L : grid0.Coords) : Memref sig .scVector .hbm S4096 .f32 := ((ofV).slice (Rect.unit (s := S32x4096) (k0_off1 L) S1x4096.size (k0_off1_inb L)) (fun _ => rfl)).squeeze S4096 squeezes_S1x4096_S4096
abbrev oiK (L : grid0.Coords) (h : k0_cond1 L = 1#1) : Memref sig .scVector .hbm S4096 .i32 := ((oiV).slice (Rect.unit (s := S16x4096) (k0_off4 L) S1x4096.size (k0_off4_inb L h)) (fun _ => rfl)).squeeze S4096 squeezes_S1x4096_S4096

omit [FloatOps F] in
/-- A squeezed row's element is the row's column. -/
theorem sq_val (j : S4096.Idx) :
    (Shape.reshapeEquiv (s := S1x4096) squeezes_S1x4096_S4096.numel_eq j) = (fun a => match a with | 0 => (0 : Fin 1) | 1 => j 0) := by
  rw [Shape.reshapeEquiv_cons_one (d := ![4096])]
  funext a
  match a with
  | 0 => rfl
  | 1 => rfl

omit [FloatOps F] in
theorem emb_f (off : Fin 2 → ℕ) (inb : ∀ a, off a + S1x4096.size a ≤ S32x4096.size a) (r : Fin 32) (ho : off = ![r.val, 0]) (j : S4096.Idx) :
    (Rect.unit (s := S32x4096) off S1x4096.size inb).emb (Shape.reshapeEquiv (s := S1x4096) squeezes_S1x4096_S4096.numel_eq j) = ixf r (j 0) := by
  subst ho
  rw [sq_val]
  funext a
  match a with
  | 0 => exact Fin.ext (by simp [Rect.emb_apply, ixf])
  | 1 => exact Fin.ext (by simp [Rect.emb_apply, ixf])
omit [FloatOps F] in
theorem emb_i (off : Fin 2 → ℕ) (inb : ∀ a, off a + S1x4096.size a ≤ S16x4096.size a) (r : Fin 16) (ho : off = ![r.val, 0]) (j : S4096.Idx) :
    (Rect.unit (s := S16x4096) off S1x4096.size inb).emb (Shape.reshapeEquiv (s := S1x4096) squeezes_S1x4096_S4096.numel_eq j) = ixi r (j 0) := by
  subst ho
  rw [sq_val]
  funext a
  match a with
  | 0 => exact Fin.ext (by simp [Rect.emb_apply, ixi])
  | 1 => exact Fin.ext (by simp [Rect.emb_apply, ixi])

end Tile

end Cert.Proof.Sc

end
-- ==== Proof.ScTile.lean ====
/-
  One tile's task: fetch a row of values and its row of places, scatter the values to their places sixteen at a time,
  write the row out; the first sixteen tiles then do the same for a row of integers.
-/
module

public import proofs.«01_k».proof.Proof.ScDefs

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scat (RowOK Done at4 at1 back done_zero done_succ done_all pl_back)

variable {F : FTy → Type}

local notation "𝕄" => MT nD τ sig (HIx 1) (Elt F) ℕ UU ℕ

local notation "xfV" => (Memref.whole Cert.KernelIdeal.main_v4_scv : Memref Cert.KernelIdeal.sig Kind.scVector Space.hbm Cert.KernelIdeal.S32x4096 EltTy.f32)
local notation "xtV" => (Memref.whole Cert.KernelIdeal.main_v0_scv : Memref Cert.KernelIdeal.sig Kind.scVector Space.hbm Cert.KernelIdeal.S16x4096 EltTy.i32)
local notation "xdV" => (Memref.whole Cert.KernelIdeal.main_v1_scv : Memref Cert.KernelIdeal.sig Kind.scVector Space.hbm Cert.KernelIdeal.S16x4096 EltTy.i32)
local notation "ofV" => (Memref.whole Cert.KernelIdeal.main_v5_0_scv : Memref Cert.KernelIdeal.sig Kind.scVector Space.hbm Cert.KernelIdeal.S32x4096 EltTy.f32)
local notation "oiV" => (Memref.whole Cert.KernelIdeal.main_v5_1_scv : Memref Cert.KernelIdeal.sig Kind.scVector Space.hbm Cert.KernelIdeal.S16x4096 EltTy.i32)
local notation "s0V" => (Memref.whole Cert.KernelIdeal.cc0_scratch0 : Memref Cert.KernelIdeal.sig Kind.scVector Space.vmem Cert.KernelIdeal.S4096 EltTy.f32)
local notation "s1V" => (Memref.whole Cert.KernelIdeal.cc0_scratch1 : Memref Cert.KernelIdeal.sig Kind.scVector Space.vmem Cert.KernelIdeal.S4096 EltTy.i32)
local notation "s2V" => (Memref.whole Cert.KernelIdeal.cc0_scratch2 : Memref Cert.KernelIdeal.sig Kind.scVector Space.vmem Cert.KernelIdeal.S4096 EltTy.f32)
local notation "s3V" => (Memref.whole Cert.KernelIdeal.cc0_scratch3 : Memref Cert.KernelIdeal.sig Kind.scVector Space.vmem Cert.KernelIdeal.S4096 EltTy.i32)
local notation "s4V" => (Memref.whole Cert.KernelIdeal.cc0_scratch4 : Memref Cert.KernelIdeal.sig Kind.scVector Space.vmem Cert.KernelIdeal.S4096 EltTy.i32)

variable (X : Feed F) (hX : X.OK) (d : Dev nD) (L : grid0.Coords)

/-- The tile's thread. -/
abbrev tV (d : Dev nD) (L : grid0.Coords) : Thread nD τ := V d (cV L) (jV L)

theorem off1_wL : k0_off1 L = ![(wL L).val, 0] := k0_off1_eq L
theorem off2_wL : k0_off2 L = ![(Feed.bOf (wL L)).val, 0] := k0_off2_eq L
theorem off4_wL : k0_off4 L = ![(wL L).val, 0] := k0_off4_eq L
theorem oiAt_pos (d : Dev nD) (r : Fin 32) (h : r.val < 16) (f : Buf (Elt F) (oiLoc d)) : oiAt d r f = (oiRowPts d ⟨r.val, h⟩ f : sProp 𝕄) := by
  unfold oiAt; rw [dif_pos h]
theorem oiAt_neg (d : Dev nD) (r : Fin 32) (h : ¬ r.val < 16) (f : Buf (Elt F) (oiLoc d)) : oiAt d r f = (iprop(emp) : sProp 𝕄) := by
  unfold oiAt; rw [dif_neg h]
theorem oiAny_pos (d : Dev nD) (r : Fin 32) (h : r.val < 16) : oiAny (F := F) d r = (iprop(∃ f, oiRowPts d ⟨r.val, h⟩ f) : sProp 𝕄) := by
  unfold oiAny; rw [dif_pos h]
theorem oiAny_neg (d : Dev nD) (r : Fin 32) (h : ¬ r.val < 16) : oiAny (F := F) d r = (iprop(emp) : sProp 𝕄) := by
  unfold oiAny; rw [dif_neg h]
theorem wL_lt (h : k0_cond1 L = 1#1) : (wL L).val < 16 := (cond1_iff L).mp h
theorem wL_nlt (h : ¬ k0_cond1 L = 1#1) : ¬ (wL L).val < 16 := fun h' => h ((cond1_iff L).mpr h')

theorem emb_xfK (j : S4096.Idx) : (xfK L).view.emb j = ixf (wL L) (j 0) := emb_f _ _ _ (off1_wL L) j
theorem emb_ofK (j : S4096.Idx) : (ofK L).view.emb j = ixf (wL L) (j 0) := emb_f _ _ _ (off1_wL L) j
theorem emb_xdK (j : S4096.Idx) : (xdK L).view.emb j = ixi (Feed.bOf (wL L)) (j 0) := emb_i _ _ _ (off2_wL L) j
theorem emb_xtK (h : k0_cond1 L = 1#1) (j : S4096.Idx) : (xtK L h).view.emb j = ixi ⟨(wL L).val, wL_lt L h⟩ (j 0) :=
  emb_i _ _ ⟨(wL L).val, wL_lt L h⟩ (off4_wL L) j
theorem emb_oiK (h : k0_cond1 L = 1#1) (j : S4096.Idx) : (oiK L h).view.emb j = ixi ⟨(wL L).val, wL_lt L h⟩ (j 0) :=
  emb_i _ _ ⟨(wL L).val, wL_lt L h⟩ (off4_wL L) j

theorem frowK_eq : Rect.unit (s := S32x4096) (k0_off1 L) S1x4096.size (k0_off1_inb L) = frow (wL L) := by
  unfold frow Rect.part Rect.block
  congr 1 <;> funext a
  · rw [off1_wL]
    match a with
    | 0 => simp [Shape.partIx, Shape.partSize]
    | 1 => simp [Shape.partIx, Shape.partSize]
  · match a with
    | 0 => simp [Shape.partSize]
    | 1 => simp [Shape.partSize]
theorem irowK_eq (h : k0_cond1 L = 1#1) : Rect.unit (s := S16x4096) (k0_off4 L) S1x4096.size (k0_off4_inb L h) = irow ⟨(wL L).val, wL_lt L h⟩ := by
  unfold irow Rect.part Rect.block
  congr 1 <;> funext a
  · rw [off4_wL]
    match a with
    | 0 => simp [Shape.partIx, Shape.partSize]
    | 1 => simp [Shape.partIx, Shape.partSize]
  · match a with
    | 0 => simp [Shape.partSize]
    | 1 => simp [Shape.partSize]
theorem set_ofK : (ofK L).view.set = fRowSet (wL L) := by
  show (((ofV).view.slice (Rect.unit (s := S32x4096) (k0_off1 L) S1x4096.size (k0_off1_inb L))).reshape S4096 squeezes_S1x4096_S4096.numel_eq).set = ((ofV).view.slice (frow (wL L))).set
  rw [View.set_reshape]
  exact frowK_eq L ▸ rfl
theorem set_oiK (h : k0_cond1 L = 1#1) : (oiK L h).view.set = iRowSet ⟨(wL L).val, wL_lt L h⟩ := by
  show (((oiV).view.slice (Rect.unit (s := S16x4096) (k0_off4 L) S1x4096.size (k0_off4_inb L h))).reshape S4096 squeezes_S1x4096_S4096.numel_eq).set = ((oiV).view.slice (irow ⟨(wL L).val, wL_lt L h⟩)).set
  rw [View.set_reshape]
  exact irowK_eq L h ▸ rfl
theorem pts_ofK (f : Buf (Elt F) (ofLoc d)) :
    ((ofK L).view.loc (tV d L) ↦[(ofK L).view.set]{fullShare} f : sProp 𝕄) = ofRowPts d (wL L) f := by rw [set_ofK]
theorem pts_oiK (h : k0_cond1 L = 1#1) (f : Buf (Elt F) (oiLoc d)) :
    ((oiK L h).view.loc (tV d L) ↦[(oiK L h).view.set]{fullShare} f : sProp 𝕄) = oiRowPts d ⟨(wL L).val, wL_lt L h⟩ f := by rw [set_oiK]
theorem pts_xfV (q : PosShare TreeShare) (f : Buf (Elt F) (xfLoc d)) : ((xfV).view.loc (tV d L) ↦{q} f : sProp 𝕄) = xfLoc d ↦{q} f := rfl
theorem pts_xtV (q : PosShare TreeShare) (f : Buf (Elt F) (xtLoc d)) : ((xtV).view.loc (tV d L) ↦{q} f : sProp 𝕄) = xtLoc d ↦{q} f := rfl
theorem pts_xdV (q : PosShare TreeShare) (f : Buf (Elt F) (xdLoc d)) : ((xdV).view.loc (tV d L) ↦{q} f : sProp 𝕄) = xdLoc d ↦{q} f := rfl
theorem pts_s0 (f : Buf (Elt F) ((tV d L).loc cc0_scratch0)) : ((s0V).view.loc (tV d L) ↦{fullShare} f : sProp 𝕄) = (tV d L).loc cc0_scratch0 ↦{fullShare} f := rfl
theorem pts_s1 (f : Buf (Elt F) ((tV d L).loc cc0_scratch1)) : ((s1V).view.loc (tV d L) ↦{fullShare} f : sProp 𝕄) = (tV d L).loc cc0_scratch1 ↦{fullShare} f := rfl
theorem pts_s2 (f : Buf (Elt F) ((tV d L).loc cc0_scratch2)) : ((s2V).view.loc (tV d L) ↦{fullShare} f : sProp 𝕄) = (tV d L).loc cc0_scratch2 ↦{fullShare} f := rfl
theorem pts_s3 (f : Buf (Elt F) ((tV d L).loc cc0_scratch3)) : ((s3V).view.loc (tV d L) ↦{fullShare} f : sProp 𝕄) = (tV d L).loc cc0_scratch3 ↦{fullShare} f := rfl
theorem pts_s4 (f : Buf (Elt F) ((tV d L).loc cc0_scratch4)) : ((s4V).view.loc (tV d L) ↦{fullShare} f : sProp 𝕄) = (tV d L).loc cc0_scratch4 ↦{fullShare} f := rfl

/-! ## The tile's cells and scratch buffers -/

abbrev gcell (d : Dev nD) (L : grid0.Coords) (s : DmaSem sig) : GSem nD τ sig := (tV d L, .dma s)

/-- The cells left once the five the body names are taken out. -/
abbrev restCells (d : Dev nD) (L : grid0.Coords) : Finset (GSem nD τ sig) :=
  (((((ownCells (tV d L)).erase (gcell d L cc0_scoped0.sem)).erase (gcell d L cc0_scoped1.sem)).erase (gcell d L cc0_scoped2.sem)).erase
    (gcell d L cc0_scoped3.sem)).erase (gcell d L cc0_scoped4.sem)

theorem gcell_ne {s s' : DmaSem sig} (h : s ≠ s') : gcell d L s ≠ gcell d L s' := fun e => h (by
  have := congrArg (fun p : GSem nD τ sig => p.2) e; exact SemLoc.dma.inj this)

theorem gcell_mem (s : DmaSem sig) (h : (SemLoc.dma s : SemLoc sig).isScoped .scVector = true) : gcell d L s ∈ ownCells (tV d L) :=
  (mem_ownCells (g := gcell d L s)).mpr ⟨rfl, h⟩

theorem ownSems0_V :
    (ownSems0 (tV d L) : sProp 𝕄)
      = iprop(semVal (gcell d L cc0_scoped0.sem) 0 ∗ semVal (gcell d L cc0_scoped1.sem) 0 ∗ semVal (gcell d L cc0_scoped2.sem) 0
          ∗ semVal (gcell d L cc0_scoped3.sem) 0 ∗ semVal (gcell d L cc0_scoped4.sem) 0 ∗ bigSep (restCells d L) fun g => semVal g 0) := by
  unfold SparseCore.Cfg.ownSems0
  rw [SparseCore.bigSep_erase' (gcell_mem d L cc0_scoped0.sem (by decide)),
    SparseCore.bigSep_erase' (Finset.mem_erase.mpr ⟨gcell_ne d L (s := cc0_scoped1.sem) (s' := cc0_scoped0.sem) (by decide), gcell_mem d L cc0_scoped1.sem (by decide)⟩),
    SparseCore.bigSep_erase' (Finset.mem_erase.mpr ⟨gcell_ne d L (s := cc0_scoped2.sem) (s' := cc0_scoped1.sem) (by decide),
      Finset.mem_erase.mpr ⟨gcell_ne d L (s := cc0_scoped2.sem) (s' := cc0_scoped0.sem) (by decide), gcell_mem d L cc0_scoped2.sem (by decide)⟩⟩),
    SparseCore.bigSep_erase' (Finset.mem_erase.mpr ⟨gcell_ne d L (s := cc0_scoped3.sem) (s' := cc0_scoped2.sem) (by decide),
      Finset.mem_erase.mpr ⟨gcell_ne d L (s := cc0_scoped3.sem) (s' := cc0_scoped1.sem) (by decide),
      Finset.mem_erase.mpr ⟨gcell_ne d L (s := cc0_scoped3.sem) (s' := cc0_scoped0.sem) (by decide), gcell_mem d L cc0_scoped3.sem (by decide)⟩⟩⟩),
    SparseCore.bigSep_erase' (Finset.mem_erase.mpr ⟨gcell_ne d L (s := cc0_scoped4.sem) (s' := cc0_scoped3.sem) (by decide),
      Finset.mem_erase.mpr ⟨gcell_ne d L (s := cc0_scoped4.sem) (s' := cc0_scoped2.sem) (by decide),
      Finset.mem_erase.mpr ⟨gcell_ne d L (s := cc0_scoped4.sem) (s' := cc0_scoped1.sem) (by decide),
      Finset.mem_erase.mpr ⟨gcell_ne d L (s := cc0_scoped4.sem) (s' := cc0_scoped0.sem) (by decide), gcell_mem d L cc0_scoped4.sem (by decide)⟩⟩⟩⟩)]

abbrev dref (L : grid0.Coords) (b : Ref sig .scVector) : DevRef τ sig := (Proc.scVector (cV L) (jV L)).devRef b
theorem dref_ne {b b' : Ref sig .scVector} (h : b ≠ b') : dref L b ≠ dref L b' := fun e => absurd (Proc.devRef_injective _ e) h
abbrev restRefs (L : grid0.Coords) : Finset (DevRef τ sig) :=
  (((((ownRefs (τ := τ) (.scVector (cV L) (jV L))).erase (dref L cc0_scratch0)).erase (dref L cc0_scratch1)).erase (dref L cc0_scratch2)).erase
    (dref L cc0_scratch3)).erase (dref L cc0_scratch4)

theorem ownBufs_V :
    (ownBufs (tV d L) : sProp 𝕄)
      = iprop((∃ f, (tV d L).loc cc0_scratch0 ↦{fullShare} f) ∗ (∃ f, (tV d L).loc cc0_scratch1 ↦{fullShare} f) ∗ (∃ f, (tV d L).loc cc0_scratch2 ↦{fullShare} f)
          ∗ (∃ f, (tV d L).loc cc0_scratch3 ↦{fullShare} f) ∗ (∃ f, (tV d L).loc cc0_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dref L cc0_scratch0) rfl)).trans ?_
  rw [SparseCore.bigSep_erase' (Finset.mem_erase.mpr ⟨dref_ne L (b := cc0_scratch1) (b' := cc0_scratch0) (by decide),
      SparseCore.Cfg.mem_ownRefs_of_owner (p := Proc.scVector (cV L) (jV L)) (b := dref L cc0_scratch1) rfl⟩),
    SparseCore.bigSep_erase' (Finset.mem_erase.mpr ⟨dref_ne L (b := cc0_scratch2) (b' := cc0_scratch1) (by decide),
      Finset.mem_erase.mpr ⟨dref_ne L (b := cc0_scratch2) (b' := cc0_scratch0) (by decide),
      SparseCore.Cfg.mem_ownRefs_of_owner (p := Proc.scVector (cV L) (jV L)) (b := dref L cc0_scratch2) rfl⟩⟩),
    SparseCore.bigSep_erase' (Finset.mem_erase.mpr ⟨dref_ne L (b := cc0_scratch3) (b' := cc0_scratch2) (by decide),
      Finset.mem_erase.mpr ⟨dref_ne L (b := cc0_scratch3) (b' := cc0_scratch1) (by decide),
      Finset.mem_erase.mpr ⟨dref_ne L (b := cc0_scratch3) (b' := cc0_scratch0) (by decide),
      SparseCore.Cfg.mem_ownRefs_of_owner (p := Proc.scVector (cV L) (jV L)) (b := dref L cc0_scratch3) rfl⟩⟩⟩),
    SparseCore.bigSep_erase' (Finset.mem_erase.mpr ⟨dref_ne L (b := cc0_scratch4) (b' := cc0_scratch3) (by decide),
      Finset.mem_erase.mpr ⟨dref_ne L (b := cc0_scratch4) (b' := cc0_scratch2) (by decide),
      Finset.mem_erase.mpr ⟨dref_ne L (b := cc0_scratch4) (b' := cc0_scratch1) (by decide),
      Finset.mem_erase.mpr ⟨dref_ne L (b := cc0_scratch4) (b' := cc0_scratch0) (by decide),
      SparseCore.Cfg.mem_ownRefs_of_owner (p := Proc.scVector (cV L) (jV L)) (b := dref L cc0_scratch4) rfl⟩⟩⟩⟩)]

variable [FloatOps F]

/-! ## The loops -/

/-- The float loop: places and values in their scratch rows, the first `16 t` values gone to their places. -/
def inv1 (t : Nat) (_ : PUnit) : sProp 𝕄 :=
  iprop(((s4V).view.loc (tV d L) ↦{fullShare} X.dRow d (Feed.bOf (wL L))) ∗ ((s0V).view.loc (tV d L) ↦{fullShare} X.fRow d (wL L))
    ∗ ∃ s, ⌜Done (F := F) (e := .f32) (X.dRow d (Feed.bOf (wL L))) (X.fRow d (wL L)) t s⌝ ∗ ((s2V).view.loc (tV d L) ↦{fullShare} s))

/-- The integer loop. -/
def inv2 (b : Fin 16) (t : Nat) (_ : PUnit) : sProp 𝕄 :=
  iprop(((s4V).view.loc (tV d L) ↦{fullShare} X.dRow d (Feed.bOf (wL L))) ∗ ((s1V).view.loc (tV d L) ↦{fullShare} X.tRow d b)
    ∗ ∃ s, ⌜Done (F := F) (e := .i32) (X.dRow d (Feed.bOf (wL L))) (X.tRow d b) t s⌝ ∗ ((s3V).view.loc (tV d L) ↦{fullShare} s))

/-! ## What a trip reads and stores -/

omit [FloatOps F] in
theorem t1_lt (k : Fin k0_t1_loop.trips) : k.val < 256 := Nat.lt_of_lt_of_le k.isLt k0_t1_abs.2.1
omit [FloatOps F] in
theorem t2_lt (k : Fin k0_t2_loop.trips) : k.val < 256 := Nat.lt_of_lt_of_le k.isLt k0_t2_abs.2.1

omit [FloatOps F] in
theorem lane_idx (off : Fin 1 → ℕ) (inb : ∀ a, off a + S16.size a ≤ S4096.size a) (t : ℕ) (ht : t < 256) (ho : off = ![16 * t]) (q : Fin 16) :
    (Rect.unit (s := S4096) off S16.size inb).toLoadRect.idx (at1 q) = at4 ⟨16 * t + q.val, by omega⟩ := by
  subst ho
  funext a
  match a with
  | 0 => exact Fin.ext (by simp [LoadRect.idx, at1, at4])

omit [FloatOps F] in
theorem lane_s4 (off : Fin 1 → ℕ) (inb : ∀ a, off a + S16.size a ≤ S4096.size a) (t : ℕ) (ht : t < 256) (ho : off = ![16 * t])
    (f : S4096.Idx → Elt F .i32) (q : Fin 16) :
    View.readAt (Elt F) (s4V).view (Rect.unit (s := S4096) off S16.size inb).toLoadRect f (at1 q) = f (at4 ⟨16 * t + q.val, by omega⟩) := by
  rw [← lane_idx off inb t ht ho q]; rfl
omit [FloatOps F] in
theorem lane_s0 (off : Fin 1 → ℕ) (inb : ∀ a, off a + S16.size a ≤ S4096.size a) (t : ℕ) (ht : t < 256) (ho : off = ![16 * t])
    (f : S4096.Idx → Elt F .f32) (q : Fin 16) :
    View.readAt (Elt F) (s0V).view (Rect.unit (s := S4096) off S16.size inb).toLoadRect f (at1 q) = f (at4 ⟨16 * t + q.val, by omega⟩) := by
  rw [← lane_idx off inb t ht ho q]; rfl
omit [FloatOps F] in
theorem lane_s1 (off : Fin 1 → ℕ) (inb : ∀ a, off a + S16.size a ≤ S4096.size a) (t : ℕ) (ht : t < 256) (ho : off = ![16 * t])
    (f : S4096.Idx → Elt F .i32) (q : Fin 16) :
    View.readAt (Elt F) (s1V).view (Rect.unit (s := S4096) off S16.size inb).toLoadRect f (at1 q) = f (at4 ⟨16 * t + q.val, by omega⟩) := by
  rw [← lane_idx off inb t ht ho q]; rfl

omit [FloatOps F] in
/-- The places a trip reads are in the row. -/
theorem chk_row (off : Fin 1 → ℕ) (inb : ∀ a, off a + S16.size a ≤ S4096.size a) (t : ℕ) (ht : t < 256) (ho : off = ![16 * t])
    (D : S4096.Idx → Elt F .i32) (hD : RowOK D) :
    ∀ a x, ((![View.readAt (Elt F) (s4V).view (Rect.unit (s := S4096) off S16.size inb).toLoadRect D] : Fin 1 → IVec S16 32) a x).toNat < S4096.size a := by
  intro a x
  match a with
  | 0 =>
    show (View.readAt (Elt F) (s4V).view (Rect.unit (s := S4096) off S16.size inb).toLoadRect D x).toNat < 4096
    have e : View.readAt (Elt F) (s4V).view (Rect.unit (s := S4096) off S16.size inb).toLoadRect D x = D (at4 ⟨16 * t + (x 0).val, _⟩) :=
      (congrArg _ (Scat.at1_eta x).symm).trans (lane_s4 off inb t ht ho D (x 0))
    rw [e]
    exact hD.1 _

omit [FloatOps F] in
theorem pts_s2w (f : Buf (Elt F) ((tV d L).loc cc0_scratch2)) :
    (((s2V).access (.whole S4096)).loc (tV d L) ↦[((s2V).access (.whole S4096)).set]{fullShare} f : sProp 𝕄) = (s2V).view.loc (tV d L) ↦{fullShare} f := by
  rw [show ((s2V).access (.whole S4096)).set = Finset.univ from Memref.set_access_whole (cc0_scratch2 : Ref sig .scVector)]
omit [FloatOps F] in
theorem pts_s3w (f : Buf (Elt F) ((tV d L).loc cc0_scratch3)) :
    (((s3V).access (.whole S4096)).loc (tV d L) ↦[((s3V).access (.whole S4096)).set]{fullShare} f : sProp 𝕄) = (s3V).view.loc (tV d L) ↦{fullShare} f := by
  rw [show ((s3V).access (.whole S4096)).set = Finset.univ from Memref.set_access_whole (cc0_scratch3 : Ref sig .scVector)]
omit [FloatOps F] in
theorem wr_s2 (f v : S4096.Idx → Elt F .f32) : ((s2V).access (.whole S4096)).write (Elt F) f v Finset.univ = v :=
  Memref.write_access_whole_univ (Elt F) (cc0_scratch2 : Ref sig .scVector) f v
omit [FloatOps F] in
theorem rd_s2 (f : S4096.Idx → Elt F .f32) : ((s2V).access (.whole S4096)).read (Elt F) f = f :=
  Memref.read_access_whole (Elt F) (cc0_scratch2 : Ref sig .scVector) f
omit [FloatOps F] in
theorem wr_s3 (f v : S4096.Idx → Elt F .i32) : ((s3V).access (.whole S4096)).write (Elt F) f v Finset.univ = v :=
  Memref.write_access_whole_univ (Elt F) (cc0_scratch3 : Ref sig .scVector) f v
omit [FloatOps F] in
theorem rd_s3 (f : S4096.Idx → Elt F .i32) : ((s3V).access (.whole S4096)).read (Elt F) f = f :=
  Memref.read_access_whole (Elt F) (cc0_scratch3 : Ref sig .scVector) f

omit [FloatOps F] in
theorem pts_s2st (f v : S4096.Idx → Elt F .f32) :
    (((s2V).access (.whole S4096)).loc (tV d L) ↦[((s2V).access (.whole S4096)).set]{fullShare}
      ((s2V).access (.whole S4096)).write (Elt F) f v Finset.univ : sProp 𝕄) = (s2V).view.loc (tV d L) ↦{fullShare} v := by rw [wr_s2, pts_s2w]
omit [FloatOps F] in
theorem pts_s3st (f v : S4096.Idx → Elt F .i32) :
    (((s3V).access (.whole S4096)).loc (tV d L) ↦[((s3V).access (.whole S4096)).set]{fullShare}
      ((s3V).access (.whole S4096)).write (Elt F) f v Finset.univ : sProp 𝕄) = (s3V).view.loc (tV d L) ↦{fullShare} v := by rw [wr_s3, pts_s3w]
omit [FloatOps F] in
theorem read_xfK : (xfK L).view.read (Elt F) (X.XF d) = X.fRow d (wL L) := by
  funext j
  rw [View.read_apply, emb_xfK]; rfl
omit [FloatOps F] in
theorem read_xdK : (xdK L).view.read (Elt F) (X.XD d) = X.dRow d (Feed.bOf (wL L)) := by
  funext j
  rw [View.read_apply, emb_xdK]; rfl
omit [FloatOps F] in
theorem read_xtK (h : k0_cond1 L = 1#1) : (xtK L h).view.read (Elt F) (X.XT d) = X.tRow d ⟨(wL L).val, wL_lt L h⟩ := by
  funext j
  rw [View.read_apply, emb_xtK]; rfl

omit [FloatOps F] in
theorem pts_s4f (f : S4096.Idx → Elt F .i32) :
    ((s4V).view.loc (tV d L) ↦{fullShare} View.write (Elt F) (s4V).view f ((xdK L).view.read (Elt F) (X.XD d)) Finset.univ : sProp 𝕄)
      = (s4V).view.loc (tV d L) ↦{fullShare} X.dRow d (Feed.bOf (wL L)) := by
  rw [View.write_whole_univ, read_xdK]
omit [FloatOps F] in
theorem pts_s0f (f : S4096.Idx → Elt F .f32) :
    ((s0V).view.loc (tV d L) ↦{fullShare} View.write (Elt F) (s0V).view f ((xfK L).view.read (Elt F) (X.XF d)) Finset.univ : sProp 𝕄)
      = (s0V).view.loc (tV d L) ↦{fullShare} X.fRow d (wL L) := by
  rw [View.write_whole_univ, read_xfK]
omit [FloatOps F] in
theorem pts_s1f (h : k0_cond1 L = 1#1) (f : S4096.Idx → Elt F .i32) :
    ((s1V).view.loc (tV d L) ↦{fullShare} View.write (Elt F) (s1V).view f ((xtK L h).view.read (Elt F) (X.XT d)) Finset.univ : sProp 𝕄)
      = (s1V).view.loc (tV d L) ↦{fullShare} X.tRow d ⟨(wL L).val, wL_lt L h⟩ := by
  rw [View.write_whole_univ, read_xtK]

omit [FloatOps F] in
theorem bOf_wL (h : k0_cond1 L = 1#1) : Feed.bOf (wL L) = ⟨(wL L).val, wL_lt L h⟩ := Fin.ext (Nat.mod_eq_of_lt (wL_lt L h))

theorem done_succ_of {e : EltTy} (r s : Vec F Scat.S4 e) (hr : r = s) (D : IVec Scat.S4 32) (hD : RowOK D) (V : Vec F Scat.S4 e) (t : ℕ)
    (ht : 16 * t + 16 ≤ 4096) (hs : Done D V t s) (ix : IVec Scat.S1 32) (v : Vec F Scat.S1 e)
    (hix : ∀ k : Fin 16, ix (at1 k) = D (at4 ⟨16 * t + k.val, by omega⟩)) (hv : ∀ k : Fin 16, v (at1 k) = V (at4 ⟨16 * t + k.val, by omega⟩))
    (h : ∀ a x, ((![ix] : Fin 1 → IVec Scat.S1 32) a x).toNat < Scat.S4.size a) :
    Done D V (t + 1) (storeIdx (s := Scat.S4) (d := ![16]) r ![ix] v (fun _ => 1#1) false h) := by
  subst hr; exact done_succ D hD V t ht r hs ix v hix hv h

/-- The row of values written out is the rearranged row. -/
theorem of_out (fo : Buf (Elt F) (ofLoc d)) (p s : S4096.Idx → Elt F .f32) (hp : p = s)
    (hs : Done (F := F) (e := .f32) (X.dRow d (Feed.bOf (wL L))) (X.fRow d (wL L)) 256 s) :
    ∀ i ∈ (ofK L).view.set, (ofK L).view.writes (Elt F) fo [⟨Rect.whole S4096, p⟩] i = X.GF hX d i := by
  subst hp
  intro i hi
  obtain ⟨j, -, rfl⟩ := Finset.mem_map.mp hi
  have h := congrFun (View.read_writes_whole (ofK L).view fo p) j
  rw [View.read_apply] at h
  rw [emb_ofK] at h ⊢
  rw [cast_eq] at h
  exact h.trans (done_all _ _ _ hs (back (X.dRow d (Feed.bOf (wL L))) (hX d _) (j 0)) j (pl_back _ _ _).symm)
theorem oi_out (h : k0_cond1 L = 1#1) (fo : Buf (Elt F) (oiLoc d)) (p s : S4096.Idx → Elt F .i32) (hp : p = s)
    (hs : Done (F := F) (e := .i32) (X.dRow d (Feed.bOf (wL L))) (X.tRow d ⟨(wL L).val, wL_lt L h⟩) 256 s) :
    ∀ i ∈ (oiK L h).view.set, (oiK L h).view.writes (Elt F) fo [⟨Rect.whole S4096, p⟩] i = X.GI hX d i := by
  subst hp
  intro i hi
  obtain ⟨j, -, rfl⟩ := Finset.mem_map.mp hi
  have h' := congrFun (View.read_writes_whole (oiK L h).view fo p) j
  rw [View.read_apply] at h'
  rw [emb_oiK] at h' ⊢
  rw [bOf_wL L h] at hs
  rw [cast_eq] at h'
  exact h'.trans (done_all _ _ _ hs (back (X.dRow d ⟨(wL L).val, wL_lt L h⟩) (hX d _) (j 0)) j (pl_back _ _ _).symm)

omit [FloatOps F] in
theorem pay2 (g : S4096.Idx → Elt F .f32) : View.read (Elt F) (s2V).view g = g := rfl
omit [FloatOps F] in
theorem pay3 (g : S4096.Idx → Elt F .i32) : View.read (Elt F) (s3V).view g = g := rfl

omit [FloatOps F] in
theorem t1_trips : Scf.trips k0_t1_loop.lb k0_t1_loop.ub k0_t1_loop.st = 256 := by decide +kernel
omit [FloatOps F] in
theorem t2_trips : Scf.trips k0_t2_loop.lb k0_t2_loop.ub k0_t2_loop.st = 256 := by decide +kernel

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ goT X d (cL L) (jL L)
        ∗ scopedBufs (tV d L) ∗ scopedSems0 (tV d L) ∗ owes (tV d L) O W)
      ⊢ wp frame (wpE (defs₀ (F := F)) 𝒱₀ (tV d L) none) Set.univ
          (cc0__sc_scatter_body L xfV (Memref.isWhole_whole _) xtV (Memref.isWhole_whole _) xdV (Memref.isWhole_whole _)
            ofV (Memref.isWhole_whole _) oiV (Memref.isWhole_whole _) s0V (Memref.isWhole_whole _) s1V (Memref.isWhole_whole _)
            s2V (Memref.isWhole_whole _) s3V (Memref.isWhole_whole _) s4V (Memref.isWhole_whole _) cc0_scoped0 cc0_scoped1 cc0_scoped2 cc0_scoped3 cc0_scoped4)
          fun _ => iprop(tdT X hX d (cL L) (jL L)
            ∗ scopedBufs (tV d L) ∗ scopedSems0 (tV d L)
            ∗ ∃ W', ⌜∀ p ∈ W', p ∈ W ∨ p.2 = none⌝ ∗ owes (tV d L) O W') := by
  simp only [cc0__sc_scatter_body_eq_skeleton]; unfold cc0__sc_scatter_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨⟨Hxf, Hxt, Hxd⟩, ⟨%fo, Hof⟩, Hoi⟩, ⟨⟨%f0, H0⟩, ⟨%f1, H1⟩, ⟨%f2, H2⟩, ⟨%f3, H3⟩, ⟨%f4, H4⟩, Hbufs⟩, ⟨HsA, HsB, HsC, HsD, HsE, Hsems⟩, HO⟩
  ihave Hmw := (show levAts (K (F := F)).L (K (F := F)).lev ⊢ Transfers.MayWaits (tV d L) (default : HIx 1) O from
    (K (F := F)).mayWaits_none (thr := tV d L) hO) $$ Hlv
  ihave Hxf' := (Entails.of_eq (pts_xfV (F := F) d L _ _).symm) $$ Hxf
  ihave Hxt' := (Entails.of_eq (pts_xtV (F := F) d L _ _).symm) $$ Hxt
  ihave Hxd' := (Entails.of_eq (pts_xdV (F := F) d L _ _).symm) $$ Hxd
  ihave Hof' := (Entails.of_eq (pts_ofK (F := F) d L _).symm) $$ Hof
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  sl_exec
  rw [wp_bind]
  sl_for (inv1 X d L) $$ [H4' H0' H2']
  case region =>
    intro k _
    unfold inv1
    iintro ⟨H4, H0, ⟨%s, %hs, H2⟩⟩
    sl_exec
    rw [wp_assume_of _ _ _ _ (show k0_chk1 _ from chk_row _ _ k.val (t1_lt k) (k0_off3_eq k) _ (hX d _))]
    sl_exec
    ihave H2' := (Entails.of_eq (pts_s2w (F := F) d L _).symm) $$ H2
    iapply (SparseCore.wp_vectorStoreIdx 𝒱₀ (tV d L) none Set.univ (base := (s2V))) $$ H2'; iintro H2
    ihave H2' := (Entails.of_eq (pts_s2st (F := F) d L _ _)) $$ H2
    sl_step
    isplitl [H4]; · iexact H4
    isplitl [H0]; · iexact H0
    iexists _; isplitr
    swap; · iexact H2'
    ipureintro
    exact done_succ_of _ s (rd_s2 s) _ (hX d _) _ k.val (by have := t1_lt k; omega) hs _ _ (fun q => lane_s4 _ _ k.val (t1_lt k) (k0_off3_eq k) _ q)
      (fun q => lane_s0 _ _ k.val (t1_lt k) (k0_off3_eq k) _ q) _
  · unfold inv1
    isplitl [H4']
    · iapply (Entails.of_eq (pts_s4f X d L f4)); iexact H4'
    isplitl [H0']
    · iapply (Entails.of_eq (pts_s0f X d L f0)); iexact H0'
    iexists _; isplitr
    swap; · iexact H2'
    ipureintro; exact done_zero _ _ _
  rw [t1_trips]
  unfold inv1
  iintro %_ ⟨H4', H0', ⟨%g, %hg, H2'⟩⟩
  sl_exec
  ihave Hof := (Entails.of_eq (pointsTo_congr (of_out X hX d L fo _ g (pay2 g) hg))) $$ Hof'
  by_cases h1 : k0_cond1 L = 1#1
  · rw [dif_pos h1]
    ihave Hoi := (show oiAny (F := F) d (wN (cL L) (jL L)) ⊢ iprop(∃ f, oiRowPts d ⟨(wL L).val, wL_lt L h1⟩ f) from
      Entails.of_eq (oiAny_pos d _ (wL_lt L h1))) $$ Hoi
    icases Hoi with ⟨%fi, Hoi⟩
    ihave Hoi' := (Entails.of_eq (pts_oiK (F := F) d L h1 _).symm) $$ Hoi
    sl_exec
    sl_for (inv2 X d L ⟨(wL L).val, wL_lt L h1⟩) $$ [H4' H1' H3']
    case region =>
      intro k _
      unfold inv2
      iintro ⟨H4, H1, ⟨%s, %hs, H3⟩⟩
      sl_exec
      rw [wp_assume_of _ _ _ _ (show k0_chk2 L _ from fun _ => chk_row _ _ k.val (t2_lt k) (k0_off5_eq k) _ (hX d _))]
      sl_exec
      ihave H3' := (Entails.of_eq (pts_s3w (F := F) d L _).symm) $$ H3
      iapply (SparseCore.wp_vectorStoreIdx 𝒱₀ (tV d L) none Set.univ (base := (s3V))) $$ H3'; iintro H3
      ihave H3' := (Entails.of_eq (pts_s3st (F := F) d L _ _)) $$ H3
      sl_step
      isplitl [H4]; · iexact H4
      isplitl [H1]; · iexact H1
      iexists _; isplitr
      swap; · iexact H3'
      ipureintro
      exact done_succ_of _ s (rd_s3 s) _ (hX d _) _ k.val (by have := t2_lt k; omega) hs _ _ (fun q => lane_s4 _ _ k.val (t2_lt k) (k0_off5_eq k) _ q)
        (fun q => lane_s1 _ _ k.val (t2_lt k) (k0_off5_eq k) _ q) _
    · unfold inv2
      isplitl [H4']; · iexact H4'
      isplitl [H1']
      · iapply (Entails.of_eq (pts_s1f X d L h1 f1)); iexact H1'
      iexists _; isplitr
      swap; · iexact H3'
      ipureintro; exact done_zero _ _ _
    rw [t2_trips]
    unfold inv2
    iintro %_ ⟨H4', H1', ⟨%gi, %hgi, H3'⟩⟩
    sl_exec
    ihave Hoi := (Entails.of_eq (pointsTo_congr (oi_out X hX d L h1 fi _ gi (pay3 gi) hgi))) $$ Hoi'
    sl_step
    isplitl [Hxf' Hxt' Hxd' Hof Hoi]
    · isplitl [Hxf' Hxt' Hxd']
      · isplitl [Hxf']; · iexact Hxf'
        isplitl [Hxt']; · iexact Hxt'
        iexact Hxd'
      isplitl [Hof]
      · iapply (Entails.of_eq (pts_ofK (F := F) d L _)); iexact Hof
      iapply (show oiRowPts (F := F) d ⟨(wL L).val, wL_lt L h1⟩ (X.GI hX d) ⊢ oiAt d (wN (cL L) (jL L)) (X.GI hX d) from
        Entails.of_eq ((oiAt_pos d _ (wL_lt L h1) _).symm))
      iapply (Entails.of_eq (pts_oiK (F := F) d L h1 _)); iexact Hoi
    isplitl [H0' H1' H2' H3' H4' Hbufs]
    · isplitl [H0']; · iexists _; iexact H0'
      isplitl [H1']; · iexists _; iexact H1'
      isplitl [H2']; · iexists _; iexact H2'
      isplitl [H3']; · iexists _; iexact H3'
      isplitl [H4']; · iexists _; iexact H4'
      iexact Hbufs
    isplitl [HsA HsB HsC HsD HsE Hsems]
    · isplitl [HsA]; · iexact HsA
      isplitl [HsB]; · iexact HsB
      isplitl [HsC]; · iexact HsC
      isplitl [HsD]; · iexact HsD
      isplitl [HsE]; · iexact HsE
      iexact Hsems
    iexists _; isplitr
    swap; · iexact HO
    ipureintro
    intro p hp
    simp only [Finset.mem_insert] at hp
    rcases hp with rfl | rfl | rfl | rfl | rfl | hp
    exacts [.inr rfl, .inr rfl, .inr rfl, .inr rfl, .inr rfl, .inl hp]
  · rw [dif_neg h1]
    sl_step
    isplitl [Hxf' Hxt' Hxd' Hof Hoi]
    · isplitl [Hxf' Hxt' Hxd']
      · isplitl [Hxf']; · iexact Hxf'
        isplitl [Hxt']; · iexact Hxt'
        iexact Hxd'
      isplitl [Hof]
      · iapply (Entails.of_eq (pts_ofK (F := F) d L _)); iexact Hof
      iapply (show oiAny (F := F) d (wN (cL L) (jL L)) ⊢ oiAt d (wN (cL L) (jL L)) (X.GI hX d) from
        Entails.of_eq ((oiAny_neg d _ (wL_nlt L h1)).trans (oiAt_neg d _ (wL_nlt L h1) _).symm)); iexact Hoi
    isplitl [H0' H1' H2' H3' H4' Hbufs]
    · isplitl [H0']; · iexists _; iexact H0'
      isplitl [H1']; · iexists _; iexact H1'
      isplitl [H2']; · iexists _; iexact H2'
      isplitl [H3']; · iexists _; iexact H3'
      isplitl [H4']; · iexists _; iexact H4'
      iexact Hbufs
    isplitl [HsA HsB HsC HsD HsE Hsems]
    · isplitl [HsA]; · iexact HsA
      isplitl [HsB]; · iexact HsB
      isplitl [HsC]; · iexact HsC
      isplitl [HsD]; · iexact HsD
      isplitl [HsE]; · iexact HsE
      iexact Hsems
    iexists _; isplitr
    swap; · iexact HO
    ipureintro
    intro p hp
    simp only [Finset.mem_insert] at hp
    rcases hp with rfl | rfl | rfl | hp
    exacts [.inr rfl, .inr rfl, .inr rfl, .inl hp]

end Cert.Proof.Sc

end
-- ==== Proof.ScLaunch.lean ====
/-
  The SparseCore call's launch: the tiles' obligation, how the arrays are shared out and come back, the host code around
  the call, and the program's run.
-/
module

public import proofs.«01_k».proof.Proof.ScTile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Cert.Proof.Scat (RowOK back)

variable {F : FTy → Type}

local notation "𝕄" => MT nD τ sig (HIx 1) (Elt F) ℕ UU ℕ

local notation "xfV" => (Memref.whole Cert.KernelIdeal.main_v4_scv : Memref Cert.KernelIdeal.sig Kind.scVector Space.hbm Cert.KernelIdeal.S32x4096 EltTy.f32)
local notation "xtV" => (Memref.whole Cert.KernelIdeal.main_v0_scv : Memref Cert.KernelIdeal.sig Kind.scVector Space.hbm Cert.KernelIdeal.S16x4096 EltTy.i32)
local notation "xdV" => (Memref.whole Cert.KernelIdeal.main_v1_scv : Memref Cert.KernelIdeal.sig Kind.scVector Space.hbm Cert.KernelIdeal.S16x4096 EltTy.i32)
local notation "ofV" => (Memref.whole Cert.KernelIdeal.main_v5_0_scv : Memref Cert.KernelIdeal.sig Kind.scVector Space.hbm Cert.KernelIdeal.S32x4096 EltTy.f32)
local notation "oiV" => (Memref.whole Cert.KernelIdeal.main_v5_1_scv : Memref Cert.KernelIdeal.sig Kind.scVector Space.hbm Cert.KernelIdeal.S16x4096 EltTy.i32)
local notation "s0V" => (Memref.whole Cert.KernelIdeal.cc0_scratch0 : Memref Cert.KernelIdeal.sig Kind.scVector Space.vmem Cert.KernelIdeal.S4096 EltTy.f32)
local notation "s1V" => (Memref.whole Cert.KernelIdeal.cc0_scratch1 : Memref Cert.KernelIdeal.sig Kind.scVector Space.vmem Cert.KernelIdeal.S4096 EltTy.i32)
local notation "s2V" => (Memref.whole Cert.KernelIdeal.cc0_scratch2 : Memref Cert.KernelIdeal.sig Kind.scVector Space.vmem Cert.KernelIdeal.S4096 EltTy.f32)
local notation "s3V" => (Memref.whole Cert.KernelIdeal.cc0_scratch3 : Memref Cert.KernelIdeal.sig Kind.scVector Space.vmem Cert.KernelIdeal.S4096 EltTy.i32)
local notation "s4V" => (Memref.whole Cert.KernelIdeal.cc0_scratch4 : Memref Cert.KernelIdeal.sig Kind.scVector Space.vmem Cert.KernelIdeal.S4096 EltTy.i32)

variable (X : Feed F) (hX : X.OK)

theorem bigSep_none {I : Type} (s : Finset I) : (bigSep s fun _ => iprop(emp)) = (iprop(emp) : sProp 𝕄) := bigSep_emp_const s

/-! ## Sharing out -/

theorem inPts_deal (d : Dev nD) (q : PosShare TreeShare) (n : ℕ) :
    (inPts X d q : sProp 𝕄) = bigSep Finset.univ fun i : Fin (n + 1) => inPts X d (Transfers.dealOf q (Finset.univ : Finset (Fin (n + 1))) i) := by
  rw [bigSep_sep', bigSep_sep']
  rw [← Transfers.pointsTo_deal (Finset.univ : Finset (Fin (n + 1))) Finset.univ_nonempty q,
    ← Transfers.pointsTo_deal (Finset.univ : Finset (Fin (n + 1))) Finset.univ_nonempty q,
    ← Transfers.pointsTo_deal (Finset.univ : Finset (Fin (n + 1))) Finset.univ_nonempty q]

theorem fRowSet_eq (i : Fin 32) : fRowSet i = (frow i).set := by
  show ((View.whole (main_v5_0_scv : Ref sig .scVector)).slice (frow i)).set = _
  rw [View.set_slice]; exact Finset.map_refl
theorem iRowSet_eq (i : Fin 16) : iRowSet i = (irow i).set := by
  show ((View.whole (main_v5_1_scv : Ref sig .scVector)).slice (irow i)).set = _
  rw [View.set_slice]; exact Finset.map_refl
theorem frows_disjoint : ∀ i ∈ (Finset.univ : Finset (Fin 32)), ∀ j ∈ (Finset.univ : Finset (Fin 32)), i ≠ j → Disjoint (fRowSet i) (fRowSet j) :=
  fun i _ j _ h => by rw [fRowSet_eq, fRowSet_eq]; exact Rect.part_disjoint fdiv h
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint idiv h
theorem frows_cover : (Finset.univ : Finset (Fin 32)).biUnion fRowSet = Finset.univ :=
  (Finset.biUnion_congr rfl fun i _ => fRowSet_eq i).trans (Rect.biUnion_part fdiv)
theorem irows_cover : (Finset.univ : Finset (Fin 16)).biUnion iRowSet = Finset.univ :=
  (Finset.biUnion_congr rfl fun i _ => iRowSet_eq i).trans (Rect.biUnion_part idiv)

/-- The tiles are the rows. -/
def wEquiv : Fin 2 × Fin 16 ≃ Fin 32 where
  toFun p := wN p.1 p.2
  invFun r := (⟨r.val % 2, by omega⟩, ⟨r.val / 2, by omega⟩)
  left_inv p := by ext <;> simp [wN] <;> omega
  right_inv r := by ext; simp [wN]; omega

theorem bigSep_tiles (Φ : Fin 32 → sProp 𝕄) :
    bigSep Finset.univ Φ = bigSep Finset.univ fun c : Fin 2 => bigSep Finset.univ fun s : Fin 16 => Φ (wN c s) := by
  rw [bigSep_univ_equiv wEquiv Φ, bigSep_univ_prod]; rfl

theorem of_rows (d : Dev nD) (f : Buf (Elt F) (ofLoc d)) :
    (ofLoc d ↦{fullShare} f : sProp 𝕄) = bigSep Finset.univ fun c : Fin 2 => bigSep Finset.univ fun s : Fin 16 => ofRowPts d (wN c s) f := by
  rw [← bigSep_tiles fun r => ofRowPts d r f, ← pointsTo_biUnion Finset.univ (ℓ := ofLoc d) fRowSet frows_disjoint, frows_cover]

theorem oi_rows (d : Dev nD) (f : Buf (Elt F) (oiLoc d)) :
    (oiLoc d ↦{fullShare} f : sProp 𝕄) = bigSep Finset.univ fun c : Fin 2 => bigSep Finset.univ fun s : Fin 16 => oiAt d (wN c s) f := by
  rw [← bigSep_tiles fun r => oiAt d r f, bigSep_univ_equiv (finSumFinEquiv : Fin 16 ⊕ Fin 16 ≃ Fin 32) fun r => oiAt d r f, bigSep_univ_sum]
  have hr : (bigSep Finset.univ fun b : Fin 16 => oiAt (F := F) d (finSumFinEquiv (Sum.inr b : Fin 16 ⊕ Fin 16) : Fin 32) f) = (iprop(emp) : sProp 𝕄) :=
    (bigSep_congr fun b _ => by
      unfold oiAt
      rw [dif_neg (show ¬ (finSumFinEquiv (Sum.inr b : Fin 16 ⊕ Fin 16) : Fin 32).val < 16 from Nat.not_lt.mpr (Nat.le_add_right 16 b.val))]; rfl).trans (bigSep_emp_const _)
  have hl : (bigSep Finset.univ fun b : Fin 16 => oiAt (F := F) d (finSumFinEquiv (Sum.inl b : Fin 16 ⊕ Fin 16) : Fin 32) f) = (bigSep Finset.univ fun b : Fin 16 => oiRowPts d b f : sProp 𝕄) :=
    bigSep_congr fun b _ => by
      unfold oiAt
      rw [dif_pos (show (finSumFinEquiv (Sum.inl b : Fin 16 ⊕ Fin 16) : Fin 32).val < 16 from b.isLt)]; rfl
  refine Eq.trans ?_ (congrArg₂ (fun A B : sProp 𝕄 => iprop(A ∗ B)) hl hr).symm
  rw [← pointsTo_biUnion Finset.univ (ℓ := oiLoc d) iRowSet irows_disjoint, irows_cover]
  exact (BI.Entails.antisymm sep_emp.1 sep_emp.2).symm

theorem oiAt_any (d : Dev nD) (r : Fin 32) (f : Buf (Elt F) (oiLoc d)) : (oiAt d r f : sProp 𝕄) ⊢ oiAny d r := by
  unfold oiAt oiAny
  split
  · iintro H; iexists f; iexact H
  · iintro H; iexact H

theorem of_any (d : Dev nD) (r : Fin 32) (f : Buf (Elt F) (ofLoc d)) : (ofRowPts d r f : sProp 𝕄) ⊢ iprop(∃ f, ofRowPts d r f) := by
  iintro H; iexists f; iexact H

theorem tiles_cast (Φ : Fin 16 → sProp 𝕄) :
    (bigSep Finset.univ fun i : Fin ((K (F := F)).nSub 0) => Φ (ss (F := F) i)) = bigSep Finset.univ Φ :=
  bigSep_congr fun _ _ => congrArg Φ (Fin.ext rfl)
theorem cores_cast (Φ : Fin 2 → sProp 𝕄) :
    (bigSep Finset.univ fun i : Fin ((K (F := F)).nCore 0) => Φ (cc (F := F) i)) = bigSep Finset.univ Φ :=
  bigSep_congr fun _ _ => congrArg Φ (Fin.ext rfl)

theorem bigSep_sep3 {n : ℕ} (A B C : Fin n → sProp 𝕄) :
    (bigSep Finset.univ fun i => iprop(A i ∗ B i ∗ C i)) = iprop(bigSep Finset.univ A ∗ bigSep Finset.univ B ∗ bigSep Finset.univ C) := by
  rw [bigSep_sep' Finset.univ A fun i => iprop(B i ∗ C i), bigSep_sep' Finset.univ B C]

variable [FloatOps F]

theorem vecSplit : (K (F := F)).VecSplit' (P X hX) 0 := by
  intro d c
  show (stC X d (cc (F := F) c) : sProp 𝕄) ⊢ |={Set.univ}=> iprop(
      (bigSep Finset.univ fun i : Fin ((K (F := F)).nSub 0) => goT X d (cc (F := F) c) (ss (F := F) i))
      ∗ ((bigSep Finset.univ fun i : Fin ((K (F := F)).nSub 0) => tdT X hX d (cc (F := F) c) (ss (F := F) i)) -∗ dnC X hX d (cc (F := F) c)))
  rw [tiles_cast (F := F) (fun i => goT X d (cc (F := F) c) i), tiles_cast (F := F) (fun i => tdT X hX d (cc (F := F) c) i)]
  generalize cc (F := F) c = c
  rw [bigSep_sep3 (fun s => inPts X d (tq c s)) (fun s => iprop(∃ f, ofRowPts (F := F) d (wN c s) f)) (fun s => oiAny (F := F) d (wN c s)),
    bigSep_sep3 (fun s => inPts X d (tq c s)) (fun s => ofRowPts d (wN c s) (X.GF hX d)) (fun s => oiAt d (wN c s) (X.GI hX d)),
    ← inPts_deal X d (cq c) 15]
  iintro H; imodintro
  isplitl [H]; · iexact H
  iintro H; iexact H

theorem stAll (d : Dev nD) (f : Buf (Elt F) (ofLoc d)) (g : Buf (Elt F) (oiLoc d)) :
    iprop(inPts X d fullShare ∗ (ofLoc d ↦{fullShare} f) ∗ (oiLoc d ↦{fullShare} g))
      ⊢ (bigSep Finset.univ fun c : Fin ((K (F := F)).nCore 0) => (P X hX).st 0 d c : sProp 𝕄) := by
  show _ ⊢ (bigSep Finset.univ fun c : Fin ((K (F := F)).nCore 0) => stC X d (cc (F := F) c) : sProp 𝕄)
  rw [cores_cast (F := F) (fun c => stC X d c),
    bigSep_sep3 (fun c => inPts X d (cq c)) (fun c => bigSep Finset.univ fun s : Fin 16 => iprop(∃ f, ofRowPts (F := F) d (wN c s) f))
      (fun c => bigSep Finset.univ fun s : Fin 16 => oiAny (F := F) d (wN c s)),
    ← inPts_deal X d fullShare 1, of_rows, oi_rows]
  refine BIClass.sep_mono (Entails.of_eq rfl) (BIClass.sep_mono ?_ ?_)
  · exact bigSep_mono fun c _ => bigSep_mono fun s _ => of_any d _ f
  · exact bigSep_mono fun c _ => bigSep_mono fun s _ => oiAt_any d _ g

theorem dnAll (d : Dev nD) : (bigSep Finset.univ fun c : Fin ((K (F := F)).nCore 0) => (P X hX).dn 0 d c : sProp 𝕄)
      = iprop(inPts X d fullShare ∗ (ofLoc d ↦{fullShare} X.GF hX d) ∗ (oiLoc d ↦{fullShare} X.GI hX d)) := by
  show (bigSep Finset.univ fun c : Fin ((K (F := F)).nCore 0) => dnC X hX d (cc (F := F) c) : sProp 𝕄) = _
  rw [cores_cast (F := F) (fun c => dnC X hX d c),
    bigSep_sep3 (fun c => inPts X d (cq c)) (fun c => bigSep Finset.univ fun s : Fin 16 => ofRowPts d (wN c s) (X.GF hX d))
      (fun c => bigSep Finset.univ fun s : Fin 16 => oiAt d (wN c s) (X.GI hX d)),
    ← inPts_deal X d fullShare 1, of_rows, oi_rows]

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_scatter_body (coordsV c s)
          xfV (Memref.isWhole_whole _) xtV (Memref.isWhole_whole _) xdV (Memref.isWhole_whole _)
            ofV (Memref.isWhole_whole _) oiV (Memref.isWhole_whole _) s0V (Memref.isWhole_whole _) s1V (Memref.isWhole_whole _)
            s2V (Memref.isWhole_whole _) s3V (Memref.isWhole_whole _) s4V (Memref.isWhole_whole _) cc0_scoped0 cc0_scoped1 cc0_scoped2 cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P X hX) v₀ 0 := by
  intro d c i O W hO _ _
  simp only [show (P X hX).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X hX d (coordsV ⟨_, hci.1⟩ ⟨_, hci.2⟩) hF O W hO).trans (wp_mono frame _ _ fun _ => obl_post)

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X hX).x q thr) := by
  unfold u₀
  iintro Hu
  ihave H := (ownU_pair (initOf (K (F := F)).hsCells (K (F := F)).hsToks) (1 : UP × Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) X hX).x q thr) = bigSep Finset.univ fun _ => iprop(emp) from
    bigSep_congr fun _ _ => bigSep_univ_of_subsingleton (0 : Fin 1), bigSep_none]
  iempintro

end Cert.Proof.Sc

end
-- ==== Proof.ScRun.lean ====
/-
  The host code around the SparseCore call, and the program's run.
-/
module

public import proofs.«01_k».proof.Proof.ScLaunch
public import Idealize.ShloMosaic.Lib.Pipeline.Frame
public import Idealize.ShloMosaic.Lib.StableHlo.RunRead

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Cert.Proof.Scat (RowOK back)

variable {F : FTy → Type}

local notation "𝕄" => MT nD τ sig (HIx 1) (Elt F) ℕ UU ℕ

variable [FloatOps F]

abbrev op0 : HloOp τ sig (Elt F) := StableHlo.reshape main_arg0 main_v0 (rfl : (.i32 : EltTy) = .i32) shapeCasts_S16x8x512_S16x4096
abbrev op1 : HloOp τ sig (Elt F) := StableHlo.reshape main_arg3 main_v1 (rfl : (.i32 : EltTy) = .i32) shapeCasts_S16x8x512_S16x4096
abbrev op2 : HloOp τ sig (Elt F) := StableHlo.reshape main_arg1 main_v2 (rfl : (.f32 : EltTy) = .f32) shapeCasts_S16x8x512_S16x4096
abbrev op3 : HloOp τ sig (Elt F) := StableHlo.reshape main_arg2 main_v3 (rfl : (.f32 : EltTy) = .f32) shapeCasts_S16x8x512_S16x4096
abbrev op4 : HloOp τ sig (Elt F) := StableHlo.binary main_v2 main_v3 main_v4 ((fun a b => concatenate S32x4096 0 [⟨S16x4096, a⟩, ⟨S16x4096, b⟩] concatenates_S16x4096_S16x4096_S32x4096_d0) : (⟨S16x4096, .f32⟩ : BufTy).Contents (Elt F) → (⟨S16x4096, .f32⟩ : BufTy).Contents (Elt F) → (⟨S32x4096, .f32⟩ : BufTy).Contents (Elt F))
abbrev op5 : HloOp τ sig (Elt F) := StableHlo.unary main_v5_0 main_v6 ((extractStridedSlice S16x4096 ![0, 0] · slices_S32x4096_S16x4096_0_0) : (⟨S32x4096, .f32⟩ : BufTy).Contents (Elt F) → (⟨S16x4096, .f32⟩ : BufTy).Contents (Elt F))
abbrev op6 : HloOp τ sig (Elt F) := StableHlo.unary main_v5_0 main_v7 ((extractStridedSlice S16x4096 ![16, 0] · slices_S32x4096_S16x4096_16_0) : (⟨S32x4096, .f32⟩ : BufTy).Contents (Elt F) → (⟨S16x4096, .f32⟩ : BufTy).Contents (Elt F))

abbrev preOps : List (HloOp τ sig (Elt F)) := [op0, op1, op2, op3, op4]
abbrev postOps : List (HloOp τ sig (Elt F)) := [op5, op6]

abbrev xf' : DevRef τ sig := Proc.devRef .tc (main_v4 : Ref sig .tc)
abbrev xt' : DevRef τ sig := Proc.devRef .tc (main_v0 : Ref sig .tc)
abbrev xd' : DevRef τ sig := Proc.devRef .tc (main_v1 : Ref sig .tc)
abbrev of' : DevRef τ sig := Proc.devRef .tc (main_v5_0 : Ref sig .tc)
abbrev oi' : DevRef τ sig := Proc.devRef .tc (main_v5_1 : Ref sig .tc)

theorem hb0 : (op0 (F := F)).bufs ⊆ Pipeline.ucRefs τ sig := show ({(Proc.devRef .tc (main_arg0 : Ref sig .tc) : DevRef τ sig), (Proc.devRef .tc (main_v0 : Ref sig .tc) : DevRef τ sig)} : Finset (DevRef τ sig)) ⊆ Pipeline.ucRefs τ sig by decide

theorem hb1 : (op1 (F := F)).bufs ⊆ Pipeline.ucRefs τ sig := show ({(Proc.devRef .tc (main_arg3 : Ref sig .tc) : DevRef τ sig), (Proc.devRef .tc (main_v1 : Ref sig .tc) : DevRef τ sig)} : Finset (DevRef τ sig)) ⊆ Pipeline.ucRefs τ sig by decide

theorem hb2 : (op2 (F := F)).bufs ⊆ Pipeline.ucRefs τ sig := show ({(Proc.devRef .tc (main_arg1 : Ref sig .tc) : DevRef τ sig), (Proc.devRef .tc (main_v2 : Ref sig .tc) : DevRef τ sig)} : Finset (DevRef τ sig)) ⊆ Pipeline.ucRefs τ sig by decide

theorem hb3 : (op3 (F := F)).bufs ⊆ Pipeline.ucRefs τ sig := show ({(Proc.devRef .tc (main_arg2 : Ref sig .tc) : DevRef τ sig), (Proc.devRef .tc (main_v3 : Ref sig .tc) : DevRef τ sig)} : Finset (DevRef τ sig)) ⊆ Pipeline.ucRefs τ sig by decide

theorem hb4 : (op4 (F := F)).bufs ⊆ Pipeline.ucRefs τ sig := show ({(Proc.devRef .tc (main_v2 : Ref sig .tc) : DevRef τ sig), (Proc.devRef .tc (main_v3 : Ref sig .tc) : DevRef τ sig), (Proc.devRef .tc (main_v4 : Ref sig .tc) : DevRef τ sig)} : Finset (DevRef τ sig)) ⊆ Pipeline.ucRefs τ sig by decide

theorem hb5 : (op5 (F := F)).bufs ⊆ Pipeline.ucRefs τ sig := show ({(Proc.devRef .tc (main_v5_0 : Ref sig .tc) : DevRef τ sig), (Proc.devRef .tc (main_v6 : Ref sig .tc) : DevRef τ sig)} : Finset (DevRef τ sig)) ⊆ Pipeline.ucRefs τ sig by decide

theorem hb6 : (op6 (F := F)).bufs ⊆ Pipeline.ucRefs τ sig := show ({(Proc.devRef .tc (main_v5_0 : Ref sig .tc) : DevRef τ sig), (Proc.devRef .tc (main_v7 : Ref sig .tc) : DevRef τ sig)} : Finset (DevRef τ sig)) ⊆ Pipeline.ucRefs τ sig by decide

variable (m : (ℓ : Loc nD τ sig) → Buf (Elt F) ℓ) (ρ : Dev nD → PrngReg)

/-- The launch contents; those before the call. -/
def V0 (d : Dev nD) : Valuation τ sig (Elt F) := fun b => m (d, b)
def VA (d : Dev nD) : Valuation τ sig (Elt F) := after preOps (V0 m d)

/-- What the host code hands to the call. -/
def feed : Feed F where
  XF d := VA m d xf'
  XT d := VA m d xt'
  XD d := VA m d xd'

variable (hX : (feed m).OK)

/-- The contents after the call; those at the end. -/
def V1 (d : Dev nD) : Valuation τ sig (Elt F) :=
  Function.update (Function.update (VA m d) of' ((feed m).GF hX d)) oi' ((feed m).GI hX d)
def V2 (d : Dev nD) : Valuation τ sig (Elt F) := after postOps (V1 m hX d)

abbrev SU : Finset (DevRef τ sig) := Pipeline.ucRefs τ sig
/-- The arrays the call works on. -/
abbrev SC5 : Finset (DevRef τ sig) := {xf', xt', xd', of', oi'}

omit [FloatOps F] in
theorem SC5_sub : SC5 ⊆ SU := by decide

omit [FloatOps F] in
theorem held_SC5 (d : Dev nD) (W : Valuation τ sig (Elt F)) :
    (held (T d) SC5 W : sProp 𝕄) = iprop((xfLoc d ↦{fullShare} W xf') ∗ (xtLoc d ↦{fullShare} W xt') ∗ (xdLoc d ↦{fullShare} W xd')
      ∗ (ofLoc d ↦{fullShare} W of') ∗ oiLoc d ↦{fullShare} W oi') := by
  unfold held SC5
  rw [SparseCore.bigSep_insert' (by decide), SparseCore.bigSep_insert' (by decide), SparseCore.bigSep_insert' (by decide),
    SparseCore.bigSep_insert' (by decide), bigSep_singleton]

theorem V1_of (d : Dev nD) : V1 m hX d of' = (feed m).GF hX d :=
  (Function.update_of_ne (show of' ≠ oi' by decide) _ _).trans (Function.update_self _ _ _)
theorem V1_oi (d : Dev nD) : V1 m hX d oi' = (feed m).GI hX d := Function.update_self _ _ _
theorem V1_ne (d : Dev nD) (b : DevRef τ sig) (h1 : b ≠ of') (h2 : b ≠ oi') : V1 m hX d b = VA m d b :=
  (Function.update_of_ne h2 _ _).trans (Function.update_of_ne h1 _ _)

theorem held_before (d : Dev nD) : (held (T d) SU (VA m d) : sProp 𝕄)
    = iprop((inPts (feed m) d fullShare ∗ (ofLoc d ↦{fullShare} VA m d of') ∗ (oiLoc d ↦{fullShare} VA m d oi')) ∗ held (T d) (SU \ SC5) (VA m d)) := by
  rw [held_sub_split (T d) SC5_sub (VA m d), held_SC5]
  have h : ∀ A B C E G : sProp 𝕄, iprop(A ∗ B ∗ C ∗ E ∗ G) = iprop((A ∗ B ∗ C) ∗ E ∗ G) := fun A B C E G => by
    have h1 : iprop(A ∗ B ∗ C ∗ E ∗ G) ⊢ iprop((A ∗ B ∗ C) ∗ E ∗ G) := by
      iintro ⟨HA, HB, HC, HE, HG⟩
      isplitl [HA HB HC]
      · isplitl [HA]; · iexact HA
        isplitl [HB]; · iexact HB
        iexact HC
      isplitl [HE]; · iexact HE
      iexact HG
    have h2 : iprop((A ∗ B ∗ C) ∗ E ∗ G) ⊢ iprop(A ∗ B ∗ C ∗ E ∗ G) := by
      iintro ⟨⟨HA, HB, HC⟩, HE, HG⟩
      isplitl [HA]; · iexact HA
      isplitl [HB]; · iexact HB
      isplitl [HC]; · iexact HC
      isplitl [HE]; · iexact HE
      iexact HG
    exact BI.Entails.antisymm h1 h2
  rw [h]; rfl

theorem held_after (d : Dev nD) :
    iprop((inPts (feed m) d fullShare ∗ (ofLoc d ↦{fullShare} (feed m).GF hX d) ∗ (oiLoc d ↦{fullShare} (feed m).GI hX d)) ∗ held (T d) (SU \ SC5) (VA m d))
      ⊢ (held (T d) SU (V1 m hX d) : sProp 𝕄) := by
  rw [held_sub_split (T d) SC5_sub (V1 m hX d), held_SC5, V1_of, V1_oi, V1_ne m hX d xf' (by decide) (by decide), V1_ne m hX d xt' (by decide) (by decide),
    V1_ne m hX d xd' (by decide) (by decide)]
  rw [show (held (T d) (SU \ SC5) (V1 m hX d) : sProp 𝕄) = held (T d) (SU \ SC5) (VA m d) from held_congr (T d) fun b hb =>
    V1_ne m hX d b (fun e => (Finset.mem_sdiff.mp hb).2 (e ▸ by decide)) (fun e => (Finset.mem_sdiff.mp hb).2 (e ▸ by decide))]
  iintro ⟨⟨⟨HA, HB, HC⟩, HE, HG⟩, HR⟩
  isplitl [HA HB HC HE HG]
  · isplitl [HA]; · iexact HA
    isplitl [HB]; · iexact HB
    isplitl [HC]; · iexact HC
    isplitl [HE]; · iexact HE
    iexact HG
  iexact HR

abbrev FIN (d : Dev nD) : sProp 𝕄 := held (T d) SU (V2 m hX d)

set_option maxHeartbeats 2000000 in
/-- @main on a device's TensorCore. -/
theorem hmain (κ : GSem nD τ sig → ℕ) (d : Dev nD) :
    iprop((K (F := F)).ctx EH (P (feed m) hX) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hX d ∗ (K (F := F)).tcEnd d) := by
  unfold SparseCore.Cfg.tcRes SparseCore.Cfg.tcEnd
  rw [show (unscopedBufs d (fun b => m ((SparseCore.T d).loc b)) : sProp 𝕄) = held (T d) SU (V0 m d) from Pipeline.unscopedBufs_held d (V0 m d)]
  simp only [main, wp_bind, wp_pure]
  iintro ⟨#Hctx, Hst, ⟨Hb, Hheld, Hts, -⟩, -⟩
  iapply (wp_hlo_within 𝒱 (SparseCore.T d) none Set.univ (op := op0) (S := SU) hb0 (V := V0 m d)) $$ [Hb Hheld]
  · isplitl [Hb] <;> iassumption
  iintro ⟨Hb, Hheld⟩
  rw [wp_ret]; imodintro
  iapply (wp_hlo_within 𝒱 (SparseCore.T d) none Set.univ (op := op1) (S := SU) hb1) $$ [Hb Hheld]
  · isplitl [Hb] <;> iassumption
  iintro ⟨Hb, Hheld⟩
  rw [wp_ret]; imodintro
  iapply (wp_hlo_within 𝒱 (SparseCore.T d) none Set.univ (op := op2) (S := SU) hb2) $$ [Hb Hheld]
  · isplitl [Hb] <;> iassumption
  iintro ⟨Hb, Hheld⟩
  rw [wp_ret]; imodintro
  iapply (wp_hlo_within 𝒱 (SparseCore.T d) none Set.univ (op := op3) (S := SU) hb3) $$ [Hb Hheld]
  · isplitl [Hb] <;> iassumption
  iintro ⟨Hb, Hheld⟩
  rw [wp_ret]; imodintro
  iapply (wp_hlo_within 𝒱 (SparseCore.T d) none Set.univ (op := op4) (S := SU) hb4) $$ [Hb Hheld]
  · isplitl [Hb] <;> iassumption
  iintro ⟨Hb, Hheld⟩
  rw [wp_ret]; imodintro
  ihave Hh := (Entails.of_eq (show (held (T d) SU (op4.result (op3.result (op2.result (op1.result (op0.result (V0 m d)))))) : sProp 𝕄) = _ from held_before m d)) $$ Hheld
  icases Hh with ⟨Hc, Hr⟩
  iapply ((K (F := F)).wp_run (D (F := F)) 𝒱 (EH := EH) (P := P (feed m) hX) κ d 0) $$ [Hst Hc Hr Hb Hts]
  isplitr; · iexact Hctx
  isplitl [Hst]; · iexact Hst
  isplitl [Hc]
  · iapply (stAll (feed m) hX d (VA m d of') (VA m d oi')); iexact Hc
  iintro ⟨Hst, Hdn⟩
  ihave Hc := (Entails.of_eq (dnAll (feed m) hX d)) $$ Hdn
  ihave Hheld := (held_after m hX d) $$ [Hc Hr]
  · isplitl [Hc] <;> iassumption
  iapply (wp_hlo_within 𝒱 (SparseCore.T d) none Set.univ (op := op5) (S := SU) hb5) $$ [Hb Hheld]
  · isplitl [Hb] <;> iassumption
  iintro ⟨Hb, Hheld⟩
  rw [wp_ret]; imodintro
  iapply (wp_hlo_within 𝒱 (SparseCore.T d) none Set.univ (op := op6) (S := SU) hb6) $$ [Hb Hheld]
  · isplitl [Hb] <;> iassumption
  iintro ⟨Hb, Hheld⟩
  rw [wp_ret]; imodintro; imodintro
  isplitl [Hst]; · iexact Hst
  isplitr [Hb Hts]
  · iexact Hheld
  isplitl [Hb] <;> iassumption

def fq (d : Dev nD) (s' : Phys nD τ sig (Elt F)) : Prop := ∀ b ∈ SU, s'.mem.mem (d, b) = V2 m hX d b

set_option maxRecDepth 16384 in
theorem hfin (d : Dev nD) (s' : Phys nD τ sig (Elt F)) : iprop(FIN m hX d ∗ SI s') ⊢ (⌜fq m hX d s'⌝ : sProp 𝕄) := by
  have key : ∀ b : {b // b ∈ SU}, iprop(FIN m hX d ∗ SI s') ⊢ (⌜s'.mem.mem (d, b.1) = V2 m hX d b.1⌝ : sProp 𝕄) := fun b => by
    unfold FIN held
    rw [SparseCore.bigSep_erase' b.2]
    iintro ⟨⟨Hx, -⟩, HSI⟩
    ihave H := (SI_pointsTo_agree (st := s') (ℓ := (d, b.1)) (I := Finset.univ) (q := fullShare) (f := V2 m hX d b.1)) $$ [HSI Hx]
    · isplitl [HSI] <;> iassumption
    icases H with %hx
    ipureintro; exact funext fun i => hx i (Finset.mem_univ i)
  exact ((Laws.forall_intro key).trans Laws.pure_forall.2).trans (Laws.pure_mono fun all b hb => all ⟨b, hb⟩)

/-! ## The program's run -/

def QC : PUnit × MemSt nD τ sig (Elt F) → Prop := fun r => (∀ c : Dev nD, ∀ b ∈ SU, r.2.mem (c, b) = V2 m hX c b) ∧ r.2.sem = fun _ => 0

theorem run_main [∀ e, Nonempty (Elt F e)] :
    θ_run (Cert.KernelIdeal.defs (F := F)) (Cert.KernelIdeal.threads (F := F)) ⟨m, fun _ => 0, ρ⟩ (QC m hX) :=
  SparseCore.Cfg.θ_run_sc_quiescent (K := K (F := F)) (D := D (F := F)) (𝒱 := 𝒱) (EH := EH) (P := P (feed m) hX) (A := ∅) facts v₀
    (fun q hq => match q with | 0 => nomatch hq)
    (fun q _ => match q with | 0 => tileObl (feed m) hX facts)
    (fun q _ => match q with | 0 => SparseCore.Cfg.VecSplit.of_plain (vecSplit (feed m) hX))
    m ρ main (fun _ => iprop(emp)) (FIN m hX) (u₀ (F := F)) (sep_elim_left.trans (hu₀ (feed m) hX)) (hmain m ρ hX) (fq m hX) (hfin m hX) (QC m hX) (fun _ h hz => ⟨h, hz⟩)

end Cert.Proof.Sc

end
-- ==== Proof.Dest.lean ====
/-
  The places that the lengths of the messages give: where each byte of an example goes, as a natural number, and that the
  places of an example rearrange its 4096 bytes.
-/
module

public import proofs.«01_k».proof.Proof.Scat
public import proofs.«01_k».proof.Proof.Gen.Pre_dest_of_messages
public import Idealize.ShloMosaic.Lib.Routing.OpsOne
public import Idealize.ShloMosaic.Lib.Routing.OpsSearch
public import Idealize.ShloMosaic.Lib.ReduceAll
public import Idealize.ShloMosaic.Lib.WordCmp

@[expose] public section

noncomputable section

namespace Cert.Proof.Dest

open Idealize.ShloMosaic Idealize.ShloMosaic.ValueIdx Idealize.ShloMosaic.Routing
open Cert.Pre_dest_of_messages Cert.Pre_dest_of_messages.Gen

/-! ## Places as natural numbers -/

/-- The sum of the first `s` of `f`. -/
def pre (f : ℕ → ℕ) : ℕ → ℕ
  | 0 => 0
  | s + 1 => pre f s + f s

theorem pre_eq_list (f : ℕ → ℕ) (s : ℕ) : ((List.range s).map f).sum = pre f s := by
  induction s with
  | zero => rfl
  | succ s ih => rw [List.range_succ, List.map_append, List.sum_append, ih]; simp [pre]

theorem pre_mono (f : ℕ → ℕ) {s s' : ℕ} (h : s ≤ s') : pre f s ≤ pre f s' := by
  induction h with
  | refl => exact Nat.le_refl _
  | step _ ih => exact ih.trans (Nat.le_add_right _ _)

theorem pre_lt (f : ℕ → ℕ) {s s' : ℕ} (h : s < s') : pre f s + f s ≤ pre f s' := pre_mono f (Nat.succ_le_of_lt h)

theorem pre_compl (f : ℕ → ℕ) (hf : ∀ s, f s ≤ 512) (s : ℕ) : pre f s + pre (fun i => 512 - f i) s = 512 * s := by
  induction s with
  | zero => rfl
  | succ s ih => have := hf s; simp only [pre]; omega

/-- Where byte `l` of message `s` goes, `f` the messages' lengths less one: the first `f s` bytes of each message before the
    other bytes of any, and within the two parts in order. -/
def place (f : ℕ → ℕ) (s l : ℕ) : ℕ :=
  if l < f s then pre f s + l else pre f 8 + pre (fun i => 512 - f i) s + (l - f s)

theorem place_lt (f : ℕ → ℕ) (hf : ∀ s, f s ≤ 512) {s l : ℕ} (hs : s < 8) (hl : l < 512) : place f s l < 4096 := by
  have h8 := pre_compl f hf 8
  have h1 := pre_lt f hs
  have h2 := pre_lt (fun i => 512 - f i) hs
  have := hf s
  unfold place
  split <;> omega

theorem place_inj (f : ℕ → ℕ) (hf : ∀ s, f s ≤ 512) {s l s' l' : ℕ} (hs : s < 8) (hl : l < 512) (hs' : s' < 8) (hl' : l' < 512)
    (e : place f s l = place f s' l') : s = s' ∧ l = l' := by
  have h8 := pre_compl f hf 8
  have h1 := pre_lt f hs
  have h1' := pre_lt f hs'
  have g := hf s
  have g' := hf s'
  unfold place at e
  rcases Nat.lt_trichotomy s s' with h | h | h
  · have a := pre_lt f h
    have b := pre_lt (fun i => 512 - f i) h
    split at e <;> split at e <;> omega
  · subst h
    split at e <;> split at e <;> omega
  · have a := pre_lt f h
    have b := pre_lt (fun i => 512 - f i) h
    split at e <;> split at e <;> omega

/-! ## The operations, read at an entry -/

theorem sub_ofNat {a b : ℕ} (h : b ≤ a) : BitVec.ofNat 32 a - BitVec.ofNat 32 b = BitVec.ofNat 32 (a - b) := by
  conv_lhs => rw [show a = (a - b) + b by omega, BitVec.ofNat_add]
  exact add_sub_cancel_right _ _

/-- jnp's `cumsum(axis=1)` of an `[R, C]` matrix, as it prints (a window of one row and the whole width, padded low by one less). -/
theorem cumsum_cols {R C Cm1 : Nat} (hC : Cm1 + 1 = C) (x : IVec (shape2 R C) 32) (f : Nat → Nat → Nat)
    (hx : ∀ (i : Fin R) (c : Fin C), x (ix2 i c) = BitVec.ofNat 32 (f i.val c.val)) (init : IVec shape0 32) (hinit : init ix0 = 0#32)
    (h : (shape2 R C).ReduceWindows (![1, C] : Fin 2 → Nat) ![1, 1] ![0, Cm1] ![0, 0] (shape2 R C)) (hu : 0 < shape0.numel) (i : Fin R) (j : Fin C) :
    Host.reduceWindow IntOp.addi ![1, C] ![1, 1] ![0, Cm1] ![0, 0] x init h hu (ix2 i j)
      = BitVec.ofNat 32 ((List.range (j.val + 1)).map fun c => f i.val c).sum := by
  subst hC
  have hv : init (Shape.Idx.first hu) = BitVec.ofNat 32 0 := (congrArg init (eq_ix0 _)).trans hinit
  have hj := j.isLt
  have hi := i.isLt
  unfold Host.reduceWindow
  refine (foldl_addi_ofNat _ _ (fun n => if Cm1 ≤ j.val + n.val then f i.val (j.val + n.val - Cm1) else 0) (fun n _ => ?_) _ 0 hv).trans ?_
  · have hw0 : ((shape2 1 (Cm1 + 1)).rowMajor.symm n 0).val = 0 := by rw [symm2]; rfl
    have hw1 : ((shape2 1 (Cm1 + 1)).rowMajor.symm n 1).val = n.val := by rw [symm2]; rfl
    have hn : n.val < Cm1 + 1 := (n.cast (numel2 _)).isLt
    dsimp only
    split
    · next hin =>
      have h1 := hin 1
      change Cm1 ≤ j.val * 1 + ((shape2 1 (Cm1 + 1)).rowMajor.symm n 1).val
        ∧ j.val * 1 + ((shape2 1 (Cm1 + 1)).rowMajor.symm n 1).val - Cm1 < Cm1 + 1 at h1
      rw [hw1] at h1
      rw [if_pos (by omega)]
      refine (congrArg x (funext fun a => Fin.ext ?_)).trans (hx i ⟨j.val + n.val - Cm1, by omega⟩)
      match a with
      | ⟨0, _⟩ =>
        show i.val * 1 + ((shape2 1 (Cm1 + 1)).rowMajor.symm n 0).val - 0 = i.val
        rw [hw0]
        omega
      | ⟨1, _⟩ =>
        show j.val * 1 + ((shape2 1 (Cm1 + 1)).rowMajor.symm n 1).val - Cm1 = j.val + n.val - Cm1
        rw [hw1, Nat.mul_one]
    · next hin =>
      rw [if_neg fun hle => hin fun a => by
        match a with
        | ⟨0, _⟩ =>
          show 0 ≤ i.val * 1 + ((shape2 1 (Cm1 + 1)).rowMajor.symm n 0).val ∧ i.val * 1 + ((shape2 1 (Cm1 + 1)).rowMajor.symm n 0).val - 0 < R
          rw [hw0]
          omega
        | ⟨1, _⟩ =>
          show Cm1 ≤ j.val * 1 + ((shape2 1 (Cm1 + 1)).rowMajor.symm n 1).val
            ∧ j.val * 1 + ((shape2 1 (Cm1 + 1)).rowMajor.symm n 1).val - Cm1 < Cm1 + 1
          rw [hw1]
          omega]
      exact hv
  · rw [Nat.zero_add, map_finRange_val _ (fun w => if Cm1 ≤ j.val + w then f i.val (j.val + w - Cm1) else 0)]
    exact congrArg (BitVec.ofNat 32) ((congrArg (fun M => ((List.range M).map fun w => if Cm1 ≤ j.val + w then f i.val (j.val + w - Cm1) else 0).sum)
      (numel2 (Cm1 + 1))).trans (sum_window (fun c => f i.val c) Cm1 j.val (by omega)))

/-- The sum along a row of eight. -/
theorem row_sum (x : IVec S16x8 32) (b : Fin 16) (f : ℕ → ℕ) (hf : ∀ s, f s ≤ 512) (hx : ∀ s : Fin 8, x (ix2 b s) = BitVec.ofNat 32 (f s.val)) :
    Host.reduce IntOp.addi x (constantI S_ 32 0#32) reducesTo_S16x8_S16_d1 h_S_ (ix1 b) = BitVec.ofNat 32 (pre f 8) := by
  have hR : S16x8.Reduces [1] S16 := by decide
  rw [Host.reduce_eq_fold_single IntOp.addi x _ reducesTo_S16x8_S16_d1 hR h_S_ (ix1 b)]
  have hl : ∀ k : Fin 8, hR.lift (ix1 b) k = ix2 b k := fun k => by
    funext a
    match a with
    | ⟨0, _⟩ => rfl
    | ⟨1, _⟩ => rfl
  have hc : (x ∘ hR.lift (ix1 b) : Fin 8 → BitVec 32) = fun k => BitVec.ofNat 32 (f k.val) := funext fun k => (congrArg x (hl k)).trans (hx k)
  have hn : ∀ k : Fin 8, (BitVec.ofNat 32 (f k.val)).toNat = f k.val := fun k => by
    have := hf k.val
    rw [BitVec.toNat_ofNat]; omega
  have hs : ∑ k : Fin 8, (BitVec.ofNat 32 (f k.val)).toNat = pre f 8 := by
    simp only [hn]
    rw [Fin.sum_univ_eight]
    simp [pre]
  have hb : pre f 8 < 2 ^ 32 := by have := pre_compl f hf 8; omega
  have hfold := StableHlo.Predicate.toNat_fold_addi (Finset.univ : Finset (Fin 8)) (fun k => BitVec.ofNat 32 (f k.val)) (by rw [hs]; exact hb)
  rw [hs] at hfold
  apply BitVec.eq_of_toNat_eq
  rw [BitVec.toNat_ofNat, Nat.mod_eq_of_lt hb, ← hfold]
  show (Finset.fold IntOp.addi 0#32 (x ∘ hR.lift (ix1 b) : Fin 8 → BitVec 32) Finset.univ).toNat = _
  rw [hc]

/-- The number of set bits along a row of 512 is at most 512. -/
theorem count_le (msk : IVec S16x8x512 1) (b : Fin 16) (s : Fin 8) :
    (Host.reduce IntOp.addi (extui 32 msk natLt_1_32) (constantI S_ 32 0#32) reducesTo_S16x8x512_S16x8_d2 h_S_ (ix2 b s)).toNat ≤ 512 := by
  have hR : S16x8x512.Reduces [2] S16x8 := by decide
  rw [Host.reduce_eq_fold_single IntOp.addi _ _ reducesTo_S16x8x512_S16x8_d2 hR h_S_ (ix2 b s)]
  have hval : ∀ i, (extui 32 msk natLt_1_32 i).toNat ≤ 1 := fun i => by
    rw [show (extui 32 msk natLt_1_32 i).toNat = if msk i = 1#1 then 1 else 0 from StableHlo.Predicate.toNat_setWidth_bit (msk i)]
    split <;> omega
  have hs : ∑ k : Fin 512, ((extui 32 msk natLt_1_32 ∘ hR.lift (ix2 b s) : Fin 512 → BitVec 32) k).toNat ≤ 512 := by
    have := Finset.sum_le_card_nsmul (Finset.univ : Finset (Fin 512)) (fun k => ((extui 32 msk natLt_1_32 ∘ hR.lift (ix2 b s) : Fin 512 → BitVec 32) k).toNat) 1
      (fun k _ => hval _)
    simpa using this
  show (Finset.fold IntOp.addi 0#32 (extui 32 msk natLt_1_32 ∘ hR.lift (ix2 b s) : Fin 512 → BitVec 32) Finset.univ).toNat ≤ 512
  rw [StableHlo.Predicate.toNat_fold_addi _ _ (by omega)]
  exact hs

/-! ## The places as the program computes them -/

/-- A running sum along the second axis. -/
def csum (x : IVec S16x8 32) : IVec S16x8 32 :=
  Host.reduceWindow IntOp.addi ![1, 8] ![1, 1] ![0, 7] ![0, 0] x (broadcastInDim S_ ![] bcast_S_S_ (constantI S_ 32 0#32)) reduceWindows_S16x8_S16x8_w1s1p0_0_w8s1p7_0 h_S_

/-- The messages' lengths less one, from the mask of the bytes after a zero. -/
def lens (msk : IVec S16x8x512 1) : IVec S16x8 32 :=
  subi (minsi (addi (subi (broadcastInDim S16x8 ![] bcast_S_S16x8 (constantI S_ 32 512#32))
      (Host.reduce IntOp.addi (extui 32 msk natLt_1_32) (constantI S_ 32 0#32) reducesTo_S16x8x512_S16x8_d2 h_S_))
      (broadcastInDim S16x8 ![] bcast_S_S16x8 (constantI S_ 32 1#32)))
    (broadcastInDim S16x8 ![] bcast_S_S16x8 (constantI S_ 32 512#32)))
    (broadcastInDim S16x8 ![] bcast_S_S16x8 (constantI S_ 32 1#32))

/-- The bytes at or after the first zero. -/
def ended (x : IVec S16x8x512 32) : IVec S16x8x512 1 :=
  cmpi .sgt (Host.reduceWindow IntOp.addi ![1, 1, 512] ![1, 1, 1] ![0, 0, 511] ![0, 0, 0]
      (extui 32 (cmpi .eq x (broadcastInDim S16x8x512 ![] bcast_S_S16x8x512 (constantI S_ 32 0#32))) natLt_1_32)
      (broadcastInDim S_ ![] bcast_S_S_ (constantI S_ 32 0#32)) reduceWindows_S16x8x512_S16x8x512_w1s1p0_0_w1s1p0_0_w512s1p511_0 h_S_)
    (broadcastInDim S16x8x512 ![] bcast_S_S16x8x512 (constantI S_ 32 0#32))

/-- The byte's number within its message, everywhere. -/
abbrev pos3 : IVec S16x8x512 32 :=
  broadcastInDim S16x8x512 ![0, 1, 2] bcast_S1x1x512_S16x8x512_0_1_2 (broadcastInDim S1x1x512 ![2] bcast_S512_S1x1x512_2 (iotaInDim S512 32 0))

/-- A value per message, at each of its bytes. -/
abbrev wide (x : IVec S16x8 32) : IVec S16x8x512 32 :=
  broadcastInDim S16x8x512 ![0, 1, 2] bcast_S16x8x1_S16x8x512_0_1_2 (broadcastInDim S16x8x1 ![0, 1] bcast_S16x8_S16x8x1_0_1 x)

/-- The places, from the lengths less one. -/
def dest (p : IVec S16x8 32) : IVec S16x8x512 32 :=
  select (cmpi .slt pos3 (wide p)) (addi (wide (subi (csum p) p)) pos3)
    (addi (broadcastInDim S16x8x512 ![0, 1, 2] bcast_S16x8x1_S16x8x512_0_1_2
        (addi (broadcastInDim S16x8x1 ![0, 1, 2] bcast_S16x1x1_S16x8x1_0_1_2 (broadcastInDim S16x1x1 ![0] bcast_S16_S16x1x1_0
            (Host.reduce IntOp.addi p (constantI S_ 32 0#32) reducesTo_S16x8_S16_d1 h_S_)))
          (broadcastInDim S16x8x1 ![0, 1] bcast_S16x8_S16x8x1_0_1
            (subi (csum (subi (broadcastInDim S16x8 ![] bcast_S_S16x8 (constantI S_ 32 512#32)) p))
              (subi (broadcastInDim S16x8 ![] bcast_S_S16x8 (constantI S_ 32 512#32)) p)))))
      (subi pos3 (wide p)))

theorem lens_le (msk : IVec S16x8x512 1) (b : Fin 16) (s : Fin 8) : (lens msk (ix2 b s)).toNat ≤ 511 := by
  have h := count_le msk b s
  show (IntOp.subi (IntOp.minsi (IntOp.addi (IntOp.subi 512#32 (Host.reduce IntOp.addi (extui 32 msk natLt_1_32) (constantI S_ 32 0#32) reducesTo_S16x8x512_S16x8_d2 h_S_ (ix2 b s))) 1#32) 512#32) 1#32).toNat ≤ 511
  revert h
  generalize Host.reduce IntOp.addi (extui 32 msk natLt_1_32) (constantI S_ 32 0#32) reducesTo_S16x8x512_S16x8_d2 h_S_ (ix2 b s) = c
  intro h
  obtain ⟨n, hn, rfl⟩ : ∃ n, n ≤ 512 ∧ c = BitVec.ofNat 32 n := ⟨c.toNat, h, by rw [BitVec.ofNat_toNat, BitVec.setWidth_eq]⟩
  have e : IntOp.addi (IntOp.subi 512#32 (BitVec.ofNat 32 n)) 1#32 = BitVec.ofNat 32 (512 - n + 1) := by
    show 512#32 - BitVec.ofNat 32 n + 1#32 = _
    rw [show (512#32 : BitVec 32) = BitVec.ofNat 32 512 from rfl, sub_ofNat hn, BitVec.ofNat_add]
  rw [e]
  have hm : IntOp.minsi (BitVec.ofNat 32 (512 - n + 1)) 512#32 = BitVec.ofNat 32 (min (512 - n + 1) 512) := by
    show (if (BitVec.ofNat 32 (512 - n + 1)).slt 512#32 then _ else _) = _
    rw [BitVec.slt_eq_decide, StableHlo.Predicate.toInt_ofNat_small _ (by omega), show ((512#32 : BitVec 32).toInt) = 512 from rfl]
    by_cases hlt : 512 - n + 1 < 512
    · rw [if_pos (by simpa using by omega), Nat.min_eq_left (by omega)]
    · rw [if_neg (by simpa using by omega), Nat.min_eq_right (by omega)]
  rw [hm]
  show (BitVec.ofNat 32 (min (512 - n + 1) 512) - BitVec.ofNat 32 1).toNat ≤ 511
  rw [sub_ofNat (by omega), BitVec.toNat_ofNat]
  omega

theorem pos3_apply (b : Fin 16) (s : Fin 8) (l : Fin 512) : pos3 (ix3 b s l) = BitVec.ofNat 32 l.val := rfl

theorem wide_apply (x : IVec S16x8 32) (b : Fin 16) (s : Fin 8) (l : Fin 512) : wide x (ix3 b s l) = x (ix2 b s) :=
  congrArg x (funext fun a => match a with | ⟨0, _⟩ => rfl | ⟨1, _⟩ => rfl)

theorem csum_apply (x : IVec S16x8 32) (f : ℕ → ℕ → ℕ) (hx : ∀ (i : Fin 16) (c : Fin 8), x (ix2 i c) = BitVec.ofNat 32 (f i.val c.val)) (b : Fin 16) (s : Fin 8) :
    csum x (ix2 b s) = BitVec.ofNat 32 (pre (f b.val) (s.val + 1)) := by
  rw [← pre_eq_list]
  exact cumsum_cols (C := 8) (Cm1 := 7) rfl x f hx _ rfl _ _ b s

theorem base_apply (r : IVec S16 32) (q : IVec S16x8 32) (b : Fin 16) (s : Fin 8) (l : Fin 512) :
    broadcastInDim S16x8x512 ![0, 1, 2] bcast_S16x8x1_S16x8x512_0_1_2
      (addi (broadcastInDim S16x8x1 ![0, 1, 2] bcast_S16x1x1_S16x8x1_0_1_2 (broadcastInDim S16x1x1 ![0] bcast_S16_S16x1x1_0 r))
        (broadcastInDim S16x8x1 ![0, 1] bcast_S16x8_S16x8x1_0_1 q)) (ix3 b s l) = r (ix1 b) + q (ix2 b s) :=
  congrArg₂ (fun u v : BitVec 32 => u + v) (congrArg r (funext fun a => match a with | ⟨0, _⟩ => rfl))
    (congrArg q (funext fun a => match a with | ⟨0, _⟩ => rfl | ⟨1, _⟩ => rfl))

/-- The lengths less one as natural numbers. -/
def nat (p : IVec S16x8 32) (b s : ℕ) : ℕ := if h : b < 16 ∧ s < 8 then (p (ix2 ⟨b, h.1⟩ ⟨s, h.2⟩)).toNat else 0

theorem nat_spec (p : IVec S16x8 32) (b : Fin 16) (s : Fin 8) : p (ix2 b s) = BitVec.ofNat 32 (nat p b.val s.val) := by
  unfold nat
  rw [dif_pos ⟨b.isLt, s.isLt⟩, BitVec.ofNat_toNat, BitVec.setWidth_eq]

theorem nat_le (p : IVec S16x8 32) (hp : ∀ b s, (p (ix2 b s)).toNat ≤ 511) (b s : ℕ) : nat p b s ≤ 511 := by
  unfold nat
  split
  · exact hp _ _
  · omega

/-- Each place is the natural number that `place` gives. -/
theorem dest_apply (p : IVec S16x8 32) (hp : ∀ b s, (p (ix2 b s)).toNat ≤ 511) (b : Fin 16) (s : Fin 8) (l : Fin 512) :
    dest p (ix3 b s l) = BitVec.ofNat 32 (place (nat p b.val) s.val l.val) := by
  have hle := nat_le p hp b.val
  have hq : ∀ (i : Fin 16) (c : Fin 8), subi (broadcastInDim S16x8 ![] bcast_S_S16x8 (constantI S_ 32 512#32)) p (ix2 i c)
      = BitVec.ofNat 32 ((fun i c => 512 - nat p i c) i.val c.val) := fun i c => by
    show 512#32 - p (ix2 i c) = _
    rw [nat_spec p i c, show (512#32 : BitVec 32) = BitVec.ofNat 32 512 from rfl, sub_ofNat (by have := nat_le p hp i.val c.val; omega)]
  have hp1 : wide p (ix3 b s l) = BitVec.ofNat 32 (nat p b.val s.val) := (wide_apply p b s l).trans (nat_spec p b s)
  have hoff : wide (subi (csum p) p) (ix3 b s l) = BitVec.ofNat 32 (pre (nat p b.val) s.val) := by
    rw [wide_apply]
    show csum p (ix2 b s) - p (ix2 b s) = _
    rw [csum_apply p (nat p) (nat_spec p), nat_spec p b s, sub_ofNat (by simp only [pre]; omega)]
    simp only [pre, Nat.add_sub_cancel]
  have hloff : subi (csum (subi (broadcastInDim S16x8 ![] bcast_S_S16x8 (constantI S_ 32 512#32)) p))
      (subi (broadcastInDim S16x8 ![] bcast_S_S16x8 (constantI S_ 32 512#32)) p) (ix2 b s)
        = BitVec.ofNat 32 (pre (fun i => 512 - nat p b.val i) s.val) := by
    show csum (subi (broadcastInDim S16x8 ![] bcast_S_S16x8 (constantI S_ 32 512#32)) p) (ix2 b s)
      - subi (broadcastInDim S16x8 ![] bcast_S_S16x8 (constantI S_ 32 512#32)) p (ix2 b s) = _
    rw [csum_apply _ (fun i c => 512 - nat p i c) hq, hq, sub_ofNat (by simp only [pre]; omega)]
    simp only [pre, Nat.add_sub_cancel]
  have hsum : Host.reduce IntOp.addi p (constantI S_ 32 0#32) reducesTo_S16x8_S16_d1 h_S_ (ix1 b) = BitVec.ofNat 32 (pre (nat p b.val) 8) :=
    row_sum p b _ (fun s => (hle s).trans (by omega)) fun s => nat_spec p b s
  have hbase : broadcastInDim S16x8x512 ![0, 1, 2] bcast_S16x8x1_S16x8x512_0_1_2
        (addi (broadcastInDim S16x8x1 ![0, 1, 2] bcast_S16x1x1_S16x8x1_0_1_2 (broadcastInDim S16x1x1 ![0] bcast_S16_S16x1x1_0
            (Host.reduce IntOp.addi p (constantI S_ 32 0#32) reducesTo_S16x8_S16_d1 h_S_)))
          (broadcastInDim S16x8x1 ![0, 1] bcast_S16x8_S16x8x1_0_1
            (subi (csum (subi (broadcastInDim S16x8 ![] bcast_S_S16x8 (constantI S_ 32 512#32)) p))
              (subi (broadcastInDim S16x8 ![] bcast_S_S16x8 (constantI S_ 32 512#32)) p)))) (ix3 b s l)
        = BitVec.ofNat 32 (pre (nat p b.val) 8 + pre (fun i => 512 - nat p b.val i) s.val) := by
    rw [BitVec.ofNat_add, ← hsum, ← hloff, base_apply]
  have hl := l.isLt
  have hls := hle s.val
  show Scalar.select (IntOp.cmpi .slt (pos3 (ix3 b s l)) (wide p (ix3 b s l))) (wide (subi (csum p) p) (ix3 b s l) + pos3 (ix3 b s l)) (_ + (pos3 (ix3 b s l) - wide p (ix3 b s l))) = _
  rw [hbase, hoff, hp1, pos3_apply, WordCmp.cmpi_slt_ofNat (by omega) (by omega)]
  unfold place Scalar.select
  by_cases hlt : l.val < nat p b.val s.val
  · rw [if_pos hlt, if_pos (by rw [decide_eq_true hlt]; rfl), BitVec.ofNat_add]
  · rw [if_neg hlt, if_neg (by rw [decide_eq_false hlt]; decide), sub_ofNat (by omega), ← BitVec.ofNat_add]

/-- The places of an example rearrange its bytes. -/
theorem rowOK (p : IVec S16x8 32) (hp : ∀ b s, (p (ix2 b s)).toNat ≤ 511) (b : Fin 16) (D : IVec Scat.S4 32)
    (hD : ∀ (s : Fin 8) (l : Fin 512), D (Scat.at4 ⟨s.val * 512 + l.val, by omega⟩) = dest p (ix3 b s l)) : Scat.RowOK D := by
  have hf : ∀ s, nat p b.val s ≤ 512 := fun s => (nat_le p hp b.val s).trans (by omega)
  have hval : ∀ j : Fin 4096, (D (Scat.at4 j)).toNat = place (nat p b.val) (j.val / 512) (j.val % 512) := fun j => by
    have hj := j.isLt
    have e : j = ⟨(⟨j.val / 512, by omega⟩ : Fin 8).val * 512 + (⟨j.val % 512, by omega⟩ : Fin 512).val, by show j.val / 512 * 512 + j.val % 512 < 4096; omega⟩ :=
      Fin.ext (by show j.val = j.val / 512 * 512 + j.val % 512; omega)
    have h1 := hD ⟨j.val / 512, by omega⟩ ⟨j.val % 512, by omega⟩
    rw [← e, dest_apply p hp] at h1
    rw [h1, BitVec.toNat_ofNat]
    show place (nat p b.val) (j.val / 512) (j.val % 512) % 2 ^ 32 = _
    have := place_lt (nat p b.val) hf (s := j.val / 512) (l := j.val % 512) (by omega) (by omega)
    exact Nat.mod_eq_of_lt (by omega)
  refine ⟨fun j => ?_, fun j j' e => ?_⟩
  · have hj : (j 0).val < 4096 := (j 0).isLt
    have h := hval (j 0)
    rw [Scat.at4_eta j] at h
    rw [h]
    exact place_lt _ hf (by omega) (by omega)
  · rw [hval, hval] at e
    have hj := j.isLt
    have hj' := j'.isLt
    have := place_inj _ hf (by omega) (by omega) (by omega) (by omega) e
    exact Fin.ext (by omega)

/-- What the precondition says: the fourth argument is the places that the lengths of the messages give. -/
theorem of_pre {F : FTy → Type} [FloatOps F] (a0 : IVec S16x8x512 32) (a1 a2 : FVec F S16x8x512 .f32) (a3 : IVec S16x8x512 32) (j : S_.Idx)
    (e : fn (F := F) a0 a1 a2 a3 j = 1#1) : a3 = dest (lens (ended a0)) := by
  funext i
  have h := Host.reduce_andi_all (cmpi .eq a3 (dest (lens (ended a0)))) (constantI S_ 1 1#1) reducesTo_S16x8x512_S_d0_1_2 h_S_ j e i
  exact IntOp.cmpi_eq.1 h

end Cert.Proof.Dest

end
-- ==== Proof.ScOk.lean ====
/-
  Of messages whose places are as the messages say, every row of places is a rearrangement; and the arguments stay.
-/
module

public import proofs.«01_k».proof.Proof.ScRun
public import proofs.«01_k».proof.Proof.Dest
public import Idealize.ShloMosaic.Lib.Routing.OpsSearch

@[expose] public section

noncomputable section

namespace Cert.Proof.Sc

open Cert.KernelIdeal Cert.KernelIdeal.Gen

open Idealize.ShloMosaic Idealize.ShloMosaic.TcCoe Idealize.ShloMosaic.ValueIdx Idealize.ShloMosaic.Routing Idealize.ShloMosaic.StableHlo
open Idealize.SL.Sem
open Cert.Proof.Scat (RowOK back at4)

variable {F : FTy → Type} [FloatOps F]

theorem VA_xt (V : Valuation τ sig (Elt F)) : after preOps V (main_v0 : DevRef τ sig)
    = shapeCast S16x4096 (V (main_arg0 : DevRef τ sig)) shapeCasts_S16x8x512_S16x4096 := by
  after_reads_simp
  try rfl

theorem VA_xd (V : Valuation τ sig (Elt F)) : after preOps V (main_v1 : DevRef τ sig)
    = shapeCast S16x4096 (V (main_arg3 : DevRef τ sig)) shapeCasts_S16x8x512_S16x4096 := by
  after_reads_simp
  try rfl

theorem VA_xf (V : Valuation τ sig (Elt F)) : after preOps V (main_v4 : DevRef τ sig)
    = concatenate S32x4096 0 [⟨S16x4096, shapeCast S16x4096 (V (main_arg1 : DevRef τ sig)) shapeCasts_S16x8x512_S16x4096⟩,
        ⟨S16x4096, shapeCast S16x4096 (V (main_arg2 : DevRef τ sig)) shapeCasts_S16x8x512_S16x4096⟩] concatenates_S16x4096_S16x4096_S32x4096_d0 := by
  after_reads_simp
  try rfl

theorem VA_args (V : Valuation τ sig (Elt F)) : after preOps V (main_arg0 : DevRef τ sig) = V (main_arg0 : DevRef τ sig)
    ∧ after preOps V (main_arg1 : DevRef τ sig) = V (main_arg1 : DevRef τ sig) ∧ after preOps V (main_arg2 : DevRef τ sig) = V (main_arg2 : DevRef τ sig)
    ∧ after preOps V (main_arg3 : DevRef τ sig) = V (main_arg3 : DevRef τ sig) := by
  refine ⟨?_, ?_, ?_, ?_⟩ <;> after_reads_simp

theorem post_args (V : Valuation τ sig (Elt F)) : after postOps V (main_arg0 : DevRef τ sig) = V (main_arg0 : DevRef τ sig)
    ∧ after postOps V (main_arg1 : DevRef τ sig) = V (main_arg1 : DevRef τ sig) ∧ after postOps V (main_arg2 : DevRef τ sig) = V (main_arg2 : DevRef τ sig)
    ∧ after postOps V (main_arg3 : DevRef τ sig) = V (main_arg3 : DevRef τ sig) := by
  refine ⟨?_, ?_, ?_, ?_⟩ <;> after_reads_simp

variable (m : (ℓ : Loc nD τ sig) → Buf (Elt F) ℓ) (ρ : Dev nD → PrngReg)

/-- The places given are those of the messages. -/
def Placed : Prop := ∀ d : Dev nD, (V0 m d (main_arg3 : DevRef τ sig) : IVec S16x8x512 32)
  = Dest.dest (Dest.lens (Dest.ended (V0 m d (main_arg0 : DevRef τ sig))))

variable {m}

/-- Row `b` of the places, byte by byte. -/
theorem dRow_at (h : Placed m) (d : Dev nD) (b : Fin 16) (s : Fin 8) (l : Fin 512) :
    (feed m).dRow d b (at4 ⟨s.val * 512 + l.val, by omega⟩) = Dest.dest (Dest.lens (Dest.ended (V0 m d (main_arg0 : DevRef τ sig)))) (ix3 b s l) := by
  have e : (feed m).XD d = shapeCast S16x4096 (V0 m d (main_arg3 : DevRef τ sig)) shapeCasts_S16x8x512_S16x4096 := VA_xd (V0 m d)
  have hi : ixi b (⟨s.val * 512 + l.val, by omega⟩ : Fin 4096) = ix2 b (⟨s.val * 512 + l.val, by omega⟩ : Fin 4096) := by
    funext a; match a with | 0 => rfl | 1 => rfl
  show (feed m).XD d (ixi b (⟨s.val * 512 + l.val, by omega⟩ : Fin 4096)) = _
  rw [e, h d, hi]
  exact cast32 _ shapeCasts_S16x8x512_S16x4096 rfl b s l ⟨s.val * 512 + l.val, by omega⟩ rfl

theorem feed_ok (h : Placed m) : (feed m).OK := fun d b =>
  Dest.rowOK _ (fun b s => Dest.lens_le _ b s) b _ fun s l => dRow_at h d b s l

theorem V2_args (hX : (feed m).OK) (d : Dev nD) : V2 m hX d (main_arg0 : DevRef τ sig) = m (d, (main_arg0 : DevRef τ sig))
    ∧ V2 m hX d (main_arg1 : DevRef τ sig) = m (d, (main_arg1 : DevRef τ sig)) ∧ V2 m hX d (main_arg2 : DevRef τ sig) = m (d, (main_arg2 : DevRef τ sig))
    ∧ V2 m hX d (main_arg3 : DevRef τ sig) = m (d, (main_arg3 : DevRef τ sig)) := by
  unfold V2
  obtain ⟨p0, p1, p2, p3⟩ := post_args (V1 m hX d)
  obtain ⟨q0, q1, q2, q3⟩ := VA_args (V0 m d)
  exact ⟨p0.trans ((V1_ne m hX d _ (by decide) (by decide)).trans q0), p1.trans ((V1_ne m hX d _ (by decide) (by decide)).trans q1),
    p2.trans ((V1_ne m hX d _ (by decide) (by decide)).trans q2), p3.trans ((V1_ne m hX d _ (by decide) (by decide)).trans q3)⟩

/-- The run, read at its arguments and counters. -/
theorem run_frame [∀ e, Nonempty (Elt F e)] (h : Placed m) :
    θ_run (Cert.KernelIdeal.defs (F := F)) (Cert.KernelIdeal.threads (F := F)) ⟨m, fun _ => 0, ρ⟩ fun r => (∀ c : Dev nD,
      r.2.mem (c, (main_arg0 : DevRef τ sig)) = m (c, (main_arg0 : DevRef τ sig)) ∧ r.2.mem (c, (main_arg1 : DevRef τ sig)) = m (c, (main_arg1 : DevRef τ sig))
      ∧ r.2.mem (c, (main_arg2 : DevRef τ sig)) = m (c, (main_arg2 : DevRef τ sig)) ∧ r.2.mem (c, (main_arg3 : DevRef τ sig)) = m (c, (main_arg3 : DevRef τ sig)))
      ∧ r.2.sem = fun _ => 0 :=
  (θ_run (Cert.KernelIdeal.defs (F := F)) _ _).mono (fun r hr => ⟨fun c =>
      ⟨(hr.1 c _ (by decide)).trans (V2_args (feed_ok h) c).1, (hr.1 c _ (by decide)).trans (V2_args (feed_ok h) c).2.1,
        (hr.1 c _ (by decide)).trans (V2_args (feed_ok h) c).2.2.1, (hr.1 c _ (by decide)).trans (V2_args (feed_ok h) c).2.2.2⟩, hr.2⟩)
    (run_main m ρ (feed_ok h))

end Cert.Proof.Sc

end
-- ==== Proof.Ref.lean ====
/-
  The reference's run: its operations in order, and every buffer at their fold over the launch contents.
-/
module

public import proofs.«01_k».proof.Defs
public import Idealize.ShloMosaic.Lib.StableHlo.Run
public import Idealize.ShloMosaic.Lib.StableHlo.RunRead
public import proofs.«01_k».proof.Proof.Gen.ReferenceIdeal
public import proofs.«01_k».proof.Proof.Dest

@[expose] public section

noncomputable section

namespace Cert.Proof.Ref

open Idealize.ShloMosaic Idealize.ShloMosaic.TcCoe Idealize.ShloMosaic.StableHlo Idealize.SL.Sem
open Cert.ReferenceIdeal Cert.ReferenceIdeal.Gen

/-- The contents of a buffer of shape `s` and element `t`. -/
abbrev Arr (F : FTy → Type) (s : Shape) (t : EltTy) : Type := (⟨s, t⟩ : BufTy).Contents (Elt F)

variable {F : FTy → Type} [FloatOps F]

/-- The places: @main's operations through the last select, the calls unfolded. -/
abbrev opsA : List (HloOp τ sig (Elt F)) :=
  [ StableHlo.nullary main_c (constantI S_ 32 0#32),
    StableHlo.unary main_c main_v0 (broadcastInDim S16x8x512 ![] bcast_S_S16x8x512 : Arr F S_ .i32 → Arr F S16x8x512 .i32),
    StableHlo.binary main_arg0 main_v0 main_v1 (cmpi .eq : Arr F S16x8x512 .i32 → Arr F S16x8x512 .i32 → Arr F S16x8x512 .i1),
    TRef.unary (.of main_v1 : TRef sig ⟨S16x8x512, .i1⟩) main_call0.v0 (extui 32 · natLt_1_32),
    TRef.nullary main_call0.call0.c (constantI S_ 32 0#32),
    TRef.unary main_call0.call0.c main_call0.call0.v0 (broadcastInDim S_ ![] bcast_S_S_),
    TRef.binary main_call0.v0 main_call0.call0.v0 main_call0.call0.v1 (fun x v => Host.reduceWindow IntOp.addi ![1, 1, 512] ![1, 1, 1] ![0, 0, 511] ![0, 0, 0] x v reduceWindows_S16x8x512_S16x8x512_w1s1p0_0_w1s1p0_0_w512s1p511_0 h_S_),
    StableHlo.nullary main_c_0 (constantI S_ 32 0#32),
    StableHlo.unary main_c_0 main_v3 (broadcastInDim S16x8x512 ![] bcast_S_S16x8x512 : Arr F S_ .i32 → Arr F S16x8x512 .i32),
    StableHlo.binary main_v2 main_v3 main_v4 (cmpi .sgt : Arr F S16x8x512 .i32 → Arr F S16x8x512 .i32 → Arr F S16x8x512 .i1),
    StableHlo.unary main_v4 main_v5 ((extui 32 · natLt_1_32) : Arr F S16x8x512 .i1 → Arr F S16x8x512 .i32),
    StableHlo.nullary main_c_1 (constantI S_ 32 0#32),
    StableHlo.binary main_v5 main_c_1 main_v6 ((fun x v => Host.reduce IntOp.addi x v reducesTo_S16x8x512_S16x8_d2 h_S_) : Arr F S16x8x512 .i32 → Arr F S_ .i32 → Arr F S16x8 .i32),
    StableHlo.nullary main_c_2 (constantI S_ 32 512#32),
    StableHlo.unary main_c_2 main_v7 (broadcastInDim S16x8 ![] bcast_S_S16x8 : Arr F S_ .i32 → Arr F S16x8 .i32),
    StableHlo.binary main_v7 main_v6 main_v8 (subi : Arr F S16x8 .i32 → Arr F S16x8 .i32 → Arr F S16x8 .i32),
    StableHlo.nullary main_c_3 (constantI S_ 32 1#32),
    StableHlo.unary main_c_3 main_v9 (broadcastInDim S16x8 ![] bcast_S_S16x8 : Arr F S_ .i32 → Arr F S16x8 .i32),
    StableHlo.binary main_v8 main_v9 main_v10 (addi : Arr F S16x8 .i32 → Arr F S16x8 .i32 → Arr F S16x8 .i32),
    StableHlo.nullary main_c_4 (constantI S_ 32 512#32),
    StableHlo.unary main_c_4 main_v11 (broadcastInDim S16x8 ![] bcast_S_S16x8 : Arr F S_ .i32 → Arr F S16x8 .i32),
    StableHlo.binary main_v10 main_v11 main_v12 (minsi : Arr F S16x8 .i32 → Arr F S16x8 .i32 → Arr F S16x8 .i32),
    StableHlo.nullary main_c_5 (constantI S_ 32 1#32),
    StableHlo.unary main_c_5 main_v13 (broadcastInDim S16x8 ![] bcast_S_S16x8 : Arr F S_ .i32 → Arr F S16x8 .i32),
    StableHlo.binary main_v12 main_v13 main_v14 (subi : Arr F S16x8 .i32 → Arr F S16x8 .i32 → Arr F S16x8 .i32),
    TRef.nullary main_call1.call0.c (constantI S_ 32 0#32),
    TRef.unary main_call1.call0.c main_call1.call0.v0 (broadcastInDim S_ ![] bcast_S_S_),
    TRef.binary (.of main_v14 : TRef sig ⟨S16x8, .i32⟩) main_call1.call0.v0 main_call1.call0.v1 (fun x v => Host.reduceWindow IntOp.addi ![1, 8] ![1, 1] ![0, 7] ![0, 0] x v reduceWindows_S16x8_S16x8_w1s1p0_0_w8s1p7_0 h_S_),
    StableHlo.binary main_v15 main_v14 main_v16 (subi : Arr F S16x8 .i32 → Arr F S16x8 .i32 → Arr F S16x8 .i32),
    StableHlo.nullary main_c_6 (constantI S_ 32 0#32),
    StableHlo.binary main_v14 main_c_6 main_v17 ((fun x v => Host.reduce IntOp.addi x v reducesTo_S16x8_S16_d1 h_S_) : Arr F S16x8 .i32 → Arr F S_ .i32 → Arr F S16 .i32),
    StableHlo.nullary main_c_7 (constantI S_ 32 512#32),
    StableHlo.unary main_c_7 main_v18 (broadcastInDim S16x8 ![] bcast_S_S16x8 : Arr F S_ .i32 → Arr F S16x8 .i32),
    StableHlo.binary main_v18 main_v14 main_v19 (subi : Arr F S16x8 .i32 → Arr F S16x8 .i32 → Arr F S16x8 .i32),
    TRef.nullary main_call2.call0.c (constantI S_ 32 0#32),
    TRef.unary main_call2.call0.c main_call2.call0.v0 (broadcastInDim S_ ![] bcast_S_S_),
    TRef.binary (.of main_v19 : TRef sig ⟨S16x8, .i32⟩) main_call2.call0.v0 main_call2.call0.v1 (fun x v => Host.reduceWindow IntOp.addi ![1, 8] ![1, 1] ![0, 7] ![0, 0] x v reduceWindows_S16x8_S16x8_w1s1p0_0_w8s1p7_0 h_S_),
    StableHlo.binary main_v20 main_v19 main_v21 (subi : Arr F S16x8 .i32 → Arr F S16x8 .i32 → Arr F S16x8 .i32),
    StableHlo.nullary main_v22 (iotaInDim S512 32 0),
    StableHlo.unary main_v22 main_v23 (broadcastInDim S1x1x512 ![2] bcast_S512_S1x1x512_2 : Arr F S512 .i32 → Arr F S1x1x512 .i32),
    StableHlo.unary main_v14 main_v24 (broadcastInDim S16x8x1 ![0, 1] bcast_S16x8_S16x8x1_0_1 : Arr F S16x8 .i32 → Arr F S16x8x1 .i32),
    StableHlo.unary main_v23 main_v25 (broadcastInDim S16x8x512 ![0, 1, 2] bcast_S1x1x512_S16x8x512_0_1_2 : Arr F S1x1x512 .i32 → Arr F S16x8x512 .i32),
    StableHlo.unary main_v24 main_v26 (broadcastInDim S16x8x512 ![0, 1, 2] bcast_S16x8x1_S16x8x512_0_1_2 : Arr F S16x8x1 .i32 → Arr F S16x8x512 .i32),
    StableHlo.binary main_v25 main_v26 main_v27 (cmpi .slt : Arr F S16x8x512 .i32 → Arr F S16x8x512 .i32 → Arr F S16x8x512 .i1),
    StableHlo.unary main_v16 main_v28 (broadcastInDim S16x8x1 ![0, 1] bcast_S16x8_S16x8x1_0_1 : Arr F S16x8 .i32 → Arr F S16x8x1 .i32),
    StableHlo.unary main_v28 main_v29 (broadcastInDim S16x8x512 ![0, 1, 2] bcast_S16x8x1_S16x8x512_0_1_2 : Arr F S16x8x1 .i32 → Arr F S16x8x512 .i32),
    StableHlo.unary main_v23 main_v30 (broadcastInDim S16x8x512 ![0, 1, 2] bcast_S1x1x512_S16x8x512_0_1_2 : Arr F S1x1x512 .i32 → Arr F S16x8x512 .i32),
    StableHlo.binary main_v29 main_v30 main_v31 (addi : Arr F S16x8x512 .i32 → Arr F S16x8x512 .i32 → Arr F S16x8x512 .i32),
    StableHlo.unary main_v17 main_v32 (broadcastInDim S16x1x1 ![0] bcast_S16_S16x1x1_0 : Arr F S16 .i32 → Arr F S16x1x1 .i32),
    StableHlo.unary main_v21 main_v33 (broadcastInDim S16x8x1 ![0, 1] bcast_S16x8_S16x8x1_0_1 : Arr F S16x8 .i32 → Arr F S16x8x1 .i32),
    StableHlo.unary main_v32 main_v34 (broadcastInDim S16x8x1 ![0, 1, 2] bcast_S16x1x1_S16x8x1_0_1_2 : Arr F S16x1x1 .i32 → Arr F S16x8x1 .i32),
    StableHlo.binary main_v34 main_v33 main_v35 (addi : Arr F S16x8x1 .i32 → Arr F S16x8x1 .i32 → Arr F S16x8x1 .i32),
    StableHlo.unary main_v14 main_v36 (broadcastInDim S16x8x1 ![0, 1] bcast_S16x8_S16x8x1_0_1 : Arr F S16x8 .i32 → Arr F S16x8x1 .i32),
    StableHlo.unary main_v23 main_v37 (broadcastInDim S16x8x512 ![0, 1, 2] bcast_S1x1x512_S16x8x512_0_1_2 : Arr F S1x1x512 .i32 → Arr F S16x8x512 .i32),
    StableHlo.unary main_v36 main_v38 (broadcastInDim S16x8x512 ![0, 1, 2] bcast_S16x8x1_S16x8x512_0_1_2 : Arr F S16x8x1 .i32 → Arr F S16x8x512 .i32),
    StableHlo.binary main_v37 main_v38 main_v39 (subi : Arr F S16x8x512 .i32 → Arr F S16x8x512 .i32 → Arr F S16x8x512 .i32),
    StableHlo.unary main_v35 main_v40 (broadcastInDim S16x8x512 ![0, 1, 2] bcast_S16x8x1_S16x8x512_0_1_2 : Arr F S16x8x1 .i32 → Arr F S16x8x512 .i32),
    StableHlo.binary main_v40 main_v39 main_v41 (addi : Arr F S16x8x512 .i32 → Arr F S16x8x512 .i32 → Arr F S16x8x512 .i32),
    TRef.ternary (.of main_v27 : TRef sig ⟨S16x8x512, .i1⟩) (.of main_v31 : TRef sig ⟨S16x8x512, .i32⟩) (.of main_v41 : TRef sig ⟨S16x8x512, .i32⟩) main_call3.v0 select ]

theorem opsA_sub : (opsA : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., binary_bufs_sub .., ternary_bufs_sub ..⟩

theorem opsA_fresh : ∀ op ∈ (opsA : List (HloOp τ sig (Elt F))), op.fresh = ∅ := by
  intro op h
  fin_cases h <;> rfl

/-- The places among all examples' bytes, flat. -/
abbrev opsB : List (HloOp τ sig (Elt F)) :=
  [ StableHlo.nullary main_v43 (iotaInDim S16 32 0),
    StableHlo.nullary main_c_8 (constantI S_ 32 4096#32),
    StableHlo.unary main_c_8 main_v44 (broadcastInDim S16 ![] bcast_S_S16 : Arr F S_ .i32 → Arr F S16 .i32),
    StableHlo.binary main_v43 main_v44 main_v45 (muli : Arr F S16 .i32 → Arr F S16 .i32 → Arr F S16 .i32),
    StableHlo.unary main_v45 main_v46 (broadcastInDim S16x1x1 ![0] bcast_S16_S16x1x1_0 : Arr F S16 .i32 → Arr F S16x1x1 .i32),
    StableHlo.unary main_v46 main_v47 (broadcastInDim S16x8x512 ![0, 1, 2] bcast_S16x1x1_S16x8x512_0_1_2 : Arr F S16x1x1 .i32 → Arr F S16x8x512 .i32),
    StableHlo.binary main_v47 main_v42 main_v48 (addi : Arr F S16x8x512 .i32 → Arr F S16x8x512 .i32 → Arr F S16x8x512 .i32),
    StableHlo.reshape main_v48 main_v49 (rfl : (.i32 : EltTy) = .i32) shapeCasts_S16x8x512_S65536 ]

theorem opsB_sub : (opsB : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., reshape_bufs_sub ..⟩

theorem opsB_fresh : ∀ op ∈ (opsB : List (HloOp τ sig (Elt F))), op.fresh = ∅ := by
  intro op h
  fin_cases h <;> rfl

/-- The first rearrangement. -/
abbrev opsC : List (HloOp τ sig (Elt F)) :=
  [ StableHlo.nullary main_c_9 (constantI S_ 32 0#32),
    StableHlo.unary main_c_9 main_v50 (broadcastInDim S65536 ![] bcast_S_S65536 : Arr F S_ .i32 → Arr F S65536 .i32),
    StableHlo.reshape main_arg0 main_v51 (rfl : (.i32 : EltTy) = .i32) shapeCasts_S16x8x512_S65536,
    StableHlo.nullary main_c_10 (constantI S_ 32 0#32),
    StableHlo.unary main_c_10 main_v52 (broadcastInDim S65536 ![] bcast_S_S65536 : Arr F S_ .i32 → Arr F S65536 .i32),
    StableHlo.binary main_v49 main_v52 main_v53 (cmpi .slt : Arr F S65536 .i32 → Arr F S65536 .i32 → Arr F S65536 .i1),
    StableHlo.nullary main_c_11 (constantI S_ 32 65536#32),
    StableHlo.unary main_c_11 main_v54 (broadcastInDim S65536 ![] bcast_S_S65536 : Arr F S_ .i32 → Arr F S65536 .i32),
    StableHlo.binary main_v49 main_v54 main_v55 (addi : Arr F S65536 .i32 → Arr F S65536 .i32 → Arr F S65536 .i32),
    StableHlo.ternary main_v53 main_v55 main_v49 main_v56 (select : Arr F S65536 .i1 → Arr F S65536 .i32 → Arr F S65536 .i32 → Arr F S65536 .i32),
    StableHlo.unary main_v56 main_v57 (broadcastInDim S65536x1 ![0] bcast_S65536_S65536x1_0 : Arr F S65536 .i32 → Arr F S65536x1 .i32),
    StableHlo.ternary main_v50 main_v57 main_v51 main_v58 ((fun x i u => Host.scatter scatter_S65536_S65536x1_S65536_n_0_0_1 (fun _ b => b) x i u) : Arr F S65536 .i32 → Arr F S65536x1 .i32 → Arr F S65536 .i32 → Arr F S65536 .i32),
    StableHlo.reshape main_v58 main_v59 (rfl : (.i32 : EltTy) = .i32) shapeCasts_S65536_S16x4096 ]

theorem opsC_sub : (opsC : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩

theorem opsC_fresh : ∀ op ∈ (opsC : List (HloOp τ sig (Elt F))), op.fresh = ∅ := by
  intro op h
  fin_cases h <;> rfl

/-- The second. -/
abbrev opsD : List (HloOp τ sig (Elt F)) :=
  [ StableHlo.nullary main_cst (constant S_ .f32 0x00000000#32),
    StableHlo.unary main_cst main_v60 (broadcastInDim S65536 ![] bcast_S_S65536 : Arr F S_ .f32 → Arr F S65536 .f32),
    StableHlo.reshape main_arg1 main_v61 (rfl : (.f32 : EltTy) = .f32) shapeCasts_S16x8x512_S65536,
    StableHlo.nullary main_c_12 (constantI S_ 32 0#32),
    StableHlo.unary main_c_12 main_v62 (broadcastInDim S65536 ![] bcast_S_S65536 : Arr F S_ .i32 → Arr F S65536 .i32),
    StableHlo.binary main_v49 main_v62 main_v63 (cmpi .slt : Arr F S65536 .i32 → Arr F S65536 .i32 → Arr F S65536 .i1),
    StableHlo.nullary main_c_13 (constantI S_ 32 65536#32),
    StableHlo.unary main_c_13 main_v64 (broadcastInDim S65536 ![] bcast_S_S65536 : Arr F S_ .i32 → Arr F S65536 .i32),
    StableHlo.binary main_v49 main_v64 main_v65 (addi : Arr F S65536 .i32 → Arr F S65536 .i32 → Arr F S65536 .i32),
    StableHlo.ternary main_v63 main_v65 main_v49 main_v66 (select : Arr F S65536 .i1 → Arr F S65536 .i32 → Arr F S65536 .i32 → Arr F S65536 .i32),
    StableHlo.unary main_v66 main_v67 (broadcastInDim S65536x1 ![0] bcast_S65536_S65536x1_0 : Arr F S65536 .i32 → Arr F S65536x1 .i32),
    StableHlo.ternary main_v60 main_v67 main_v61 main_v68 ((fun x i u => Host.scatter scatter_S65536_S65536x1_S65536_n_0_0_1 (fun _ b => b) x i u) : Arr F S65536 .f32 → Arr F S65536x1 .i32 → Arr F S65536 .f32 → Arr F S65536 .f32),
    StableHlo.reshape main_v68 main_v69 (rfl : (.f32 : EltTy) = .f32) shapeCasts_S65536_S16x4096 ]

theorem opsD_sub : (opsD : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩

theorem opsD_fresh : ∀ op ∈ (opsD : List (HloOp τ sig (Elt F))), op.fresh = ∅ := by
  intro op h
  fin_cases h <;> rfl

/-- The third. -/
abbrev opsE : List (HloOp τ sig (Elt F)) :=
  [ StableHlo.nullary main_cst_14 (constant S_ .f32 0x00000000#32),
    StableHlo.unary main_cst_14 main_v70 (broadcastInDim S65536 ![] bcast_S_S65536 : Arr F S_ .f32 → Arr F S65536 .f32),
    StableHlo.reshape main_arg2 main_v71 (rfl : (.f32 : EltTy) = .f32) shapeCasts_S16x8x512_S65536,
    StableHlo.nullary main_c_15 (constantI S_ 32 0#32),
    StableHlo.unary main_c_15 main_v72 (broadcastInDim S65536 ![] bcast_S_S65536 : Arr F S_ .i32 → Arr F S65536 .i32),
    StableHlo.binary main_v49 main_v72 main_v73 (cmpi .slt : Arr F S65536 .i32 → Arr F S65536 .i32 → Arr F S65536 .i1),
    StableHlo.nullary main_c_16 (constantI S_ 32 65536#32),
    StableHlo.unary main_c_16 main_v74 (broadcastInDim S65536 ![] bcast_S_S65536 : Arr F S_ .i32 → Arr F S65536 .i32),
    StableHlo.binary main_v49 main_v74 main_v75 (addi : Arr F S65536 .i32 → Arr F S65536 .i32 → Arr F S65536 .i32),
    StableHlo.ternary main_v73 main_v75 main_v49 main_v76 (select : Arr F S65536 .i1 → Arr F S65536 .i32 → Arr F S65536 .i32 → Arr F S65536 .i32),
    StableHlo.unary main_v76 main_v77 (broadcastInDim S65536x1 ![0] bcast_S65536_S65536x1_0 : Arr F S65536 .i32 → Arr F S65536x1 .i32),
    StableHlo.ternary main_v70 main_v77 main_v71 main_v78 ((fun x i u => Host.scatter scatter_S65536_S65536x1_S65536_n_0_0_1 (fun _ b => b) x i u) : Arr F S65536 .f32 → Arr F S65536x1 .i32 → Arr F S65536 .f32 → Arr F S65536 .f32),
    StableHlo.reshape main_v78 main_v79 (rfl : (.f32 : EltTy) = .f32) shapeCasts_S65536_S16x4096 ]

theorem opsE_sub : (opsE : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩

theorem opsE_fresh : ∀ op ∈ (opsE : List (HloOp τ sig (Elt F))), op.fresh = ∅ := by
  intro op h
  fin_cases h <;> rfl

/-- The lengths. -/
abbrev opsA1 : List (HloOp τ sig (Elt F)) :=
  [ StableHlo.nullary main_c (constantI S_ 32 0#32),
    StableHlo.unary main_c main_v0 (broadcastInDim S16x8x512 ![] bcast_S_S16x8x512 : Arr F S_ .i32 → Arr F S16x8x512 .i32),
    StableHlo.binary main_arg0 main_v0 main_v1 (cmpi .eq : Arr F S16x8x512 .i32 → Arr F S16x8x512 .i32 → Arr F S16x8x512 .i1),
    TRef.unary (.of main_v1 : TRef sig ⟨S16x8x512, .i1⟩) main_call0.v0 (extui 32 · natLt_1_32),
    TRef.nullary main_call0.call0.c (constantI S_ 32 0#32),
    TRef.unary main_call0.call0.c main_call0.call0.v0 (broadcastInDim S_ ![] bcast_S_S_),
    TRef.binary main_call0.v0 main_call0.call0.v0 main_call0.call0.v1 (fun x v => Host.reduceWindow IntOp.addi ![1, 1, 512] ![1, 1, 1] ![0, 0, 511] ![0, 0, 0] x v reduceWindows_S16x8x512_S16x8x512_w1s1p0_0_w1s1p0_0_w512s1p511_0 h_S_),
    StableHlo.nullary main_c_0 (constantI S_ 32 0#32),
    StableHlo.unary main_c_0 main_v3 (broadcastInDim S16x8x512 ![] bcast_S_S16x8x512 : Arr F S_ .i32 → Arr F S16x8x512 .i32),
    StableHlo.binary main_v2 main_v3 main_v4 (cmpi .sgt : Arr F S16x8x512 .i32 → Arr F S16x8x512 .i32 → Arr F S16x8x512 .i1),
    StableHlo.unary main_v4 main_v5 ((extui 32 · natLt_1_32) : Arr F S16x8x512 .i1 → Arr F S16x8x512 .i32),
    StableHlo.nullary main_c_1 (constantI S_ 32 0#32),
    StableHlo.binary main_v5 main_c_1 main_v6 ((fun x v => Host.reduce IntOp.addi x v reducesTo_S16x8x512_S16x8_d2 h_S_) : Arr F S16x8x512 .i32 → Arr F S_ .i32 → Arr F S16x8 .i32),
    StableHlo.nullary main_c_2 (constantI S_ 32 512#32),
    StableHlo.unary main_c_2 main_v7 (broadcastInDim S16x8 ![] bcast_S_S16x8 : Arr F S_ .i32 → Arr F S16x8 .i32),
    StableHlo.binary main_v7 main_v6 main_v8 (subi : Arr F S16x8 .i32 → Arr F S16x8 .i32 → Arr F S16x8 .i32),
    StableHlo.nullary main_c_3 (constantI S_ 32 1#32),
    StableHlo.unary main_c_3 main_v9 (broadcastInDim S16x8 ![] bcast_S_S16x8 : Arr F S_ .i32 → Arr F S16x8 .i32),
    StableHlo.binary main_v8 main_v9 main_v10 (addi : Arr F S16x8 .i32 → Arr F S16x8 .i32 → Arr F S16x8 .i32),
    StableHlo.nullary main_c_4 (constantI S_ 32 512#32),
    StableHlo.unary main_c_4 main_v11 (broadcastInDim S16x8 ![] bcast_S_S16x8 : Arr F S_ .i32 → Arr F S16x8 .i32),
    StableHlo.binary main_v10 main_v11 main_v12 (minsi : Arr F S16x8 .i32 → Arr F S16x8 .i32 → Arr F S16x8 .i32),
    StableHlo.nullary main_c_5 (constantI S_ 32 1#32),
    StableHlo.unary main_c_5 main_v13 (broadcastInDim S16x8 ![] bcast_S_S16x8 : Arr F S_ .i32 → Arr F S16x8 .i32),
    StableHlo.binary main_v12 main_v13 main_v14 (subi : Arr F S16x8 .i32 → Arr F S16x8 .i32 → Arr F S16x8 .i32) ]

/-- Their sums. -/
abbrev opsA2 : List (HloOp τ sig (Elt F)) :=
  [ TRef.nullary main_call1.call0.c (constantI S_ 32 0#32),
    TRef.unary main_call1.call0.c main_call1.call0.v0 (broadcastInDim S_ ![] bcast_S_S_),
    TRef.binary (.of main_v14 : TRef sig ⟨S16x8, .i32⟩) main_call1.call0.v0 main_call1.call0.v1 (fun x v => Host.reduceWindow IntOp.addi ![1, 8] ![1, 1] ![0, 7] ![0, 0] x v reduceWindows_S16x8_S16x8_w1s1p0_0_w8s1p7_0 h_S_),
    StableHlo.binary main_v15 main_v14 main_v16 (subi : Arr F S16x8 .i32 → Arr F S16x8 .i32 → Arr F S16x8 .i32),
    StableHlo.nullary main_c_6 (constantI S_ 32 0#32),
    StableHlo.binary main_v14 main_c_6 main_v17 ((fun x v => Host.reduce IntOp.addi x v reducesTo_S16x8_S16_d1 h_S_) : Arr F S16x8 .i32 → Arr F S_ .i32 → Arr F S16 .i32),
    StableHlo.nullary main_c_7 (constantI S_ 32 512#32),
    StableHlo.unary main_c_7 main_v18 (broadcastInDim S16x8 ![] bcast_S_S16x8 : Arr F S_ .i32 → Arr F S16x8 .i32),
    StableHlo.binary main_v18 main_v14 main_v19 (subi : Arr F S16x8 .i32 → Arr F S16x8 .i32 → Arr F S16x8 .i32),
    TRef.nullary main_call2.call0.c (constantI S_ 32 0#32),
    TRef.unary main_call2.call0.c main_call2.call0.v0 (broadcastInDim S_ ![] bcast_S_S_),
    TRef.binary (.of main_v19 : TRef sig ⟨S16x8, .i32⟩) main_call2.call0.v0 main_call2.call0.v1 (fun x v => Host.reduceWindow IntOp.addi ![1, 8] ![1, 1] ![0, 7] ![0, 0] x v reduceWindows_S16x8_S16x8_w1s1p0_0_w8s1p7_0 h_S_),
    StableHlo.binary main_v20 main_v19 main_v21 (subi : Arr F S16x8 .i32 → Arr F S16x8 .i32 → Arr F S16x8 .i32) ]

/-- The places from them. -/
abbrev opsA3 : List (HloOp τ sig (Elt F)) :=
  [ StableHlo.nullary main_v22 (iotaInDim S512 32 0),
    StableHlo.unary main_v22 main_v23 (broadcastInDim S1x1x512 ![2] bcast_S512_S1x1x512_2 : Arr F S512 .i32 → Arr F S1x1x512 .i32),
    StableHlo.unary main_v14 main_v24 (broadcastInDim S16x8x1 ![0, 1] bcast_S16x8_S16x8x1_0_1 : Arr F S16x8 .i32 → Arr F S16x8x1 .i32),
    StableHlo.unary main_v23 main_v25 (broadcastInDim S16x8x512 ![0, 1, 2] bcast_S1x1x512_S16x8x512_0_1_2 : Arr F S1x1x512 .i32 → Arr F S16x8x512 .i32),
    StableHlo.unary main_v24 main_v26 (broadcastInDim S16x8x512 ![0, 1, 2] bcast_S16x8x1_S16x8x512_0_1_2 : Arr F S16x8x1 .i32 → Arr F S16x8x512 .i32),
    StableHlo.binary main_v25 main_v26 main_v27 (cmpi .slt : Arr F S16x8x512 .i32 → Arr F S16x8x512 .i32 → Arr F S16x8x512 .i1),
    StableHlo.unary main_v16 main_v28 (broadcastInDim S16x8x1 ![0, 1] bcast_S16x8_S16x8x1_0_1 : Arr F S16x8 .i32 → Arr F S16x8x1 .i32),
    StableHlo.unary main_v28 main_v29 (broadcastInDim S16x8x512 ![0, 1, 2] bcast_S16x8x1_S16x8x512_0_1_2 : Arr F S16x8x1 .i32 → Arr F S16x8x512 .i32),
    StableHlo.unary main_v23 main_v30 (broadcastInDim S16x8x512 ![0, 1, 2] bcast_S1x1x512_S16x8x512_0_1_2 : Arr F S1x1x512 .i32 → Arr F S16x8x512 .i32),
    StableHlo.binary main_v29 main_v30 main_v31 (addi : Arr F S16x8x512 .i32 → Arr F S16x8x512 .i32 → Arr F S16x8x512 .i32),
    StableHlo.unary main_v17 main_v32 (broadcastInDim S16x1x1 ![0] bcast_S16_S16x1x1_0 : Arr F S16 .i32 → Arr F S16x1x1 .i32),
    StableHlo.unary main_v21 main_v33 (broadcastInDim S16x8x1 ![0, 1] bcast_S16x8_S16x8x1_0_1 : Arr F S16x8 .i32 → Arr F S16x8x1 .i32),
    StableHlo.unary main_v32 main_v34 (broadcastInDim S16x8x1 ![0, 1, 2] bcast_S16x1x1_S16x8x1_0_1_2 : Arr F S16x1x1 .i32 → Arr F S16x8x1 .i32),
    StableHlo.binary main_v34 main_v33 main_v35 (addi : Arr F S16x8x1 .i32 → Arr F S16x8x1 .i32 → Arr F S16x8x1 .i32),
    StableHlo.unary main_v14 main_v36 (broadcastInDim S16x8x1 ![0, 1] bcast_S16x8_S16x8x1_0_1 : Arr F S16x8 .i32 → Arr F S16x8x1 .i32),
    StableHlo.unary main_v23 main_v37 (broadcastInDim S16x8x512 ![0, 1, 2] bcast_S1x1x512_S16x8x512_0_1_2 : Arr F S1x1x512 .i32 → Arr F S16x8x512 .i32),
    StableHlo.unary main_v36 main_v38 (broadcastInDim S16x8x512 ![0, 1, 2] bcast_S16x8x1_S16x8x512_0_1_2 : Arr F S16x8x1 .i32 → Arr F S16x8x512 .i32),
    StableHlo.binary main_v37 main_v38 main_v39 (subi : Arr F S16x8x512 .i32 → Arr F S16x8x512 .i32 → Arr F S16x8x512 .i32),
    StableHlo.unary main_v35 main_v40 (broadcastInDim S16x8x512 ![0, 1, 2] bcast_S16x8x1_S16x8x512_0_1_2 : Arr F S16x8x1 .i32 → Arr F S16x8x512 .i32),
    StableHlo.binary main_v40 main_v39 main_v41 (addi : Arr F S16x8x512 .i32 → Arr F S16x8x512 .i32 → Arr F S16x8x512 .i32),
    TRef.ternary (.of main_v27 : TRef sig ⟨S16x8x512, .i1⟩) (.of main_v31 : TRef sig ⟨S16x8x512, .i32⟩) (.of main_v41 : TRef sig ⟨S16x8x512, .i32⟩) main_call3.v0 select ]

theorem opsA_eq : (opsA : List (HloOp τ sig (Elt F))) = opsA1 ++ (opsA2 ++ opsA3) := rfl

abbrev ops : List (HloOp τ sig (Elt F)) := opsA ++ (opsB ++ (opsC ++ (opsD ++ opsE)))

theorem after_append (l l' : List (HloOp τ sig (Elt F))) (V : Valuation τ sig (Elt F)) : after (l ++ l') V = after l' (after l V) := by
  induction l generalizing V with
  | nil => rfl
  | cons a l ih => exact ih _

set_option maxRecDepth 4096 in
set_option maxHeartbeats 4000000 in
theorem part0_eq (c : Dev nD) : main_part0 (F := F) c = seq (opsA ++ opsB) := by
  simp only [main_part0, fn_cumsum.body, fn_cumsum_0.body, fn_cumsum_1.body, fn_cumsum_2.body, fn_where.body, seq, bind_assoc, pure_bind,
    List.cons_append, List.nil_append]
  rfl

set_option maxRecDepth 4096 in
set_option maxHeartbeats 4000000 in
theorem part1_eq (c : Dev nD) : main_part1 (F := F) c = seq (opsC ++ (opsD ++ opsE)) := by
  simp only [main_part1, seq, bind_assoc, pure_bind, List.cons_append, List.nil_append]

theorem main_eq (c : Dev nD) : main (F := F) c = seq ops := by
  show (main_part0 (F := F) c >>= fun _ => main_part1 (F := F) c) = _
  rw [part0_eq, part1_eq, show (ops : List (HloOp τ sig (Elt F))) = (opsA ++ opsB) ++ (opsC ++ (opsD ++ opsE)) from (List.append_assoc _ _ _).symm]
  exact (seq_append _ _).symm

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h | h
  · exact List.forall_iff_forall_mem.1 opsA_sub op h
  · exact List.forall_iff_forall_mem.1 opsB_sub op h
  · exact List.forall_iff_forall_mem.1 opsC_sub op h
  · exact List.forall_iff_forall_mem.1 opsD_sub op h
  · exact List.forall_iff_forall_mem.1 opsE_sub op h

theorem ops_fresh : ∀ op ∈ (ops : List (HloOp τ sig (Elt F))), op.fresh = ∅ := by
  intro op h
  simp only [ops, List.mem_append] at h
  rcases h with h | h | h | h | h
  · exact opsA_fresh op h
  · exact opsB_fresh op h
  · exact opsC_fresh op h
  · exact opsD_fresh op h
  · exact opsE_fresh op h

/-- From any memory with zero counters, every execution terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.Proof.Ref

end
-- ==== Proof.RefVal.lean ====
/-
  The reference's results, as terms of its arguments: the places, then three scatters at them.
-/
module

public import proofs.«01_k».proof.Proof.Ref
public import Idealize.ShloMosaic.Lib.Quiescent

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- The places among all examples' bytes, flat. -/
def flat (d : IVec S16x8x512 32) : IVec S65536 32 :=
  shapeCast S65536 (addi (broadcastInDim S16x8x512 ![0, 1, 2] bcast_S16x1x1_S16x8x512_0_1_2 (broadcastInDim S16x1x1 ![0] bcast_S16_S16x1x1_0
    (muli (iotaInDim S16 32 0) (broadcastInDim S16 ![] bcast_S_S16 (constantI S_ 32 4096#32))))) d) shapeCasts_S16x8x512_S65536

/-- The index words that a scatter takes: a negative one counted from the end. -/
def words (x : IVec S65536 32) : IVec S65536x1 32 :=
  broadcastInDim S65536x1 ![0] bcast_S65536_S65536x1_0 (select (cmpi .slt x (broadcastInDim S65536 ![] bcast_S_S65536 (constantI S_ 32 0#32)))
    (addi x (broadcastInDim S65536 ![] bcast_S_S65536 (constantI S_ 32 65536#32))) x)

/-- One rearrangement: the bytes of `u` written at `x`'s places into `z`. -/
def spread {α : Type} (x : IVec S65536 32) (z : S65536.Idx → α) (u : S16x8x512.Idx → α) : S16x4096.Idx → α :=
  shapeCast S16x4096 (Host.scatter scatter_S65536_S65536x1_S65536_n_0_0_1 (fun _ b => b) z (words x) (shapeCast S65536 u shapeCasts_S16x8x512_S65536))
    shapeCasts_S65536_S16x4096

theorem to_v2 (x : (⟨S16x8x512, .i32⟩ : BufTy).Contents (Elt F)) : (TRef.of main_v2 : TRef sig ⟨S16x8x512, .i32⟩).toBuf x = x := rfl
theorem to_v15 (x : (⟨S16x8, .i32⟩ : BufTy).Contents (Elt F)) : (TRef.of main_v15 : TRef sig ⟨S16x8, .i32⟩).toBuf x = x := rfl
theorem to_v20 (x : (⟨S16x8, .i32⟩ : BufTy).Contents (Elt F)) : (TRef.of main_v20 : TRef sig ⟨S16x8, .i32⟩).toBuf x = x := rfl
theorem of_v14 (x : (⟨S16x8, .i32⟩ : BufTy).Contents (Elt F)) : (TRef.of main_v14 : TRef sig ⟨S16x8, .i32⟩).ofBuf x = x := rfl
theorem of_v19 (x : (⟨S16x8, .i32⟩ : BufTy).Contents (Elt F)) : (TRef.of main_v19 : TRef sig ⟨S16x8, .i32⟩).ofBuf x = x := rfl
theorem of_v1 (x : (⟨S16x8x512, .i1⟩ : BufTy).Contents (Elt F)) : (TRef.of main_v1 : TRef sig ⟨S16x8x512, .i1⟩).ofBuf x = x := rfl

theorem v14_eq (V : Valuation τ sig (Elt F)) :
    after opsA1 V (main_v14 : DevRef τ sig) = Dest.lens (Dest.ended (V (main_arg0 : DevRef τ sig))) := by
  after_reads_simp
  simp only [TRef.ofBuf_toBuf, to_v2, of_v1]
  rfl

theorem sums_eq (V : Valuation τ sig (Elt F)) :
    after opsA2 V (main_v14 : DevRef τ sig) = V (main_v14 : DevRef τ sig)
    ∧ after opsA2 V (main_v16 : DevRef τ sig) = subi (Dest.csum (V (main_v14 : DevRef τ sig))) (V (main_v14 : DevRef τ sig))
    ∧ after opsA2 V (main_v17 : DevRef τ sig) = Host.reduce IntOp.addi (V (main_v14 : DevRef τ sig)) (constantI S_ 32 0#32) reducesTo_S16x8_S16_d1 h_S_
    ∧ after opsA2 V (main_v21 : DevRef τ sig) = subi (Dest.csum (subi (broadcastInDim S16x8 ![] bcast_S_S16x8 (constantI S_ 32 512#32)) (V (main_v14 : DevRef τ sig))))
        (subi (broadcastInDim S16x8 ![] bcast_S_S16x8 (constantI S_ 32 512#32)) (V (main_v14 : DevRef τ sig))) := by
  refine ⟨?_, ?_, ?_, ?_⟩
  · after_reads_simp
  · after_reads_simp
    simp only [TRef.ofBuf_toBuf, to_v15, of_v14]
    rfl
  · after_reads_simp
  · after_reads_simp
    simp only [TRef.ofBuf_toBuf, to_v20, of_v19]
    rfl

theorem places_eq (V : Valuation τ sig (Elt F)) : after opsA3 V (main_v42 : DevRef τ sig)
    = select (cmpi .slt Dest.pos3 (Dest.wide (V (main_v14 : DevRef τ sig)))) (addi (Dest.wide (V (main_v16 : DevRef τ sig))) Dest.pos3)
      (addi (broadcastInDim S16x8x512 ![0, 1, 2] bcast_S16x8x1_S16x8x512_0_1_2
          (addi (broadcastInDim S16x8x1 ![0, 1, 2] bcast_S16x1x1_S16x8x1_0_1_2 (broadcastInDim S16x1x1 ![0] bcast_S16_S16x1x1_0
              (V (main_v17 : DevRef τ sig))))
            (broadcastInDim S16x8x1 ![0, 1] bcast_S16x8_S16x8x1_0_1 (V (main_v21 : DevRef τ sig)))))
        (subi Dest.pos3 (Dest.wide (V (main_v14 : DevRef τ sig))))) := by
  after_reads_simp
  rfl

theorem v42_eq (V : Valuation τ sig (Elt F)) :
    after opsA V (main_v42 : DevRef τ sig) = Dest.dest (Dest.lens (Dest.ended (V (main_arg0 : DevRef τ sig)))) := by
  rw [opsA_eq, after_append, after_append, places_eq, (sums_eq _).1, (sums_eq _).2.1, (sums_eq _).2.2.1, (sums_eq _).2.2.2, v14_eq]
  rfl

theorem v49_eq (V : Valuation τ sig (Elt F)) : after opsB V (main_v49 : DevRef τ sig) = flat (V (main_v42 : DevRef τ sig)) := by
  after_reads_simp
  rfl

theorem v59_eq (V : Valuation τ sig (Elt F)) : after opsC V (main_v59 : DevRef τ sig)
    = spread (V (main_v49 : DevRef τ sig)) (broadcastInDim S65536 ![] bcast_S_S65536 (constantI S_ 32 0#32)) (V (main_arg0 : DevRef τ sig)) := by
  after_reads_simp
  rfl

theorem v69_eq (V : Valuation τ sig (Elt F)) : after opsD V (main_v69 : DevRef τ sig)
    = spread (V (main_v49 : DevRef τ sig)) (broadcastInDim S65536 ![] bcast_S_S65536 (constant (F := F) S_ .f32 0x00000000#32)) (V (main_arg1 : DevRef τ sig)) := by
  after_reads_simp
  rfl

theorem v79_eq (V : Valuation τ sig (Elt F)) : after opsE V (main_v79 : DevRef τ sig)
    = spread (V (main_v49 : DevRef τ sig)) (broadcastInDim S65536 ![] bcast_S_S65536 (constant (F := F) S_ .f32 0x00000000#32)) (V (main_arg2 : DevRef τ sig)) := by
  after_reads_simp
  rfl

theorem keepA (V : Valuation τ sig (Elt F)) : after opsA V (main_arg0 : DevRef τ sig) = V (main_arg0 : DevRef τ sig)
    ∧ after opsA V (main_arg1 : DevRef τ sig) = V (main_arg1 : DevRef τ sig) ∧ after opsA V (main_arg2 : DevRef τ sig) = V (main_arg2 : DevRef τ sig)
    ∧ after opsA V (main_arg3 : DevRef τ sig) = V (main_arg3 : DevRef τ sig) := by
  refine ⟨?_, ?_, ?_, ?_⟩ <;> after_reads_simp

theorem keepB (V : Valuation τ sig (Elt F)) : after opsB V (main_arg0 : DevRef τ sig) = V (main_arg0 : DevRef τ sig)
    ∧ after opsB V (main_arg1 : DevRef τ sig) = V (main_arg1 : DevRef τ sig) ∧ after opsB V (main_arg2 : DevRef τ sig) = V (main_arg2 : DevRef τ sig)
    ∧ after opsB V (main_arg3 : DevRef τ sig) = V (main_arg3 : DevRef τ sig) := by
  refine ⟨?_, ?_, ?_, ?_⟩ <;> after_reads_simp

theorem keepC (V : Valuation τ sig (Elt F)) : after opsC V (main_arg0 : DevRef τ sig) = V (main_arg0 : DevRef τ sig)
    ∧ after opsC V (main_arg1 : DevRef τ sig) = V (main_arg1 : DevRef τ sig) ∧ after opsC V (main_arg2 : DevRef τ sig) = V (main_arg2 : DevRef τ sig)
    ∧ after opsC V (main_arg3 : DevRef τ sig) = V (main_arg3 : DevRef τ sig) ∧ after opsC V (main_v49 : DevRef τ sig) = V (main_v49 : DevRef τ sig) := by
  refine ⟨?_, ?_, ?_, ?_, ?_⟩ <;> after_reads_simp

theorem keepD (V : Valuation τ sig (Elt F)) : after opsD V (main_arg0 : DevRef τ sig) = V (main_arg0 : DevRef τ sig)
    ∧ after opsD V (main_arg1 : DevRef τ sig) = V (main_arg1 : DevRef τ sig) ∧ after opsD V (main_arg2 : DevRef τ sig) = V (main_arg2 : DevRef τ sig)
    ∧ after opsD V (main_arg3 : DevRef τ sig) = V (main_arg3 : DevRef τ sig) ∧ after opsD V (main_v49 : DevRef τ sig) = V (main_v49 : DevRef τ sig)
    ∧ after opsD V (main_v59 : DevRef τ sig) = V (main_v59 : DevRef τ sig) := by
  refine ⟨?_, ?_, ?_, ?_, ?_, ?_⟩ <;> after_reads_simp

theorem keepE (V : Valuation τ sig (Elt F)) : after opsE V (main_arg0 : DevRef τ sig) = V (main_arg0 : DevRef τ sig)
    ∧ after opsE V (main_arg1 : DevRef τ sig) = V (main_arg1 : DevRef τ sig) ∧ after opsE V (main_arg2 : DevRef τ sig) = V (main_arg2 : DevRef τ sig)
    ∧ after opsE V (main_arg3 : DevRef τ sig) = V (main_arg3 : DevRef τ sig)
    ∧ after opsE V (main_v59 : DevRef τ sig) = V (main_v59 : DevRef τ sig) ∧ after opsE V (main_v69 : DevRef τ sig) = V (main_v69 : DevRef τ sig) := by
  refine ⟨?_, ?_, ?_, ?_, ?_, ?_⟩ <;> after_reads_simp

theorem after_ops (V : Valuation τ sig (Elt F)) : after ops V = after opsE (after opsD (after opsC (after opsB (after opsA V)))) := by
  rw [show (ops : List (HloOp τ sig (Elt F))) = opsA ++ (opsB ++ (opsC ++ (opsD ++ opsE))) from rfl, after_append, after_append, after_append, after_append]

theorem args_eq (V : Valuation τ sig (Elt F)) : after ops V (main_arg0 : DevRef τ sig) = V (main_arg0 : DevRef τ sig)
    ∧ after ops V (main_arg1 : DevRef τ sig) = V (main_arg1 : DevRef τ sig) ∧ after ops V (main_arg2 : DevRef τ sig) = V (main_arg2 : DevRef τ sig)
    ∧ after ops V (main_arg3 : DevRef τ sig) = V (main_arg3 : DevRef τ sig) := by
  rw [after_ops]
  refine ⟨?_, ?_, ?_, ?_⟩
  · rw [(keepE _).1, (keepD _).1, (keepC _).1, (keepB _).1, (keepA _).1]
  · rw [(keepE _).2.1, (keepD _).2.1, (keepC _).2.1, (keepB _).2.1, (keepA _).2.1]
  · rw [(keepE _).2.2.1, (keepD _).2.2.1, (keepC _).2.2.1, (keepB _).2.2.1, (keepA _).2.2.1]
  · rw [(keepE _).2.2.2.1, (keepD _).2.2.2.1, (keepC _).2.2.2.1, (keepB _).2.2.2, (keepA _).2.2.2]

/-- The places among all examples' bytes, from the first argument. -/
abbrev at0 (V : Valuation τ sig (Elt F)) : IVec S65536 32 := flat (Dest.dest (Dest.lens (Dest.ended (V (main_arg0 : DevRef τ sig)))))

theorem res0_eq (V : Valuation τ sig (Elt F)) : after ops V (main_v59 : DevRef τ sig)
    = spread (at0 V) (broadcastInDim S65536 ![] bcast_S_S65536 (constantI S_ 32 0#32)) (V (main_arg0 : DevRef τ sig)) := by
  rw [after_ops, (keepE _).2.2.2.2.1, (keepD _).2.2.2.2.2, v59_eq, v49_eq, v42_eq, (keepB _).1, (keepA _).1]

theorem res1_eq (V : Valuation τ sig (Elt F)) : after ops V (main_v69 : DevRef τ sig)
    = spread (at0 V) (broadcastInDim S65536 ![] bcast_S_S65536 (constant (F := F) S_ .f32 0x00000000#32)) (V (main_arg1 : DevRef τ sig)) := by
  rw [after_ops, (keepE _).2.2.2.2.2, v69_eq, (keepC _).2.2.2.2, v49_eq, v42_eq, (keepC _).2.1, (keepB _).2.1, (keepA _).2.1]

theorem res2_eq (V : Valuation τ sig (Elt F)) : after ops V (main_v79 : DevRef τ sig)
    = spread (at0 V) (broadcastInDim S65536 ![] bcast_S_S65536 (constant (F := F) S_ .f32 0x00000000#32)) (V (main_arg2 : DevRef τ sig)) := by
  rw [after_ops, v79_eq, (keepD _).2.2.2.2.1, (keepC _).2.2.2.2, v49_eq, v42_eq, (keepD _).2.2.1, (keepC _).2.2.1, (keepB _).2.2.1, (keepA _).2.2.1]

end Cert.Proof.Ref

end
-- ==== Proof.RefScat.lean ====
/-
  The reference's rearrangement, read at a place: the byte whose place it is.
-/
module

public import proofs.«01_k».proof.Proof.RefVal
public import Idealize.ShloMosaic.Lib.Routing.OpsSet
public import Idealize.ShloMosaic.Lib.Routing.OpsPair
public import Idealize.ShloMosaic.Lib.Routing.OpsSearch

@[expose] public section

noncomputable section

namespace Cert.Proof.Ref

open Idealize.ShloMosaic Idealize.ShloMosaic.ValueIdx Idealize.ShloMosaic.Routing
open Cert.ReferenceIdeal Cert.ReferenceIdeal.Gen
open Cert.Proof.Scat (RowOK back at4 pl pl_back back_pl)

/-- Element `n` of all the bytes: its example, its message, its byte. -/
theorem flat_apply (d : IVec S16x8x512 32) (b : Fin 16) (s : Fin 8) (l : Fin 512) (n : Fin 65536) (hn : n.val = b.val * 4096 + s.val * 512 + l.val) :
    flat d (ix1 n) = IntOp.addi (IntOp.muli (BitVec.ofNat 32 b.val) 4096#32) (d (ix3 b s l)) := by
  unfold flat
  rw [shapeCast_apply _ _ (ix1 n) (ix3 b s l) (by
    rw [Shape.rowMajor_val_three, Shape.rowMajor_val_one]
    show (b.val * 8 + s.val) * 512 + l.val = n.val
    omega)]
  rfl

theorem flat_toNat (p : IVec S16x8 32) (hp : ∀ b s, (p (ix2 b s)).toNat ≤ 511) (b : Fin 16) (s : Fin 8) (l : Fin 512) (n : Fin 65536)
    (hn : n.val = b.val * 4096 + s.val * 512 + l.val) :
    (flat (Dest.dest p) (ix1 n)).toNat = b.val * 4096 + (Dest.dest p (ix3 b s l)).toNat ∧ (Dest.dest p (ix3 b s l)).toNat < 4096 := by
  have hlt : (Dest.dest p (ix3 b s l)).toNat < 4096 := by
    rw [Dest.dest_apply p hp b s l]
    have h := Dest.place_lt (Dest.nat p b.val) (fun s => (Dest.nat_le p hp b.val s).trans (by omega)) s.isLt l.isLt
    rw [BitVec.toNat_ofNat]
    omega
  refine ⟨?_, hlt⟩
  rw [flat_apply _ b s l n hn]
  have hb := b.isLt
  show (BitVec.ofNat 32 b.val * 4096#32 + Dest.dest p (ix3 b s l)).toNat = _
  rw [BitVec.toNat_add, BitVec.toNat_mul, BitVec.toNat_ofNat, BitVec.toNat_ofNat]
  omega

theorem words_toInt (p : IVec S16x8 32) (hp : ∀ b s, (p (ix2 b s)).toNat ≤ 511) (b : Fin 16) (s : Fin 8) (l : Fin 512) (n : Fin 65536)
    (hn : n.val = b.val * 4096 + s.val * 512 + l.val) :
    (words (flat (Dest.dest p)) (ix2 n (0 : Fin 1))).toInt = ((b.val * 4096 + (Dest.dest p (ix3 b s l)).toNat : ℕ) : Int) := by
  obtain ⟨h1, h2⟩ := flat_toNat p hp b s l n hn
  have hb := b.isLt
  have e : words (flat (Dest.dest p)) (ix2 n (0 : Fin 1)) = flat (Dest.dest p) (ix1 n) := by
    refine Eq.trans (b := Scalar.select (IntOp.cmpi .slt (flat (Dest.dest p) (ix1 n)) 0#32) (IntOp.addi (flat (Dest.dest p) (ix1 n)) 65536#32) (flat (Dest.dest p) (ix1 n))) ?_
      (wrap_of_lt _ _ (by rw [h1]; norm_num; omega))
    have hi : ∀ x : S65536.Idx → BitVec 32, broadcastInDim S65536x1 ![0] bcast_S65536_S65536x1_0 x (ix2 n (0 : Fin 1)) = x (ix1 n) := fun x =>
      congrArg x (funext fun a => by match a with | 0 => rfl)
    unfold words
    rw [hi]
    rfl
  rw [e, BitVec.toInt_eq_toNat_of_lt (by rw [h1]; omega), h1]

/-- One rearrangement read at place `i` of example `b`: the byte that went there. -/
theorem spread_apply {α : Type} (p : IVec S16x8 32) (hp : ∀ b s, (p (ix2 b s)).toNat ≤ 511) (z : S65536.Idx → α) (u : S16x8x512.Idx → α)
    (h : S16x8x512.ShapeCasts S16x4096) (b : Fin 16) (D : IVec Scat.S4 32) (hrow : RowOK D)
    (hD : ∀ (s : Fin 8) (l : Fin 512), D (at4 ⟨s.val * 512 + l.val, by omega⟩) = Dest.dest p (ix3 b s l)) (i : Fin 4096) :
    spread (flat (Dest.dest p)) z u (ix2 b i) = shapeCast S16x4096 u h (ix2 b (back D hrow i)) := by
  have hb := b.isLt
  have hi := i.isLt
  unfold spread
  rw [shapeCast_apply _ _ (ix2 b i) (ix1 (⟨b.val * 4096 + i.val, by omega⟩ : Fin 65536)) (by
    rw [Shape.rowMajor_val_one, Shape.rowMajor_val_two]
    rfl)]
  have hu : ∀ (b : Fin 16) (s : Fin 8) (l : Fin 512) (n : Fin 65536), n.val = b.val * 4096 + s.val * 512 + l.val →
      shapeCast S65536 u shapeCasts_S16x8x512_S65536 (ix1 n) = u (ix3 b s l) := fun b s l n hn =>
    shapeCast_apply _ _ (ix1 n) (ix3 b s l) (by
      rw [Shape.rowMajor_val_three, Shape.rowMajor_val_one]
      show (b.val * 8 + s.val) * 512 + l.val = n.val
      omega)
  refine (scatter_set_signed scatter_S65536_S65536x1_S65536_n_0_0_1 rfl rfl rfl z (words (flat (Dest.dest p)))
    (shapeCast S65536 u shapeCasts_S16x8x512_S65536) (⟨b.val * 4096 + i.val, by omega⟩ : Fin 65536)
    (shapeCast S16x4096 u h (ix2 b (back D hrow i))) fun n hn => ?_).1 ?_
  · have hnlt := n.isLt
    have hd : n.val = (⟨n.val / 4096, by omega⟩ : Fin 16).val * 4096 + (⟨n.val % 4096 / 512, by omega⟩ : Fin 8).val * 512 + (⟨n.val % 512, by omega⟩ : Fin 512).val := by
      show n.val = n.val / 4096 * 4096 + n.val % 4096 / 512 * 512 + n.val % 512
      omega
    generalize (⟨n.val / 4096, by omega⟩ : Fin 16) = b' at hd
    generalize (⟨n.val % 4096 / 512, by omega⟩ : Fin 8) = s at hd
    generalize (⟨n.val % 512, by omega⟩ : Fin 512) = l at hd
    rw [words_toInt p hp b' s l n hd] at hn
    have hn' := Int.ofNat.inj hn
    have hlt := (flat_toNat p hp b' s l n hd).2
    have eb : b' = b := Fin.ext (by change b'.val * 4096 + _ = b.val * 4096 + i.val at hn'; omega)
    subst eb
    have ei : (Dest.dest p (ix3 b' s l)).toNat = i.val := by change b'.val * 4096 + _ = b'.val * 4096 + i.val at hn'; omega
    have ej : back D hrow i = ⟨s.val * 512 + l.val, by omega⟩ := by
      rw [← back_pl D hrow ⟨s.val * 512 + l.val, by omega⟩]
      refine congrArg (back D hrow) (Fin.ext ?_)
      show i.val = (D (at4 ⟨s.val * 512 + l.val, by omega⟩)).toNat
      rw [hD, ei]
    rw [hu b' s l n hd, ej]
    exact (cast32 u h rfl b' s l ⟨s.val * 512 + l.val, by omega⟩ rfl).symm
  · have hj := (back D hrow i).isLt
    refine ⟨⟨b.val * 4096 + (back D hrow i).val, by omega⟩, ?_⟩
    have hjd : (⟨(back D hrow i).val / 512 * 512 + (back D hrow i).val % 512, by omega⟩ : Fin 4096) = back D hrow i :=
      Fin.ext (by show (back D hrow i).val / 512 * 512 + (back D hrow i).val % 512 = (back D hrow i).val; omega)
    rw [words_toInt p hp b ⟨(back D hrow i).val / 512, by omega⟩ ⟨(back D hrow i).val % 512, by omega⟩ _
      (by show b.val * 4096 + (back D hrow i).val = b.val * 4096 + (back D hrow i).val / 512 * 512 + (back D hrow i).val % 512; omega)]
    rw [← hD ⟨(back D hrow i).val / 512, by omega⟩ ⟨(back D hrow i).val % 512, by omega⟩]
    have e := pl_back D hrow i
    have e' : (D (at4 ⟨(back D hrow i).val / 512 * 512 + (back D hrow i).val % 512, by omega⟩)).toNat = i.val := by rw [hjd, e]
    exact congrArg (fun k : ℕ => ((b.val * 4096 + k : ℕ) : Int)) e'

end Cert.Proof.Ref

end
-- ==== Proof.ScVal.lean ====
/-
  What the call leaves, against the reference's rearrangements.
-/
module

public import proofs.«01_k».proof.Proof.ScOk
public import proofs.«01_k».proof.Proof.RefScat

@[expose] public section

noncomputable section

namespace Cert.Proof.Sc

open Cert.KernelIdeal Cert.KernelIdeal.Gen

open Idealize.ShloMosaic Idealize.ShloMosaic.TcCoe Idealize.ShloMosaic.ValueIdx Idealize.ShloMosaic.Routing Idealize.ShloMosaic.StableHlo
open Idealize.SL.Sem
open Cert.Proof.Scat (RowOK back at4)

variable {F : FTy → Type} [FloatOps F] {m : (ℓ : Loc nD τ sig) → Buf (Elt F) ℓ}

/-- The places among all the examples' bytes. -/
abbrev places (m : (ℓ : Loc nD τ sig) → Buf (Elt F) ℓ) (d : Dev nD) : IVec Cert.ReferenceIdeal.S65536 32 :=
  Ref.flat (Dest.dest (Dest.lens (Dest.ended (m (d, (main_arg0 : DevRef τ sig))))))

theorem spread_row {α : Type} (h : Placed m) (d : Dev nD) (z : Cert.ReferenceIdeal.S65536.Idx → α) (u : S16x8x512.Idx → α) (b : Fin 16) (i : Fin 4096)
    (hr : RowOK ((feed m).dRow d b)) :
    Ref.spread (places m d) z u (ix2 b i) = shapeCast S16x4096 u shapeCasts_S16x8x512_S16x4096 (ix2 b (back ((feed m).dRow d b) hr i)) :=
  Ref.spread_apply _ (fun b s => Dest.lens_le _ b s) z u shapeCasts_S16x8x512_S16x4096 b _ hr (fun s l => dRow_at h d b s l) i

theorem ixi_eq (b : Fin 16) (i : Fin 4096) : ixi b i = ix2 b i := by funext a; match a with | 0 => rfl | 1 => rfl

theorem post_oi (V : Valuation τ sig (Elt F)) : after postOps V (main_v5_1 : DevRef τ sig) = V (main_v5_1 : DevRef τ sig) := by
  after_reads_simp

theorem post_v6 (V : Valuation τ sig (Elt F)) : after postOps V (main_v6 : DevRef τ sig)
    = extractStridedSlice S16x4096 ![0, 0] (V (main_v5_0 : DevRef τ sig)) slices_S32x4096_S16x4096_0_0 := by
  after_reads_simp

theorem post_v7 (V : Valuation τ sig (Elt F)) : after postOps V (main_v7 : DevRef τ sig)
    = extractStridedSlice S16x4096 ![16, 0] (V (main_v5_0 : DevRef τ sig)) slices_S32x4096_S16x4096_16_0 := by
  after_reads_simp

theorem res0 (h : Placed m) (d : Dev nD) (z : Cert.ReferenceIdeal.S65536.Idx → BitVec 32) :
    V2 m (feed_ok h) d (main_v5_1 : DevRef τ sig) = Ref.spread (places m d) z (m (d, (main_arg0 : DevRef τ sig))) := by
  unfold V2
  rw [post_oi]
  refine (V1_oi m (feed_ok h) d).trans (funext fun j => ?_)
  obtain ⟨b, i, rfl⟩ : ∃ (b : Fin 16) (i : Fin 4096), j = ix2 b i := ⟨j 0, j 1, by funext a; match a with | 0 => rfl | 1 => rfl⟩
  rw [spread_row h d z _ b i (feed_ok h d b)]
  have e : (feed m).XT d = shapeCast S16x4096 (V0 m d (main_arg0 : DevRef τ sig)) shapeCasts_S16x8x512_S16x4096 := VA_xt (V0 m d)
  show (feed m).XT d (ixi b (back ((feed m).dRow d b) (feed_ok h d b) i)) = _
  rw [e, ixi_eq]
  rfl

theorem XF_lo (d : Dev nD) (b : Fin 16) (k : Fin 4096) : (feed m).XF d (ixf ⟨b.val, by omega⟩ k)
    = shapeCast S16x4096 (m (d, (main_arg1 : DevRef τ sig))) shapeCasts_S16x8x512_S16x4096 (ix2 b k) := by
  have e := VA_xf (V0 m d)
  refine (congrFun e (ixf ⟨b.val, by omega⟩ k)).trans ?_
  exact concatenate_pair_apply_left 0 _ _ concatenates_S16x4096_S16x4096_S32x4096_d0 _ rfl (ix2 b k) fun a => by match a with | 0 => rfl | 1 => rfl

theorem XF_hi (d : Dev nD) (b : Fin 16) (k : Fin 4096) : (feed m).XF d (ixf ⟨16 + b.val, by omega⟩ k)
    = shapeCast S16x4096 (m (d, (main_arg2 : DevRef τ sig))) shapeCasts_S16x8x512_S16x4096 (ix2 b k) := by
  have e := VA_xf (V0 m d)
  refine (congrFun e (ixf ⟨16 + b.val, by omega⟩ k)).trans ?_
  exact concatenate_pair_apply_right 0 _ _ concatenates_S16x4096_S16x4096_S32x4096_d0 _ rfl rfl (ix2 b k)
    (fun a ha => by match a with | 0 => exact absurd rfl ha | 1 => rfl) (Nat.add_comm b.val 16)

theorem res1 (h : Placed m) (d : Dev nD) (z : Cert.ReferenceIdeal.S65536.Idx → F .f32) :
    V2 m (feed_ok h) d (main_v6 : DevRef τ sig) = Ref.spread (places m d) z (m (d, (main_arg1 : DevRef τ sig))) := by
  unfold V2
  rw [post_v6]
  refine funext fun j => ?_
  obtain ⟨b, i, rfl⟩ : ∃ (b : Fin 16) (i : Fin 4096), j = ix2 b i := ⟨j 0, j 1, by funext a; match a with | 0 => rfl | 1 => rfl⟩
  rw [spread_row h d z _ b i (feed_ok h d b)]
  have hb : Feed.bOf ⟨b.val, by omega⟩ = b := Fin.ext (Nat.mod_eq_of_lt b.isLt)
  refine (extractStridedSlice_apply ![0, 0] _ slices_S32x4096_S16x4096_0_0 (ix2 b i) (ixf ⟨b.val, by omega⟩ i)
    (fun a => by match a with | 0 => exact (Nat.zero_add _).symm | 1 => exact (Nat.zero_add _).symm)).trans ?_
  refine (congrFun (V1_of m (feed_ok h) d) _).trans ?_
  show (feed m).XF d (ixf ⟨b.val, by omega⟩ (back ((feed m).dRow d (Feed.bOf ⟨b.val, by omega⟩)) (feed_ok h d _) i)) = _
  rw [XF_lo]
  simp only [hb]

theorem res2 (h : Placed m) (d : Dev nD) (z : Cert.ReferenceIdeal.S65536.Idx → F .f32) :
    V2 m (feed_ok h) d (main_v7 : DevRef τ sig) = Ref.spread (places m d) z (m (d, (main_arg2 : DevRef τ sig))) := by
  unfold V2
  rw [post_v7]
  refine funext fun j => ?_
  obtain ⟨b, i, rfl⟩ : ∃ (b : Fin 16) (i : Fin 4096), j = ix2 b i := ⟨j 0, j 1, by funext a; match a with | 0 => rfl | 1 => rfl⟩
  rw [spread_row h d z _ b i (feed_ok h d b)]
  have hb : Feed.bOf ⟨16 + b.val, by omega⟩ = b := Fin.ext (by show (16 + b.val) % 16 = b.val; omega)
  refine (extractStridedSlice_apply ![16, 0] _ slices_S32x4096_S16x4096_16_0 (ix2 b i) (ixf ⟨16 + b.val, by omega⟩ i)
    (fun a => by match a with | 0 => rfl | 1 => exact (Nat.zero_add _).symm)).trans ?_
  refine (congrFun (V1_of m (feed_ok h) d) _).trans ?_
  show (feed m).XF d (ixf ⟨16 + b.val, by omega⟩ (back ((feed m).dRow d (Feed.bOf ⟨16 + b.val, by omega⟩)) (feed_ok h d _) i)) = _
  rw [XF_hi]
  simp only [hb]

end Cert.Proof.Sc

end
-- ==== Proof.TcLaunchB.lean ====
/-
  The sender call's launch, as compiled: its one grid point's data, the body's obligation and the run.
-/
module

public import proofs.«01_k».proof.Proof.TcRunB
public import Idealize.ShloMosaic.Lib.Claim
public import Idealize.ShloMosaic.Lib.Pipeline.Value
public import Idealize.ShloMosaic.Lib.ValueIdxCore
public import Idealize.ShloMosaic.Lib.Pipeline.ValueKit
public import Idealize.ShloMosaic.Lib.StableHlo.Run
public import Idealize.ShloMosaic.Lib.StableHlo.RunRead

@[expose] public section

set_option maxRecDepth 16384

noncomputable section

namespace Cert.Proof.TcB

open Cert.Sender Cert.Sender.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The point's data -/

abbrev tkAt (c : Dev nD) (t : Fin cfg0.N) : Vec F S512x128 .i32 := outTok (iblk m c 0 t) (iblk m c 1 t) (iblk m c 2 t) (iblk m c 3 t)

/-- The arrays as the region finds them; after the body, the inputs' blocks and the four results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tkAt m c t
    | ⟨5, _⟩ => outLp (iblk m c 0 t) (iblk m c 1 t) (iblk m c 2 t) (iblk m c 3 t)
    | ⟨6, _⟩ => outEnt (iblk m c 0 t) (iblk m c 1 t) (iblk m c 2 t) (iblk m c 3 t)
    | ⟨7, _⟩ => outDest (tkAt m c t)
  Φ _ := Pipeline.ΦA spec0 c
  q _ := fullShare
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = tkAt m c t := by dsimp only [dats]
theorem left5 (c : Dev nD) (t : Fin cfg0.N) : (dats m 0 c).after 5 t = outLp (iblk m c 0 t) (iblk m c 1 t) (iblk m c 2 t) (iblk m c 3 t) := by dsimp only [dats]
theorem left6 (c : Dev nD) (t : Fin cfg0.N) : (dats m 0 c).after 6 t = outEnt (iblk m c 0 t) (iblk m c 1 t) (iblk m c 2 t) (iblk m c 3 t) := by dsimp only [dats]
theorem left7 (c : Dev nD) (t : Fin cfg0.N) : (dats m 0 c).after 7 t = outDest (tkAt m c t) := by dsimp only [dats]

theorem found0 (c : Dev nD) (t : Fin cfg0.N) (d) : (dats m 0 c).before 0 t d = iblk m c 0 t := before0_0_of m (dats m 0 c) (dats_A m c 0) (left0 m c) t d
theorem found1 (c : Dev nD) (t : Fin cfg0.N) (d) : (dats m 0 c).before 1 t d = iblk m c 1 t := before0_1_of m (dats m 0 c) (dats_A m c 1) (left1 m c) t d
theorem found2 (c : Dev nD) (t : Fin cfg0.N) (d) : (dats m 0 c).before 2 t d = iblk m c 2 t := before0_2_of m (dats m 0 c) (dats_A m c 2) (left2 m c) t d
theorem found3 (c : Dev nD) (t : Fin cfg0.N) (d) : (dats m 0 c).before 3 t d = iblk m c 3 t := before0_3_of m (dats m 0 c) (dats_A m c 3) (left3 m c) t d

/-! ## The body's obligation -/

/-- What the body is given at the point. -/
def given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- What it gives back. -/
def back (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

set_option maxHeartbeats 800000 in
theorem body_ok (c : Dev nD) (t : Fin cfg0.N) :
    given m c t ⊢ wp frame (wpE (defs₀ (F := F)) Variants.none c none) Set.univ (bodyAt0 t) (fun _ => back m c t) := by
  unfold given back bodyAt0
  simp only [found0, found1, found2, found3]
  rw [show (dats m 0 c).Φ t.succ = (dats m 0 c).Φ t.castSucc from rfl,
    show (dats m 0 c).owesAt () t.succ = (dats m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_ok m c t) rfl .rfl fun _ => .rfl

/-! ## The run -/

-- the launch theorem's implicit arguments are found through plain definitions in a metavariable's type
set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (run_quiet m ρ))) ((θ_run defs _ _).mono (fun _ h => h.2) (run_quiet m ρ))

end Cert.Proof.TcB

end
-- ==== Proof.SRef.lean ====
/-
  The sender's reference, run: its operations in order around its one loop, and every buffer at their fold.
-/
module

public import proofs.«01_k».proof.Defs
public import Idealize.ShloMosaic.Lib.StableHlo.Run
public import Idealize.ShloMosaic.Lib.StableHlo.RunRead
public import Idealize.ShloMosaic.Lib.StableHlo.RunLoop
public import Idealize.ShloMosaic.Lib.Scf.Counter
public import Idealize.ShloMosaic.Lib.Scf.ExitTest
public import proofs.«01_k».proof.Proof.Gen.SenderReferenceIdeal

@[expose] public section

noncomputable section

namespace Cert.Proof.SRef

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)
open Cert.SenderReferenceIdeal Cert.SenderReferenceIdeal.Gen

/-- The contents of a buffer of shape `s` and element `t`. -/
abbrev Arr (F : FTy → Type) (s : Shape) (t : EltTy) : Type := (⟨s, t⟩ : BufTy).Contents (Elt F)

variable {F : FTy → Type} [FloatOps F]

/-- Before the loop. -/
abbrev preOps : List (HloOp τ sig (Elt F)) :=
  [ StableHlo.reshape main_arg0 main_v0 (rfl : (.f32 : EltTy) = .f32) shapeCasts_S16x8x256_S128x256,
    StableHlo.binary main_v0 main_arg1 main_v1 ((fun l r => Host.dotGeneral dot_S128x256_S256x512_S128x512_1_0_0_1_n_n none l r) : Arr F S128x256 .f32 → Arr F S256x512 .f32 → Arr F S128x512 .f32),
    StableHlo.unary main_v1 main_v2 (Host.tanh : Arr F S128x512 .f32 → Arr F S128x512 .f32),
    StableHlo.nullary main_cst (constant S_ .f32 0x00000000#32),
    StableHlo.unary main_cst main_v3 (broadcastInDim S512x128x512 ![] bcast_S_S512x128x512 : Arr F S_ .f32 → Arr F S512x128x512 .f32),
    StableHlo.nullary main_c (constantI S_ 32 0#32),
    StableHlo.unary main_arg2 main_v4_0 id,
    StableHlo.unary main_c main_v4_1 id,
    StableHlo.unary main_v2 main_v4_2 id,
    StableHlo.unary main_v3 main_v4_3 id ]

theorem preOps_sub : (preOps : List (HloOp τ sig (Elt F))).Forall fun op => op.bufs ⊆ tcRefs τ sig :=
  ⟨reshape_bufs_sub .., binary_bufs_sub .., unary_bufs_sub .., nullary_bufs_sub .., unary_bufs_sub .., nullary_bufs_sub .., unary_bufs_sub .., unary_bufs_sub .., unary_bufs_sub .., unary_bufs_sub ..⟩

theorem preOps_fresh : ∀ op ∈ (preOps : List (HloOp τ sig (Elt F))), op.fresh = ∅ := by
  intro op h
  fin_cases h <;> rfl

/-- One trip of the loop. -/
abbrev bodyOps : List (HloOp τ sig (Elt F)) :=
  [ StableHlo.binary main_v4_2 main_v4_0 main_while0b_v62 ((fun l r => Host.dotGeneral dot_S128x512_S512x512_S128x512_1_0_0_1_n_n none l r) : Arr F S128x512 .f32 → Arr F S512x512 .f32 → Arr F S128x512 .f32),
    StableHlo.unary main_while0b_v62 main_while0b_v63 (Host.tanh : Arr F S128x512 .f32 → Arr F S128x512 .f32),
    TRef.unary (.of main_while0b_v63 : TRef sig ⟨S128x512, .f32⟩) main_while0b_call0.v0 (broadcastInDim S1x128x512 ![1, 2] bcast_S128x512_S1x128x512_1_2),
    TRef.nullary main_while0b_call0.c (constantI S_ 32 0#32),
    TRef.nullary main_while0b_call0.c_0 (constantI S_ 32 0#32),
    TRef.binaryIndexed (.of main_v4_3 : TRef sig ⟨S512x128x512, .f32⟩) main_while0b_call0.v0 ![(.of main_v4_1 : TRef sig ⟨S_, .i32⟩), main_while0b_call0.c, main_while0b_call0.c_0] main_while0b_call0.v1 (fun x u i => Host.dynamicUpdateSlice x u (fun k => (i k (Shape.Idx.first h_S_)).toInt) updateFits_S512x128x512_S1x128x512),
    StableHlo.nullary main_while0b_c_13 (constantI S_ 32 1#32),
    StableHlo.binary main_v4_1 main_while0b_c_13 main_while0b_v65 (addi : Arr F S_ .i32 → Arr F S_ .i32 → Arr F S_ .i32),
    StableHlo.unary main_while0b_v65 main_v4_1 id,
    StableHlo.unary main_while0b_v63 main_v4_2 id,
    StableHlo.unary main_while0b_v64 main_v4_3 id ]

theorem bodyOps_sub : (bodyOps : List (HloOp τ sig (Elt F))).Forall fun op => op.bufs ⊆ tcRefs τ sig :=
  ⟨binary_bufs_sub .., unary_bufs_sub .., unary_bufs_sub .., nullary_bufs_sub .., nullary_bufs_sub .., binaryIndexed_bufs_sub .., nullary_bufs_sub .., binary_bufs_sub .., unary_bufs_sub .., unary_bufs_sub .., unary_bufs_sub ..⟩

theorem bodyOps_fresh : ∀ op ∈ (bodyOps : List (HloOp τ sig (Elt F))), op.fresh = ∅ := by
  intro op h
  fin_cases h <;> rfl

/-- The logits. -/
abbrev postA0Ops : List (HloOp τ sig (Elt F)) :=
  [ StableHlo.binary main_v4_3 main_arg3 main_v5 ((fun l r => Host.dotGeneral dot_S512x128x512_S512x128_S512x128x128_2_0_01_1_n_n none l r) : Arr F S512x128x512 .f32 → Arr F S512x128 .f32 → Arr F S512x128x128 .f32) ]

theorem postA0Ops_sub : (postA0Ops : List (HloOp τ sig (Elt F))).Forall fun op => op.bufs ⊆ tcRefs τ sig :=
  binary_bufs_sub ..

theorem postA0Ops_fresh : ∀ op ∈ (postA0Ops : List (HloOp τ sig (Elt F))), op.fresh = ∅ := by
  intro op h
  fin_cases h <;> rfl

/-- Their log-softmax. -/
abbrev postA1Ops : List (HloOp τ sig (Elt F)) :=
  [ TRef.nullary main_call1.cst (constant S_ .f32 0xFF800000#32),
    TRef.binary (.of main_v5 : TRef sig ⟨S512x128x128, .f32⟩) main_call1.cst main_call1.v0 (fun x v => Host.reduce FloatOps.maximumf x v reducesTo_S512x128x128_S512x128_d2 h_S_),
    TRef.nullary main_call1.cst_0 (constant S_ .f32 0xFF800000#32),
    TRef.unary main_call1.cst_0 main_call1.v1 (broadcastInDim S512x128 ![] bcast_S_S512x128),
    TRef.binary main_call1.v1 main_call1.v0 main_call1.v2 maximumf,
    TRef.unary main_call1.v2 main_call1.v3 (broadcastInDim S512x128x1 ![0, 1] bcast_S512x128_S512x128x1_0_1),
    TRef.unary main_call1.v3 main_call1.v4 (broadcastInDim S512x128x128 ![0, 1, 2] bcast_S512x128x1_S512x128x128_0_1_2),
    TRef.binary (.of main_v5 : TRef sig ⟨S512x128x128, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S512x128x128_S512x128_d2 h_S_),
    TRef.unary main_call1.v7 main_call1.v8 (broadcastInDim S512x128x1 ![0, 1] bcast_S512x128_S512x128x1_0_1),
    TRef.unary main_call1.v8 main_call1.v9 Host.log,
    TRef.unary main_call1.v9 main_call1.v10 (broadcastInDim S512x128x128 ![0, 1, 2] bcast_S512x128x1_S512x128x128_0_1_2),
    TRef.binary main_call1.v5 main_call1.v10 main_call1.v11 subf ]

theorem postA1Ops_sub : (postA1Ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem postA1Ops_fresh : ∀ op ∈ (postA1Ops : List (HloOp τ sig (Elt F))), op.fresh = ∅ := by
  intro op h
  fin_cases h <;> rfl

/-- The tokens, their log-probabilities and the entropies. -/
abbrev postA2Ops : List (HloOp τ sig (Elt F)) :=
  [ TRef.nullary main_call2.v0 (iotaInDim S512x128x128 32 2),
    TRef.nullary main_call2.cst (constant S_ .f32 0xFF800000#32),
    TRef.nullary main_call2.c (constantI S_ 32 0#32),
    TRef.quaternary (.of main_v5 : TRef sig ⟨S512x128x128, .f32⟩) main_call2.v0 main_call2.cst main_call2.c main_call2.v1_0 (fun x y u v j => (Host.argReduce reducer_argmax_f32_i32 x y u v reducesTo_S512x128x128_S512x128_d2 h_S_ j).1),
    TRef.quaternary (.of main_v5 : TRef sig ⟨S512x128x128, .f32⟩) main_call2.v0 main_call2.cst main_call2.c main_call2.v1_1 (fun x y u v j => (Host.argReduce reducer_argmax_f32_i32 x y u v reducesTo_S512x128x128_S512x128_d2 h_S_ j).2),
    StableHlo.unary main_v7 main_v8 (broadcastInDim S512x128x1 ![0, 1] bcast_S512x128_S512x128x1_0_1 : Arr F S512x128 .i32 → Arr F S512x128x1 .i32),
    TRef.nullary main_call3.c (constantI S_ 32 0#32),
    TRef.unary main_call3.c main_call3.v0 (broadcastInDim S512x128x1 ![] bcast_S_S512x128x1),
    TRef.binary (.of main_v8 : TRef sig ⟨S512x128x1, .i32⟩) main_call3.v0 main_call3.v1 (cmpi .slt),
    TRef.nullary main_call3.c_0 (constantI S_ 32 128#32),
    TRef.unary main_call3.c_0 main_call3.v2 (broadcastInDim S512x128x1 ![] bcast_S_S512x128x1),
    TRef.binary (.of main_v8 : TRef sig ⟨S512x128x1, .i32⟩) main_call3.v2 main_call3.v3 addi,
    TRef.ternary main_call3.v1 main_call3.v3 (.of main_v8 : TRef sig ⟨S512x128x1, .i32⟩) main_call3.v4 select,
    TRef.reshape main_call3.v4 main_call3.v5 (rfl : (.i32 : EltTy) = .i32) shapeCasts_S512x128x1_S512x128x1x1,
    TRef.binary (.of main_v6 : TRef sig ⟨S512x128x128, .f32⟩) main_call3.v5 main_call3.v6 (fun x i => Host.gather gather_S512x128x128_S512x128x1x1_S512x128x1_n_2_01_01_2_3_111 x i),
    StableHlo.reshape main_v9 main_v10 (rfl : (.f32 : EltTy) = .f32) shapeCasts_S512x128x1_S512x128,
    StableHlo.unary main_v6 main_v11 (Host.exp : Arr F S512x128x128 .f32 → Arr F S512x128x128 .f32),
    StableHlo.binary main_v11 main_v6 main_v12 (mulf : Arr F S512x128x128 .f32 → Arr F S512x128x128 .f32 → Arr F S512x128x128 .f32),
    StableHlo.nullary main_cst_0 (constant S_ .f32 0x00000000#32),
    StableHlo.binary main_v12 main_cst_0 main_v13 ((fun x v => Host.reduceAdd x v reducesTo_S512x128x128_S512x128_d2 h_S_) : Arr F S512x128x128 .f32 → Arr F S_ .f32 → Arr F S512x128 .f32),
    StableHlo.unary main_v13 main_v14 (Host.negf : Arr F S512x128 .f32 → Arr F S512x128 .f32) ]

theorem postA2Ops_sub : (postA2Ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., binary_bufs_sub .., reshape_bufs_sub .., unary_bufs_sub .., binary_bufs_sub .., nullary_bufs_sub .., binary_bufs_sub .., unary_bufs_sub ..⟩

theorem postA2Ops_fresh : ∀ op ∈ (postA2Ops : List (HloOp τ sig (Elt F))), op.fresh = ∅ := by
  intro op h
  fin_cases h <;> rfl

/-- The lengths. -/
abbrev postB1Ops : List (HloOp τ sig (Elt F)) :=
  [ StableHlo.unary main_v7 main_v15 ((transpose S128x512 [1, 0] · transposes_S512x128_S128x512_1_0) : Arr F S512x128 .i32 → Arr F S128x512 .i32),
    StableHlo.reshape main_v15 main_v16 (rfl : (.i32 : EltTy) = .i32) shapeCasts_S128x512_S16x8x512,
    StableHlo.nullary main_c_1 (constantI S_ 32 0#32),
    StableHlo.unary main_c_1 main_v17 (broadcastInDim S16x8x512 ![] bcast_S_S16x8x512 : Arr F S_ .i32 → Arr F S16x8x512 .i32),
    StableHlo.binary main_v16 main_v17 main_v18 (cmpi .eq : Arr F S16x8x512 .i32 → Arr F S16x8x512 .i32 → Arr F S16x8x512 .i1),
    TRef.unary (.of main_v18 : TRef sig ⟨S16x8x512, .i1⟩) main_call4.v0 (extui 32 · natLt_1_32),
    TRef.nullary main_call4.call0.c (constantI S_ 32 0#32),
    TRef.unary main_call4.call0.c main_call4.call0.v0 (broadcastInDim S_ ![] bcast_S_S_),
    TRef.binary main_call4.v0 main_call4.call0.v0 main_call4.call0.v1 (fun x v => Host.reduceWindow IntOp.addi ![1, 1, 512] ![1, 1, 1] ![0, 0, 511] ![0, 0, 0] x v reduceWindows_S16x8x512_S16x8x512_w1s1p0_0_w1s1p0_0_w512s1p511_0 h_S_),
    StableHlo.nullary main_c_2 (constantI S_ 32 0#32),
    StableHlo.unary main_c_2 main_v20 (broadcastInDim S16x8x512 ![] bcast_S_S16x8x512 : Arr F S_ .i32 → Arr F S16x8x512 .i32),
    StableHlo.binary main_v19 main_v20 main_v21 (cmpi .sgt : Arr F S16x8x512 .i32 → Arr F S16x8x512 .i32 → Arr F S16x8x512 .i1),
    StableHlo.unary main_v21 main_v22 ((extui 32 · natLt_1_32) : Arr F S16x8x512 .i1 → Arr F S16x8x512 .i32),
    StableHlo.nullary main_c_3 (constantI S_ 32 0#32),
    StableHlo.binary main_v22 main_c_3 main_v23 ((fun x v => Host.reduce IntOp.addi x v reducesTo_S16x8x512_S16x8_d2 h_S_) : Arr F S16x8x512 .i32 → Arr F S_ .i32 → Arr F S16x8 .i32),
    StableHlo.nullary main_c_4 (constantI S_ 32 512#32),
    StableHlo.unary main_c_4 main_v24 (broadcastInDim S16x8 ![] bcast_S_S16x8 : Arr F S_ .i32 → Arr F S16x8 .i32),
    StableHlo.binary main_v24 main_v23 main_v25 (subi : Arr F S16x8 .i32 → Arr F S16x8 .i32 → Arr F S16x8 .i32),
    StableHlo.nullary main_c_5 (constantI S_ 32 1#32),
    StableHlo.unary main_c_5 main_v26 (broadcastInDim S16x8 ![] bcast_S_S16x8 : Arr F S_ .i32 → Arr F S16x8 .i32),
    StableHlo.binary main_v25 main_v26 main_v27 (addi : Arr F S16x8 .i32 → Arr F S16x8 .i32 → Arr F S16x8 .i32),
    StableHlo.nullary main_c_6 (constantI S_ 32 512#32),
    StableHlo.unary main_c_6 main_v28 (broadcastInDim S16x8 ![] bcast_S_S16x8 : Arr F S_ .i32 → Arr F S16x8 .i32),
    StableHlo.binary main_v27 main_v28 main_v29 (minsi : Arr F S16x8 .i32 → Arr F S16x8 .i32 → Arr F S16x8 .i32),
    StableHlo.nullary main_c_7 (constantI S_ 32 1#32),
    StableHlo.unary main_c_7 main_v30 (broadcastInDim S16x8 ![] bcast_S_S16x8 : Arr F S_ .i32 → Arr F S16x8 .i32),
    StableHlo.binary main_v29 main_v30 main_v31 (subi : Arr F S16x8 .i32 → Arr F S16x8 .i32 → Arr F S16x8 .i32) ]

theorem postB1Ops_sub : (postB1Ops : List (HloOp τ sig (Elt F))).Forall fun op => op.bufs ⊆ tcRefs τ sig :=
  ⟨unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

theorem postB1Ops_fresh : ∀ op ∈ (postB1Ops : List (HloOp τ sig (Elt F))), op.fresh = ∅ := by
  intro op h
  fin_cases h <;> rfl

/-- Their sums. -/
abbrev postB2Ops : List (HloOp τ sig (Elt F)) :=
  [ TRef.nullary main_call5.call0.c (constantI S_ 32 0#32),
    TRef.unary main_call5.call0.c main_call5.call0.v0 (broadcastInDim S_ ![] bcast_S_S_),
    TRef.binary (.of main_v31 : TRef sig ⟨S16x8, .i32⟩) main_call5.call0.v0 main_call5.call0.v1 (fun x v => Host.reduceWindow IntOp.addi ![1, 8] ![1, 1] ![0, 7] ![0, 0] x v reduceWindows_S16x8_S16x8_w1s1p0_0_w8s1p7_0 h_S_),
    StableHlo.binary main_v32 main_v31 main_v33 (subi : Arr F S16x8 .i32 → Arr F S16x8 .i32 → Arr F S16x8 .i32),
    StableHlo.nullary main_c_8 (constantI S_ 32 0#32),
    StableHlo.binary main_v31 main_c_8 main_v34 ((fun x v => Host.reduce IntOp.addi x v reducesTo_S16x8_S16_d1 h_S_) : Arr F S16x8 .i32 → Arr F S_ .i32 → Arr F S16 .i32),
    StableHlo.nullary main_c_9 (constantI S_ 32 512#32),
    StableHlo.unary main_c_9 main_v35 (broadcastInDim S16x8 ![] bcast_S_S16x8 : Arr F S_ .i32 → Arr F S16x8 .i32),
    StableHlo.binary main_v35 main_v31 main_v36 (subi : Arr F S16x8 .i32 → Arr F S16x8 .i32 → Arr F S16x8 .i32),
    TRef.nullary main_call6.call0.c (constantI S_ 32 0#32),
    TRef.unary main_call6.call0.c main_call6.call0.v0 (broadcastInDim S_ ![] bcast_S_S_),
    TRef.binary (.of main_v36 : TRef sig ⟨S16x8, .i32⟩) main_call6.call0.v0 main_call6.call0.v1 (fun x v => Host.reduceWindow IntOp.addi ![1, 8] ![1, 1] ![0, 7] ![0, 0] x v reduceWindows_S16x8_S16x8_w1s1p0_0_w8s1p7_0 h_S_),
    StableHlo.binary main_v37 main_v36 main_v38 (subi : Arr F S16x8 .i32 → Arr F S16x8 .i32 → Arr F S16x8 .i32) ]

theorem postB2Ops_sub : (postB2Ops : List (HloOp τ sig (Elt F))).Forall fun op => op.bufs ⊆ tcRefs τ sig :=
  ⟨nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub ..⟩

theorem postB2Ops_fresh : ∀ op ∈ (postB2Ops : List (HloOp τ sig (Elt F))), op.fresh = ∅ := by
  intro op h
  fin_cases h <;> rfl

/-- The places from them. -/
abbrev postB3Ops : List (HloOp τ sig (Elt F)) :=
  [ StableHlo.nullary main_v39 (iotaInDim S512 32 0),
    StableHlo.unary main_v39 main_v40 (broadcastInDim S1x1x512 ![2] bcast_S512_S1x1x512_2 : Arr F S512 .i32 → Arr F S1x1x512 .i32),
    StableHlo.unary main_v31 main_v41 (broadcastInDim S16x8x1 ![0, 1] bcast_S16x8_S16x8x1_0_1 : Arr F S16x8 .i32 → Arr F S16x8x1 .i32),
    StableHlo.unary main_v40 main_v42 (broadcastInDim S16x8x512 ![0, 1, 2] bcast_S1x1x512_S16x8x512_0_1_2 : Arr F S1x1x512 .i32 → Arr F S16x8x512 .i32),
    StableHlo.unary main_v41 main_v43 (broadcastInDim S16x8x512 ![0, 1, 2] bcast_S16x8x1_S16x8x512_0_1_2 : Arr F S16x8x1 .i32 → Arr F S16x8x512 .i32),
    StableHlo.binary main_v42 main_v43 main_v44 (cmpi .slt : Arr F S16x8x512 .i32 → Arr F S16x8x512 .i32 → Arr F S16x8x512 .i1),
    StableHlo.unary main_v33 main_v45 (broadcastInDim S16x8x1 ![0, 1] bcast_S16x8_S16x8x1_0_1 : Arr F S16x8 .i32 → Arr F S16x8x1 .i32),
    StableHlo.unary main_v45 main_v46 (broadcastInDim S16x8x512 ![0, 1, 2] bcast_S16x8x1_S16x8x512_0_1_2 : Arr F S16x8x1 .i32 → Arr F S16x8x512 .i32),
    StableHlo.unary main_v40 main_v47 (broadcastInDim S16x8x512 ![0, 1, 2] bcast_S1x1x512_S16x8x512_0_1_2 : Arr F S1x1x512 .i32 → Arr F S16x8x512 .i32),
    StableHlo.binary main_v46 main_v47 main_v48 (addi : Arr F S16x8x512 .i32 → Arr F S16x8x512 .i32 → Arr F S16x8x512 .i32),
    StableHlo.unary main_v34 main_v49 (broadcastInDim S16x1x1 ![0] bcast_S16_S16x1x1_0 : Arr F S16 .i32 → Arr F S16x1x1 .i32),
    StableHlo.unary main_v38 main_v50 (broadcastInDim S16x8x1 ![0, 1] bcast_S16x8_S16x8x1_0_1 : Arr F S16x8 .i32 → Arr F S16x8x1 .i32),
    StableHlo.unary main_v49 main_v51 (broadcastInDim S16x8x1 ![0, 1, 2] bcast_S16x1x1_S16x8x1_0_1_2 : Arr F S16x1x1 .i32 → Arr F S16x8x1 .i32),
    StableHlo.binary main_v51 main_v50 main_v52 (addi : Arr F S16x8x1 .i32 → Arr F S16x8x1 .i32 → Arr F S16x8x1 .i32),
    StableHlo.unary main_v31 main_v53 (broadcastInDim S16x8x1 ![0, 1] bcast_S16x8_S16x8x1_0_1 : Arr F S16x8 .i32 → Arr F S16x8x1 .i32),
    StableHlo.unary main_v40 main_v54 (broadcastInDim S16x8x512 ![0, 1, 2] bcast_S1x1x512_S16x8x512_0_1_2 : Arr F S1x1x512 .i32 → Arr F S16x8x512 .i32),
    StableHlo.unary main_v53 main_v55 (broadcastInDim S16x8x512 ![0, 1, 2] bcast_S16x8x1_S16x8x512_0_1_2 : Arr F S16x8x1 .i32 → Arr F S16x8x512 .i32),
    StableHlo.binary main_v54 main_v55 main_v56 (subi : Arr F S16x8x512 .i32 → Arr F S16x8x512 .i32 → Arr F S16x8x512 .i32),
    StableHlo.unary main_v52 main_v57 (broadcastInDim S16x8x512 ![0, 1, 2] bcast_S16x8x1_S16x8x512_0_1_2 : Arr F S16x8x1 .i32 → Arr F S16x8x512 .i32),
    StableHlo.binary main_v57 main_v56 main_v58 (addi : Arr F S16x8x512 .i32 → Arr F S16x8x512 .i32 → Arr F S16x8x512 .i32),
    TRef.ternary (.of main_v44 : TRef sig ⟨S16x8x512, .i1⟩) (.of main_v48 : TRef sig ⟨S16x8x512, .i32⟩) (.of main_v58 : TRef sig ⟨S16x8x512, .i32⟩) main_call7.v0 select ]

theorem postB3Ops_sub : (postB3Ops : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., binary_bufs_sub .., ternary_bufs_sub ..⟩

theorem postB3Ops_fresh : ∀ op ∈ (postB3Ops : List (HloOp τ sig (Elt F))), op.fresh = ∅ := by
  intro op h
  fin_cases h <;> rfl

/-- The places in the order of the results. -/
abbrev postCOps : List (HloOp τ sig (Elt F)) :=
  [ StableHlo.reshape main_v59 main_v60 (rfl : (.i32 : EltTy) = .i32) shapeCasts_S16x8x512_S128x512,
    StableHlo.unary main_v60 main_v61 ((transpose S512x128 [1, 0] · transposes_S128x512_S512x128_1_0) : Arr F S128x512 .i32 → Arr F S512x128 .i32) ]

theorem postCOps_sub : (postCOps : List (HloOp τ sig (Elt F))).Forall fun op => op.bufs ⊆ tcRefs τ sig :=
  ⟨reshape_bufs_sub .., unary_bufs_sub ..⟩

theorem postCOps_fresh : ∀ op ∈ (postCOps : List (HloOp τ sig (Elt F))), op.fresh = ∅ := by
  intro op h
  fin_cases h <;> rfl

/-- The loop's test: the bound, then the comparison. -/
abbrev condOps : List (HloOp τ sig (Elt F)) :=
  [ StableHlo.nullary main_while0c_c_13 (constantI S_ 32 512#32),
    StableHlo.binary main_v4_1 main_while0c_c_13 main_while0c_v62 (cmpi .slt : Arr F S_ .i32 → Arr F S_ .i32 → Arr F S_ .i1) ]

abbrev preI : List (List (HloOp τ sig (Elt F))) := [preOps]
abbrev bodyI : List (List (HloOp τ sig (Elt F))) := [bodyOps]
abbrev postI : List (List (HloOp τ sig (Elt F))) := [postA0Ops, postA1Ops, postA2Ops, postB1Ops, postB2Ops, postB3Ops, postCOps]

theorem hpre : Plain (preI : List (List (HloOp τ sig (Elt F)))) := Plain.cons preOps_sub Plain.nil preOps_fresh
theorem hbody : Plain (bodyI : List (List (HloOp τ sig (Elt F)))) := Plain.cons bodyOps_sub Plain.nil bodyOps_fresh
theorem hpost : Plain (postI : List (List (HloOp τ sig (Elt F)))) :=
  Plain.cons postA0Ops_sub (Plain.cons postA1Ops_sub (Plain.cons postA2Ops_sub (Plain.cons postB1Ops_sub (Plain.cons postB2Ops_sub
    (Plain.cons postB3Ops_sub (Plain.cons postCOps_sub Plain.nil postCOps_fresh) postB3Ops_fresh) postB2Ops_fresh) postB1Ops_fresh) postA2Ops_fresh) postA1Ops_fresh) postA0Ops_fresh

set_option maxRecDepth 4096 in
set_option maxHeartbeats 8000000 in
theorem main_eq (c : Dev nD) : main (F := F) c
    = Pipeline.chain ((preI.map fun ops => (seq ops : Prog _ PUnit)) ++ HostLoop.enter 0 :: postI.map fun ops => (seq ops : Prog _ PUnit)) := by
  simp only [main, main_part0, main_part1, fn_log_softmax.body, fn_argmax.body, fn_take_along_axis.body, fn_cumsum.body, fn_cumsum_0.body, fn_cumsum_1.body,
    fn_cumsum_2.body, fn_where.body, List.map_cons, List.map_nil, List.cons_append, List.nil_append, Pipeline.chain_cons, Pipeline.chain_nil, seq, bind_assoc, pure_bind]

set_option maxRecDepth 4096 in
set_option maxHeartbeats 4000000 in
theorem body_eq : main_while0_body (F := F) = Pipeline.chain (bodyI.map fun ops => (seq ops : Prog _ PUnit)) := by
  simp only [main_while0_body, fn_dynamic_update_index_in_dim.body, List.map_cons, List.map_nil, Pipeline.chain_cons, Pipeline.chain_nil, seq, bind_assoc, pure_bind]

variable (m : (ℓ : Loc nD τ sig) → Buf (Elt F) ℓ)

/-- Every buffer's contents before the `k`-th test of the loop, counted from 0. -/
abbrev atK (k : ℕ) (c : Dev nD) : Valuation τ sig (Elt F) := atTrip condOps bodyI (entryContents preI m) k c

set_option maxRecDepth 100000 in
theorem ctr_entry (c : Dev nD) : entryContents preI m c (Proc.devRef .tc main_v4_1) = fun _ => 0#32 := by
  show after preOps (launchContents m c) (Proc.devRef .tc main_v4_1) = _
  generalize launchContents m c = V
  after_reads_simp
  rfl

set_option maxRecDepth 100000 in
theorem ctr_cond (V : Valuation τ sig (Elt F)) : after condOps V (Proc.devRef .tc main_v4_1) = V (Proc.devRef .tc main_v4_1) := by
  after_reads_simp

set_option maxRecDepth 100000 in
theorem ctr_step (V : Valuation τ sig (Elt F)) : after bodyOps V (Proc.devRef .tc main_v4_1)
    = (fun i => IntOp.addi ((V (Proc.devRef .tc main_v4_1) : IVec S_ 32) i) 1#32 : IVec S_ 32) := by
  after_reads_simp
  rfl

/-- Before the `k`-th test the counter is `k`. -/
theorem atK_ctr (c : Dev nD) : ∀ k, atK m k c (Proc.devRef .tc main_v4_1) = fun _ => Scf.iv 0#32 1#32 k
  | 0 => by rw [show atK m 0 c = entryContents preI m c from rfl, ctr_entry, Scf.iv_zero]
  | k + 1 => by
    rw [show atK m (k + 1) c = after bodyOps (after condOps (atK m k c)) from rfl, ctr_step, ctr_cond, atK_ctr c k, Scf.iv_succ]
    rfl

-- applying a rule stated for any thread at the TensorCore thread unifies only when unification may unfold plain definitions in a metavariable's type
set_option backward.isDefEq.respectTransparency.types false in
/-- The test holds for the first 512 trips. -/
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_1 HostLoop.idx0)
        (HloOp.result _ (atK m k c) main_while0c_c_13 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

variable (ρ : Dev nD → PrngReg)

/-- From any memory with zero counters, every execution terminates with each buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 512 m c (Proc.devRef .tc b)) :=
  run_loop (pcfgs (F := F)) defs₀ loops main 0 main_while0_cond main_while0_body rfl preI bodyI postI condOps hpre hbody hpost
    main_eq body_eq 512 m ρ (cond_spec m)

end Cert.Proof.SRef

end
-- ==== Proof.SRefVal.lean ====
/-
  The sender's reference, its results as terms of its arguments: the states of the loop, the logits at them, and what follows.
-/
module

public import proofs.«01_k».proof.Proof.SRef
public import proofs.«01_k».proof.Proof.Dest
public import Idealize.ShloMosaic.Lib.Quiescent
public import Idealize.ShloMosaic.Lib.WordCmp

@[expose] public section

set_option maxRecDepth 100000

noncomputable section

namespace Cert.Proof.SRef

open Idealize.ShloMosaic Idealize.ShloMosaic.TcCoe Idealize.ShloMosaic.StableHlo Idealize.SL.Sem
open Cert.SenderReferenceIdeal Cert.SenderReferenceIdeal.Gen

variable {F : FTy → Type} [FloatOps F]

/-! ## The terms -/

/-- The state before the first step. -/
def state0 (a0 : FVec F S16x8x256 .f32) (a1 : FVec F S256x512 .f32) : FVec F S128x512 .f32 :=
  Host.tanh (Host.dotGeneral dot_S128x256_S256x512_S128x512_1_0_0_1_n_n none (shapeCast S128x256 a0 shapeCasts_S16x8x256_S128x256) a1)

/-- One step. -/
def next (w : FVec F S512x512 .f32) (x : FVec F S128x512 .f32) : FVec F S128x512 .f32 :=
  Host.tanh (Host.dotGeneral dot_S128x512_S512x512_S128x512_1_0_0_1_n_n none x w)

/-- The state after `k` steps. -/
def state (a0 : FVec F S16x8x256 .f32) (a1 : FVec F S256x512 .f32) (a2 : FVec F S512x512 .f32) : ℕ → FVec F S128x512 .f32
  | 0 => state0 a0 a1
  | k + 1 => next a2 (state a0 a1 a2 k)

/-- The state written as the `k`-th of all. -/
def put (h : FVec F S512x128x512 .f32) (k : IVec S_ 32) (x : FVec F S128x512 .f32) : FVec F S512x128x512 .f32 :=
  Host.dynamicUpdateSlice h (broadcastInDim S1x128x512 ![1, 2] bcast_S128x512_S1x128x512_1_2 x)
    (fun a => ((![k, constantI S_ 32 0#32, constantI S_ 32 0#32] : Fin 3 → IVec S_ 32) a (Shape.Idx.first h_S_)).toInt) updateFits_S512x128x512_S1x128x512

/-- The logits. -/
def logits (h : FVec F S512x128x512 .f32) (w : FVec F S512x128 .f32) : FVec F S512x128x128 .f32 :=
  Host.dotGeneral dot_S512x128x512_S512x128_S512x128x128_2_0_01_1_n_n none h w

/-- A logit less the greatest. -/
def shifted (z : FVec F S512x128x128 .f32) : FVec F S512x128x128 .f32 :=
  subf z (broadcastInDim S512x128x128 ![0, 1, 2] bcast_S512x128x1_S512x128x128_0_1_2 (broadcastInDim S512x128x1 ![0, 1] bcast_S512x128_S512x128x1_0_1
    (maximumf (broadcastInDim S512x128 ![] bcast_S_S512x128 (constant S_ .f32 0xFF800000#32))
      (Host.reduce FloatOps.maximumf z (constant S_ .f32 0xFF800000#32) reducesTo_S512x128x128_S512x128_d2 h_S_))))

/-- Their log-softmax. -/
def lsm (z : FVec F S512x128x128 .f32) : FVec F S512x128x128 .f32 :=
  subf (shifted z) (broadcastInDim S512x128x128 ![0, 1, 2] bcast_S512x128x1_S512x128x128_0_1_2 (Host.log (broadcastInDim S512x128x1 ![0, 1] bcast_S512x128_S512x128x1_0_1
    (Host.reduceAdd (Host.exp (shifted z)) (constant S_ .f32 0x00000000#32) reducesTo_S512x128x128_S512x128_d2 h_S_))))

/-- The tokens. -/
def toks (z : FVec F S512x128x128 .f32) : IVec S512x128 32 := fun j =>
  (Host.argReduce reducer_argmax_f32_i32 z (iotaInDim S512x128x128 32 2) (constant S_ .f32 0xFF800000#32) (constantI S_ 32 0#32)
    reducesTo_S512x128x128_S512x128_d2 h_S_ j).2

/-- The tokens as the words that the gather takes. -/
def words (t : IVec S512x128 32) : IVec S512x128x1x1 32 :=
  shapeCast S512x128x1x1 (select (cmpi .slt (broadcastInDim S512x128x1 ![0, 1] bcast_S512x128_S512x128x1_0_1 t)
      (broadcastInDim S512x128x1 ![] bcast_S_S512x128x1 (constantI S_ 32 0#32)))
    (addi (broadcastInDim S512x128x1 ![0, 1] bcast_S512x128_S512x128x1_0_1 t) (broadcastInDim S512x128x1 ![] bcast_S_S512x128x1 (constantI S_ 32 128#32)))
    (broadcastInDim S512x128x1 ![0, 1] bcast_S512x128_S512x128x1_0_1 t)) shapeCasts_S512x128x1_S512x128x1x1

/-- The log-probabilities at the tokens. -/
def lps (l : FVec F S512x128x128 .f32) (t : IVec S512x128 32) : FVec F S512x128 .f32 :=
  shapeCast S512x128 (Host.gather gather_S512x128x128_S512x128x1x1_S512x128x1_n_2_01_01_2_3_111 l (words t)) shapeCasts_S512x128x1_S512x128

/-- The entropies. -/
def ents (l : FVec F S512x128x128 .f32) : FVec F S512x128 .f32 :=
  Host.negf (Host.reduceAdd (mulf (Host.exp l) l) (constant S_ .f32 0x00000000#32) reducesTo_S512x128x128_S512x128_d2 h_S_)

/-- The messages, example by example. -/
def msgs (t : IVec S512x128 32) : IVec S16x8x512 32 :=
  shapeCast S16x8x512 (transpose S128x512 [1, 0] t transposes_S512x128_S128x512_1_0) shapeCasts_S128x512_S16x8x512

/-- The places, in the order of the results. -/
def places (t : IVec S512x128 32) : IVec S512x128 32 :=
  transpose S512x128 [1, 0] (shapeCast S128x512 (Dest.dest (Dest.lens (Dest.ended (msgs t)))) shapeCasts_S16x8x512_S128x512) transposes_S128x512_S512x128_1_0

/-! ## What each list of operations leaves -/

theorem to_v5 (x : Arr F S512x128x128 .f32) : (TRef.of main_v5 : TRef sig ⟨S512x128x128, .f32⟩).toBuf x = x := rfl
theorem of_v5 (x : Arr F S512x128x128 .f32) : (TRef.of main_v5 : TRef sig ⟨S512x128x128, .f32⟩).ofBuf x = x := rfl
theorem to_v6 (x : Arr F S512x128x128 .f32) : (TRef.of main_v6 : TRef sig ⟨S512x128x128, .f32⟩).toBuf x = x := rfl
theorem of_v6 (x : Arr F S512x128x128 .f32) : (TRef.of main_v6 : TRef sig ⟨S512x128x128, .f32⟩).ofBuf x = x := rfl
theorem to_v7 (x : Arr F S512x128 .i32) : (TRef.of main_v7 : TRef sig ⟨S512x128, .i32⟩).toBuf x = x := rfl
theorem of_v7 (x : Arr F S512x128 .i32) : (TRef.of main_v7 : TRef sig ⟨S512x128, .i32⟩).ofBuf x = x := rfl
theorem to_v8 (x : Arr F S512x128x1 .i32) : (TRef.of main_v8 : TRef sig ⟨S512x128x1, .i32⟩).toBuf x = x := rfl
theorem of_v8 (x : Arr F S512x128x1 .i32) : (TRef.of main_v8 : TRef sig ⟨S512x128x1, .i32⟩).ofBuf x = x := rfl
theorem to_v9 (x : Arr F S512x128x1 .f32) : (TRef.of main_v9 : TRef sig ⟨S512x128x1, .f32⟩).toBuf x = x := rfl
theorem of_v9 (x : Arr F S512x128x1 .f32) : (TRef.of main_v9 : TRef sig ⟨S512x128x1, .f32⟩).ofBuf x = x := rfl
theorem to_v18 (x : Arr F S16x8x512 .i1) : (TRef.of main_v18 : TRef sig ⟨S16x8x512, .i1⟩).toBuf x = x := rfl
theorem of_v18 (x : Arr F S16x8x512 .i1) : (TRef.of main_v18 : TRef sig ⟨S16x8x512, .i1⟩).ofBuf x = x := rfl
theorem to_v19 (x : Arr F S16x8x512 .i32) : (TRef.of main_v19 : TRef sig ⟨S16x8x512, .i32⟩).toBuf x = x := rfl
theorem of_v19 (x : Arr F S16x8x512 .i32) : (TRef.of main_v19 : TRef sig ⟨S16x8x512, .i32⟩).ofBuf x = x := rfl
theorem to_v31 (x : Arr F S16x8 .i32) : (TRef.of main_v31 : TRef sig ⟨S16x8, .i32⟩).toBuf x = x := rfl
theorem of_v31 (x : Arr F S16x8 .i32) : (TRef.of main_v31 : TRef sig ⟨S16x8, .i32⟩).ofBuf x = x := rfl
theorem to_v32 (x : Arr F S16x8 .i32) : (TRef.of main_v32 : TRef sig ⟨S16x8, .i32⟩).toBuf x = x := rfl
theorem of_v32 (x : Arr F S16x8 .i32) : (TRef.of main_v32 : TRef sig ⟨S16x8, .i32⟩).ofBuf x = x := rfl
theorem to_v36 (x : Arr F S16x8 .i32) : (TRef.of main_v36 : TRef sig ⟨S16x8, .i32⟩).toBuf x = x := rfl
theorem of_v36 (x : Arr F S16x8 .i32) : (TRef.of main_v36 : TRef sig ⟨S16x8, .i32⟩).ofBuf x = x := rfl
theorem to_v37 (x : Arr F S16x8 .i32) : (TRef.of main_v37 : TRef sig ⟨S16x8, .i32⟩).toBuf x = x := rfl
theorem of_v37 (x : Arr F S16x8 .i32) : (TRef.of main_v37 : TRef sig ⟨S16x8, .i32⟩).ofBuf x = x := rfl
theorem to_v44 (x : Arr F S16x8x512 .i1) : (TRef.of main_v44 : TRef sig ⟨S16x8x512, .i1⟩).toBuf x = x := rfl
theorem of_v44 (x : Arr F S16x8x512 .i1) : (TRef.of main_v44 : TRef sig ⟨S16x8x512, .i1⟩).ofBuf x = x := rfl
theorem to_v48 (x : Arr F S16x8x512 .i32) : (TRef.of main_v48 : TRef sig ⟨S16x8x512, .i32⟩).toBuf x = x := rfl
theorem of_v48 (x : Arr F S16x8x512 .i32) : (TRef.of main_v48 : TRef sig ⟨S16x8x512, .i32⟩).ofBuf x = x := rfl
theorem to_v58 (x : Arr F S16x8x512 .i32) : (TRef.of main_v58 : TRef sig ⟨S16x8x512, .i32⟩).toBuf x = x := rfl
theorem of_v58 (x : Arr F S16x8x512 .i32) : (TRef.of main_v58 : TRef sig ⟨S16x8x512, .i32⟩).ofBuf x = x := rfl
theorem to_v59 (x : Arr F S16x8x512 .i32) : (TRef.of main_v59 : TRef sig ⟨S16x8x512, .i32⟩).toBuf x = x := rfl
theorem of_v59 (x : Arr F S16x8x512 .i32) : (TRef.of main_v59 : TRef sig ⟨S16x8x512, .i32⟩).ofBuf x = x := rfl
theorem to_while0b_v63 (x : Arr F S128x512 .f32) : (TRef.of main_while0b_v63 : TRef sig ⟨S128x512, .f32⟩).toBuf x = x := rfl
theorem of_while0b_v63 (x : Arr F S128x512 .f32) : (TRef.of main_while0b_v63 : TRef sig ⟨S128x512, .f32⟩).ofBuf x = x := rfl
theorem to_while0b_v64 (x : Arr F S512x128x512 .f32) : (TRef.of main_while0b_v64 : TRef sig ⟨S512x128x512, .f32⟩).toBuf x = x := rfl
theorem of_while0b_v64 (x : Arr F S512x128x512 .f32) : (TRef.of main_while0b_v64 : TRef sig ⟨S512x128x512, .f32⟩).ofBuf x = x := rfl
theorem to_v4_3 (x : Arr F S512x128x512 .f32) : (TRef.of main_v4_3 : TRef sig ⟨S512x128x512, .f32⟩).toBuf x = x := rfl
theorem of_v4_3 (x : Arr F S512x128x512 .f32) : (TRef.of main_v4_3 : TRef sig ⟨S512x128x512, .f32⟩).ofBuf x = x := rfl
theorem to_v4_1 (x : Arr F S_ .i32) : (TRef.of main_v4_1 : TRef sig ⟨S_, .i32⟩).toBuf x = x := rfl
theorem of_v4_1 (x : Arr F S_ .i32) : (TRef.of main_v4_1 : TRef sig ⟨S_, .i32⟩).ofBuf x = x := rfl
theorem of_c3v5 (x : Arr F S512x128x1x1 .i32) : (TRef.of main_call3_v5 : TRef sig ⟨S512x128x1x1, .i32⟩).ofBuf x = x := rfl
theorem to_c3v4 (x : Arr F S512x128x1 .i32) : (TRef.of main_call3_v4 : TRef sig ⟨S512x128x1, .i32⟩).toBuf x = x := rfl

/-- The state written, from the index words one by one. -/
theorem put_of (h : FVec F S512x128x512 .f32) (k : IVec S_ 32) (w : FVec F S512x512 .f32) (x : FVec F S128x512 .f32) (f : Fin 3 → ℤ)
    (h0 : f 0 = (k (Shape.Idx.first h_S_)).toInt) (h1 : f 1 = 0) (h2 : f 2 = 0) :
    id (Host.dynamicUpdateSlice h (broadcastInDim S1x128x512 ![1, 2] bcast_S128x512_S1x128x512_1_2
      (Host.tanh (Host.dotGeneral dot_S128x512_S512x512_S128x512_1_0_0_1_n_n none x w))) f updateFits_S512x128x512_S1x128x512) = put h k (next w x) := by
  have e : f = fun a => ((![k, constantI S_ 32 0#32, constantI S_ 32 0#32] : Fin 3 → IVec S_ 32) a (Shape.Idx.first h_S_)).toInt := by
    funext a
    match a with
    | 0 => exact h0
    | 1 => exact h1
    | 2 => exact h2
  rw [e]; rfl

/-- What `preOps` leaves as it was. -/
theorem preOps_keep (V : Valuation τ sig (Elt F)) : after preOps V (Proc.devRef .tc main_arg0) = V (Proc.devRef .tc main_arg0)
    ∧ after preOps V (Proc.devRef .tc main_arg1) = V (Proc.devRef .tc main_arg1)
    ∧ after preOps V (Proc.devRef .tc main_arg2) = V (Proc.devRef .tc main_arg2)
    ∧ after preOps V (Proc.devRef .tc main_arg3) = V (Proc.devRef .tc main_arg3) := by
  refine ⟨?_, ?_, ?_, ?_⟩ <;> after_reads_simp

theorem pre_w (V : Valuation τ sig (Elt F)) : after preOps V (Proc.devRef .tc main_v4_0)
    = V (Proc.devRef .tc main_arg2) := by
  after_reads_simp
  try rfl

theorem pre_state (V : Valuation τ sig (Elt F)) : after preOps V (Proc.devRef .tc main_v4_2)
    = state0 (V (Proc.devRef .tc main_arg0)) (V (Proc.devRef .tc main_arg1)) := by
  after_reads_simp
  try rfl

/-- What `condOps` leaves as it was. -/
theorem condOps_keep (V : Valuation τ sig (Elt F)) : after condOps V (Proc.devRef .tc main_arg0) = V (Proc.devRef .tc main_arg0)
    ∧ after condOps V (Proc.devRef .tc main_arg1) = V (Proc.devRef .tc main_arg1)
    ∧ after condOps V (Proc.devRef .tc main_arg2) = V (Proc.devRef .tc main_arg2)
    ∧ after condOps V (Proc.devRef .tc main_arg3) = V (Proc.devRef .tc main_arg3)
    ∧ after condOps V (Proc.devRef .tc main_v4_0) = V (Proc.devRef .tc main_v4_0)
    ∧ after condOps V (Proc.devRef .tc main_v4_1) = V (Proc.devRef .tc main_v4_1)
    ∧ after condOps V (Proc.devRef .tc main_v4_2) = V (Proc.devRef .tc main_v4_2)
    ∧ after condOps V (Proc.devRef .tc main_v4_3) = V (Proc.devRef .tc main_v4_3) := by
  refine ⟨?_, ?_, ?_, ?_, ?_, ?_, ?_, ?_⟩ <;> after_reads_simp

/-- What `bodyOps` leaves as it was. -/
theorem bodyOps_keep (V : Valuation τ sig (Elt F)) : after bodyOps V (Proc.devRef .tc main_arg0) = V (Proc.devRef .tc main_arg0)
    ∧ after bodyOps V (Proc.devRef .tc main_arg1) = V (Proc.devRef .tc main_arg1)
    ∧ after bodyOps V (Proc.devRef .tc main_arg2) = V (Proc.devRef .tc main_arg2)
    ∧ after bodyOps V (Proc.devRef .tc main_arg3) = V (Proc.devRef .tc main_arg3)
    ∧ after bodyOps V (Proc.devRef .tc main_v4_0) = V (Proc.devRef .tc main_v4_0) := by
  refine ⟨?_, ?_, ?_, ?_, ?_⟩ <;> after_reads_simp

theorem body_state (V : Valuation τ sig (Elt F)) : after bodyOps V (Proc.devRef .tc main_v4_2)
    = next (V (Proc.devRef .tc main_v4_0)) (V (Proc.devRef .tc main_v4_2)) := by
  after_reads_simp
  try rfl

set_option maxHeartbeats 1000000 in
theorem body_put (V : Valuation τ sig (Elt F)) : after bodyOps V (Proc.devRef .tc main_v4_3)
    = put (V (Proc.devRef .tc main_v4_3)) (V (Proc.devRef .tc main_v4_1)) (next (V (Proc.devRef .tc main_v4_0)) (V (Proc.devRef .tc main_v4_2))) := by
  after_reads_simp
  apply put_of
  · dsimp only [Matrix.cons_val]
    after_reads_simp
    rfl
  · dsimp only [Matrix.cons_val]
    after_reads_simp
    rfl
  · dsimp only [Matrix.cons_val]
    after_reads_simp
    rfl

/-- What `postA0Ops` leaves as it was. -/
theorem postA0Ops_keep (V : Valuation τ sig (Elt F)) : after postA0Ops V (Proc.devRef .tc main_arg0) = V (Proc.devRef .tc main_arg0)
    ∧ after postA0Ops V (Proc.devRef .tc main_arg1) = V (Proc.devRef .tc main_arg1)
    ∧ after postA0Ops V (Proc.devRef .tc main_arg2) = V (Proc.devRef .tc main_arg2)
    ∧ after postA0Ops V (Proc.devRef .tc main_arg3) = V (Proc.devRef .tc main_arg3) := by
  refine ⟨?_, ?_, ?_, ?_⟩ <;> after_reads_simp

theorem A0_v5 (V : Valuation τ sig (Elt F)) : after postA0Ops V (Proc.devRef .tc main_v5)
    = logits (V (Proc.devRef .tc main_v4_3)) (V (Proc.devRef .tc main_arg3)) := by
  after_reads_simp
  try rfl

/-- What `postA1Ops` leaves as it was. -/
theorem postA1Ops_keep (V : Valuation τ sig (Elt F)) : after postA1Ops V (Proc.devRef .tc main_arg0) = V (Proc.devRef .tc main_arg0)
    ∧ after postA1Ops V (Proc.devRef .tc main_arg1) = V (Proc.devRef .tc main_arg1)
    ∧ after postA1Ops V (Proc.devRef .tc main_arg2) = V (Proc.devRef .tc main_arg2)
    ∧ after postA1Ops V (Proc.devRef .tc main_arg3) = V (Proc.devRef .tc main_arg3)
    ∧ after postA1Ops V (Proc.devRef .tc main_v5) = V (Proc.devRef .tc main_v5) := by
  refine ⟨?_, ?_, ?_, ?_, ?_⟩ <;> after_reads_simp

theorem A1_v6 (V : Valuation τ sig (Elt F)) : after postA1Ops V (Proc.devRef .tc main_v6)
    = lsm (V (Proc.devRef .tc main_v5)) := by
  after_reads_simp
  try simp only [TRef.ofBuf_toBuf, to_v5, of_v5, to_v6, of_v6, to_v7, of_v7, to_v8, of_v8, to_v9, of_v9, to_v18, of_v18, to_v19, of_v19, to_v31, of_v31, to_v32, of_v32, to_v36, of_v36, to_v37, of_v37, to_v44, of_v44, to_v48, of_v48, to_v58, of_v58, to_v59, of_v59, to_while0b_v63, of_while0b_v63, to_while0b_v64, of_while0b_v64, to_v4_3, of_v4_3, to_v4_1, of_v4_1]
  try rfl

/-- What `postA2Ops` leaves as it was. -/
theorem postA2Ops_keep (V : Valuation τ sig (Elt F)) : after postA2Ops V (Proc.devRef .tc main_arg0) = V (Proc.devRef .tc main_arg0)
    ∧ after postA2Ops V (Proc.devRef .tc main_arg1) = V (Proc.devRef .tc main_arg1)
    ∧ after postA2Ops V (Proc.devRef .tc main_arg2) = V (Proc.devRef .tc main_arg2)
    ∧ after postA2Ops V (Proc.devRef .tc main_arg3) = V (Proc.devRef .tc main_arg3) := by
  refine ⟨?_, ?_, ?_, ?_⟩ <;> after_reads_simp

theorem A2_v7 (V : Valuation τ sig (Elt F)) : after postA2Ops V (Proc.devRef .tc main_v7)
    = toks (V (Proc.devRef .tc main_v5)) := by
  after_reads_simp
  try rfl

theorem A2_v10 (V : Valuation τ sig (Elt F)) : after postA2Ops V (Proc.devRef .tc main_v10)
    = lps (V (Proc.devRef .tc main_v6)) (toks (V (Proc.devRef .tc main_v5))) := by
  after_reads_simp
  try simp only [TRef.ofBuf_toBuf, to_v5, of_v5, to_v6, of_v6, to_v7, of_v7, to_v8, of_v8, to_v9, of_v9, to_v18, of_v18, to_v19, of_v19, to_v31, of_v31, to_v32, of_v32, to_v36, of_v36, to_v37, of_v37, to_v44, of_v44, to_v48, of_v48, to_v58, of_v58, to_v59, of_v59, to_while0b_v63, of_while0b_v63, to_while0b_v64, of_while0b_v64, to_v4_3, of_v4_3, to_v4_1, of_v4_1]
  simp only [of_c3v5, to_c3v4]
  unfold lps words toks
  rfl

theorem A2_v14 (V : Valuation τ sig (Elt F)) : after postA2Ops V (Proc.devRef .tc main_v14)
    = ents (V (Proc.devRef .tc main_v6)) := by
  after_reads_simp
  try rfl

/-- What `postB1Ops` leaves as it was. -/
theorem postB1Ops_keep (V : Valuation τ sig (Elt F)) : after postB1Ops V (Proc.devRef .tc main_arg0) = V (Proc.devRef .tc main_arg0)
    ∧ after postB1Ops V (Proc.devRef .tc main_arg1) = V (Proc.devRef .tc main_arg1)
    ∧ after postB1Ops V (Proc.devRef .tc main_arg2) = V (Proc.devRef .tc main_arg2)
    ∧ after postB1Ops V (Proc.devRef .tc main_arg3) = V (Proc.devRef .tc main_arg3)
    ∧ after postB1Ops V (Proc.devRef .tc main_v7) = V (Proc.devRef .tc main_v7)
    ∧ after postB1Ops V (Proc.devRef .tc main_v10) = V (Proc.devRef .tc main_v10)
    ∧ after postB1Ops V (Proc.devRef .tc main_v14) = V (Proc.devRef .tc main_v14) := by
  refine ⟨?_, ?_, ?_, ?_, ?_, ?_, ?_⟩ <;> after_reads_simp

theorem B1_v31 (V : Valuation τ sig (Elt F)) : after postB1Ops V (Proc.devRef .tc main_v31)
    = Dest.lens (Dest.ended (msgs (V (Proc.devRef .tc main_v7)))) := by
  after_reads_simp
  try simp only [TRef.ofBuf_toBuf, to_v5, of_v5, to_v6, of_v6, to_v7, of_v7, to_v8, of_v8, to_v9, of_v9, to_v18, of_v18, to_v19, of_v19, to_v31, of_v31, to_v32, of_v32, to_v36, of_v36, to_v37, of_v37, to_v44, of_v44, to_v48, of_v48, to_v58, of_v58, to_v59, of_v59, to_while0b_v63, of_while0b_v63, to_while0b_v64, of_while0b_v64, to_v4_3, of_v4_3, to_v4_1, of_v4_1]
  try rfl

/-- What `postB2Ops` leaves as it was. -/
theorem postB2Ops_keep (V : Valuation τ sig (Elt F)) : after postB2Ops V (Proc.devRef .tc main_arg0) = V (Proc.devRef .tc main_arg0)
    ∧ after postB2Ops V (Proc.devRef .tc main_arg1) = V (Proc.devRef .tc main_arg1)
    ∧ after postB2Ops V (Proc.devRef .tc main_arg2) = V (Proc.devRef .tc main_arg2)
    ∧ after postB2Ops V (Proc.devRef .tc main_arg3) = V (Proc.devRef .tc main_arg3)
    ∧ after postB2Ops V (Proc.devRef .tc main_v7) = V (Proc.devRef .tc main_v7)
    ∧ after postB2Ops V (Proc.devRef .tc main_v10) = V (Proc.devRef .tc main_v10)
    ∧ after postB2Ops V (Proc.devRef .tc main_v14) = V (Proc.devRef .tc main_v14)
    ∧ after postB2Ops V (Proc.devRef .tc main_v31) = V (Proc.devRef .tc main_v31) := by
  refine ⟨?_, ?_, ?_, ?_, ?_, ?_, ?_, ?_⟩ <;> after_reads_simp

theorem B2_v33 (V : Valuation τ sig (Elt F)) : after postB2Ops V (Proc.devRef .tc main_v33)
    = subi (Dest.csum (V (Proc.devRef .tc main_v31))) (V (Proc.devRef .tc main_v31)) := by
  after_reads_simp
  try simp only [TRef.ofBuf_toBuf, to_v5, of_v5, to_v6, of_v6, to_v7, of_v7, to_v8, of_v8, to_v9, of_v9, to_v18, of_v18, to_v19, of_v19, to_v31, of_v31, to_v32, of_v32, to_v36, of_v36, to_v37, of_v37, to_v44, of_v44, to_v48, of_v48, to_v58, of_v58, to_v59, of_v59, to_while0b_v63, of_while0b_v63, to_while0b_v64, of_while0b_v64, to_v4_3, of_v4_3, to_v4_1, of_v4_1]
  try rfl

theorem B2_v34 (V : Valuation τ sig (Elt F)) : after postB2Ops V (Proc.devRef .tc main_v34)
    = Host.reduce IntOp.addi (V (Proc.devRef .tc main_v31)) (constantI S_ 32 0#32) reducesTo_S16x8_S16_d1 h_S_ := by
  after_reads_simp
  try rfl

theorem B2_v38 (V : Valuation τ sig (Elt F)) : after postB2Ops V (Proc.devRef .tc main_v38)
    = subi (Dest.csum (subi (broadcastInDim S16x8 ![] bcast_S_S16x8 (constantI S_ 32 512#32)) (V (Proc.devRef .tc main_v31)))) (subi (broadcastInDim S16x8 ![] bcast_S_S16x8 (constantI S_ 32 512#32)) (V (Proc.devRef .tc main_v31))) := by
  after_reads_simp
  try simp only [TRef.ofBuf_toBuf, to_v5, of_v5, to_v6, of_v6, to_v7, of_v7, to_v8, of_v8, to_v9, of_v9, to_v18, of_v18, to_v19, of_v19, to_v31, of_v31, to_v32, of_v32, to_v36, of_v36, to_v37, of_v37, to_v44, of_v44, to_v48, of_v48, to_v58, of_v58, to_v59, of_v59, to_while0b_v63, of_while0b_v63, to_while0b_v64, of_while0b_v64, to_v4_3, of_v4_3, to_v4_1, of_v4_1]
  try rfl

/-- What `postB3Ops` leaves as it was. -/
theorem postB3Ops_keep (V : Valuation τ sig (Elt F)) : after postB3Ops V (Proc.devRef .tc main_arg0) = V (Proc.devRef .tc main_arg0)
    ∧ after postB3Ops V (Proc.devRef .tc main_arg1) = V (Proc.devRef .tc main_arg1)
    ∧ after postB3Ops V (Proc.devRef .tc main_arg2) = V (Proc.devRef .tc main_arg2)
    ∧ after postB3Ops V (Proc.devRef .tc main_arg3) = V (Proc.devRef .tc main_arg3)
    ∧ after postB3Ops V (Proc.devRef .tc main_v7) = V (Proc.devRef .tc main_v7)
    ∧ after postB3Ops V (Proc.devRef .tc main_v10) = V (Proc.devRef .tc main_v10)
    ∧ after postB3Ops V (Proc.devRef .tc main_v14) = V (Proc.devRef .tc main_v14) := by
  refine ⟨?_, ?_, ?_, ?_, ?_, ?_, ?_⟩ <;> after_reads_simp

theorem B3_v59 (V : Valuation τ sig (Elt F)) : after postB3Ops V (Proc.devRef .tc main_v59)
    = select (cmpi .slt Dest.pos3 (Dest.wide (V (Proc.devRef .tc main_v31)))) (addi (Dest.wide (V (Proc.devRef .tc main_v33))) Dest.pos3)
      (addi (broadcastInDim S16x8x512 ![0, 1, 2] bcast_S16x8x1_S16x8x512_0_1_2
          (addi (broadcastInDim S16x8x1 ![0, 1, 2] bcast_S16x1x1_S16x8x1_0_1_2 (broadcastInDim S16x1x1 ![0] bcast_S16_S16x1x1_0 (V (Proc.devRef .tc main_v34))))
            (broadcastInDim S16x8x1 ![0, 1] bcast_S16x8_S16x8x1_0_1 (V (Proc.devRef .tc main_v38)))))
        (subi Dest.pos3 (Dest.wide (V (Proc.devRef .tc main_v31))))) := by
  after_reads_simp
  try rfl

/-- What `postCOps` leaves as it was. -/
theorem postCOps_keep (V : Valuation τ sig (Elt F)) : after postCOps V (Proc.devRef .tc main_arg0) = V (Proc.devRef .tc main_arg0)
    ∧ after postCOps V (Proc.devRef .tc main_arg1) = V (Proc.devRef .tc main_arg1)
    ∧ after postCOps V (Proc.devRef .tc main_arg2) = V (Proc.devRef .tc main_arg2)
    ∧ after postCOps V (Proc.devRef .tc main_arg3) = V (Proc.devRef .tc main_arg3)
    ∧ after postCOps V (Proc.devRef .tc main_v7) = V (Proc.devRef .tc main_v7)
    ∧ after postCOps V (Proc.devRef .tc main_v10) = V (Proc.devRef .tc main_v10)
    ∧ after postCOps V (Proc.devRef .tc main_v14) = V (Proc.devRef .tc main_v14) := by
  refine ⟨?_, ?_, ?_, ?_, ?_, ?_, ?_⟩ <;> after_reads_simp

theorem C_v61 (V : Valuation τ sig (Elt F)) : after postCOps V (Proc.devRef .tc main_v61)
    = transpose S512x128 [1, 0] (shapeCast S128x512 (V (Proc.devRef .tc main_v59)) shapeCasts_S16x8x512_S128x512) transposes_S128x512_S512x128_1_0 := by
  after_reads_simp
  try rfl

end Cert.Proof.SRef

end
-- ==== Proof.SRun.lean ====
/-
  The sender's reference, run: its results and its arguments at the end.
-/
module

public import proofs.«01_k».proof.Proof.SRefVal
public import Idealize.ShloMosaic.Lib.ValueIdx

@[expose] public section

set_option maxRecDepth 100000

noncomputable section

namespace Cert.Proof.SRef

open Idealize.ShloMosaic Idealize.ShloMosaic.TcCoe Idealize.ShloMosaic.StableHlo Idealize.SL.Sem Idealize.ShloMosaic.ValueIdx
open Cert.SenderReferenceIdeal Cert.SenderReferenceIdeal.Gen

variable {F : FTy → Type} [FloatOps F]

/-- The `k`-th state written, read at an index. -/
theorem put_apply (h : FVec F S512x128x512 .f32) (x : FVec F S128x512 .f32) (k : ℕ) (hk : k < 512) (i : Fin 512) (n : Fin 128) (j : Fin 512) :
    put h (fun _ => Scf.iv 0#32 1#32 k) x (ix3 i n j) = if i.val = k then x (ix2 n j) else h (ix3 i n j) := by
  have hiv : Scf.iv 0#32 1#32 k = BitVec.ofNat 32 k := by simp [Scf.iv]
  have hs : S512x128x512.Slices ![k, 0, 0] S1x128x512 := ⟨rfl, fun a => by
    match a with
    | ⟨0, _⟩ => show k + 1 ≤ 512; omega
    | ⟨1, _⟩ => show 0 + 128 ≤ 128; omega
    | ⟨2, _⟩ => show 0 + 512 ≤ 512; omega⟩
  unfold put
  rw [WordCmp.dynamicUpdateSlice_eq_update _ _ _ _ ![k, 0, 0] hs (fun a => by
    match a with
    | ⟨0, _⟩ =>
      show (Scf.iv 0#32 1#32 k).toInt = (k : ℤ)
      rw [hiv]; exact WordCmp.toInt_ofNat_of_lt (w := 32) (by omega)
    | ⟨1, _⟩ => rfl
    | ⟨2, _⟩ => rfl)]
  have hi := i.isLt
  have hn := n.isLt
  have hj := j.isLt
  unfold updateSlice
  by_cases e : i.val = k
  · rw [if_pos e, dif_pos (fun a => by
      match a with
      | ⟨0, _⟩ => show k ≤ i.val ∧ i.val < k + 1; omega
      | ⟨1, _⟩ => show 0 ≤ n.val ∧ n.val < 0 + 128; omega
      | ⟨2, _⟩ => show 0 ≤ j.val ∧ j.val < 0 + 512; omega)]
    refine congrArg x (funext fun a => Fin.ext ?_)
    match a with
    | ⟨0, _⟩ => rfl
    | ⟨1, _⟩ => rfl
  · rw [if_neg e, dif_neg]
    intro hin
    have h0 : k ≤ i.val ∧ i.val < k + 1 := hin 0
    omega

variable (m : (ℓ : Loc nD τ sig) → Buf (Elt F) ℓ) (ρ : Dev nD → PrngReg) (c : Dev nD)

/-- The state after `k` steps, of the arguments as they are at the start. -/
def stateAt (k : ℕ) : FVec F S128x512 .f32 :=
  state (m (c, Proc.devRef .tc main_arg0)) (m (c, Proc.devRef .tc main_arg1)) (m (c, Proc.devRef .tc main_arg2)) k

/-- All the states after a step. -/
def hist : FVec F S512x128x512 .f32 := fun i => stateAt m c ((i 0).val + 1) (ix2 (i 1) (i 2))

theorem atK_keep : ∀ k, atK m k c (Proc.devRef .tc main_arg0) = m (c, (Proc.devRef .tc main_arg0))
    ∧ atK m k c (Proc.devRef .tc main_arg1) = m (c, (Proc.devRef .tc main_arg1))
    ∧ atK m k c (Proc.devRef .tc main_arg2) = m (c, (Proc.devRef .tc main_arg2))
    ∧ atK m k c (Proc.devRef .tc main_arg3) = m (c, (Proc.devRef .tc main_arg3))
    ∧ atK m k c (Proc.devRef .tc main_v4_0) = m (c, (Proc.devRef .tc main_arg2))
    ∧ atK m k c (Proc.devRef .tc main_v4_2) = stateAt m c k
  | 0 => by
    rw [show atK m 0 c = after preOps (fun b => m (c, b)) from rfl]
    obtain ⟨h0, h1, h2, h3⟩ := preOps_keep (fun b => m (c, b))
    exact ⟨h0, h1, h2, h3, pre_w _, pre_state _⟩
  | k + 1 => by
    rw [show atK m (k + 1) c = after bodyOps (after condOps (atK m k c)) from rfl]
    obtain ⟨i0, i1, i2, i3, iw, is⟩ := atK_keep k
    obtain ⟨c0, c1, c2, c3, cw, -, cs, -⟩ := condOps_keep (atK m k c)
    obtain ⟨b0, b1, b2, b3, bw⟩ := bodyOps_keep (after condOps (atK m k c))
    refine ⟨b0.trans (c0.trans i0), b1.trans (c1.trans i1), b2.trans (c2.trans i2), b3.trans (c3.trans i3), bw.trans (cw.trans iw), ?_⟩
    rw [body_state, cw, cs, iw, is]
    rfl

theorem atK_hist : ∀ k, k ≤ 512 → ∀ (i : Fin 512) (n : Fin 128) (j : Fin 512), i.val < k →
    (atK m k c (Proc.devRef .tc main_v4_3) : FVec F S512x128x512 .f32) (ix3 i n j) = stateAt m c (i.val + 1) (ix2 n j)
  | 0, _, i, _, _, h => absurd h (Nat.not_lt_zero _)
  | k + 1, hk, i, n, j, h => by
    obtain ⟨-, -, -, -, iw, is⟩ := atK_keep m c k
    obtain ⟨-, -, -, -, cw, cc, cs, ch⟩ := condOps_keep (atK m k c)
    have e : (atK m (k + 1) c (Proc.devRef .tc main_v4_3) : FVec F S512x128x512 .f32)
        = put (atK m k c (Proc.devRef .tc main_v4_3)) (fun _ => Scf.iv 0#32 1#32 k) (stateAt m c (k + 1)) := by
      rw [show atK m (k + 1) c = after bodyOps (after condOps (atK m k c)) from rfl, body_put, cw, cc, cs, ch, iw, is, atK_ctr]
      rfl
    rw [e, put_apply _ _ _ (by omega)]
    split
    · next hi => rw [hi]
    · next hi => exact atK_hist k (by omega) i n j (by omega)

/-- The buffers after the loop. -/
abbrev V5 : Valuation τ sig (Elt F) := after condOps (atK m 512 c)

theorem V5_hist : (V5 m c (Proc.devRef .tc main_v4_3) : FVec F S512x128x512 .f32) = hist m c := by
  rw [show V5 m c = after condOps (atK m 512 c) from rfl, (condOps_keep _).2.2.2.2.2.2.2]
  funext i
  have e : i = ix3 (i 0) (i 1) (i 2) := by
    funext a
    match a with
    | 0 => rfl
    | 1 => rfl
    | 2 => rfl
  rw [e]
  exact atK_hist m c 512 (Nat.le_refl _) (i 0) (i 1) (i 2) (i 0).isLt

theorem V5_args : V5 m c (Proc.devRef .tc main_arg0) = m (c, (Proc.devRef .tc main_arg0))
    ∧ V5 m c (Proc.devRef .tc main_arg1) = m (c, (Proc.devRef .tc main_arg1))
    ∧ V5 m c (Proc.devRef .tc main_arg2) = m (c, (Proc.devRef .tc main_arg2))
    ∧ V5 m c (Proc.devRef .tc main_arg3) = m (c, (Proc.devRef .tc main_arg3)) := by
  obtain ⟨i0, i1, i2, i3, -, -⟩ := atK_keep m c 512
  obtain ⟨k0, k1, k2, k3, -⟩ := condOps_keep (atK m 512 c)
  exact ⟨k0.trans i0, k1.trans i1, k2.trans i2, k3.trans i3⟩

/-- The logits of all steps. -/
def zs : FVec F S512x128x128 .f32 := logits (hist m c) (m (c, (Proc.devRef .tc main_arg3)))

/-- The buffers at the end. -/
abbrev VE : Valuation τ sig (Elt F) := finalContents condOps preI bodyI postI 512 m c

theorem VE_eq : VE m c = after postCOps (after postB3Ops (after postB2Ops (after postB1Ops (after postA2Ops (after postA1Ops (after postA0Ops (V5 m c))))))) := rfl

theorem VE_args : VE m c (Proc.devRef .tc main_arg0) = m (c, (Proc.devRef .tc main_arg0))
    ∧ VE m c (Proc.devRef .tc main_arg1) = m (c, (Proc.devRef .tc main_arg1))
    ∧ VE m c (Proc.devRef .tc main_arg2) = m (c, (Proc.devRef .tc main_arg2))
    ∧ VE m c (Proc.devRef .tc main_arg3) = m (c, (Proc.devRef .tc main_arg3)) := by
  rw [VE_eq]
  refine ⟨?_, ?_, ?_, ?_⟩
  · rw [(postCOps_keep _).1, (postB3Ops_keep _).1, (postB2Ops_keep _).1, (postB1Ops_keep _).1, (postA2Ops_keep _).1, (postA1Ops_keep _).1, (postA0Ops_keep _).1, (V5_args m c).1]
  · rw [(postCOps_keep _).2.1, (postB3Ops_keep _).2.1, (postB2Ops_keep _).2.1, (postB1Ops_keep _).2.1, (postA2Ops_keep _).2.1, (postA1Ops_keep _).2.1, (postA0Ops_keep _).2.1, (V5_args m c).2.1]
  · rw [(postCOps_keep _).2.2.1, (postB3Ops_keep _).2.2.1, (postB2Ops_keep _).2.2.1, (postB1Ops_keep _).2.2.1, (postA2Ops_keep _).2.2.1, (postA1Ops_keep _).2.2.1, (postA0Ops_keep _).2.2.1, (V5_args m c).2.2.1]
  · rw [(postCOps_keep _).2.2.2.1, (postB3Ops_keep _).2.2.2.1, (postB2Ops_keep _).2.2.2.1, (postB1Ops_keep _).2.2.2.1, (postA2Ops_keep _).2.2.2, (postA1Ops_keep _).2.2.2.1, (postA0Ops_keep _).2.2.2, (V5_args m c).2.2.2]

theorem v5_eq : (after postA0Ops (V5 m c) (Proc.devRef .tc main_v5) : FVec F S512x128x128 .f32) = zs m c := by
  rw [A0_v5, V5_hist, (V5_args m c).2.2.2]
  rfl

theorem VE_v7 : VE m c (Proc.devRef .tc main_v7) = toks (zs m c) := by
  rw [VE_eq, (postCOps_keep _).2.2.2.2.1, (postB3Ops_keep _).2.2.2.2.1, (postB2Ops_keep _).2.2.2.2.1, (postB1Ops_keep _).2.2.2.2.1, A2_v7, (postA1Ops_keep _).2.2.2.2, v5_eq]

theorem VE_v10 : VE m c (Proc.devRef .tc main_v10) = lps (lsm (zs m c)) (toks (zs m c)) := by
  rw [VE_eq, (postCOps_keep _).2.2.2.2.2.1, (postB3Ops_keep _).2.2.2.2.2.1, (postB2Ops_keep _).2.2.2.2.2.1, (postB1Ops_keep _).2.2.2.2.2.1, A2_v10, (postA1Ops_keep _).2.2.2.2, A1_v6, v5_eq]

theorem VE_v14 : VE m c (Proc.devRef .tc main_v14) = ents (lsm (zs m c)) := by
  rw [VE_eq, (postCOps_keep _).2.2.2.2.2.2, (postB3Ops_keep _).2.2.2.2.2.2, (postB2Ops_keep _).2.2.2.2.2.2.1, (postB1Ops_keep _).2.2.2.2.2.2, A2_v14, A1_v6, v5_eq]

theorem VE_v61 : VE m c (Proc.devRef .tc main_v61) = places (toks (zs m c)) := by
  rw [VE_eq, C_v61, B3_v59, B2_v33, B2_v34, B2_v38, (postB2Ops_keep _).2.2.2.2.2.2.2, B1_v31, A2_v7, (postA1Ops_keep _).2.2.2.2, v5_eq]
  rfl

/-- From any memory with zero counters, every execution ends with the results at their terms, the arguments as they were and
    the counters at zero. -/
theorem run_vals : θ_run (defs (F := F)) (onTc (τ := τ) (main (F := F))) ⟨m, fun _ => 0, ρ⟩ (fun r => (∀ c : Dev nD,
      r.2.mem ((c.tc : Thread nD τ).loc main_v7) = toks (zs m c)
      ∧ r.2.mem ((c.tc : Thread nD τ).loc main_v10) = lps (lsm (zs m c)) (toks (zs m c))
      ∧ r.2.mem ((c.tc : Thread nD τ).loc main_v14) = ents (lsm (zs m c))
      ∧ r.2.mem ((c.tc : Thread nD τ).loc main_v61) = places (toks (zs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun r h => ⟨fun c =>
      ⟨(h c main_v7 (by decide)).trans (VE_v7 m c), (h c main_v10 (by decide)).trans (VE_v10 m c), (h c main_v14 (by decide)).trans (VE_v14 m c),
        (h c main_v61 (by decide)).trans (VE_v61 m c), (h c main_arg0 (by decide)).trans (VE_args m c).1, (h c main_arg1 (by decide)).trans (VE_args m c).2.1,
        (h c main_arg2 (by decide)).trans (VE_args m c).2.2.1, (h c main_arg3 (by decide)).trans (VE_args m c).2.2.2⟩,
      Idealize.ShloMosaic.sem_eq_zero_of_no_sems (by decide) r.2⟩)
    (run_fold m ρ)

end Cert.Proof.SRef

end
-- ==== Proof.TcRun.lean ====
/-
  The sender call's run: what its body leaves in the four result buffers, by the loop's invariant, and the launch.
-/
module

public import proofs.«01_k».proof.Proof.Gen.SenderIdeal.Frame
public import proofs.«01_k».proof.Proof.Gen.SenderIdeal.Skeleton
public import Idealize.ShloMosaic.Lib.Claim
public import Idealize.ShloMosaic.Lib.Pipeline.Value
public import Idealize.ShloMosaic.Lib.ValueIdxCore
public import Idealize.ShloMosaic.Lib.VecWindow

@[expose] public section

set_option maxRecDepth 16384

noncomputable section

namespace Cert.Proof.Tc

open Cert.SenderIdeal Cert.SenderIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The hidden state (transposed) before trip `k`. -/
def hid (x0 : Vec F S256x128 .f32) (x1 : Vec F S512x256 .f32) (x2 : Vec F S512x512 .f32) : Nat → FVec F S512x128 .f32
  | 0 => k0_pay2 x1 x0
  | k + 1 => k0_pay3 x2 (hid x0 x1 x2 k)

/-- Column `i 1` of a row block, for the row that trip `i 0` stores. -/
abbrev col (i : S512x128.Idx) : S1x128.Idx := ValueIdx.ix2 (0 : Fin 1) (i 1)

/-- The tokens: row `k` is what trip `k` stores. -/
def outTok (x0 : Vec F S256x128 .f32) (x1 : Vec F S512x256 .f32) (x2 : Vec F S512x512 .f32) (x3 : Vec F S128x512 .f32) : Vec F S512x128 .i32 :=
  fun i => k0_pay9 x2 x3 (hid x0 x1 x2 (i 0).val) (col i)
/-- The log-probabilities. -/
def outLp (x0 : Vec F S256x128 .f32) (x1 : Vec F S512x256 .f32) (x2 : Vec F S512x512 .f32) (x3 : Vec F S128x512 .f32) : Vec F S512x128 .f32 :=
  fun i => k0_pay11 x2 x3 (hid x0 x1 x2 (i 0).val) (col i)
/-- The entropies. -/
def outEnt (x0 : Vec F S256x128 .f32) (x1 : Vec F S512x256 .f32) (x2 : Vec F S512x512 .f32) (x3 : Vec F S128x512 .f32) : Vec F S512x128 .f32 :=
  fun i => k0_pay12 x2 x3 (hid x0 x1 x2 (i 0).val) (col i)
/-- The places, from the tokens. -/
def outDest (tk : Vec F S512x128 .i32) : Vec F S512x128 .i32 :=
  k0_pay1 (F := F) (iota .tc S512x128 32 [0] iota_S512x128_d0_w32) (k0_pay13 (F := F) tk) (k0_pay14 tk)
    (k0_pay17 (iota .tc S128x128 32 [0] iota_S128x128_d0_w32) (iota .tc S128x128 32 [1] iota_S128x128_d1_w32) 8#32 k0_pay15 k0_pay16 0#32)
    (k0_pay18 (iota .tc S128x128 32 [0] iota_S128x128_d0_w32) (iota .tc S128x128 32 [1] iota_S128x128_d1_w32) 8#32 k0_pay15 k0_pay16 0#32)
    (Scalar.ofBits .f32 0x00000000#32) (k0_pay19 (F := F))

/-! ## The loop -/

theorem trips_eq : k0_t1_loop.trips = 512 := by decide +kernel

/-- The rows before `k` of a buffer are those of `G`. -/
def Rows {e : EltTy} (v : View sig .tc .vmem S512x128 e) (G : Vec F S512x128 e) (k : Nat) (f : v.ty.Contents (Elt F)) : Prop :=
  ∀ i : S512x128.Idx, (i 0).val < k → v.read (Elt F) f i = G i

theorem rows_all {e : EltTy} {v : View sig .tc .vmem S512x128 e} {G : Vec F S512x128 e} {f : v.ty.Contents (Elt F)} (h : Rows v G 512 f) :
    v.read (Elt F) f = G := funext fun i => h i (i 0).isLt

/-- Storing row `k` of `G` fills one more row. -/
theorem rows_succ {e : EltTy} {v : View sig .tc .vmem S512x128 e} {G : Vec F S512x128 e} {k : Fin k0_t1_loop.trips} {f : v.ty.Contents (Elt F)}
    (w : S1x128.Idx → Elt F e) (hw : ∀ i : S512x128.Idx, (i 0).val = k.val → w (col i) = G i) (h : Rows v G k.val f) :
    Rows v G (k.val + 1) (v.writes (Elt F) f [⟨Rect.unit (s := S512x128) (k0_off1 k) S1x128.size (k0_off1_inb k), w⟩]) := by
  intro i hi
  by_cases hk : (i 0).val = k.val
  · rw [View.read_writes_cons_hit_of_coords v f (Rect.unit (s := S512x128) (k0_off1 k) S1x128.size (k0_off1_inb k)) w [] (col i) i, hw i hk]
    intro a
    have := k0_off1_eq k
    fin_cases a
    · simp [this, hk]
    · simp [this]
  · rw [View.read_writes_cons_miss_of_axis v f ⟨Rect.unit (s := S512x128) (k0_off1 k) S1x128.size (k0_off1_inb k), w⟩ [] i 0 k.val 1
      (by simp [k0_off1_eq k]) (by rfl) (by rfl) (by omega)]
    exact h i (by omega)

/-- One store of the whole buffer leaves its payload. -/
theorem read_full_store {e : EltTy} (v : View sig .tc .vmem S512x128 e) (f : v.ty.Contents (Elt F)) (inb : ∀ a, ![0, 0] a + S512x128.size a ≤ S512x128.size a)
    (w : S512x128.Idx → Elt F e) :
    v.read (Elt F) (v.writes (Elt F) f [⟨Rect.unit (s := S512x128) ![0, 0] S512x128.size inb, w⟩]) = w := by
  funext i
  refine View.read_writes_cons_hit_of_coords v f (Rect.unit (s := S512x128) ![0, 0] S512x128.size inb) w [] i i fun a => ?_
  fin_cases a <;> simp

/-! ## The body -/

section

variable (c : Dev nD) (arg0 : Memref sig .tc .vmem S256x128 .f32) (harg0 : arg0.IsWhole) (arg1 : Memref sig .tc .vmem S512x256 .f32) (harg1 : arg1.IsWhole) (arg2 : Memref sig .tc .vmem S512x512 .f32) (harg2 : arg2.IsWhole) (arg3 : Memref sig .tc .vmem S128x512 .f32) (harg3 : arg3.IsWhole) (arg4 : Memref sig .tc .vmem S512x128 .i32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .i32) (harg7 : arg7.IsWhole)
  (x0 : Vec F S256x128 .f32) (x1 : Vec F S512x256 .f32) (x2 : Vec F S512x512 .f32) (x3 : Vec F S128x512 .f32)

/-- The loop's invariant: the state carried, and the rows done in each of the three buffers. -/
def inv (k : Nat) (h : FVec F S512x128 .f32) : sProp 𝕄 :=
  iprop(⌜h = hid x0 x1 x2 k⌝
    ∗ (∃ f, ⌜Rows arg4.view (outTok x0 x1 x2 x3) k f⌝ ∗ arg4.view.loc (c : Thread nD τ) ↦[arg4.view.set]{fullShare} f)
    ∗ (∃ f, ⌜Rows arg5.view (outLp x0 x1 x2 x3) k f⌝ ∗ arg5.view.loc (c : Thread nD τ) ↦[arg5.view.set]{fullShare} f)
    ∗ (∃ f, ⌜Rows arg6.view (outEnt x0 x1 x2 x3) k f⌝ ∗ arg6.view.loc (c : Thread nD τ) ↦[arg6.view.set]{fullShare} f))

set_option maxHeartbeats 2000000 in
/-- The body on whole buffers, the inputs' at their contents and the outputs' at anything: it leaves the four results. -/
theorem body_run (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (outTok x0 x1 x2 x3) ∗ owns (c : Thread nD τ) arg5 fullShare (outLp x0 x1 x2 x3) ∗ owns (c : Thread nD τ) arg6 fullShare (outEnt x0 x1 x2 x3) ∗ owns (c : Thread nD τ) arg7 fullShare (outDest (outTok x0 x1 x2 x3))) -∗ K ⟨⟩))
      ⊢ wp frame (wpE (defs₀ (F := F)) Variants.none c none) E (cc0__rnn_body arg0 harg0 arg1 harg1 arg2 harg2 arg3 harg3 arg4 harg4 arg5 harg5 arg6 harg6 arg7 harg7) K := by
  simp only [cc0__rnn_body_eq_skeleton]; unfold cc0__rnn_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg0.eq_unread hf0; obtain rfl := harg1.eq_unread hf1; obtain rfl := harg2.eq_unread hf2; obtain rfl := harg3.eq_unread hf3
  sl_exec
  simp only [View.readAt_full, hf0, hf1, hf2, hf3]
  sl_for (inv c arg4 arg5 arg6 x0 x1 x2 x3) $$ [H4 H5 H6]
  case region =>
    intro k h
    unfold inv
    iintro ⟨%hh, ⟨%g4, %hg4, H4⟩, ⟨%g5, %hg5, H5⟩, ⟨%g6, %hg6, H6⟩⟩
    sl_exec
    sl_step
    subst hh
    isplitr
    · ipureintro; exact congrArg (fun a => k0_pay3 a (hid x0 x1 x2 k.val)) ((View.readAt_full _ _ _).trans hf2)
    isplitl [H4]
    · iexists _; isplitr
      swap; · iexact H4
      ipureintro
      exact rows_succ _ (fun i hi => (congrFun (congrArg₂ (fun a b => k0_pay9 a b (hid x0 x1 x2 k.val)) ((View.readAt_full _ _ _).trans hf2) ((View.readAt_full _ _ _).trans hf3)) (col i)).trans (by unfold outTok; rw [hi])) hg4
    isplitl [H5]
    · iexists _; isplitr
      swap; · iexact H5
      ipureintro
      exact rows_succ _ (fun i hi => (congrFun (congrArg₂ (fun a b => k0_pay11 a b (hid x0 x1 x2 k.val)) ((View.readAt_full _ _ _).trans hf2) ((View.readAt_full _ _ _).trans hf3)) (col i)).trans (by unfold outLp; rw [hi])) hg5
    iexists _; isplitr
    swap; · iexact H6
    ipureintro
    exact rows_succ _ (fun i hi => (congrFun (congrArg₂ (fun a b => k0_pay12 a b (hid x0 x1 x2 k.val)) ((View.readAt_full _ _ _).trans hf2) ((View.readAt_full _ _ _).trans hf3)) (col i)).trans (by unfold outEnt; rw [hi])) hg6
  · unfold inv
    isplitr
    · ipureintro
      exact congrArg₂ k0_pay2 ((View.readAt_full _ _ _).trans hf1) ((View.readAt_full _ _ _).trans hf0)
    isplitl [H4]
    · iexists _; isplitr
      swap; · iexact H4
      ipureintro; exact fun i hi => absurd hi (Nat.not_lt_zero _)
    isplitl [H5]
    · iexists _; isplitr
      swap; · iexact H5
      ipureintro; exact fun i hi => absurd hi (Nat.not_lt_zero _)
    iexists _; isplitr
    swap; · iexact H6
    ipureintro; exact fun i hi => absurd hi (Nat.not_lt_zero _)
  iintro %h Hinv
  unfold inv
  icases Hinv with ⟨-, ⟨%g4, %hg4, H4⟩, ⟨%g5, %hg5, H5⟩, ⟨%g6, %hg6, H6⟩⟩
  have e4 := rows_all (show Rows arg4.view (outTok x0 x1 x2 x3) 512 g4 from trips_eq ▸ (show Rows arg4.view (outTok x0 x1 x2 x3) k0_t1_loop.trips g4 from hg4))
  have e5 := rows_all (show Rows arg5.view (outLp x0 x1 x2 x3) 512 g5 from trips_eq ▸ (show Rows arg5.view (outLp x0 x1 x2 x3) k0_t1_loop.trips g5 from hg5))
  have e6 := rows_all (show Rows arg6.view (outEnt x0 x1 x2 x3) 512 g6 from trips_eq ▸ (show Rows arg6.view (outEnt x0 x1 x2 x3) k0_t1_loop.trips g6 from hg6))
  sl_exec
  sl_step
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact e4
  isplitl [H5]; · iexists _; isplitr; swap; · iexact H5
                  ipureintro; exact e5
  isplitl [H6]; · iexists _; isplitr; swap; · iexact H6
                  ipureintro; exact e6
  iexists _; isplitr; swap; · iexact H7
  ipureintro
  refine (read_full_store _ _ _ _).trans ?_
  exact congrArg outDest ((View.readAt_full _ _ _).trans e4)

end

end Cert.Proof.Tc

end
-- ==== Proof.SKern.lean ====
/-
  What the sender's body computes, read at an entry over the extended reals: the logits of a step and an agent as a column,
  and the token, its log-probability and the entropy of a column.
-/
module

public import proofs.«01_k».proof.Proof.TcRun
public import Idealize.ShloMosaic.Lib.Pointwise

@[expose] public section

set_option maxRecDepth 100000

noncomputable section

namespace Cert.Proof.SM

open Idealize.ShloMosaic
open Cert.SenderIdeal Cert.SenderIdeal.Gen

variable (x0 : Vec Ideal S256x128 .f32) (x1 : Vec Ideal S512x256 .f32) (x2 : Vec Ideal S512x512 .f32) (x3 : Vec Ideal S128x512 .f32) (h : FVec Ideal S512x128 .f32)

theorem ofBits_neg_inf : Ideal.ofBits .f32 0xFF800000#32 = ⊥ := by simp [Ideal.ofBits, Ideal.ieee]

theorem pay2_apply (j : Fin 512) (n : Fin 128) :
    k0_pay2 (F := Ideal) x1 x0 (ix2 j n) = Ideal.tanh (∑ e : Fin 256, x1 (ix2 j e) * x0 (ix2 e n)) := by
  pointwise [k0_pay2]

theorem pay3_apply (j : Fin 512) (n : Fin 128) :
    k0_pay3 (F := Ideal) x2 h (ix2 j n) = Ideal.tanh (∑ e : Fin 512, x2 (ix2 j e) * h (ix2 e n)) := by
  pointwise [k0_pay3]

theorem pay4_apply (c n : Fin 128) :
    k0_pay4 (F := Ideal) x2 x3 h (ix2 c n) = ∑ j : Fin 512, x3 (ix2 c j) * k0_pay3 (F := Ideal) x2 h (ix2 j n) := by
  pointwise [k0_pay4]

theorem pay5_apply (i : Fin 1) (n : Fin 128) :
    k0_pay5 (F := Ideal) x2 x3 h (ix2 i n) = Finset.univ.fold max ⊥ fun c : Fin 128 => k0_pay4 (F := Ideal) x2 x3 h (ix2 c n) := by
  pointwise [k0_pay5]
  rw [ofBits_neg_inf]

theorem pay6_apply (c : Fin 128) (n : Fin 128) :
    k0_pay6 (F := Ideal) x2 x3 h (ix2 c n) = k0_pay4 (F := Ideal) x2 x3 h (ix2 c n) - k0_pay5 (F := Ideal) x2 x3 h (ix2 0 n) := by
  pointwise [k0_pay6]

theorem pay8_apply (i : Fin 1) (n : Fin 128) :
    k0_pay8 (F := Ideal) x2 x3 h (ix2 i n) = ∑ c : Fin 128, Ideal.exp (k0_pay6 (F := Ideal) x2 x3 h (ix2 c n)) := by
  pointwise [k0_pay8, k0_pay7]

theorem pay9_apply (i : Fin 1) (n : Fin 128) :
    k0_pay9 (F := Ideal) x2 x3 h (ix2 i n) = Finset.univ.fold IntOp.minsi 2147483647#32 fun c : Fin 128 =>
      if k0_pay4 (F := Ideal) x2 x3 h (ix2 c n) = k0_pay5 (F := Ideal) x2 x3 h (ix2 0 n) then BitVec.ofNat 32 c.val else 128#32 := by
  pointwise [k0_pay9]

theorem pay11_apply (i : Fin 1) (n : Fin 128) :
    k0_pay11 (F := Ideal) x2 x3 h (ix2 i n) = 0 - Ideal.log (k0_pay8 (F := Ideal) x2 x3 h (ix2 i n)) := by
  pointwise [k0_pay11, k0_pay10]

theorem pay12_apply (i : Fin 1) (n : Fin 128) :
    k0_pay12 (F := Ideal) x2 x3 h (ix2 i n) = Ideal.log (k0_pay8 (F := Ideal) x2 x3 h (ix2 i n))
      - Ideal.div (∑ c : Fin 128, Ideal.exp (k0_pay6 (F := Ideal) x2 x3 h (ix2 c n)) * k0_pay6 (F := Ideal) x2 x3 h (ix2 c n))
        (k0_pay8 (F := Ideal) x2 x3 h (ix2 i n)) := by
  pointwise [k0_pay12, k0_pay10, k0_pay7]

theorem pay13_apply (t : Vec Ideal S512x128 .i32) (i : Fin 1) (n : Fin 128) :
    k0_pay13 (F := Ideal) t (ix2 i n) = IntOp.subi (IntOp.minsi (IntOp.addi (Finset.univ.fold IntOp.minsi 2147483647#32 fun l : Fin 512 =>
      Scalar.select (IntOp.cmpi .eq (t (ix2 l n)) 0#32) (BitVec.ofNat 32 l.val) 512#32) 1#32) 512#32) 1#32 := by
  pointwise [k0_pay13]

end Cert.Proof.SM

end
-- ==== Proof.SRead.lean ====
/-
  The terms of the sender's reference, read at an entry over the extended reals.
-/
module

public import proofs.«01_k».proof.Proof.SRun
public import Idealize.ShloMosaic.Lib.Pointwise

@[expose] public section

set_option maxRecDepth 100000

noncomputable section

namespace Cert.Proof.SM

open Idealize.ShloMosaic
open Cert.SenderReferenceIdeal Cert.SenderReferenceIdeal.Gen Cert.Proof.SRef

theorem state0_apply (a0 : FVec Ideal S16x8x256 .f32) (a1 : FVec Ideal S256x512 .f32) (n : Fin 128) (j : Fin 512) :
    state0 (F := Ideal) a0 a1 (ix2 n j) = Ideal.tanh (∑ e : Fin 256, shapeCast S128x256 a0 shapeCasts_S16x8x256_S128x256 (ix2 n e) * a1 (ix2 e j)) := by
  generalize hx : shapeCast S128x256 a0 shapeCasts_S16x8x256_S128x256 = x
  unfold state0
  rw [hx]
  pointwise

theorem next_apply (w : FVec Ideal S512x512 .f32) (x : FVec Ideal S128x512 .f32) (n : Fin 128) (j : Fin 512) :
    next (F := Ideal) w x (ix2 n j) = Ideal.tanh (∑ e : Fin 512, x (ix2 n e) * w (ix2 e j)) := by
  pointwise [next]

theorem logits_apply (h : FVec Ideal S512x128x512 .f32) (w : FVec Ideal S512x128 .f32) (k : Fin 512) (n c : Fin 128) :
    logits (F := Ideal) h w (ix3 k n c) = ∑ j : Fin 512, h (ix3 k n j) * w (ix2 j c) := by
  pointwise [logits]

theorem neg_inf : Ideal.ofBits .f32 0xFF800000#32 = ⊥ := by simp [Ideal.ofBits, Ideal.ieee]

/-- A reduction by the maximum, at an entry. -/
theorem reduce_max {s t u : Shape} {axes : List (Fin s.rank)} (z : FVec Ideal s .f32) (init : FVec Ideal u .f32) (h : s.ReducesTo axes t)
    (hu : 0 < u.numel) (j : t.Idx) : Host.reduce FloatOps.maximumf z init h hu j
      = (Finset.univ.filter fun i => h.drop i = j).fold (max : EReal → EReal → EReal) (init (Shape.Idx.first hu)) z :=
  Host.reduce_eq_fold (max : EReal → EReal → EReal) z init h hu j

theorem max_at {s : Shape} (a b : FVec Ideal s .f32) (i : s.Idx) : maximumf a b i = max (a i : EReal) (b i) := rfl

theorem cell_at {s : Shape} (v : FVec Ideal S_ .f32) (h : S_.BroadcastsInDim s ![]) (i : s.Idx) : broadcastInDim s ![] h v i = v ix0 := by
  pointwise

theorem maxes_apply (z : FVec Ideal S512x128x128 .f32) (k : Fin 512) (n : Fin 128) :
    (maximumf (broadcastInDim S512x128 ![] bcast_S_S512x128 (constant S_ .f32 0xFF800000#32))
      (Host.reduce FloatOps.maximumf z (constant S_ .f32 0xFF800000#32) reducesTo_S512x128x128_S512x128_d2 h_S_) : FVec Ideal S512x128 .f32) (ix2 k n)
    = max ⊥ (Finset.univ.fold max ⊥ fun e : Fin 128 => z (ix3 k n e)) := by
  have hc : ∀ i, (constant S_ .f32 0xFF800000#32 : FVec Ideal S_ .f32) i = (⊥ : EReal) := fun i => neg_inf
  rw [max_at, cell_at, hc, reduce_max, hc, Shape.ReducesTo.fold_fiber_r3_a2]
  rfl

theorem shifted_apply (z : FVec Ideal S512x128x128 .f32) (k : Fin 512) (n c : Fin 128) :
    shifted (F := Ideal) z (ix3 k n c) = z (ix3 k n c) - max ⊥ (Finset.univ.fold max ⊥ fun e : Fin 128 => z (ix3 k n e)) := by
  have e := maxes_apply z k n
  generalize hm : (maximumf (broadcastInDim S512x128 ![] bcast_S_S512x128 (constant S_ .f32 0xFF800000#32))
      (Host.reduce FloatOps.maximumf z (constant S_ .f32 0xFF800000#32) reducesTo_S512x128x128_S512x128_d2 h_S_) : FVec Ideal S512x128 .f32) = m at e
  unfold shifted
  rw [hm, ← e]
  pointwise

theorem lsm_apply (z : FVec Ideal S512x128x128 .f32) (k : Fin 512) (n c : Fin 128) :
    lsm (F := Ideal) z (ix3 k n c) = shifted (F := Ideal) z (ix3 k n c) - Ideal.log (0 + ∑ e : Fin 128, Ideal.exp (shifted (F := Ideal) z (ix3 k n e))) := by
  pointwise [lsm]

theorem ents_apply (l : FVec Ideal S512x128x128 .f32) (k : Fin 512) (n : Fin 128) :
    ents (F := Ideal) l (ix2 k n) = -(0 + ∑ c : Fin 128, Ideal.exp (l (ix3 k n c)) * l (ix3 k n c)) := by
  pointwise [ents]

theorem words_apply (t : IVec S512x128 32) (k : Fin 512) (n : Fin 128) (i j : Fin 1) :
    words t (ix4 k n i j) = Scalar.select (IntOp.cmpi .slt (t (ix2 k n)) 0#32) (IntOp.addi (t (ix2 k n)) 128#32) (t (ix2 k n)) := by
  pointwise [words]

theorem lps_apply (l : FVec Ideal S512x128x128 .f32) (t : IVec S512x128 32) (k : Fin 512) (n : Fin 128) :
    lps (F := Ideal) l t (ix2 k n) = Host.gather gather_S512x128x128_S512x128x1x1_S512x128x1_n_2_01_01_2_3_111 l (words t) (ix3 k n 0) := by
  pointwise [lps]

theorem gather_apply (l : FVec Ideal S512x128x128 .f32) (w : IVec S512x128x1x1 32) (k : Fin 512) (n c : Fin 128)
    (hw : w (ix4 k n 0 0) = BitVec.ofNat 32 c.val) :
    Host.gather gather_S512x128x128_S512x128x1x1_S512x128x1_n_2_01_01_2_3_111 l w (ix3 k n 0) = l (ix3 k n c) := by
  unfold Host.gather
  congr 1
  funext a
  match a with
  | ⟨0, _⟩ => exact Fin.ext (Nat.zero_add k.val)
  | ⟨1, _⟩ => exact Fin.ext (Nat.zero_add n.val)
  | ⟨2, _⟩ =>
    apply Fin.ext
    show min (w _).toInt.toNat 127 + 0 + 0 = c.val
    have e : (gather_S512x128x128_S512x128x1x1_S512x128x1_n_2_01_01_2_3_111.siIdx (ix3 k n (0 : Fin 1)) ⟨0, by decide⟩) = ix4 k n 0 0 := by
      funext b
      match b with
      | ⟨0, _⟩ => rfl
      | ⟨1, _⟩ => rfl
      | ⟨2, _⟩ => rfl
      | ⟨3, _⟩ => rfl
    have e2 : w (gather_S512x128x128_S512x128x1x1_S512x128x1_n_2_01_01_2_3_111.siIdx (ix3 k n (0 : Fin 1)) ⟨0, by decide⟩) = BitVec.ofNat 32 c.val := by
      rw [e, hw]
    have e3 : ((BitVec.ofNat 32 c.val).toInt.toNat) = c.val := by
      have := c.isLt
      rw [BitVec.toInt_eq_toNat_of_lt (by simp; omega)]
      simp; omega
    have := c.isLt
    refine (congrArg (fun v : BitVec 32 => min v.toInt.toNat 127 + 0 + 0) e2).trans ?_
    show min (BitVec.ofNat 32 c.val).toInt.toNat 127 + 0 + 0 = c.val
    rw [e3]
    omega

/-- The log-probability of a token is the entry that it names. -/
theorem lps_eq (l : FVec Ideal S512x128x128 .f32) (t : IVec S512x128 32) (k : Fin 512) (n c : Fin 128)
    (ht : t (ix2 k n) = BitVec.ofNat 32 c.val) : lps (F := Ideal) l t (ix2 k n) = l (ix3 k n c) := by
  rw [lps_apply]
  refine gather_apply l _ k n c ?_
  rw [words_apply, ht]
  exact (by decide : ∀ c : Fin 128, Scalar.select (IntOp.cmpi .slt (BitVec.ofNat 32 c.val) 0#32) (IntOp.addi (BitVec.ofNat 32 c.val) 128#32)
    (BitVec.ofNat 32 c.val) = BitVec.ofNat 32 c.val) c

theorem msgs_apply (t : IVec S512x128 32) (b : Fin 16) (s : Fin 8) (l : Fin 512) :
    msgs t (ix3 b s l) = t (ix2 l ⟨b.val * 8 + s.val, by omega⟩) := by
  pointwise [msgs]

theorem places_apply (t : IVec S512x128 32) (b : Fin 16) (s : Fin 8) (l : Fin 512) :
    places t (ix2 l ⟨b.val * 8 + s.val, by omega⟩) = Dest.dest (Dest.lens (Dest.ended (msgs t))) (ix3 b s l) := by
  generalize hx : Dest.dest (Dest.lens (Dest.ended (msgs t))) = x
  unfold places
  rw [hx]
  pointwise

end Cert.Proof.SM

end
-- ==== Proof.STok.lean ====
/-
  The tokens of the sender's reference: the least index at which the largest logit stands.
-/
module

public import proofs.«01_k».proof.Proof.SRead
public import Idealize.ShloMosaic.Lib.Pointwise

@[expose] public section

set_option maxRecDepth 100000

noncomputable section

namespace Cert.Proof.SM

open Idealize.ShloMosaic
open Cert.SenderReferenceIdeal Cert.SenderReferenceIdeal.Gen Cert.Proof.SRef

/-- One entry is beaten or matched earlier by another. -/
def Under (p q : Ideal .f32 × BitVec 32) : Prop := p.1 < q.1 ∨ p.1 = q.1 ∧ q.2.toInt ≤ p.2.toInt

theorem Under.refl (p : Ideal .f32 × BitVec 32) : Under p p := Or.inr ⟨rfl, le_refl _⟩

theorem Under.trans {p q r : Ideal .f32 × BitVec 32} (h : Under p q) (h' : Under q r) : Under p r := by
  rcases h with h | ⟨h, h2⟩ <;> rcases h' with h' | ⟨h', h2'⟩
  · exact Or.inl (lt_trans h h')
  · exact Or.inl (h' ▸ h)
  · exact Or.inl (h ▸ h')
  · exact Or.inr ⟨h.trans h', h2'.trans h2⟩

theorem best_of_two (a b : Ideal .f32 × BitVec 32) :
    (reducer_argmax_f32_i32 a b = a ∨ reducer_argmax_f32_i32 a b = b) ∧ Under a (reducer_argmax_f32_i32 a b) ∧ Under b (reducer_argmax_f32_i32 a b) := by
  obtain ⟨x, i⟩ := a
  obtain ⟨y, j⟩ := b
  rcases lt_trichotomy (α := EReal) x y with h | h | h
  · have e : reducer_argmax_f32_i32 (F := Ideal) (x, i) (y, j) = (y, j) := by
      simp [reducer_argmax_f32_i32, Ideal.cmpf_def, Ideal.cmp, IntOp.ori, IntOp.andi, Scalar.select, h, h.ne, not_lt.2 h.le]
    rw [e]
    exact ⟨Or.inr rfl, Or.inl h, Under.refl _⟩
  · subst h
    by_cases hs : i.slt j
    · have e : reducer_argmax_f32_i32 (F := Ideal) (x, i) (x, j) = (x, i) := by
        simp [reducer_argmax_f32_i32, Ideal.cmpf_def, Ideal.cmp, IntOp.ori, IntOp.andi, Scalar.select, IntOp.cmpi, hs]
      rw [e]
      exact ⟨Or.inl rfl, Under.refl _, Or.inr ⟨rfl, by rw [BitVec.slt_iff_toInt_lt] at hs; exact hs.le⟩⟩
    · have e : reducer_argmax_f32_i32 (F := Ideal) (x, i) (x, j) = (x, j) := by
        simp [reducer_argmax_f32_i32, Ideal.cmpf_def, Ideal.cmp, IntOp.ori, IntOp.andi, Scalar.select, IntOp.cmpi, hs]
      rw [e]
      exact ⟨Or.inr rfl, Or.inr ⟨rfl, by rw [BitVec.slt_iff_toInt_lt] at hs; exact not_lt.1 hs⟩, Under.refl _⟩
  · have e : reducer_argmax_f32_i32 (F := Ideal) (x, i) (y, j) = (x, i) := by
      simp [reducer_argmax_f32_i32, Ideal.cmpf_def, Ideal.cmp, IntOp.ori, IntOp.andi, Scalar.select, h, h.ne']
    rw [e]
    exact ⟨Or.inl rfl, Under.refl _, Or.inl h⟩

theorem best_of_list (L : List (Ideal .f32 × BitVec 32)) : ∀ a : Ideal .f32 × BitVec 32,
    (L.foldl reducer_argmax_f32_i32 a = a ∨ L.foldl reducer_argmax_f32_i32 a ∈ L)
      ∧ Under a (L.foldl reducer_argmax_f32_i32 a) ∧ ∀ p ∈ L, Under p (L.foldl reducer_argmax_f32_i32 a) := by
  induction L with
  | nil => exact fun a => ⟨Or.inl rfl, Under.refl _, by simp⟩
  | cons b L ih =>
    intro a
    obtain ⟨h1, h2, h3⟩ := ih (reducer_argmax_f32_i32 a b)
    obtain ⟨g1, g2, g3⟩ := best_of_two a b
    rw [List.foldl_cons]
    refine ⟨?_, g2.trans h2, ?_⟩
    · rcases h1 with h1 | h1
      · rw [h1]
        rcases g1 with g1 | g1
        · exact Or.inl g1
        · rw [g1]; exact Or.inr (List.mem_cons_self)
      · exact Or.inr (List.mem_cons_of_mem _ h1)
    · intro p hp
      rcases List.mem_cons.1 hp with rfl | hp
      · exact g3.trans h2
      · exact h3 p hp

theorem argmax_at {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t) (hu : 0 < u.numel)
    (j : t.Idx) (a : Ideal .f32) (b : BitVec 32) (ha : ix (Shape.Idx.first hu) = a) (hb : iy (Shape.Idx.first hu) = b) :
    Host.argReduce f x y ix iy h hu j = (Host.argReduceFiber x y h j).foldl f (a, b) := by
  rw [Ideal.argReduce_eq_reduce2, Host.reduce2_eq_foldl_fiber, ha, hb]

theorem mem_fiber {s t : Shape} {axes : List (Fin s.rank)} (x : FVec Ideal s .f32) (y : s.Idx → BitVec 32) (h : s.ReducesTo axes t) (j : t.Idx)
    (p : Ideal .f32 × BitVec 32) : p ∈ Host.argReduceFiber x y h j ↔ ∃ i, h.drop i = j ∧ p = (x i, y i) := by
  unfold Host.argReduceFiber
  rw [List.mem_map]
  constructor
  · rintro ⟨q, hq, rfl⟩
    exact ⟨_, of_decide_eq_true (List.mem_filter.1 hq).2, rfl⟩
  · rintro ⟨i, hi, rfl⟩
    refine ⟨s.rowMajor i, List.mem_filter.2 ⟨List.mem_finRange _, decide_eq_true ?_⟩, ?_⟩
    · rw [Equiv.symm_apply_apply]; exact hi
    · rw [Equiv.symm_apply_apply]

theorem iota_at (k : Fin 512) (n c : Fin 128) : iotaInDim S512x128x128 32 2 (ix3 k n c) = BitVec.ofNat 32 c.val := by
  pointwise

theorem toks_eq (z : FVec Ideal S512x128x128 .f32) : toks (F := Ideal) z = fun j =>
    (Host.argReduce reducer_argmax_f32_i32 z (iotaInDim S512x128x128 32 2) (constant S_ .f32 0xFF800000#32)
      (constantI S_ 32 0#32) reducesTo_S512x128x128_S512x128_d2 h_S_ j).2 := rfl

theorem toks_at (z : FVec Ideal S512x128x128 .f32) (j : S512x128.Idx) :
    toks (F := Ideal) z j = ((Host.argReduceFiber z (iotaInDim S512x128x128 32 2) reducesTo_S512x128x128_S512x128_d2 j).foldl
      (reducer_argmax_f32_i32 (F := Ideal)) (⊥, 0#32)).2 := by
  have hc : (constant S_ .f32 0xFF800000#32 : FVec Ideal S_ .f32) (Shape.Idx.first h_S_) = (⊥ : EReal) := neg_inf
  have hd : constantI S_ 32 0#32 (Shape.Idx.first h_S_) = 0#32 := rfl
  refine (congrFun (toks_eq z) j).trans ?_
  exact congrArg Prod.snd (argmax_at _ z _ _ _ _ _ j (⊥ : EReal) 0#32 hc hd)

theorem mem_of_row (z : FVec Ideal S512x128x128 .f32) (k : Fin 512) (n : Fin 128) (p : Ideal .f32 × BitVec 32) :
    p ∈ Host.argReduceFiber z (iotaInDim S512x128x128 32 2) reducesTo_S512x128x128_S512x128_d2 (ix2 k n)
      ↔ ∃ e : Fin 128, p = (z (ix3 k n e), BitVec.ofNat 32 e.val) := by
  rw [mem_fiber]
  constructor
  · rintro ⟨i, hi, rfl⟩
    obtain ⟨e, he⟩ := (Shape.ReducesTo.fiber_r3_a2 reducesTo_S512x128x128_S512x128_d2 (ix2 k n) _).1 hi
    refine ⟨e, ?_⟩
    rw [← he, ← iota_at k n e]
    rfl
  · rintro ⟨e, rfl⟩
    refine ⟨ix3 k n e, (Shape.ReducesTo.fiber_r3_a2 reducesTo_S512x128x128_S512x128_d2 (ix2 k n) _).2 ⟨e, rfl⟩, ?_⟩
    rw [iota_at]

/-- A reference token is the least index at which the largest logit stands. -/
theorem toks_spec (z : FVec Ideal S512x128x128 .f32) (k : Fin 512) (n : Fin 128) (hz : (⊥ : EReal) < z (ix3 k n 0)) :
    ∃ c : Fin 128, toks (F := Ideal) z (ix2 k n) = BitVec.ofNat 32 c.val ∧ (∀ e : Fin 128, (z (ix3 k n e) : EReal) ≤ z (ix3 k n c))
      ∧ ∀ e : Fin 128, (z (ix3 k n e) : EReal) = z (ix3 k n c) → c ≤ e := by
  have hf := toks_at z (ix2 k n)
  have hm := mem_of_row z k n
  generalize Host.argReduceFiber z (iotaInDim S512x128x128 32 2) reducesTo_S512x128x128_S512x128_d2 (ix2 k n) = L at hf hm
  obtain ⟨h1, h2, h3⟩ := best_of_list L (⊥, 0#32)
  generalize L.foldl reducer_argmax_f32_i32 (⊥, 0#32) = r at h1 h2 h3 hf
  have hr : ∃ c : Fin 128, r = (z (ix3 k n c), BitVec.ofNat 32 c.val) := by
    rcases h1 with h1 | h1
    · exfalso
      have hu := h3 _ ((hm _).2 ⟨0, rfl⟩)
      rw [h1] at hu
      rcases hu with hu | ⟨hu, _⟩
      · exact not_lt_bot (α := EReal) hu
      · exact hz.ne' hu
    · exact (hm r).1 h1
  obtain ⟨c, rfl⟩ := hr
  refine ⟨c, hf, fun e => ?_, fun e he => ?_⟩
  · rcases h3 _ ((hm _).2 ⟨e, rfl⟩) with hu | ⟨hu, _⟩
    · exact le_of_lt (α := EReal) hu
    · exact le_of_eq (α := EReal) hu
  · rcases h3 _ ((hm _).2 ⟨e, rfl⟩) with hu | ⟨_, hu⟩
    · exact absurd he (ne_of_lt (α := EReal) hu)
    · have hi : ∀ c : Fin 128, (BitVec.ofNat 32 c.val).toInt = c.val := by decide
      rw [hi, hi] at hu
      exact Fin.le_def.2 (by exact_mod_cast hu)

end Cert.Proof.SM

end
-- ==== Proof.TcLaunch.lean ====
/-
  The sender call's launch: its one grid point's data, the body's obligation, the run, and what the four results hold.
-/
module

public import proofs.«01_k».proof.Proof.TcRun
public import Idealize.ShloMosaic.Lib.Claim
public import Idealize.ShloMosaic.Lib.Pipeline.Value
public import Idealize.ShloMosaic.Lib.ValueIdxCore
public import Idealize.ShloMosaic.Lib.Pipeline.ValueKit
public import Idealize.ShloMosaic.Lib.StableHlo.Run
public import Idealize.ShloMosaic.Lib.StableHlo.RunRead

@[expose] public section

set_option maxRecDepth 16384

noncomputable section

namespace Cert.Proof.Tc

open Cert.SenderIdeal Cert.SenderIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The point's data -/

abbrev tkAt (c : Dev nD) (t : Fin cfg0.N) : Vec F S512x128 .i32 := outTok (iblk m c 0 t) (iblk m c 1 t) (iblk m c 2 t) (iblk m c 3 t)

/-- The arrays as the region finds them; after the body, the inputs' blocks and the four results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tkAt m c t
    | ⟨5, _⟩ => outLp (iblk m c 0 t) (iblk m c 1 t) (iblk m c 2 t) (iblk m c 3 t)
    | ⟨6, _⟩ => outEnt (iblk m c 0 t) (iblk m c 1 t) (iblk m c 2 t) (iblk m c 3 t)
    | ⟨7, _⟩ => outDest (tkAt m c t)
  Φ _ := Pipeline.ΦA spec0 c
  q _ := fullShare
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = tkAt m c t := by dsimp only [dats]
theorem left5 (c : Dev nD) (t : Fin cfg0.N) : (dats m 0 c).after 5 t = outLp (iblk m c 0 t) (iblk m c 1 t) (iblk m c 2 t) (iblk m c 3 t) := by dsimp only [dats]
theorem left6 (c : Dev nD) (t : Fin cfg0.N) : (dats m 0 c).after 6 t = outEnt (iblk m c 0 t) (iblk m c 1 t) (iblk m c 2 t) (iblk m c 3 t) := by dsimp only [dats]
theorem left7 (c : Dev nD) (t : Fin cfg0.N) : (dats m 0 c).after 7 t = outDest (tkAt m c t) := by dsimp only [dats]

theorem found0 (c : Dev nD) (t : Fin cfg0.N) (d) : (dats m 0 c).before 0 t d = iblk m c 0 t := before0_0_of m (dats m 0 c) (dats_A m c 0) (left0 m c) t d
theorem found1 (c : Dev nD) (t : Fin cfg0.N) (d) : (dats m 0 c).before 1 t d = iblk m c 1 t := before0_1_of m (dats m 0 c) (dats_A m c 1) (left1 m c) t d
theorem found2 (c : Dev nD) (t : Fin cfg0.N) (d) : (dats m 0 c).before 2 t d = iblk m c 2 t := before0_2_of m (dats m 0 c) (dats_A m c 2) (left2 m c) t d
theorem found3 (c : Dev nD) (t : Fin cfg0.N) (d) : (dats m 0 c).before 3 t d = iblk m c 3 t := before0_3_of m (dats m 0 c) (dats_A m c 3) (left3 m c) t d

/-! ## The body's obligation -/

/-- What the body is given at the point. -/
def given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- What it gives back. -/
def back (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

set_option maxHeartbeats 800000 in
theorem body_ok (c : Dev nD) (t : Fin cfg0.N) :
    given m c t ⊢ wp frame (wpE (defs₀ (F := F)) Variants.none c none) Set.univ (bodyAt0 t) (fun _ => back m c t) := by
  unfold given back bodyAt0
  simp only [found0, found1, found2, found3]
  rw [show (dats m 0 c).Φ t.succ = (dats m 0 c).Φ t.castSucc from rfl,
    show (dats m 0 c).owesAt () t.succ = (dats m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_ok m c t) rfl .rfl fun _ => .rfl

/-! ## The run -/

-- the launch theorem's implicit arguments are found through plain definitions in a metavariable's type
set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (run_quiet m ρ))) ((θ_run defs _ _).mono (fun _ h => h.2) (run_quiet m ρ))

/-! ## What the results hold -/

/-- The four operands of the call, from the arguments: each transposed. -/
def X0 (c : Dev nD) : Vec F S256x128 .f32 :=
  transpose S256x128 [1, 0] (shapeCast S128x256 (m ((c.tc : Thread nD τ).loc main_arg0) : S16x8x256.Idx → Elt F .f32) shapeCasts_S16x8x256_S128x256) transposes_S128x256_S256x128_1_0
def X1 (c : Dev nD) : Vec F S512x256 .f32 := transpose S512x256 [1, 0] (m ((c.tc : Thread nD τ).loc main_arg1) : S256x512.Idx → Elt F .f32) transposes_S256x512_S512x256_1_0
def X2 (c : Dev nD) : Vec F S512x512 .f32 := transpose S512x512 [1, 0] (m ((c.tc : Thread nD τ).loc main_arg2) : S512x512.Idx → Elt F .f32) transposes_S512x512_S512x512_1_0
def X3 (c : Dev nD) : Vec F S128x512 .f32 := transpose S128x512 [1, 0] (m ((c.tc : Thread nD τ).loc main_arg3) : S512x128.Idx → Elt F .f32) transposes_S512x128_S128x512_1_0

theorem V_0 (c : Dev nD) : (V m c main_v1 : _) = X0 m c := by
  show StableHlo.after hostOps0 (fun b => m (c, b)) (Proc.devRef .tc main_v1) = _
  unfold hostOps0 X0
  after_reads_simp <;> rfl

theorem blk0 (c : Dev nD) (t : Fin cfg0.N) : iblk m c 0 t = X0 m c := by
  funext y; unfold iblk; blk_simp
  rw [V_0]
  refine congrArg (X0 m c) (funext fun a => Fin.ext ?_)
  exact Pipeline.Window.rect_emb_val_of_index_zero win0_0 t a rfl y

theorem V_1 (c : Dev nD) : (V m c main_v2 : _) = X1 m c := by
  show StableHlo.after hostOps0 (fun b => m (c, b)) (Proc.devRef .tc main_v2) = _
  unfold hostOps0 X1
  after_reads_simp <;> rfl

theorem blk1 (c : Dev nD) (t : Fin cfg0.N) : iblk m c 1 t = X1 m c := by
  funext y; unfold iblk; blk_simp
  rw [V_1]
  refine congrArg (X1 m c) (funext fun a => Fin.ext ?_)
  exact Pipeline.Window.rect_emb_val_of_index_zero win0_1 t a rfl y

theorem V_2 (c : Dev nD) : (V m c main_v3 : _) = X2 m c := by
  show StableHlo.after hostOps0 (fun b => m (c, b)) (Proc.devRef .tc main_v3) = _
  unfold hostOps0 X2
  after_reads_simp <;> rfl

theorem blk2 (c : Dev nD) (t : Fin cfg0.N) : iblk m c 2 t = X2 m c := by
  funext y; unfold iblk; blk_simp
  rw [V_2]
  refine congrArg (X2 m c) (funext fun a => Fin.ext ?_)
  exact Pipeline.Window.rect_emb_val_of_index_zero win0_2 t a rfl y

theorem V_3 (c : Dev nD) : (V m c main_v4 : _) = X3 m c := by
  show StableHlo.after hostOps0 (fun b => m (c, b)) (Proc.devRef .tc main_v4) = _
  unfold hostOps0 X3
  after_reads_simp <;> rfl

theorem blk3 (c : Dev nD) (t : Fin cfg0.N) : iblk m c 3 t = X3 m c := by
  funext y; unfold iblk; blk_simp
  rw [V_3]
  refine congrArg (X3 m c) (funext fun a => Fin.ext ?_)
  exact Pipeline.Window.rect_emb_val_of_index_zero win0_3 t a rfl y

theorem res4 (c : Dev nD) : (dats m 0 c).arrAt 4 cfg0.N = outTok (X0 m c) (X1 m c) (X2 m c) (X3 m c) := by
  refine (dats m 0 c).arrAt_eq_of_covers 4 _ (by decide +kernel) fun t hf y => ?_
  blk_simp; rw [left4]; unfold tkAt; rw [blk0, blk1, blk2, blk3]
  refine congrArg (outTok (X0 m c) (X1 m c) (X2 m c) (X3 m c)) (funext fun a => Fin.ext ?_)
  exact (Pipeline.Window.rect_emb_val_of_index_zero win0_4 t a rfl y).symm

theorem res5 (c : Dev nD) : (dats m 0 c).arrAt 5 cfg0.N = outLp (X0 m c) (X1 m c) (X2 m c) (X3 m c) := by
  refine (dats m 0 c).arrAt_eq_of_covers 5 _ (by decide +kernel) fun t hf y => ?_
  blk_simp; rw [left5]; rw [blk0, blk1, blk2, blk3]
  refine congrArg (outLp (X0 m c) (X1 m c) (X2 m c) (X3 m c)) (funext fun a => Fin.ext ?_)
  exact (Pipeline.Window.rect_emb_val_of_index_zero win0_5 t a rfl y).symm

theorem res6 (c : Dev nD) : (dats m 0 c).arrAt 6 cfg0.N = outEnt (X0 m c) (X1 m c) (X2 m c) (X3 m c) := by
  refine (dats m 0 c).arrAt_eq_of_covers 6 _ (by decide +kernel) fun t hf y => ?_
  blk_simp; rw [left6]; rw [blk0, blk1, blk2, blk3]
  refine congrArg (outEnt (X0 m c) (X1 m c) (X2 m c) (X3 m c)) (funext fun a => Fin.ext ?_)
  exact (Pipeline.Window.rect_emb_val_of_index_zero win0_6 t a rfl y).symm

theorem res7 (c : Dev nD) : (dats m 0 c).arrAt 7 cfg0.N = outDest (outTok (X0 m c) (X1 m c) (X2 m c) (X3 m c)) := by
  refine (dats m 0 c).arrAt_eq_of_covers 7 _ (by decide +kernel) fun t hf y => ?_
  blk_simp; rw [left7]; unfold tkAt; rw [blk0, blk1, blk2, blk3]
  refine congrArg (outDest (outTok (X0 m c) (X1 m c) (X2 m c) (X3 m c))) (funext fun a => Fin.ext ?_)
  exact (Pipeline.Window.rect_emb_val_of_index_zero win0_7 t a rfl y).symm

/-- The run: the four results, the arguments unchanged. -/
theorem run_vals : θ_run defs (onTc (τ := τ) (main (F := F))) ⟨m, fun _ => 0, ρ⟩ (fun r => ∀ c : Dev nD,
      r.2.mem ((c.tc : Thread nD τ).loc main_v5_0) = outTok (X0 m c) (X1 m c) (X2 m c) (X3 m c)
      ∧ r.2.mem ((c.tc : Thread nD τ).loc main_v5_1) = outLp (X0 m c) (X1 m c) (X2 m c) (X3 m c)
      ∧ r.2.mem ((c.tc : Thread nD τ).loc main_v5_2) = outEnt (X0 m c) (X1 m c) (X2 m c) (X3 m c)
      ∧ r.2.mem ((c.tc : Thread nD τ).loc main_v5_3) = outDest (outTok (X0 m c) (X1 m c) (X2 m c) (X3 m c))) :=
  (θ_run defs _ _).mono (fun _ h c => ⟨(h.1.out_eq c 4).trans (res4 m c), (h.1.out_eq c 5).trans (res5 m c), (h.1.out_eq c 6).trans (res6 m c), (h.1.out_eq c 7).trans (res7 m c)⟩) (run_quiet m ρ)

end Cert.Proof.Tc

end
-- ==== Proof.SCol.lean ====
/-
  The sender's call against its reference, entry by entry over the extended reals: one step's logits for one sender are a column of reals, and
  its token, log-probability and entropy come out the same on both sides.
-/
module

public import proofs.«01_k».proof.Proof.SKern
public import proofs.«01_k».proof.Proof.STok
public import proofs.«01_k».proof.Proof.TcLaunch
public import Idealize.ShloMosaic.Lib.Pointwise

@[expose] public section

set_option maxRecDepth 1000

noncomputable section

namespace Cert.Proof.SM

open Idealize.ShloMosaic

/-! ## Folds -/

theorem minsi_toInt (a b : BitVec 32) : (IntOp.minsi a b).toInt = min a.toInt b.toInt := by
  unfold IntOp.minsi
  by_cases h : a.slt b
  · rw [if_pos h]
    rw [BitVec.slt_iff_toInt_lt] at h
    omega
  · rw [if_neg h]
    rw [BitVec.slt_iff_toInt_lt] at h
    omega

/-- A fold by the signed minimum is a value that is attained and below all. -/
theorem fold_minsi {n : ℕ} (f : Fin n → BitVec 32) (v : BitVec 32) (hv : ∃ e, f e = v) (hle : ∀ e, v.toInt ≤ (f e).toInt) :
    Finset.univ.fold IntOp.minsi 2147483647#32 f = v := by
  have hbound : ∀ w : BitVec 32, w.toInt ≤ (2147483647#32).toInt := fun w => by
    have := BitVec.toInt_lt (x := w)
    have e : (2147483647#32).toInt = 2147483647 := by decide
    omega
  have low : ∀ s : Finset (Fin n), v.toInt ≤ (s.fold IntOp.minsi 2147483647#32 f).toInt := by
    intro s
    induction s using Finset.cons_induction with
    | empty => exact hbound v
    | cons a s ha ih => rw [Finset.fold_cons, minsi_toInt]; exact le_min (hle a) ih
  have high : ∀ s : Finset (Fin n), ∀ e ∈ s, (s.fold IntOp.minsi 2147483647#32 f).toInt ≤ (f e).toInt := by
    intro s
    induction s using Finset.cons_induction with
    | empty => intro e he; simp at he
    | cons a s ha ih =>
      intro e he
      rw [Finset.fold_cons, minsi_toInt]
      rcases Finset.mem_cons.1 he with rfl | he
      · exact min_le_left _ _
      · exact (min_le_right _ _).trans (ih e he)
  obtain ⟨e, rfl⟩ := hv
  exact BitVec.eq_of_toInt_eq (le_antisymm (high _ e (Finset.mem_univ e)) (low _))

/-- A fold by the maximum is a value that is attained and above all. -/
theorem fold_max {n : ℕ} (Z : Fin n → EReal) (c : Fin n) (h : ∀ e, Z e ≤ Z c) : Finset.univ.fold max ⊥ Z = Z c := by
  apply le_antisymm
  · exact Finset.fold_max_le _ |>.2 ⟨bot_le, fun e _ => h e⟩
  · exact Finset.le_fold_max _ |>.2 (Or.inr ⟨c, Finset.mem_univ c, le_refl _⟩)

/-! ## One column -/

/-- The token of a column: where its largest entry first stands. -/
theorem column_tok (Z : Fin 128 → EReal) (c : Fin 128) (h : ∀ e, Z e ≤ Z c) (h' : ∀ e, Z e = Z c → c ≤ e) :
    (Finset.univ.fold IntOp.minsi 2147483647#32 fun e : Fin 128 => if Z e = Finset.univ.fold max ⊥ Z then BitVec.ofNat 32 e.val else 128#32)
      = BitVec.ofNat 32 c.val := by
  have hi : ∀ c : Fin 128, (BitVec.ofNat 32 c.val).toInt = c.val := by decide
  rw [fold_max Z c h]
  refine fold_minsi _ _ ⟨c, if_pos rfl⟩ fun e => ?_
  by_cases he : Z e = Z c
  · rw [if_pos he, hi, hi]
    exact_mod_cast Fin.le_def.1 (h' e he)
  · rw [if_neg he, hi]
    have e128 : (128#32).toInt = 128 := by decide
    have := c.isLt
    omega

theorem coe_sum {n : ℕ} (f : Fin n → ℝ) : (∑ e, ((f e : ℝ) : EReal)) = ((∑ e, f e : ℝ) : EReal) := by
  induction (Finset.univ : Finset (Fin n)) using Finset.cons_induction with
  | empty => simp
  | cons a s ha ih => rw [Finset.sum_cons, Finset.sum_cons, ih, EReal.coe_add]

/-- The log-probability of the token. -/
theorem column_lp (Z : Fin 128 → EReal) (c : Fin 128) (S : EReal) (hr : ∃ r : ℝ, Z c = r) (h : ∀ e, Z e ≤ Z c) :
    (0 - Ideal.log S : EReal) = (Z c - max ⊥ (Finset.univ.fold max ⊥ Z)) - Ideal.log (0 + S) := by
  obtain ⟨r, hr⟩ := hr
  rw [fold_max Z c h, max_eq_right bot_le, hr, zero_add, ← EReal.coe_sub, sub_self, EReal.coe_zero]

/-- The entropy of a column of reals. -/
theorem column_ent (σ : Fin 128 → ℝ) :
    (Ideal.log (∑ c, Ideal.exp ((σ c : ℝ) : EReal)) - Ideal.div (∑ c, Ideal.exp ((σ c : ℝ) : EReal) * ((σ c : ℝ) : EReal)) (∑ c, Ideal.exp ((σ c : ℝ) : EReal)) : EReal)
      = -(0 + ∑ c, Ideal.exp (((σ c : ℝ) : EReal) - Ideal.log (0 + ∑ e, Ideal.exp ((σ e : ℝ) : EReal)))
          * (((σ c : ℝ) : EReal) - Ideal.log (0 + ∑ e, Ideal.exp ((σ e : ℝ) : EReal)))) := by
  have hS : (∑ c, Ideal.exp ((σ c : ℝ) : EReal)) = ((∑ c, Real.exp (σ c) : ℝ) : EReal) := by
    simp only [Ideal.exp_coe]
    exact coe_sum _
  have hpos : 0 < ∑ c, Real.exp (σ c) := Finset.sum_pos (fun c _ => Real.exp_pos _) ⟨0, Finset.mem_univ _⟩
  rw [zero_add, hS]
  generalize hT : (∑ c, Real.exp (σ c)) = T at hpos
  have hlog : Ideal.log ((T : ℝ) : EReal) = ((Real.log T : ℝ) : EReal) := by rw [Ideal.log_coe, if_neg (not_le.2 hpos)]
  simp only [hlog, zero_add]
  rw [Ideal.div_coe hpos.ne']
  have h1 : (∑ c, Ideal.exp ((σ c : ℝ) : EReal) * ((σ c : ℝ) : EReal)) = ((∑ c, Real.exp (σ c) * σ c : ℝ) : EReal) := by
    simp only [Ideal.exp_coe, ← EReal.coe_mul]
    exact coe_sum _
  have h2 : (∑ c, Ideal.exp (((σ c : ℝ) : EReal) - ((Real.log T : ℝ) : EReal)) * (((σ c : ℝ) : EReal) - ((Real.log T : ℝ) : EReal)))
      = ((∑ c, Real.exp (σ c - Real.log T) * (σ c - Real.log T) : ℝ) : EReal) := by
    simp only [← EReal.coe_sub, Ideal.exp_coe, ← EReal.coe_mul]
    exact coe_sum _
  rw [h1, h2, ← EReal.coe_mul, ← EReal.coe_sub, ← EReal.coe_neg, EReal.coe_eq_coe_iff]
  have h3 : ∀ c, Real.exp (σ c - Real.log T) * (σ c - Real.log T) = (Real.exp (σ c) * σ c) * (1 / T) - Real.exp (σ c) * (Real.log T / T) := by
    intro c
    rw [Real.exp_sub, Real.exp_log hpos]
    ring
  rw [Finset.sum_congr rfl fun c _ => h3 c, Finset.sum_sub_distrib, ← Finset.sum_mul, ← Finset.sum_mul, hT]
  field_simp
  ring

theorem tanh_real (x : EReal) : ∃ r : ℝ, Ideal.tanh x = (r : EReal) := by
  induction x using EReal.rec with
  | bot => exact ⟨-1, by rw [Ideal.tanh_bot]; norm_num⟩
  | top => exact ⟨1, by rw [Ideal.tanh_top]; norm_num⟩
  | coe r => exact ⟨Real.tanh r, Ideal.tanh_coe r⟩

/-! ## The columns of the two programs -/

section Columns

variable (m : (ℓ : Loc Cert.SenderIdeal.nD Cert.SenderIdeal.τ Cert.SenderIdeal.sig) → Buf (Elt Ideal) ℓ)
  (m' : (ℓ : Loc Cert.SenderReferenceIdeal.nD Cert.SenderReferenceIdeal.τ Cert.SenderReferenceIdeal.sig) → Buf (Elt Ideal) ℓ)
  (c : Dev Cert.SenderIdeal.nD)
  (a0 : FVec Ideal Cert.SenderReferenceIdeal.S16x8x256 .f32) (a1 : FVec Ideal Cert.SenderReferenceIdeal.S256x512 .f32)
  (a2 : FVec Ideal Cert.SenderReferenceIdeal.S512x512 .f32) (a3 : FVec Ideal Cert.SenderReferenceIdeal.S512x128 .f32)

open Cert.SenderIdeal Cert.SenderIdeal.Gen in
/-- The four operands, from the arrays. -/
def Y0 : Vec Ideal S256x128 .f32 := transpose S256x128 [1, 0] (shapeCast S128x256 (a0 : S16x8x256.Idx → Ideal .f32) shapeCasts_S16x8x256_S128x256) transposes_S128x256_S256x128_1_0
open Cert.SenderIdeal Cert.SenderIdeal.Gen in
def Y1 : Vec Ideal S512x256 .f32 := transpose S512x256 [1, 0] (a1 : S256x512.Idx → Ideal .f32) transposes_S256x512_S512x256_1_0
open Cert.SenderIdeal Cert.SenderIdeal.Gen in
def Y2 : Vec Ideal S512x512 .f32 := transpose S512x512 [1, 0] (a2 : S512x512.Idx → Ideal .f32) transposes_S512x512_S512x512_1_0
open Cert.SenderIdeal Cert.SenderIdeal.Gen in
def Y3 : Vec Ideal S128x512 .f32 := transpose S128x512 [1, 0] (a3 : S512x128.Idx → Ideal .f32) transposes_S512x128_S128x512_1_0

theorem Y0_apply (e : Fin 256) (n : Fin 128) : Y0 a0 (ix2 e n) = shapeCast Cert.SenderReferenceIdeal.S128x256 a0 Cert.SenderReferenceIdeal.Gen.facts.shapeCasts_S16x8x256_S128x256 (ix2 n e) := by
  show transpose _ _ _ _ _ = shapeCast _ _ _ _
  generalize hx : (shapeCast Cert.SenderReferenceIdeal.S128x256 a0 Cert.SenderReferenceIdeal.Gen.facts.shapeCasts_S16x8x256_S128x256 : FVec Ideal Cert.SenderReferenceIdeal.S128x256 .f32) = x
  pointwise

theorem Y1_apply (j : Fin 512) (e : Fin 256) : Y1 a1 (ix2 j e) = a1 (ix2 e j) := by
  pointwise [Y1]
theorem Y2_apply (j : Fin 512) (e : Fin 512) : Y2 a2 (ix2 j e) = a2 (ix2 e j) := by
  pointwise [Y2]
theorem Y3_apply (c : Fin 128) (j : Fin 512) : Y3 a3 (ix2 c j) = a3 (ix2 j c) := by
  pointwise [Y3]

/-- The hidden state, column by column, is the reference's, row by row. -/
theorem hid_eq : ∀ (k : ℕ) (j : Fin 512) (n : Fin 128),
    Tc.hid (F := Ideal) (Y0 a0) (Y1 a1) (Y2 a2) k (ix2 j n) = SRef.state (F := Ideal) a0 a1 a2 k (ix2 n j)
  | 0, j, n => by
    show Cert.SenderIdeal.Gen.k0_pay2 _ _ _ = SRef.state0 _ _ _
    rw [pay2_apply, state0_apply]
    congr 1
    refine Finset.sum_congr rfl fun e _ => ?_
    rw [Y0_apply, Y1_apply]
    exact mul_comm _ _
  | k + 1, j, n => by
    show Cert.SenderIdeal.Gen.k0_pay3 _ _ _ = SRef.next _ _ _
    rw [pay3_apply, next_apply]
    congr 1
    refine Finset.sum_congr rfl fun e _ => ?_
    rw [Y2_apply, hid_eq k e n]
    exact mul_comm _ _

/-- All the states after a step. -/
def hists : FVec Ideal Cert.SenderReferenceIdeal.S512x128x512 .f32 := fun i => SRef.state (F := Ideal) a0 a1 a2 ((i 0).val + 1) (ValueIdx.ix2 (i 1) (i 2))

/-- All the logits. -/
def zz : FVec Ideal Cert.SenderReferenceIdeal.S512x128x128 .f32 := SRef.logits (hists a0 a1 a2) a3

theorem zz_apply (k : Fin 512) (n c : Fin 128) : zz a0 a1 a2 a3 (ix3 k n c) = ∑ j : Fin 512, SRef.state (F := Ideal) a0 a1 a2 (k.val + 1) (ix2 n j) * a3 (ix2 j c) := by
  unfold zz
  rw [logits_apply]
  refine Finset.sum_congr rfl fun j _ => ?_
  rw [ix2_eq_valueIdx n j]
  rfl

theorem pay4_eq (k : Fin 512) (n c : Fin 128) :
    Cert.SenderIdeal.Gen.k0_pay4 (F := Ideal) (Y2 a2) (Y3 a3) (Tc.hid (F := Ideal) (Y0 a0) (Y1 a1) (Y2 a2) k.val) (ix2 c n) = zz a0 a1 a2 a3 (ix3 k n c) := by
  rw [pay4_apply, zz_apply]
  refine Finset.sum_congr rfl fun j _ => ?_
  rw [Y3_apply, show Cert.SenderIdeal.Gen.k0_pay3 (F := Ideal) (Y2 a2) (Tc.hid (F := Ideal) (Y0 a0) (Y1 a1) (Y2 a2) k.val) (ix2 j n)
    = Tc.hid (F := Ideal) (Y0 a0) (Y1 a1) (Y2 a2) (k.val + 1) (ix2 j n) from rfl, hid_eq]
  exact mul_comm _ _

theorem state_real (k : ℕ) (n : Fin 128) (j : Fin 512) : ∃ r : ℝ, SRef.state (F := Ideal) a0 a1 a2 (k + 1) (ix2 n j) = (r : EReal) := by
  obtain ⟨r, hr⟩ := tanh_real (∑ e : Fin 512, SRef.state (F := Ideal) a0 a1 a2 k (ix2 n e) * a2 (ix2 e j))
  exact ⟨r, (next_apply _ _ n j).trans hr⟩

variable (hpre : ∀ (j : Fin 512) (c : Fin 128), ∃ r : ℝ, a3 (ix2 j c) = (r : EReal))
include hpre

/-- The logits are reals. -/
theorem zz_real (k : Fin 512) (n : Fin 128) : ∃ r : Fin 128 → ℝ, ∀ c, zz a0 a1 a2 a3 (ix3 k n c) = ((r c : ℝ) : EReal) := by
  have hs := fun j => state_real a0 a1 a2 k.val n j
  choose s hs using hs
  have hw := fun j c => hpre j c
  choose w hw using hw
  refine ⟨fun c => ∑ j, s j * w j c, fun c => ?_⟩
  rw [zz_apply, ← coe_sum]
  refine Finset.sum_congr rfl fun j _ => ?_
  rw [hs j, hw j c, EReal.coe_mul]

/-- A step and a sender, with the place of its largest logit. -/
theorem column (k : Fin 512) (n : Fin 128) : ∃ c : Fin 128, SRef.toks (F := Ideal) (zz a0 a1 a2 a3) (ix2 k n) = BitVec.ofNat 32 c.val
    ∧ (∀ e : Fin 128, (zz a0 a1 a2 a3 (ix3 k n e) : EReal) ≤ zz a0 a1 a2 a3 (ix3 k n c))
    ∧ ∀ e : Fin 128, (zz a0 a1 a2 a3 (ix3 k n e) : EReal) = zz a0 a1 a2 a3 (ix3 k n c) → c ≤ e := by
  obtain ⟨r, hr⟩ := zz_real a0 a1 a2 a3 hpre k n
  exact toks_spec _ k n (by rw [hr 0]; exact EReal.bot_lt_coe _)

theorem tok_eq : Tc.outTok (F := Ideal) (Y0 a0) (Y1 a1) (Y2 a2) (Y3 a3) = SRef.toks (F := Ideal) (zz a0 a1 a2 a3) := by
  funext i
  obtain ⟨k, n, rfl⟩ : ∃ (k : Fin 512) (n : Fin 128), i = ix2 k n := ⟨i 0, i 1, eq_ix2 i⟩
  obtain ⟨c, h1, h2, h3⟩ := column a0 a1 a2 a3 hpre k n
  show Cert.SenderIdeal.Gen.k0_pay9 (F := Ideal) (Y2 a2) (Y3 a3) (Tc.hid (F := Ideal) (Y0 a0) (Y1 a1) (Y2 a2) k.val) (ValueIdx.ix2 (0 : Fin 1) n) = _
  rw [h1, ← ix2_eq_valueIdx, pay9_apply, pay5_apply]
  simp only [ix2_0, pay4_eq]
  exact column_tok (fun e => zz a0 a1 a2 a3 (ix3 k n e)) c h2 h3

theorem lp_eq : Tc.outLp (F := Ideal) (Y0 a0) (Y1 a1) (Y2 a2) (Y3 a3) = SRef.lps (F := Ideal) (SRef.lsm (zz a0 a1 a2 a3)) (SRef.toks (zz a0 a1 a2 a3)) := by
  funext i
  obtain ⟨k, n, rfl⟩ : ∃ (k : Fin 512) (n : Fin 128), i = ix2 k n := ⟨i 0, i 1, eq_ix2 i⟩
  obtain ⟨c, h1, h2, h3⟩ := column a0 a1 a2 a3 hpre k n
  obtain ⟨r, hr⟩ := zz_real a0 a1 a2 a3 hpre k n
  rw [lps_eq _ _ k n c h1, lsm_apply]
  show Cert.SenderIdeal.Gen.k0_pay11 (F := Ideal) (Y2 a2) (Y3 a3) (Tc.hid (F := Ideal) (Y0 a0) (Y1 a1) (Y2 a2) k.val) (ValueIdx.ix2 (0 : Fin 1) n) = _
  rw [← ix2_eq_valueIdx, pay11_apply, pay8_apply]
  simp only [pay6_apply, pay5_apply, pay4_eq, shifted_apply]
  have hM : max ⊥ (Finset.univ.fold max ⊥ fun e : Fin 128 => (zz a0 a1 a2 a3 (ix3 k n e) : EReal)) = Finset.univ.fold max ⊥ fun e : Fin 128 => (zz a0 a1 a2 a3 (ix3 k n e) : EReal) :=
    max_eq_right bot_le
  rw [hM]
  exact (column_lp (fun e => zz a0 a1 a2 a3 (ix3 k n e)) c _ ⟨r c, hr c⟩ h2).trans (by rw [hM])

set_option maxRecDepth 20000 in
theorem ent_eq : Tc.outEnt (F := Ideal) (Y0 a0) (Y1 a1) (Y2 a2) (Y3 a3) = SRef.ents (F := Ideal) (SRef.lsm (zz a0 a1 a2 a3)) := by
  funext i
  obtain ⟨k, n, rfl⟩ : ∃ (k : Fin 512) (n : Fin 128), i = ix2 k n := ⟨i 0, i 1, eq_ix2 i⟩
  obtain ⟨c, h1, h2, h3⟩ := column a0 a1 a2 a3 hpre k n
  obtain ⟨r, hr⟩ := zz_real a0 a1 a2 a3 hpre k n
  rw [ents_apply]
  show Cert.SenderIdeal.Gen.k0_pay12 (F := Ideal) (Y2 a2) (Y3 a3) (Tc.hid (F := Ideal) (Y0 a0) (Y1 a1) (Y2 a2) k.val) (ValueIdx.ix2 (0 : Fin 1) n) = _
  rw [← ix2_eq_valueIdx, pay12_apply, pay8_apply]
  have hM : (Finset.univ.fold max ⊥ fun e : Fin 128 => (zz a0 a1 a2 a3 (ix3 k n e) : EReal)) = ((r c : ℝ) : EReal) :=
    (fold_max (fun e => zz a0 a1 a2 a3 (ix3 k n e)) c h2).trans (hr c)
  have hM' : max ⊥ (Finset.univ.fold max ⊥ fun e : Fin 128 => (zz a0 a1 a2 a3 (ix3 k n e) : EReal)) = ((r c : ℝ) : EReal) := by
    rw [hM]; exact max_eq_right bot_le
  simp only [hr] at hM hM'
  simp only [pay6_apply, pay5_apply, pay4_eq, lsm_apply, shifted_apply, hr]
  simp only [hM, hM', ← EReal.coe_sub]
  exact column_ent fun e => r e - r c

end Columns

end Cert.Proof.SM

end
-- ==== Proof.SPre.lean ====
/-
  What the precondition of the sender's value claim says: every entry of the read-out matrix is a real.
-/
module

public import proofs.«01_k».proof.Pre_finite_readout
public import Idealize.ShloMosaic.Lib.Pointwise
public import Idealize.ShloMosaic.Lib.ReduceAll

@[expose] public section

set_option maxRecDepth 10000

noncomputable section

namespace Cert.Proof.SM

open Idealize.ShloMosaic
open Cert.Pre_finite_readout Cert.Pre_finite_readout.Facts

theorem real_of_lt (x : EReal) (h : Ideal.cmp .olt (max x (-x)) (Ideal.ofBits .f32 0x7F800000#32) = 1#1) : ∃ r : ℝ, x = (r : EReal) := by
  have inf : Ideal.ofBits .f32 0x7F800000#32 = ⊤ := by simp [Ideal.ofBits, Ideal.ieee]
  rw [inf] at h
  induction x using EReal.rec with
  | bot => simp [Ideal.cmp] at h
  | top => simp [Ideal.cmp] at h
  | coe r => exact ⟨r, rfl⟩

theorem lt_of_fn {F : FTy → Type} [FloatOps F] [hF : Cert.Pre_finite_readout.Facts] (a0 : FVec F S16x8x256 .f32) (a1 : FVec F S256x512 .f32)
    (a2 : FVec F S512x512 .f32) (a3 : FVec F S512x128 .f32) (q : S_.Idx) (e : fn (F := F) a0 a1 a2 a3 q = 1#1) (i : S512x128.Idx) :
    cmpf .olt (Host.absf a3) (broadcastInDim S512x128 ![] bcast_S_S512x128 (constant S_ .f32 0x7F800000#32)) i = 1#1 := by
  unfold fn at e
  dsimp only at e
  generalize cmpf .olt (Host.absf a3) (broadcastInDim S512x128 ![] bcast_S_S512x128 (constant S_ .f32 0x7F800000#32)) = v at e
  exact Host.reduce_andi_all v _ _ _ q e i

/-- The entries of the read-out are reals. -/
theorem real_of_pre [hF : Cert.Pre_finite_readout.Facts] (a0 : FVec Ideal S16x8x256 .f32) (a1 : FVec Ideal S256x512 .f32)
    (a2 : FVec Ideal S512x512 .f32) (a3 : FVec Ideal S512x128 .f32) (e : fn (F := Ideal) a0 a1 a2 a3 = fun _ => 1#1) (j : Fin 512) (c : Fin 128) :
    ∃ r : ℝ, a3 (ix2 j c) = (r : EReal) :=
  real_of_lt _ (lt_of_fn a0 a1 a2 a3 ix0 (by rw [e]) (ix2 j c))

end Cert.Proof.SM

end
-- ==== Proof.SDest.lean ====
/-
  The sender's call: the places of the messages' bytes, read at an entry over the extended reals.
-/
module

public import proofs.«01_k».proof.Proof.SKern
public import proofs.«01_k».proof.Proof.TcRun
public import proofs.«01_k».proof.Proof.Dest
public import Idealize.ShloMosaic.Lib.Pointwise

@[expose] public section

set_option maxRecDepth 4000

noncomputable section

namespace Cert.Proof.SM

open Idealize.ShloMosaic
open Cert.SenderIdeal Cert.SenderIdeal.Gen

/-- The two masks of the products. -/
abbrev maskA : IVec S128x128 1 := k0_pay17 (iota .tc S128x128 32 [0] iota_S128x128_d0_w32) (iota .tc S128x128 32 [1] iota_S128x128_d1_w32) 8#32 k0_pay15 k0_pay16 0#32
abbrev maskB : IVec S128x128 1 := k0_pay18 (iota .tc S128x128 32 [0] iota_S128x128_d0_w32) (iota .tc S128x128 32 [1] iota_S128x128_d1_w32) 8#32 k0_pay15 k0_pay16 0#32

/-- The number of a lane's block of eight, as it is computed. -/
def blockWord (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 8#32 0#32)) (Scalar.extui (Scalar.cmpi CmpIPredicate.slt 8#32 0#32))))
      (IntOp.cmpi CmpIPredicate.ne (IntOp.remsi ArithUnit.vector w 8#32) 0#32))
    (IntOp.subi (IntOp.divsi ArithUnit.vector w 8#32) 1#32)
    (IntOp.divsi ArithUnit.vector w 8#32)

/-- The number of a lane within its block, as it is computed. -/
def laneWord (w : BitVec 32) : BitVec 32 :=
  Scalar.select
    (IntOp.andi
      (IntOp.xori
        (IntOp.cmpi CmpIPredicate.slt (IntOp.remsi ArithUnit.vector w (Scalar.select (Scalar.cmpi CmpIPredicate.eq 8#32 0#32) 1#32 8#32)) 0#32)
        (Scalar.cmpi CmpIPredicate.slt (Scalar.select (Scalar.cmpi CmpIPredicate.eq 8#32 0#32) 1#32 8#32) 0#32))
      (IntOp.cmpi CmpIPredicate.ne (IntOp.remsi ArithUnit.vector w (Scalar.select (Scalar.cmpi CmpIPredicate.eq 8#32 0#32) 1#32 8#32)) 0#32))
    (IntOp.addi (IntOp.remsi ArithUnit.vector w (Scalar.select (Scalar.cmpi CmpIPredicate.eq 8#32 0#32) 1#32 8#32))
      (Scalar.select (Scalar.cmpi CmpIPredicate.eq 8#32 0#32) 1#32 8#32))
    (IntOp.remsi ArithUnit.vector w (Scalar.select (Scalar.cmpi CmpIPredicate.eq 8#32 0#32) 1#32 8#32))

theorem blockWord_eq : ∀ r : Fin 128, blockWord (BitVec.ofNat 32 r.val) = BitVec.ofNat 32 (r.val / 8) := by decide

theorem laneWord_eq : ∀ r : Fin 128, laneWord (BitVec.ofNat 32 r.val) = BitVec.ofNat 32 (r.val % 8) := by decide

theorem maskA_apply (r n : Fin 128) : maskA (ix2 r n) = IntOp.cmpi .eq (blockWord (BitVec.ofNat 32 r.val)) (blockWord (BitVec.ofNat 32 n.val)) := by
  pointwise [maskA, k0_pay17, k0_pay15, k0_pay16, blockWord]

theorem maskB_apply (r n : Fin 128) : maskB (ix2 r n) = IntOp.andi (maskA (ix2 r n)) (IntOp.cmpi .slt (BitVec.ofNat 32 r.val) (BitVec.ofNat 32 n.val)) := by
  generalize hA : maskA = A
  unfold maskB k0_pay18
  rw [show k0_pay17 (iota .tc S128x128 32 [0] iota_S128x128_d0_w32) (iota .tc S128x128 32 [1] iota_S128x128_d1_w32) 8#32 k0_pay15 k0_pay16 0#32 = A from hA]
  pointwise

theorem ofNat_inj {a b : ℕ} (ha : a < 4294967296) (hb : b < 4294967296) : BitVec.ofNat 32 a = BitVec.ofNat 32 b ↔ a = b := by
  constructor
  · intro h
    have h := congrArg BitVec.toNat h
    rw [BitVec.toNat_ofNat, BitVec.toNat_ofNat, Nat.mod_eq_of_lt ha, Nat.mod_eq_of_lt hb] at h
    exact h
  · rintro rfl; rfl

theorem slt_ofNat {a b : ℕ} (ha : a < 2147483648) (hb : b < 2147483648) :
    IntOp.cmpi .slt (BitVec.ofNat 32 a) (BitVec.ofNat 32 b) = if a < b then 1#1 else 0#1 := by
  have e : ∀ {a : ℕ}, a < 2147483648 → (BitVec.ofNat 32 a).toInt = a := fun {a} h => by
    rw [BitVec.toInt_eq_toNat_of_lt (by rw [BitVec.toNat_ofNat]; omega), BitVec.toNat_ofNat]
    omega
  have h : (BitVec.ofNat 32 a).slt (BitVec.ofNat 32 b) = decide (a < b) := by
    rw [Bool.eq_iff_iff, BitVec.slt_iff_toInt_lt, e ha, e hb, decide_eq_true_iff]
    omega
  show BitVec.ofBool ((BitVec.ofNat 32 a).slt (BitVec.ofNat 32 b)) = _
  rw [h]
  by_cases hab : a < b
  · rw [decide_eq_true hab, if_pos hab]; rfl
  · rw [decide_eq_false hab, if_neg hab]; rfl

theorem maskA_eq (r n : Fin 128) : maskA (ix2 r n) = if r.val / 8 = n.val / 8 then 1#1 else 0#1 := by
  have hr := r.isLt
  have hn := n.isLt
  rw [maskA_apply, blockWord_eq, blockWord_eq]
  show BitVec.ofBool (BitVec.ofNat 32 (r.val / 8) == BitVec.ofNat 32 (n.val / 8)) = _
  by_cases h : r.val / 8 = n.val / 8
  · rw [if_pos h, h, beq_self_eq_true]; rfl
  · rw [if_neg h, beq_eq_false_iff_ne.2 fun e => h ((ofNat_inj (by omega) (by omega)).1 e)]; rfl

theorem maskB_eq (r n : Fin 128) : maskB (ix2 r n) = if r.val / 8 = n.val / 8 ∧ r.val < n.val then 1#1 else 0#1 := by
  have hr := r.isLt
  have hn := n.isLt
  rw [maskB_apply, maskA_eq, slt_ofNat (by omega) (by omega)]
  by_cases h : r.val / 8 = n.val / 8 <;> by_cases h' : r.val < n.val
  · rw [if_pos h, if_pos h', if_pos ⟨h, h'⟩]; rfl
  · rw [if_pos h, if_neg h', if_neg fun e => h' e.2]; rfl
  · rw [if_neg h, if_pos h', if_neg fun e => h e.1]; rfl
  · rw [if_neg h, if_neg h', if_neg fun e => h e.1]; rfl

/-! ## Sums over a block -/

theorem pre_eq_sum (f : ℕ → ℕ) (s : ℕ) : ∑ i ∈ Finset.range s, f i = Dest.pre f s := by
  induction s with
  | zero => rfl
  | succ s ih => rw [Finset.sum_range_succ, ih]; rfl

/-- The sum over the lanes of a stretch. -/
theorem sum_stretch (P : ℕ → ℕ) (b s : ℕ) (h : 8 * b + s ≤ 128) (M : Fin 128 → Prop) [DecidablePred M]
    (hM : ∀ x, M x ↔ 8 * b ≤ x.val ∧ x.val < 8 * b + s) :
    (∑ x : Fin 128, if M x then P x.val else 0) = Dest.pre (fun i => P (8 * b + i)) s := by
  have e : (∑ x : Fin 128, if M x then P x.val else 0) = ∑ x : Fin 128, (fun x : ℕ => if 8 * b ≤ x ∧ x < 8 * b + s then P x else 0) x.val :=
    Finset.sum_congr rfl fun x _ => by simp only [hM]
  rw [e, Finset.sum_fin_eq_sum_range, ← pre_eq_sum]
  have e2 : (∑ i ∈ Finset.range 128, if h : i < 128 then (fun x : ℕ => if 8 * b ≤ x ∧ x < 8 * b + s then P x else 0) (⟨i, h⟩ : Fin 128).val else 0)
      = ∑ i ∈ Finset.range 128, if 8 * b ≤ i ∧ i < 8 * b + s then P i else 0 :=
    Finset.sum_congr rfl fun i hi => by rw [dif_pos (Finset.mem_range.1 hi)]
  rw [e2, ← Finset.sum_filter, show (Finset.range 128).filter (fun i => 8 * b ≤ i ∧ i < 8 * b + s) = Finset.Ico (8 * b) (8 * b + s) from by
    ext i; simp only [Finset.mem_filter, Finset.mem_range, Finset.mem_Ico]; omega, Finset.sum_Ico_eq_sum_range]
  rw [show 8 * b + s - 8 * b = s by omega]

/-- The same as it is computed: reals chosen by a mask. -/
theorem sum_mask (P : ℕ → ℕ) (b s : ℕ) (h : 8 * b + s ≤ 128) (q : Fin 128 → EReal) (hq : ∀ x, q x = (((P x.val : ℕ) : ℝ) : EReal))
    (B : Fin 128 → BitVec 1) (M : Fin 128 → Prop) [DecidablePred M] (hB : ∀ x, B x = if M x then 1#1 else 0#1)
    (hM : ∀ x, M x ↔ 8 * b ≤ x.val ∧ x.val < 8 * b + s) :
    (∑ x : Fin 128, Scalar.select (B x) (q x) (0 : EReal)) = (((Dest.pre (fun i => P (8 * b + i)) s : ℕ) : ℝ) : EReal) := by
  rw [← sum_stretch P b s h M hM]
  have e : ∀ S : Finset (Fin 128), (∑ x ∈ S, Scalar.select (B x) (q x) (0 : EReal)) = (((∑ x ∈ S, if M x then P x.val else 0 : ℕ) : ℝ) : EReal) := by
    intro S
    induction S using Finset.cons_induction with
    | empty => simp
    | cons a S ha ih =>
      rw [Finset.sum_cons, Finset.sum_cons, ih, Nat.cast_add, EReal.coe_add, hB, hq]
      by_cases hm : M a
      · rw [if_pos hm, if_pos hm]; rfl
      · rw [if_neg hm, if_neg hm]; simp [Scalar.select]
  exact e _

/-! ## The places -/

theorem pay14_apply (t : Vec Ideal S512x128 .i32) (i : Fin 1) (n : Fin 128) :
    k0_pay14 (F := Ideal) t (ix2 i n) = (((k0_pay13 (F := Ideal) t (ix2 i n)).toInt : ℝ) : EReal) := by
  pointwise [k0_pay14]
  rfl

theorem pay1_apply (p : IVec S1x128 32) (q : FVec Ideal S1x128 .f32) (A B : IVec S128x128 1) (l : Fin 512) (n : Fin 128) :
    k0_pay1 (F := Ideal) (iota .tc S512x128 32 [0] iota_S512x128_d0_w32) p q A B (Scalar.ofBits .f32 0x00000000#32) (k0_pay19 (F := Ideal)) (ix2 l n)
    = Ideal.fptosi 32 (Scalar.select (IntOp.cmpi .slt (BitVec.ofNat 32 l.val) (p (ix2 0 n)))
        ((∑ x : Fin 128, Scalar.select (B (ix2 x n)) (q (ix2 0 x) : EReal) 0) + (((BitVec.ofNat 32 l.val).toInt : ℝ) : EReal))
        ((∑ x : Fin 128, Scalar.select (A (ix2 x n)) (q (ix2 0 x) : EReal) 0)
          + ((((laneWord (BitVec.ofNat 32 n.val)).toInt : ℝ) : EReal) * Ideal.ofBits .f32 0x44000000#32 - ∑ x : Fin 128, Scalar.select (B (ix2 x n)) (q (ix2 0 x) : EReal) 0)
          + (((BitVec.ofNat 32 l.val).toInt : ℝ) : EReal) - q (ix2 0 n))) := by
  pointwise [k0_pay1, k0_pay19, laneWord]
  rfl

theorem fptosi_nat {v : ℕ} (hv : v < 2147483648) : Ideal.fptosi 32 (((v : ℕ) : ℝ) : EReal) = BitVec.ofNat 32 v := by
  unfold Ideal.fptosi
  rw [Ideal.toIntClamped_coe, if_pos (Nat.cast_nonneg v), Int.floor_natCast]
  have e : max (-((2 ^ (32 - 1) : ℕ) : ℤ)) (min (((2 ^ (32 - 1) : ℕ) : ℤ) - 1) (v : ℤ)) = (v : ℤ) := by norm_num; omega
  rw [e]
  exact BitVec.ofInt_natCast 32 v

theorem bits_512 : Ideal.ofBits .f32 0x44000000#32 = ((512 : ℝ) : EReal) := by
  simp [Ideal.ofBits, Ideal.ieee]
  rw [← EReal.coe_mul, EReal.coe_eq_coe_iff]
  norm_num

theorem ofNat_toInt {a : ℕ} (h : a < 2147483648) : (BitVec.ofNat 32 a).toInt = a := by
  rw [BitVec.toInt_eq_toNat_of_lt (by rw [BitVec.toNat_ofNat]; omega), BitVec.toNat_ofNat]
  omega

/-- The place that is computed for a byte, the lengths less one being `P`. -/
theorem place_eq (t : Vec Ideal S512x128 .i32) (P : ℕ → ℕ) (hP : ∀ i, P i ≤ 511) (hp : ∀ x : Fin 128, k0_pay13 (F := Ideal) t (ix2 0 x) = BitVec.ofNat 32 (P x.val))
    (l : Fin 512) (b : Fin 16) (s : Fin 8) :
    Tc.outDest (F := Ideal) t (ix2 l ⟨b.val * 8 + s.val, by omega⟩) = BitVec.ofNat 32 (Dest.place (fun i => P (8 * b.val + i)) s.val l.val) := by
  have hb := b.isLt
  have hs := s.isLt
  have hl := l.isLt
  unfold Tc.outDest
  have hq : ∀ x : Fin 128, k0_pay14 (F := Ideal) t (ix2 0 x) = (((P x.val : ℕ) : ℝ) : EReal) := fun x => by
    rw [pay14_apply, hp, ofNat_toInt (by have := hP x.val; omega)]; rfl
  have hA := sum_mask P b.val 8 (by omega) (fun x => k0_pay14 (F := Ideal) t (ix2 0 x)) hq (fun x => maskA (ix2 x ⟨b.val * 8 + s.val, by omega⟩))
    (fun x => x.val / 8 = (b.val * 8 + s.val) / 8) (fun x => maskA_eq x _) (fun x => by omega)
  have hB := sum_mask P b.val s.val (by omega) (fun x => k0_pay14 (F := Ideal) t (ix2 0 x)) hq (fun x => maskB (ix2 x ⟨b.val * 8 + s.val, by omega⟩))
    (fun x => x.val / 8 = (b.val * 8 + s.val) / 8 ∧ x.val < b.val * 8 + s.val) (fun x => maskB_eq x _) (fun x => by omega)
  rw [pay1_apply]
  rw [hA, hB, hq, hp, laneWord_eq, bits_512, ofNat_toInt (by omega), ofNat_toInt (by show (b.val * 8 + s.val) % 8 < _; omega)]
  have hPs := hP (8 * b.val + s.val)
  have hc := Dest.pre_compl (fun i => P (8 * b.val + i)) (fun i => (hP _).trans (by omega)) s.val
  have hlt := Dest.place_lt (fun i => P (8 * b.val + i)) (fun i => (hP _).trans (by omega)) hs hl
  rw [slt_ofNat (by omega) (by show P (b.val * 8 + s.val) < _; rw [Nat.mul_comm]; omega)]
  show Ideal.fptosi 32 (Scalar.select (if l.val < P (b.val * 8 + s.val) then 1#1 else 0#1) _ _) = _
  have hcomm : P (b.val * 8 + s.val) = P (8 * b.val + s.val) := by rw [Nat.mul_comm]
  unfold Dest.place at hlt ⊢
  by_cases h : l.val < P (8 * b.val + s.val)
  · rw [hcomm, if_pos h, if_pos h]
    rw [if_pos h] at hlt
    rw [← fptosi_nat (by omega)]
    congr 1
    push_cast
    rfl
  · rw [hcomm, if_neg h, if_neg h]
    rw [if_neg h] at hlt
    rw [← fptosi_nat (by omega)]
    congr 1
    show ((_ : ℝ) : EReal) + (((_ : ℝ) : EReal) * ((512 : ℝ) : EReal) - ((_ : ℝ) : EReal)) + ((_ : ℝ) : EReal) - ((_ : ℝ) : EReal) = _
    rw [← EReal.coe_mul, ← EReal.coe_sub, ← EReal.coe_add, ← EReal.coe_add, ← EReal.coe_sub, EReal.coe_eq_coe_iff]
    have hmod : (b.val * 8 + s.val) % 8 = s.val := by omega
    have hc' : ((Dest.pre (fun i => P (8 * b.val + i)) s.val : ℕ) : ℝ) + ((Dest.pre (fun i => 512 - P (8 * b.val + i)) s.val : ℕ) : ℝ) = 512 * (s.val : ℝ) := by
      exact_mod_cast hc
    show _ + (((((b.val * 8 + s.val) % 8 : ℕ) : ℤ) : ℝ) * 512 - _) + _ - _ = (((Dest.pre (fun i => P (8 * b.val + i)) 8 : ℕ) + Dest.pre (fun i => 512 - P (8 * b.val + i)) s.val + (l.val - P (8 * b.val + s.val)) : ℕ) : ℝ)
    rw [hmod, Nat.cast_add, Nat.cast_add, Nat.cast_sub (Nat.le_of_not_lt h)]
    push_cast
    linarith

end Cert.Proof.SM

end
-- ==== Proof.SLens.lean ====
/-
  The lengths of the messages, read at a message: the number of its first zero.
-/
module

public import proofs.«01_k».proof.Proof.Dest

@[expose] public section

noncomputable section

namespace Cert.Proof.SM

open Idealize.ShloMosaic Idealize.ShloMosaic.ValueIdx Idealize.ShloMosaic.Routing
open Cert.Pre_dest_of_messages Cert.Pre_dest_of_messages.Gen

theorem numel3 (N : Nat) : (shape3 1 1 N).numel = N := by
  show ∏ a : Fin 3, (![1, 1, N] : Fin 3 → Nat) a = N
  rw [Fin.prod_univ_three]
  show 1 * 1 * N = N
  rw [Nat.one_mul]

/-- Position `n` of a `[1, 1, N]` row is its index `(0, 0, n)`. -/
theorem symm3 {N : Nat} (n : Fin (shape3 1 1 N).numel) : (shape3 1 1 N).rowMajor.symm n = ix3 (0 : Fin 1) (0 : Fin 1) (n.cast (numel3 N)) :=
  ((shape3 1 1 N).rowMajor.symm_apply_eq).2 (Fin.ext (by
    rw [Shape.rowMajor_val_three]
    show n.val = (0 * 1 + 0) * N + n.val
    rw [Nat.zero_mul, Nat.zero_add]))

/-- jnp's `cumsum` along the last of three axes, as it prints. -/
theorem cumsum_last {A B C Cm1 : Nat} (hC : Cm1 + 1 = C) (x : IVec (shape3 A B C) 32) (a : Fin A) (b : Fin B) (f : Nat → Nat)
    (hx : ∀ c : Fin C, x (ix3 a b c) = BitVec.ofNat 32 (f c.val)) (init : IVec shape0 32) (hinit : init ix0 = 0#32)
    (h : (shape3 A B C).ReduceWindows (![1, 1, C] : Fin 3 → Nat) ![1, 1, 1] ![0, 0, Cm1] ![0, 0, 0] (shape3 A B C)) (hu : 0 < shape0.numel) (j : Fin C) :
    Host.reduceWindow IntOp.addi ![1, 1, C] ![1, 1, 1] ![0, 0, Cm1] ![0, 0, 0] x init h hu (ix3 a b j)
      = BitVec.ofNat 32 ((List.range (j.val + 1)).map f).sum := by
  subst hC
  have hv : init (Shape.Idx.first hu) = BitVec.ofNat 32 0 := (congrArg init (eq_ix0 _)).trans hinit
  have hj := j.isLt
  have ha := a.isLt
  have hb := b.isLt
  unfold Host.reduceWindow
  refine (foldl_addi_ofNat _ _ (fun n => if Cm1 ≤ j.val + n.val then f (j.val + n.val - Cm1) else 0) (fun n _ => ?_) _ 0 hv).trans ?_
  · have hw0 : ((shape3 1 1 (Cm1 + 1)).rowMajor.symm n 0).val = 0 := by rw [symm3]; rfl
    have hw1 : ((shape3 1 1 (Cm1 + 1)).rowMajor.symm n 1).val = 0 := by rw [symm3]; rfl
    have hw2 : ((shape3 1 1 (Cm1 + 1)).rowMajor.symm n 2).val = n.val := by rw [symm3]; rfl
    have hn : n.val < Cm1 + 1 := (n.cast (numel3 _)).isLt
    dsimp only
    split
    · next hin =>
      have h1 := hin 2
      change Cm1 ≤ j.val * 1 + ((shape3 1 1 (Cm1 + 1)).rowMajor.symm n 2).val
        ∧ j.val * 1 + ((shape3 1 1 (Cm1 + 1)).rowMajor.symm n 2).val - Cm1 < Cm1 + 1 at h1
      rw [hw2] at h1
      rw [if_pos (by omega)]
      refine (congrArg x (funext fun k => Fin.ext ?_)).trans (hx ⟨j.val + n.val - Cm1, by omega⟩)
      match k with
      | ⟨0, _⟩ =>
        show a.val * 1 + ((shape3 1 1 (Cm1 + 1)).rowMajor.symm n 0).val - 0 = a.val
        rw [hw0]
        omega
      | ⟨1, _⟩ =>
        show b.val * 1 + ((shape3 1 1 (Cm1 + 1)).rowMajor.symm n 1).val - 0 = b.val
        rw [hw1]
        omega
      | ⟨2, _⟩ =>
        show j.val * 1 + ((shape3 1 1 (Cm1 + 1)).rowMajor.symm n 2).val - Cm1 = j.val + n.val - Cm1
        rw [hw2, Nat.mul_one]
    · next hin =>
      rw [if_neg fun hle => hin fun k => by
        match k with
        | ⟨0, _⟩ =>
          show 0 ≤ a.val * 1 + ((shape3 1 1 (Cm1 + 1)).rowMajor.symm n 0).val ∧ a.val * 1 + ((shape3 1 1 (Cm1 + 1)).rowMajor.symm n 0).val - 0 < A
          rw [hw0]
          omega
        | ⟨1, _⟩ =>
          show 0 ≤ b.val * 1 + ((shape3 1 1 (Cm1 + 1)).rowMajor.symm n 1).val ∧ b.val * 1 + ((shape3 1 1 (Cm1 + 1)).rowMajor.symm n 1).val - 0 < B
          rw [hw1]
          omega
        | ⟨2, _⟩ =>
          show Cm1 ≤ j.val * 1 + ((shape3 1 1 (Cm1 + 1)).rowMajor.symm n 2).val
            ∧ j.val * 1 + ((shape3 1 1 (Cm1 + 1)).rowMajor.symm n 2).val - Cm1 < Cm1 + 1
          rw [hw2]
          omega]
      exact hv
  · rw [Nat.zero_add, map_finRange_val _ (fun w => if Cm1 ≤ j.val + w then f (j.val + w - Cm1) else 0)]
    exact congrArg (BitVec.ofNat 32) ((congrArg (fun M => ((List.range M).map fun w => if Cm1 ≤ j.val + w then f (j.val + w - Cm1) else 0).sum)
      (numel3 (Cm1 + 1))).trans (sum_window f Cm1 j.val (by omega)))

/-- `z` is the number of the first of the 512 words that is zero, 512 where none is. -/
structure FirstZero (w : Fin 512 → BitVec 32) (z : ℕ) : Prop where
  le : z ≤ 512
  before : ∀ k : Fin 512, k.val < z → w k ≠ 0#32
  at_ : ∀ k : Fin 512, k.val = z → w k = 0#32

theorem exists_firstZero (w : Fin 512 → BitVec 32) : ∃ z, FirstZero w z := by
  by_cases h : ∃ z, ∃ hz : z < 512, w ⟨z, hz⟩ = 0#32
  · classical
    obtain ⟨h1, h2⟩ := Nat.find_spec h
    refine ⟨Nat.find h, h1.le, fun k hk e => Nat.find_min h hk ⟨k.isLt, e⟩, fun k hk => ?_⟩
    rw [← h2]
    exact congrArg w (Fin.ext hk)
  · exact ⟨512, Nat.le_refl _, fun k _ e => h ⟨k.val, k.isLt, e⟩, fun k hk => absurd k.isLt (by omega)⟩

theorem pre_pos (f : ℕ → ℕ) (n : ℕ) : 0 < Dest.pre f n ↔ ∃ k, k < n ∧ 0 < f k := by
  induction n with
  | zero => simp [Dest.pre]
  | succ n ih =>
    show 0 < Dest.pre f n + f n ↔ _
    constructor
    · intro h
      by_cases h0 : 0 < Dest.pre f n
      · obtain ⟨k, hk, hf⟩ := ih.1 h0
        exact ⟨k, by omega, hf⟩
      · exact ⟨n, by omega, by omega⟩
    · rintro ⟨k, hk, hf⟩
      by_cases e : k = n
      · subst e; omega
      · have := ih.2 ⟨k, by omega, hf⟩
        omega

theorem pre_le (f : ℕ → ℕ) (hf : ∀ k, f k ≤ 1) (n : ℕ) : Dest.pre f n ≤ n := by
  induction n with
  | zero => exact Nat.le_refl _
  | succ n ih => have := hf n; show Dest.pre f n + f n ≤ _; omega

/-- One where word `k` is zero. -/
def bit (w : Fin 512 → BitVec 32) (k : ℕ) : ℕ := if h : k < 512 then if w ⟨k, h⟩ = 0#32 then 1 else 0 else 0

theorem bit_le (w : Fin 512 → BitVec 32) (k : ℕ) : bit w k ≤ 1 := by
  unfold bit
  split
  · split <;> omega
  · omega

theorem bit_word (w : Fin 512 → BitVec 32) (c : Fin 512) : (IntOp.cmpi .eq (w c) 0#32).setWidth 32 = BitVec.ofNat 32 (bit w c.val) := by
  unfold bit
  rw [dif_pos c.isLt, WordCmp.cmpi_eq_eq]
  by_cases e : w c = 0#32
  · rw [decide_eq_true e, if_pos e]; rfl
  · rw [decide_eq_false e, if_neg e]; rfl

theorem bits_pos (w : Fin 512 → BitVec 32) (z : ℕ) (hz : FirstZero w z) (l : Fin 512) : 0 < Dest.pre (bit w) (l.val + 1) ↔ z ≤ l.val := by
  have hl := l.isLt
  rw [pre_pos]
  constructor
  · rintro ⟨k, hk, hfk⟩
    by_contra hcon
    have hk5 : k < 512 := by omega
    have hne := hz.before ⟨k, hk5⟩ (by show k < z; omega)
    unfold bit at hfk
    rw [dif_pos hk5, if_neg hne] at hfk
    omega
  · intro hle
    refine ⟨z, by omega, ?_⟩
    have hz5 : z < 512 := by omega
    unfold bit
    rw [dif_pos hz5, if_pos (hz.at_ ⟨z, hz5⟩ rfl)]
    omega

/-- The number of zeros up to a byte. -/
theorem zeros_apply (x : IVec S16x8x512 32) (b : Fin 16) (s : Fin 8) (l : Fin 512) :
    Host.reduceWindow IntOp.addi ![1, 1, 512] ![1, 1, 1] ![0, 0, 511] ![0, 0, 0]
      (extui 32 (cmpi .eq x (broadcastInDim S16x8x512 ![] bcast_S_S16x8x512 (constantI S_ 32 0#32))) natLt_1_32)
      (broadcastInDim S_ ![] bcast_S_S_ (constantI S_ 32 0#32)) reduceWindows_S16x8x512_S16x8x512_w1s1p0_0_w1s1p0_0_w512s1p511_0 h_S_ (ix3 b s l)
      = BitVec.ofNat 32 (Dest.pre (bit fun k => x (ix3 b s k)) (l.val + 1)) := by
  rw [← Dest.pre_eq_list]
  exact cumsum_last (A := 16) (B := 8) (C := 512) (Cm1 := 511) rfl _ b s (bit fun k => x (ix3 b s k)) (fun c => bit_word (fun k => x (ix3 b s k)) c) _ rfl _ _ l

theorem ended_read (x : IVec S16x8x512 32) (b : Fin 16) (s : Fin 8) (l : Fin 512) :
    Dest.ended x (ix3 b s l) = IntOp.cmpi .sgt (BitVec.ofNat 32 (Dest.pre (bit fun k => x (ix3 b s k)) (l.val + 1))) 0#32 := by
  rw [← zeros_apply x b s l]
  rfl

/-- Whether a byte is at or after the first zero. -/
theorem ended_apply (x : IVec S16x8x512 32) (b : Fin 16) (s : Fin 8) (z : ℕ) (hz : FirstZero (fun k => x (ix3 b s k)) z) (l : Fin 512) :
    Dest.ended x (ix3 b s l) = if z ≤ l.val then 1#1 else 0#1 := by
  have hl := l.isLt
  have hiff := bits_pos _ z hz l
  have hp := pre_le _ (bit_le fun k => x (ix3 b s k)) (l.val + 1)
  rw [ended_read]
  revert hiff hp
  generalize Dest.pre (bit fun k => x (ix3 b s k)) (l.val + 1) = v
  intro hiff hp
  rw [WordCmp.cmpi_sgt_eq, StableHlo.Predicate.toInt_ofNat_small _ (by omega), StableHlo.Predicate.toInt_ofNat_small _ (by omega)]
  by_cases h : z ≤ l.val
  · rw [decide_eq_true (by have := hiff.2 h; omega), if_pos h]; rfl
  · rw [decide_eq_false fun e => h (hiff.1 (by omega)), if_neg h]; rfl

theorem sum_after (z N : ℕ) : (∑ i ∈ Finset.range N, if z ≤ i then 1 else 0) = N - z := by
  induction N with
  | zero => simp
  | succ N ih =>
    rw [Finset.sum_range_succ, ih]
    split <;> omega

theorem sum_after_fin (z N : ℕ) : (∑ k : Fin N, if z ≤ k.val then 1 else 0) = N - z := by
  rw [← sum_after z N]
  exact Fin.sum_univ_eq_sum_range (fun i => if z ≤ i then 1 else 0) N

/-- How many bytes are at or after the first zero. -/
theorem count_eq (msk : IVec S16x8x512 1) (b : Fin 16) (s : Fin 8) (z : ℕ) (hm : ∀ l : Fin 512, msk (ix3 b s l) = if z ≤ l.val then 1#1 else 0#1) :
    Host.reduce IntOp.addi (extui 32 msk natLt_1_32) (constantI S_ 32 0#32) reducesTo_S16x8x512_S16x8_d2 h_S_ (ix2 b s) = BitVec.ofNat 32 (512 - z) := by
  have hR : S16x8x512.Reduces [2] S16x8 := by decide
  rw [Host.reduce_eq_fold_single IntOp.addi _ _ reducesTo_S16x8x512_S16x8_d2 hR h_S_ (ix2 b s)]
  have hl : ∀ k : Fin 512, hR.lift (ix2 b s) k = ix3 b s k := fun k => by
    funext a
    match a with
    | ⟨0, _⟩ => rfl
    | ⟨1, _⟩ => rfl
    | ⟨2, _⟩ => rfl
  have hc : (extui 32 msk natLt_1_32 ∘ hR.lift (ix2 b s) : Fin 512 → BitVec 32) = fun k => BitVec.ofNat 32 (if z ≤ k.val then 1 else 0) := funext fun k => by
    show (msk (hR.lift (ix2 b s) k)).setWidth 32 = _
    rw [hl, hm]
    by_cases h : z ≤ k.val
    · rw [if_pos h, if_pos h]; rfl
    · rw [if_neg h, if_neg h]; rfl
  have hn : ∀ k : Fin 512, (BitVec.ofNat 32 (if z ≤ k.val then 1 else 0)).toNat = if z ≤ k.val then 1 else 0 := fun k => by
    split <;> rfl
  have hs : ∑ k : Fin 512, (BitVec.ofNat 32 (if z ≤ k.val then 1 else 0)).toNat = 512 - z := by
    simp only [hn]
    exact sum_after_fin z 512
  have hfold := StableHlo.Predicate.toNat_fold_addi (Finset.univ : Finset (Fin 512)) (fun k => BitVec.ofNat 32 (if z ≤ k.val then 1 else 0)) (by rw [hs]; omega)
  rw [hs] at hfold
  apply BitVec.eq_of_toNat_eq
  rw [BitVec.toNat_ofNat, Nat.mod_eq_of_lt (by omega), ← hfold]
  show (Finset.fold IntOp.addi 0#32 (extui 32 msk natLt_1_32 ∘ hR.lift (ix2 b s) : Fin 512 → BitVec 32) Finset.univ).toNat = _
  rw [hc]

/-- A message's length less one, from the number of its first zero. -/
theorem lens_eq (x : IVec S16x8x512 32) (b : Fin 16) (s : Fin 8) (z : ℕ) (hz : FirstZero (fun k => x (ix3 b s k)) z) :
    Dest.lens (Dest.ended x) (ix2 b s) = IntOp.subi (IntOp.minsi (IntOp.addi (BitVec.ofNat 32 z) 1#32) 512#32) 1#32 := by
  have hle := hz.le
  show IntOp.subi (IntOp.minsi (IntOp.addi (512#32 - Host.reduce IntOp.addi (extui 32 (Dest.ended x) natLt_1_32) (constantI S_ 32 0#32) reducesTo_S16x8x512_S16x8_d2 h_S_ (ix2 b s)) 1#32) 512#32) 1#32 = _
  rw [count_eq (Dest.ended x) b s z (ended_apply x b s z hz), show (512#32 : BitVec 32) - BitVec.ofNat 32 (512 - z) = BitVec.ofNat 32 512 - BitVec.ofNat 32 (512 - z) from rfl,
    Dest.sub_ofNat (by omega), show 512 - (512 - z) = z by omega]

end Cert.Proof.SM

end
-- ==== Proof.SDestEq.lean ====
/-
  The kernel's places are the reference's.
-/
module

public import proofs.«01_k».proof.Proof.SDest
public import proofs.«01_k».proof.Proof.SLens
public import proofs.«01_k».proof.Proof.SRead
public import proofs.«01_k».proof.Proof.SCol

@[expose] public section

noncomputable section

namespace Cert.Proof.SM

open Idealize.ShloMosaic
open Cert.SenderIdeal Cert.SenderIdeal.Gen

/-- The kernel's least zero position is the number of the first zero. -/
theorem first_fold (w : Fin 512 → BitVec 32) (z : ℕ) (hz : FirstZero w z) :
    (Finset.univ.fold IntOp.minsi 2147483647#32 fun l : Fin 512 => Scalar.select (IntOp.cmpi .eq (w l) 0#32) (BitVec.ofNat 32 l.val) 512#32) = BitVec.ofNat 32 z := by
  have hle := hz.le
  have hsel : ∀ l : Fin 512, Scalar.select (IntOp.cmpi .eq (w l) 0#32) (BitVec.ofNat 32 l.val) 512#32 = if w l = 0#32 then BitVec.ofNat 32 l.val else 512#32 := fun l => by
    rw [WordCmp.cmpi_eq_eq]
    by_cases e : w l = 0#32
    · rw [decide_eq_true e, if_pos e]; rfl
    · rw [decide_eq_false e, if_neg e]; rfl
  refine fold_minsi _ _ ?_ fun l => ?_
  · by_cases h : z < 512
    · exact ⟨⟨z, h⟩, by rw [hsel, if_pos (hz.at_ _ rfl)]⟩
    · have e : z = 512 := by omega
      subst e
      exact ⟨0, by rw [hsel, if_neg (hz.before 0 (by decide))]⟩
  · rw [hsel, ofNat_toInt (by omega)]
    by_cases e : w l = 0#32
    · have hl := l.isLt
      rw [if_pos e, ofNat_toInt (by omega)]
      by_contra hc
      exact hz.before l (by omega) e
    · rw [if_neg e, show ((512#32 : BitVec 32).toInt) = 512 from rfl]
      omega

/-- The lengths less one agree. -/
theorem len_eq (t : IVec S512x128 32) (b : Fin 16) (s : Fin 8) :
    k0_pay13 (F := Ideal) t (ix2 0 ⟨b.val * 8 + s.val, by omega⟩) = Dest.lens (Dest.ended (SRef.msgs t)) (ValueIdx.ix2 b s) := by
  obtain ⟨z, hz⟩ := exists_firstZero fun l => t (ix2 l ⟨b.val * 8 + s.val, by omega⟩)
  rw [pay13_apply, first_fold _ z hz]
  refine (lens_eq (SRef.msgs t) b s z ?_).symm
  have e : (fun k => SRef.msgs t (ValueIdx.ix3 b s k)) = fun l => t (ix2 l ⟨b.val * 8 + s.val, by omega⟩) := funext fun l => by
    rw [← ix3_eq_valueIdx]
    exact msgs_apply t b s l
  rw [e]
  exact hz

theorem dest_eq (t : IVec S512x128 32) : Tc.outDest (F := Ideal) t = SRef.places t := by
  funext i
  obtain ⟨l, n, rfl⟩ : ∃ (l : Fin 512) (n : Fin 128), i = ix2 l n := ⟨i 0, i 1, eq_ix2 i⟩
  have hn := n.isLt
  obtain ⟨b, s, h8, hb⟩ : ∃ (b : Fin 16) (s : Fin 8) (h : b.val * 8 + s.val < 128), n = ⟨b.val * 8 + s.val, h⟩ :=
    ⟨⟨n.val / 8, by omega⟩, ⟨n.val % 8, by omega⟩, by show n.val / 8 * 8 + n.val % 8 < 128; omega, Fin.ext (by show n.val = n.val / 8 * 8 + n.val % 8; omega)⟩
  clear hn
  subst hb
  generalize hp : Dest.lens (Dest.ended (SRef.msgs t)) = p
  have hlen : ∀ (b : Fin 16) (s : Fin 8), k0_pay13 (F := Ideal) t (ix2 0 ⟨b.val * 8 + s.val, by omega⟩) = p (ValueIdx.ix2 b s) := fun b s => by
    rw [len_eq, hp]
  have hle : ∀ b s, (p (ValueIdx.ix2 b s)).toNat ≤ 511 := fun b s => by rw [← hp]; exact Dest.lens_le _ b s
  have hP : ∀ x : Fin 128, k0_pay13 (F := Ideal) t (ix2 0 x) = BitVec.ofNat 32 ((fun i => Dest.nat p (i / 8) (i % 8)) x.val) := fun x => by
    have hx := x.isLt
    have e : x = ⟨(⟨x.val / 8, by omega⟩ : Fin 16).val * 8 + (⟨x.val % 8, by omega⟩ : Fin 8).val, by show x.val / 8 * 8 + x.val % 8 < 128; omega⟩ :=
      Fin.ext (by show x.val = x.val / 8 * 8 + x.val % 8; omega)
    have h := hlen ⟨x.val / 8, by omega⟩ ⟨x.val % 8, by omega⟩
    rw [← e] at h
    rw [h]
    exact Dest.nat_spec p _ _
  rw [places_apply, hp, ix3_eq_valueIdx, Dest.dest_apply p hle]
  rw [place_eq t (fun i => Dest.nat p (i / 8) (i % 8)) (fun i => Dest.nat_le p hle _ _) hP l b s]
  have hpre : ∀ (f g : ℕ → ℕ) (n : ℕ), (∀ i, i < n → f i = g i) → Dest.pre f n = Dest.pre g n := fun f g n h => by
    rw [← Dest.pre_eq_list, ← Dest.pre_eq_list, List.map_congr_left fun i hi => h i (List.mem_range.1 hi)]
  have hfg : ∀ i, i < 8 → Dest.nat p ((8 * b.val + i) / 8) ((8 * b.val + i) % 8) = Dest.nat p b.val i := fun i hi => by
    rw [show (8 * b.val + i) / 8 = b.val by omega, show (8 * b.val + i) % 8 = i by omega]
  have hs := s.isLt
  unfold Dest.place
  simp only []
  rw [hfg s.val hs, hpre _ (Dest.nat p b.val) s.val (fun i hi => hfg i (by omega)), hpre _ (Dest.nat p b.val) 8 hfg,
    hpre (fun i => 512 - Dest.nat p ((8 * b.val + i) / 8) ((8 * b.val + i) % 8)) (fun i => 512 - Dest.nat p b.val i) s.val (fun i hi => by rw [hfg i (by omega)])]

end Cert.Proof.SM

end
-- ==== Proof.WsDefs.lean ====
/-
  The SparseCore call as the launch sees it: names of its arrays, the rows its tiles work on, what the handshakes carry.
-/
module

public import proofs.«01_k».proof.Proof.Gen.WholeIdeal.Launch
public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Scat
public import proofs.«01_k».proof.Proof.Gen.WholeIdeal
public import proofs.«01_k».proof.Proof.Gen.WholeIdeal.Skeleton

@[expose] public section

noncomputable section

namespace Cert.Proof.Wh

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scat (RowOK Done at4 at1 back)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev xfLoc (d : Dev nD) : Loc nD τ sig := (SparseCore.T d).loc main_v14
abbrev xtLoc (d : Dev nD) : Loc nD τ sig := (SparseCore.T d).loc main_v10
abbrev xdLoc (d : Dev nD) : Loc nD τ sig := (SparseCore.T d).loc main_v11
abbrev ofLoc (d : Dev nD) : Loc nD τ sig := (SparseCore.T d).loc main_v15_0
abbrev oiLoc (d : Dev nD) : Loc nD τ sig := (SparseCore.T d).loc main_v15_1

local notation "xfV" => (Memref.whole Cert.WholeIdeal.main_v14_scv : Memref Cert.WholeIdeal.sig Kind.scVector Space.hbm Cert.WholeIdeal.S32x4096 EltTy.f32)
local notation "xtV" => (Memref.whole Cert.WholeIdeal.main_v10_scv : Memref Cert.WholeIdeal.sig Kind.scVector Space.hbm Cert.WholeIdeal.S16x4096 EltTy.i32)
local notation "xdV" => (Memref.whole Cert.WholeIdeal.main_v11_scv : Memref Cert.WholeIdeal.sig Kind.scVector Space.hbm Cert.WholeIdeal.S16x4096 EltTy.i32)
local notation "ofV" => (Memref.whole Cert.WholeIdeal.main_v15_0_scv : Memref Cert.WholeIdeal.sig Kind.scVector Space.hbm Cert.WholeIdeal.S32x4096 EltTy.f32)
local notation "oiV" => (Memref.whole Cert.WholeIdeal.main_v15_1_scv : Memref Cert.WholeIdeal.sig Kind.scVector Space.hbm Cert.WholeIdeal.S16x4096 EltTy.i32)

theorem fdiv : 32 ∣ S32x4096.size 0 := ⟨1, rfl⟩
theorem idiv : 16 ∣ S16x4096.size 0 := ⟨1, rfl⟩
abbrev frow (i : Fin 32) : Rect S32x4096 := Rect.part (s := S32x4096) (a₀ := 0) fdiv i
abbrev irow (i : Fin 16) : Rect S16x4096 := Rect.part (s := S16x4096) (a₀ := 0) idiv i
abbrev fRowSet (i : Fin 32) : Finset S32x4096.Idx := ((ofV).view.slice (frow i)).set
abbrev iRowSet (i : Fin 16) : Finset S16x4096.Idx := ((oiV).view.slice (irow i)).set

/-- Row `r`, column `c` of the two kinds of arrays. -/
def ixf (r : Fin 32) (c : Fin 4096) : S32x4096.Idx := fun a => match a with | 0 => r | 1 => c
def ixi (r : Fin 16) (c : Fin 4096) : S16x4096.Idx := fun a => match a with | 0 => r | 1 => c
theorem ixf_eta (i : S32x4096.Idx) : ixf (i 0) (i 1) = i := by funext a; match a with | 0 => rfl | 1 => rfl
theorem ixi_eta (i : S16x4096.Idx) : ixi (i 0) (i 1) = i := by funext a; match a with | 0 => rfl | 1 => rfl

/-! ## What is fed to the call, and what it leaves -/

variable (F) in
/-- The contents of the three arrays the call reads. -/
structure Feed where
  XF : Dev nD → S32x4096.Idx → Elt F .f32
  XT : Dev nD → S16x4096.Idx → Elt F .i32
  XD : Dev nD → S16x4096.Idx → Elt F .i32

namespace Feed
variable (X : Feed F)
/-- Row `b` of the places. -/
def dRow (d : Dev nD) (b : Fin 16) : S4096.Idx → Elt F .i32 := fun j => X.XD d (ixi b (j 0))
def fRow (d : Dev nD) (r : Fin 32) : S4096.Idx → Elt F .f32 := fun j => X.XF d (ixf r (j 0))
def tRow (d : Dev nD) (b : Fin 16) : S4096.Idx → Elt F .i32 := fun j => X.XT d (ixi b (j 0))
/-- Every row of the places is a rearrangement of the row. -/
def OK : Prop := ∀ d b, RowOK (X.dRow d b)
/-- The row of places that row `r` of 32 follows. -/
def bOf (r : Fin 32) : Fin 16 := ⟨r.val % 16, Nat.mod_lt _ (by decide)⟩
/-- The rearranged rows. -/
def GF (h : X.OK) (d : Dev nD) : S32x4096.Idx → Elt F .f32 := fun i => X.XF d (ixf (i 0) (back (X.dRow d (bOf (i 0))) (h d _) (i 1)))
def GI (h : X.OK) (d : Dev nD) : S16x4096.Idx → Elt F .i32 := fun i => X.XT d (ixi (i 0) (back (X.dRow d (i 0)) (h d _) (i 1)))
end Feed

variable (X : Feed F) (hX : X.OK)

/-! ## The shares of what every tile reads -/

abbrev cq (c : Fin 2) : PosShare TreeShare := Transfers.dealOf fullShare (Finset.univ : Finset (Fin 2)) c
abbrev tq (c : Fin 2) (s : Fin 16) : PosShare TreeShare := Transfers.dealOf (cq c) (Finset.univ : Finset (Fin 16)) s

/-- The row of 32 tile `(c, s)` works on. -/
def wN (c : Fin 2) (s : Fin 16) : Fin 32 := ⟨2 * s.val + c.val, by omega⟩

/-- The three arrays read, at a share. -/
abbrev inPts (d : Dev nD) (q : PosShare TreeShare) : sProp 𝕄 :=
  iprop((xfLoc d ↦{q} X.XF d) ∗ (xtLoc d ↦{q} X.XT d) ∗ (xdLoc d ↦{q} X.XD d))
abbrev ofRowPts (d : Dev nD) (r : Fin 32) (f : Buf (Elt F) (ofLoc d)) : sProp 𝕄 := ofLoc d ↦[fRowSet r]{fullShare} f
abbrev oiRowPts (d : Dev nD) (b : Fin 16) (f : Buf (Elt F) (oiLoc d)) : sProp 𝕄 := oiLoc d ↦[iRowSet b]{fullShare} f
/-- Row `r` of the integer result, for the first sixteen of the tiles; nothing for the rest. -/
def oiAny (d : Dev nD) (r : Fin 32) : sProp 𝕄 := if h : r.val < 16 then iprop(∃ f, oiRowPts d ⟨r.val, h⟩ f) else iprop(emp)
def oiAt (d : Dev nD) (r : Fin 32) (f : Buf (Elt F) (oiLoc d)) : sProp 𝕄 := if h : r.val < 16 then oiRowPts d ⟨r.val, h⟩ f else iprop(emp)

abbrev goT (d : Dev nD) (c : Fin 2) (s : Fin 16) : sProp 𝕄 :=
  iprop(inPts X d (tq c s) ∗ (∃ f, ofRowPts d (wN c s) f) ∗ oiAny d (wN c s))
abbrev tdT (d : Dev nD) (c : Fin 2) (s : Fin 16) : sProp 𝕄 :=
  iprop(inPts X d (tq c s) ∗ ofRowPts d (wN c s) (X.GF hX d) ∗ oiAt d (wN c s) (X.GI hX d))
abbrev stC (d : Dev nD) (c : Fin 2) : sProp 𝕄 :=
  iprop(inPts X d (cq c) ∗ (bigSep Finset.univ fun s : Fin 16 => iprop(∃ f, ofRowPts (F := F) d (wN c s) f)) ∗ bigSep Finset.univ fun s : Fin 16 => oiAny (F := F) d (wN c s))
abbrev dnC (d : Dev nD) (c : Fin 2) : sProp 𝕄 :=
  iprop(inPts X d (cq c) ∗ (bigSep Finset.univ fun s : Fin 16 => ofRowPts d (wN c s) (X.GF hX d)) ∗ bigSep Finset.univ fun s : Fin 16 => oiAt d (wN c s) (X.GI hX d))

instance oiAny_storable (d : Dev nD) (r : Fin 32) : BI.Storable (upEmb : UEmb _ 𝕄) (oiAny (F := F) d r) := by
  unfold oiAny; split <;> infer_instance
instance oiAt_storable (d : Dev nD) (r : Fin 32) (f : Buf (Elt F) (oiLoc d)) : BI.Storable (upEmb : UEmb _ 𝕄) (oiAt (F := F) d r f) := by
  unfold oiAt; split <;> infer_instance

abbrev cc (c : Fin ((K (F := F)).nCore 0)) : Fin 2 := Fin.cast nCore_zero c
abbrev ss (s : Fin ((K (F := F)).nSub 0)) : Fin 16 := Fin.cast nSub_zero s

variable [FloatOps F]

def P : (K (F := F)).Pay (nD := nD) (Val := Elt F) (Name := ℕ) (U := UU) where
  st := fun q d c => match q with | 0 => stC X d (cc (F := F) c)
  dn := fun q d c => match q with | 0 => dnC X hX d (cc (F := F) c)
  go := fun q d c i => match q with | 0 => goT X d (cc (F := F) c) (ss (F := F) i)
  td := fun q d c i => match q with | 0 => tdT X hX d (cc (F := F) c) (ss (F := F) i)
  x := fun _ _ => iprop(emp)

instance P_storable : (P (F := F) X hX).IsStorable where
  st q d c := match q with | 0 => (inferInstance : BI.Storable (upEmb : UEmb _ 𝕄) (stC X d (cc (F := F) c)))
  dn q d c := match q with | 0 => (inferInstance : BI.Storable (upEmb : UEmb _ 𝕄) (dnC X hX d (cc (F := F) c)))
  go q d c i := match q with | 0 => (inferInstance : BI.Storable (upEmb : UEmb _ 𝕄) (goT X d (cc (F := F) c) (ss (F := F) i)))
  td q d c i := match q with | 0 => (inferInstance : BI.Storable (upEmb : UEmb _ 𝕄) (tdT X hX d (cc (F := F) c) (ss (F := F) i)))

/-! ## A tile's coordinates, its rows as it addresses them -/

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)
abbrev wL (L : grid1.Coords) : Fin 32 := wN (cL L) (jL L)

omit [FloatOps F] in
theorem cond1_iff : ∀ i : grid1.Coords, k1_cond1 i = 1#1 ↔ 2 * (i 1).val + (i 0).val < 16 := by decide +kernel

abbrev xfK (L : grid1.Coords) : Memref sig .scVector .hbm S4096 .f32 := ((xfV).slice (Rect.unit (s := S32x4096) (k1_off1 L) S1x4096.size (k1_off1_inb L)) (fun _ => rfl)).squeeze S4096 squeezes_S1x4096_S4096
abbrev xdK (L : grid1.Coords) : Memref sig .scVector .hbm S4096 .i32 := ((xdV).slice (Rect.unit (s := S16x4096) (k1_off2 L) S1x4096.size (k1_off2_inb L)) (fun _ => rfl)).squeeze S4096 squeezes_S1x4096_S4096
abbrev xtK (L : grid1.Coords) (h : k1_cond1 L = 1#1) : Memref sig .scVector .hbm S4096 .i32 := ((xtV).slice (Rect.unit (s := S16x4096) (k1_off4 L) S1x4096.size (k1_off4_inb L h)) (fun _ => rfl)).squeeze S4096 squeezes_S1x4096_S4096
abbrev ofK (L : grid1.Coords) : Memref sig .scVector .hbm S4096 .f32 := ((ofV).slice (Rect.unit (s := S32x4096) (k1_off1 L) S1x4096.size (k1_off1_inb L)) (fun _ => rfl)).squeeze S4096 squeezes_S1x4096_S4096
abbrev oiK (L : grid1.Coords) (h : k1_cond1 L = 1#1) : Memref sig .scVector .hbm S4096 .i32 := ((oiV).slice (Rect.unit (s := S16x4096) (k1_off4 L) S1x4096.size (k1_off4_inb L h)) (fun _ => rfl)).squeeze S4096 squeezes_S1x4096_S4096

omit [FloatOps F] in
/-- A squeezed row's element is the row's column. -/
theorem sq_val (j : S4096.Idx) :
    (Shape.reshapeEquiv (s := S1x4096) squeezes_S1x4096_S4096.numel_eq j) = (fun a => match a with | 0 => (0 : Fin 1) | 1 => j 0) := by
  rw [Shape.reshapeEquiv_cons_one (d := ![4096])]
  funext a
  match a with
  | 0 => rfl
  | 1 => rfl

omit [FloatOps F] in
theorem emb_f (off : Fin 2 → ℕ) (inb : ∀ a, off a + S1x4096.size a ≤ S32x4096.size a) (r : Fin 32) (ho : off = ![r.val, 0]) (j : S4096.Idx) :
    (Rect.unit (s := S32x4096) off S1x4096.size inb).emb (Shape.reshapeEquiv (s := S1x4096) squeezes_S1x4096_S4096.numel_eq j) = ixf r (j 0) := by
  subst ho
  rw [sq_val]
  funext a
  match a with
  | 0 => exact Fin.ext (by simp [Rect.emb_apply, ixf])
  | 1 => exact Fin.ext (by simp [Rect.emb_apply, ixf])
omit [FloatOps F] in
theorem emb_i (off : Fin 2 → ℕ) (inb : ∀ a, off a + S1x4096.size a ≤ S16x4096.size a) (r : Fin 16) (ho : off = ![r.val, 0]) (j : S4096.Idx) :
    (Rect.unit (s := S16x4096) off S1x4096.size inb).emb (Shape.reshapeEquiv (s := S1x4096) squeezes_S1x4096_S4096.numel_eq j) = ixi r (j 0) := by
  subst ho
  rw [sq_val]
  funext a
  match a with
  | 0 => exact Fin.ext (by simp [Rect.emb_apply, ixi])
  | 1 => exact Fin.ext (by simp [Rect.emb_apply, ixi])

end Tile

end Cert.Proof.Wh

end
-- ==== Proof.WsTile.lean ====
/-
  One tile's task: fetch a row of values and its row of places, scatter the values to their places sixteen at a time,
  write the row out; the first sixteen tiles then do the same for a row of integers.
-/
module

public import proofs.«01_k».proof.Proof.WsDefs

@[expose] public section

noncomputable section

namespace Cert.Proof.Wh

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scat (RowOK Done at4 at1 back done_zero done_succ done_all pl_back)

variable {F : FTy → Type}

local notation "𝕄" => MT nD τ sig (HIx 1) (Elt F) ℕ UU ℕ

local notation "xfV" => (Memref.whole Cert.WholeIdeal.main_v14_scv : Memref Cert.WholeIdeal.sig Kind.scVector Space.hbm Cert.WholeIdeal.S32x4096 EltTy.f32)
local notation "xtV" => (Memref.whole Cert.WholeIdeal.main_v10_scv : Memref Cert.WholeIdeal.sig Kind.scVector Space.hbm Cert.WholeIdeal.S16x4096 EltTy.i32)
local notation "xdV" => (Memref.whole Cert.WholeIdeal.main_v11_scv : Memref Cert.WholeIdeal.sig Kind.scVector Space.hbm Cert.WholeIdeal.S16x4096 EltTy.i32)
local notation "ofV" => (Memref.whole Cert.WholeIdeal.main_v15_0_scv : Memref Cert.WholeIdeal.sig Kind.scVector Space.hbm Cert.WholeIdeal.S32x4096 EltTy.f32)
local notation "oiV" => (Memref.whole Cert.WholeIdeal.main_v15_1_scv : Memref Cert.WholeIdeal.sig Kind.scVector Space.hbm Cert.WholeIdeal.S16x4096 EltTy.i32)
local notation "s0V" => (Memref.whole Cert.WholeIdeal.cc1_scratch0 : Memref Cert.WholeIdeal.sig Kind.scVector Space.vmem Cert.WholeIdeal.S4096 EltTy.f32)
local notation "s1V" => (Memref.whole Cert.WholeIdeal.cc1_scratch1 : Memref Cert.WholeIdeal.sig Kind.scVector Space.vmem Cert.WholeIdeal.S4096 EltTy.i32)
local notation "s2V" => (Memref.whole Cert.WholeIdeal.cc1_scratch2 : Memref Cert.WholeIdeal.sig Kind.scVector Space.vmem Cert.WholeIdeal.S4096 EltTy.f32)
local notation "s3V" => (Memref.whole Cert.WholeIdeal.cc1_scratch3 : Memref Cert.WholeIdeal.sig Kind.scVector Space.vmem Cert.WholeIdeal.S4096 EltTy.i32)
local notation "s4V" => (Memref.whole Cert.WholeIdeal.cc1_scratch4 : Memref Cert.WholeIdeal.sig Kind.scVector Space.vmem Cert.WholeIdeal.S4096 EltTy.i32)

variable (X : Feed F) (hX : X.OK) (d : Dev nD) (L : grid1.Coords)

/-- The tile's thread. -/
abbrev tV (d : Dev nD) (L : grid1.Coords) : Thread nD τ := V d (cV L) (jV L)

theorem off1_wL : k1_off1 L = ![(wL L).val, 0] := k1_off1_eq L
theorem off2_wL : k1_off2 L = ![(Feed.bOf (wL L)).val, 0] := k1_off2_eq L
theorem off4_wL : k1_off4 L = ![(wL L).val, 0] := k1_off4_eq L
theorem oiAt_pos (d : Dev nD) (r : Fin 32) (h : r.val < 16) (f : Buf (Elt F) (oiLoc d)) : oiAt d r f = (oiRowPts d ⟨r.val, h⟩ f : sProp 𝕄) := by
  unfold oiAt; rw [dif_pos h]
theorem oiAt_neg (d : Dev nD) (r : Fin 32) (h : ¬ r.val < 16) (f : Buf (Elt F) (oiLoc d)) : oiAt d r f = (iprop(emp) : sProp 𝕄) := by
  unfold oiAt; rw [dif_neg h]
theorem oiAny_pos (d : Dev nD) (r : Fin 32) (h : r.val < 16) : oiAny (F := F) d r = (iprop(∃ f, oiRowPts d ⟨r.val, h⟩ f) : sProp 𝕄) := by
  unfold oiAny; rw [dif_pos h]
theorem oiAny_neg (d : Dev nD) (r : Fin 32) (h : ¬ r.val < 16) : oiAny (F := F) d r = (iprop(emp) : sProp 𝕄) := by
  unfold oiAny; rw [dif_neg h]
theorem wL_lt (h : k1_cond1 L = 1#1) : (wL L).val < 16 := (cond1_iff L).mp h
theorem wL_nlt (h : ¬ k1_cond1 L = 1#1) : ¬ (wL L).val < 16 := fun h' => h ((cond1_iff L).mpr h')

theorem emb_xfK (j : S4096.Idx) : (xfK L).view.emb j = ixf (wL L) (j 0) := emb_f _ _ _ (off1_wL L) j
theorem emb_ofK (j : S4096.Idx) : (ofK L).view.emb j = ixf (wL L) (j 0) := emb_f _ _ _ (off1_wL L) j
theorem emb_xdK (j : S4096.Idx) : (xdK L).view.emb j = ixi (Feed.bOf (wL L)) (j 0) := emb_i _ _ _ (off2_wL L) j
theorem emb_xtK (h : k1_cond1 L = 1#1) (j : S4096.Idx) : (xtK L h).view.emb j = ixi ⟨(wL L).val, wL_lt L h⟩ (j 0) :=
  emb_i _ _ ⟨(wL L).val, wL_lt L h⟩ (off4_wL L) j
theorem emb_oiK (h : k1_cond1 L = 1#1) (j : S4096.Idx) : (oiK L h).view.emb j = ixi ⟨(wL L).val, wL_lt L h⟩ (j 0) :=
  emb_i _ _ ⟨(wL L).val, wL_lt L h⟩ (off4_wL L) j

theorem frowK_eq : Rect.unit (s := S32x4096) (k1_off1 L) S1x4096.size (k1_off1_inb L) = frow (wL L) := by
  unfold frow Rect.part Rect.block
  congr 1 <;> funext a
  · rw [off1_wL]
    match a with
    | 0 => simp [Shape.partIx, Shape.partSize]
    | 1 => simp [Shape.partIx, Shape.partSize]
  · match a with
    | 0 => simp [Shape.partSize]
    | 1 => simp [Shape.partSize]
theorem irowK_eq (h : k1_cond1 L = 1#1) : Rect.unit (s := S16x4096) (k1_off4 L) S1x4096.size (k1_off4_inb L h) = irow ⟨(wL L).val, wL_lt L h⟩ := by
  unfold irow Rect.part Rect.block
  congr 1 <;> funext a
  · rw [off4_wL]
    match a with
    | 0 => simp [Shape.partIx, Shape.partSize]
    | 1 => simp [Shape.partIx, Shape.partSize]
  · match a with
    | 0 => simp [Shape.partSize]
    | 1 => simp [Shape.partSize]
theorem set_ofK : (ofK L).view.set = fRowSet (wL L) := by
  show (((ofV).view.slice (Rect.unit (s := S32x4096) (k1_off1 L) S1x4096.size (k1_off1_inb L))).reshape S4096 squeezes_S1x4096_S4096.numel_eq).set = ((ofV).view.slice (frow (wL L))).set
  rw [View.set_reshape]
  exact frowK_eq L ▸ rfl
theorem set_oiK (h : k1_cond1 L = 1#1) : (oiK L h).view.set = iRowSet ⟨(wL L).val, wL_lt L h⟩ := by
  show (((oiV).view.slice (Rect.unit (s := S16x4096) (k1_off4 L) S1x4096.size (k1_off4_inb L h))).reshape S4096 squeezes_S1x4096_S4096.numel_eq).set = ((oiV).view.slice (irow ⟨(wL L).val, wL_lt L h⟩)).set
  rw [View.set_reshape]
  exact irowK_eq L h ▸ rfl
theorem pts_ofK (f : Buf (Elt F) (ofLoc d)) :
    ((ofK L).view.loc (tV d L) ↦[(ofK L).view.set]{fullShare} f : sProp 𝕄) = ofRowPts d (wL L) f := by rw [set_ofK]
theorem pts_oiK (h : k1_cond1 L = 1#1) (f : Buf (Elt F) (oiLoc d)) :
    ((oiK L h).view.loc (tV d L) ↦[(oiK L h).view.set]{fullShare} f : sProp 𝕄) = oiRowPts d ⟨(wL L).val, wL_lt L h⟩ f := by rw [set_oiK]
theorem pts_xfV (q : PosShare TreeShare) (f : Buf (Elt F) (xfLoc d)) : ((xfV).view.loc (tV d L) ↦{q} f : sProp 𝕄) = xfLoc d ↦{q} f := rfl
theorem pts_xtV (q : PosShare TreeShare) (f : Buf (Elt F) (xtLoc d)) : ((xtV).view.loc (tV d L) ↦{q} f : sProp 𝕄) = xtLoc d ↦{q} f := rfl
theorem pts_xdV (q : PosShare TreeShare) (f : Buf (Elt F) (xdLoc d)) : ((xdV).view.loc (tV d L) ↦{q} f : sProp 𝕄) = xdLoc d ↦{q} f := rfl
theorem pts_s0 (f : Buf (Elt F) ((tV d L).loc cc1_scratch0)) : ((s0V).view.loc (tV d L) ↦{fullShare} f : sProp 𝕄) = (tV d L).loc cc1_scratch0 ↦{fullShare} f := rfl
theorem pts_s1 (f : Buf (Elt F) ((tV d L).loc cc1_scratch1)) : ((s1V).view.loc (tV d L) ↦{fullShare} f : sProp 𝕄) = (tV d L).loc cc1_scratch1 ↦{fullShare} f := rfl
theorem pts_s2 (f : Buf (Elt F) ((tV d L).loc cc1_scratch2)) : ((s2V).view.loc (tV d L) ↦{fullShare} f : sProp 𝕄) = (tV d L).loc cc1_scratch2 ↦{fullShare} f := rfl
theorem pts_s3 (f : Buf (Elt F) ((tV d L).loc cc1_scratch3)) : ((s3V).view.loc (tV d L) ↦{fullShare} f : sProp 𝕄) = (tV d L).loc cc1_scratch3 ↦{fullShare} f := rfl
theorem pts_s4 (f : Buf (Elt F) ((tV d L).loc cc1_scratch4)) : ((s4V).view.loc (tV d L) ↦{fullShare} f : sProp 𝕄) = (tV d L).loc cc1_scratch4 ↦{fullShare} f := rfl

/-! ## The tile's cells and scratch buffers -/

abbrev gcell (d : Dev nD) (L : grid1.Coords) (s : DmaSem sig) : GSem nD τ sig := (tV d L, .dma s)

/-- The cells left once the five the body names are taken out. -/
abbrev restCells (d : Dev nD) (L : grid1.Coords) : Finset (GSem nD τ sig) :=
  (((((ownCells (tV d L)).erase (gcell d L cc1_scoped0.sem)).erase (gcell d L cc1_scoped1.sem)).erase (gcell d L cc1_scoped2.sem)).erase
    (gcell d L cc1_scoped3.sem)).erase (gcell d L cc1_scoped4.sem)

theorem gcell_ne {s s' : DmaSem sig} (h : s ≠ s') : gcell d L s ≠ gcell d L s' := fun e => h (by
  have := congrArg (fun p : GSem nD τ sig => p.2) e; exact SemLoc.dma.inj this)

theorem gcell_mem (s : DmaSem sig) (h : (SemLoc.dma s : SemLoc sig).isScoped .scVector = true) : gcell d L s ∈ ownCells (tV d L) :=
  (mem_ownCells (g := gcell d L s)).mpr ⟨rfl, h⟩

theorem ownSems0_V :
    (ownSems0 (tV d L) : sProp 𝕄)
      = iprop(semVal (gcell d L cc1_scoped0.sem) 0 ∗ semVal (gcell d L cc1_scoped1.sem) 0 ∗ semVal (gcell d L cc1_scoped2.sem) 0
          ∗ semVal (gcell d L cc1_scoped3.sem) 0 ∗ semVal (gcell d L cc1_scoped4.sem) 0 ∗ bigSep (restCells d L) fun g => semVal g 0) := by
  unfold SparseCore.Cfg.ownSems0
  rw [SparseCore.bigSep_erase' (gcell_mem d L cc1_scoped0.sem (by decide)),
    SparseCore.bigSep_erase' (Finset.mem_erase.mpr ⟨gcell_ne d L (s := cc1_scoped1.sem) (s' := cc1_scoped0.sem) (by decide), gcell_mem d L cc1_scoped1.sem (by decide)⟩),
    SparseCore.bigSep_erase' (Finset.mem_erase.mpr ⟨gcell_ne d L (s := cc1_scoped2.sem) (s' := cc1_scoped1.sem) (by decide),
      Finset.mem_erase.mpr ⟨gcell_ne d L (s := cc1_scoped2.sem) (s' := cc1_scoped0.sem) (by decide), gcell_mem d L cc1_scoped2.sem (by decide)⟩⟩),
    SparseCore.bigSep_erase' (Finset.mem_erase.mpr ⟨gcell_ne d L (s := cc1_scoped3.sem) (s' := cc1_scoped2.sem) (by decide),
      Finset.mem_erase.mpr ⟨gcell_ne d L (s := cc1_scoped3.sem) (s' := cc1_scoped1.sem) (by decide),
      Finset.mem_erase.mpr ⟨gcell_ne d L (s := cc1_scoped3.sem) (s' := cc1_scoped0.sem) (by decide), gcell_mem d L cc1_scoped3.sem (by decide)⟩⟩⟩),
    SparseCore.bigSep_erase' (Finset.mem_erase.mpr ⟨gcell_ne d L (s := cc1_scoped4.sem) (s' := cc1_scoped3.sem) (by decide),
      Finset.mem_erase.mpr ⟨gcell_ne d L (s := cc1_scoped4.sem) (s' := cc1_scoped2.sem) (by decide),
      Finset.mem_erase.mpr ⟨gcell_ne d L (s := cc1_scoped4.sem) (s' := cc1_scoped1.sem) (by decide),
      Finset.mem_erase.mpr ⟨gcell_ne d L (s := cc1_scoped4.sem) (s' := cc1_scoped0.sem) (by decide), gcell_mem d L cc1_scoped4.sem (by decide)⟩⟩⟩⟩)]

abbrev dref (L : grid1.Coords) (b : Ref sig .scVector) : DevRef τ sig := (Proc.scVector (cV L) (jV L)).devRef b
theorem dref_ne {b b' : Ref sig .scVector} (h : b ≠ b') : dref L b ≠ dref L b' := fun e => absurd (Proc.devRef_injective _ e) h
abbrev restRefs (L : grid1.Coords) : Finset (DevRef τ sig) :=
  (((((ownRefs (τ := τ) (.scVector (cV L) (jV L))).erase (dref L cc1_scratch0)).erase (dref L cc1_scratch1)).erase (dref L cc1_scratch2)).erase
    (dref L cc1_scratch3)).erase (dref L cc1_scratch4)

theorem ownBufs_V :
    (ownBufs (tV d L) : sProp 𝕄)
      = iprop((∃ f, (tV d L).loc cc1_scratch0 ↦{fullShare} f) ∗ (∃ f, (tV d L).loc cc1_scratch1 ↦{fullShare} f) ∗ (∃ f, (tV d L).loc cc1_scratch2 ↦{fullShare} f)
          ∗ (∃ f, (tV d L).loc cc1_scratch3 ↦{fullShare} f) ∗ (∃ f, (tV d L).loc cc1_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := dref L cc1_scratch0) rfl)).trans ?_
  rw [SparseCore.bigSep_erase' (Finset.mem_erase.mpr ⟨dref_ne L (b := cc1_scratch1) (b' := cc1_scratch0) (by decide),
      SparseCore.Cfg.mem_ownRefs_of_owner (p := Proc.scVector (cV L) (jV L)) (b := dref L cc1_scratch1) rfl⟩),
    SparseCore.bigSep_erase' (Finset.mem_erase.mpr ⟨dref_ne L (b := cc1_scratch2) (b' := cc1_scratch1) (by decide),
      Finset.mem_erase.mpr ⟨dref_ne L (b := cc1_scratch2) (b' := cc1_scratch0) (by decide),
      SparseCore.Cfg.mem_ownRefs_of_owner (p := Proc.scVector (cV L) (jV L)) (b := dref L cc1_scratch2) rfl⟩⟩),
    SparseCore.bigSep_erase' (Finset.mem_erase.mpr ⟨dref_ne L (b := cc1_scratch3) (b' := cc1_scratch2) (by decide),
      Finset.mem_erase.mpr ⟨dref_ne L (b := cc1_scratch3) (b' := cc1_scratch1) (by decide),
      Finset.mem_erase.mpr ⟨dref_ne L (b := cc1_scratch3) (b' := cc1_scratch0) (by decide),
      SparseCore.Cfg.mem_ownRefs_of_owner (p := Proc.scVector (cV L) (jV L)) (b := dref L cc1_scratch3) rfl⟩⟩⟩),
    SparseCore.bigSep_erase' (Finset.mem_erase.mpr ⟨dref_ne L (b := cc1_scratch4) (b' := cc1_scratch3) (by decide),
      Finset.mem_erase.mpr ⟨dref_ne L (b := cc1_scratch4) (b' := cc1_scratch2) (by decide),
      Finset.mem_erase.mpr ⟨dref_ne L (b := cc1_scratch4) (b' := cc1_scratch1) (by decide),
      Finset.mem_erase.mpr ⟨dref_ne L (b := cc1_scratch4) (b' := cc1_scratch0) (by decide),
      SparseCore.Cfg.mem_ownRefs_of_owner (p := Proc.scVector (cV L) (jV L)) (b := dref L cc1_scratch4) rfl⟩⟩⟩⟩)]

variable [FloatOps F]

/-! ## The loops -/

/-- The float loop: places and values in their scratch rows, the first `16 t` values gone to their places. -/
def inv1 (t : Nat) (_ : PUnit) : sProp 𝕄 :=
  iprop(((s4V).view.loc (tV d L) ↦{fullShare} X.dRow d (Feed.bOf (wL L))) ∗ ((s0V).view.loc (tV d L) ↦{fullShare} X.fRow d (wL L))
    ∗ ∃ s, ⌜Done (F := F) (e := .f32) (X.dRow d (Feed.bOf (wL L))) (X.fRow d (wL L)) t s⌝ ∗ ((s2V).view.loc (tV d L) ↦{fullShare} s))

/-- The integer loop. -/
def inv2 (b : Fin 16) (t : Nat) (_ : PUnit) : sProp 𝕄 :=
  iprop(((s4V).view.loc (tV d L) ↦{fullShare} X.dRow d (Feed.bOf (wL L))) ∗ ((s1V).view.loc (tV d L) ↦{fullShare} X.tRow d b)
    ∗ ∃ s, ⌜Done (F := F) (e := .i32) (X.dRow d (Feed.bOf (wL L))) (X.tRow d b) t s⌝ ∗ ((s3V).view.loc (tV d L) ↦{fullShare} s))

/-! ## What a trip reads and stores -/

omit [FloatOps F] in
theorem t1_lt (k : Fin k1_t1_loop.trips) : k.val < 256 := Nat.lt_of_lt_of_le k.isLt k1_t1_abs.2.1
omit [FloatOps F] in
theorem t2_lt (k : Fin k1_t2_loop.trips) : k.val < 256 := Nat.lt_of_lt_of_le k.isLt k1_t2_abs.2.1

omit [FloatOps F] in
theorem lane_idx (off : Fin 1 → ℕ) (inb : ∀ a, off a + S16.size a ≤ S4096.size a) (t : ℕ) (ht : t < 256) (ho : off = ![16 * t]) (q : Fin 16) :
    (Rect.unit (s := S4096) off S16.size inb).toLoadRect.idx (at1 q) = at4 ⟨16 * t + q.val, by omega⟩ := by
  subst ho
  funext a
  match a with
  | 0 => exact Fin.ext (by simp [LoadRect.idx, at1, at4])

omit [FloatOps F] in
theorem lane_s4 (off : Fin 1 → ℕ) (inb : ∀ a, off a + S16.size a ≤ S4096.size a) (t : ℕ) (ht : t < 256) (ho : off = ![16 * t])
    (f : S4096.Idx → Elt F .i32) (q : Fin 16) :
    View.readAt (Elt F) (s4V).view (Rect.unit (s := S4096) off S16.size inb).toLoadRect f (at1 q) = f (at4 ⟨16 * t + q.val, by omega⟩) := by
  rw [← lane_idx off inb t ht ho q]; rfl
omit [FloatOps F] in
theorem lane_s0 (off : Fin 1 → ℕ) (inb : ∀ a, off a + S16.size a ≤ S4096.size a) (t : ℕ) (ht : t < 256) (ho : off = ![16 * t])
    (f : S4096.Idx → Elt F .f32) (q : Fin 16) :
    View.readAt (Elt F) (s0V).view (Rect.unit (s := S4096) off S16.size inb).toLoadRect f (at1 q) = f (at4 ⟨16 * t + q.val, by omega⟩) := by
  rw [← lane_idx off inb t ht ho q]; rfl
omit [FloatOps F] in
theorem lane_s1 (off : Fin 1 → ℕ) (inb : ∀ a, off a + S16.size a ≤ S4096.size a) (t : ℕ) (ht : t < 256) (ho : off = ![16 * t])
    (f : S4096.Idx → Elt F .i32) (q : Fin 16) :
    View.readAt (Elt F) (s1V).view (Rect.unit (s := S4096) off S16.size inb).toLoadRect f (at1 q) = f (at4 ⟨16 * t + q.val, by omega⟩) := by
  rw [← lane_idx off inb t ht ho q]; rfl

omit [FloatOps F] in
/-- The places a trip reads are in the row. -/
theorem chk_row (off : Fin 1 → ℕ) (inb : ∀ a, off a + S16.size a ≤ S4096.size a) (t : ℕ) (ht : t < 256) (ho : off = ![16 * t])
    (D : S4096.Idx → Elt F .i32) (hD : RowOK D) :
    ∀ a x, ((![View.readAt (Elt F) (s4V).view (Rect.unit (s := S4096) off S16.size inb).toLoadRect D] : Fin 1 → IVec S16 32) a x).toNat < S4096.size a := by
  intro a x
  match a with
  | 0 =>
    show (View.readAt (Elt F) (s4V).view (Rect.unit (s := S4096) off S16.size inb).toLoadRect D x).toNat < 4096
    have e : View.readAt (Elt F) (s4V).view (Rect.unit (s := S4096) off S16.size inb).toLoadRect D x = D (at4 ⟨16 * t + (x 0).val, _⟩) :=
      (congrArg _ (Scat.at1_eta x).symm).trans (lane_s4 off inb t ht ho D (x 0))
    rw [e]
    exact hD.1 _

omit [FloatOps F] in
theorem pts_s2w (f : Buf (Elt F) ((tV d L).loc cc1_scratch2)) :
    (((s2V).access (.whole S4096)).loc (tV d L) ↦[((s2V).access (.whole S4096)).set]{fullShare} f : sProp 𝕄) = (s2V).view.loc (tV d L) ↦{fullShare} f := by
  rw [show ((s2V).access (.whole S4096)).set = Finset.univ from Memref.set_access_whole (cc1_scratch2 : Ref sig .scVector)]
omit [FloatOps F] in
theorem pts_s3w (f : Buf (Elt F) ((tV d L).loc cc1_scratch3)) :
    (((s3V).access (.whole S4096)).loc (tV d L) ↦[((s3V).access (.whole S4096)).set]{fullShare} f : sProp 𝕄) = (s3V).view.loc (tV d L) ↦{fullShare} f := by
  rw [show ((s3V).access (.whole S4096)).set = Finset.univ from Memref.set_access_whole (cc1_scratch3 : Ref sig .scVector)]
omit [FloatOps F] in
theorem wr_s2 (f v : S4096.Idx → Elt F .f32) : ((s2V).access (.whole S4096)).write (Elt F) f v Finset.univ = v :=
  Memref.write_access_whole_univ (Elt F) (cc1_scratch2 : Ref sig .scVector) f v
omit [FloatOps F] in
theorem rd_s2 (f : S4096.Idx → Elt F .f32) : ((s2V).access (.whole S4096)).read (Elt F) f = f :=
  Memref.read_access_whole (Elt F) (cc1_scratch2 : Ref sig .scVector) f
omit [FloatOps F] in
theorem wr_s3 (f v : S4096.Idx → Elt F .i32) : ((s3V).access (.whole S4096)).write (Elt F) f v Finset.univ = v :=
  Memref.write_access_whole_univ (Elt F) (cc1_scratch3 : Ref sig .scVector) f v
omit [FloatOps F] in
theorem rd_s3 (f : S4096.Idx → Elt F .i32) : ((s3V).access (.whole S4096)).read (Elt F) f = f :=
  Memref.read_access_whole (Elt F) (cc1_scratch3 : Ref sig .scVector) f

omit [FloatOps F] in
theorem pts_s2st (f v : S4096.Idx → Elt F .f32) :
    (((s2V).access (.whole S4096)).loc (tV d L) ↦[((s2V).access (.whole S4096)).set]{fullShare}
      ((s2V).access (.whole S4096)).write (Elt F) f v Finset.univ : sProp 𝕄) = (s2V).view.loc (tV d L) ↦{fullShare} v := by rw [wr_s2, pts_s2w]
omit [FloatOps F] in
theorem pts_s3st (f v : S4096.Idx → Elt F .i32) :
    (((s3V).access (.whole S4096)).loc (tV d L) ↦[((s3V).access (.whole S4096)).set]{fullShare}
      ((s3V).access (.whole S4096)).write (Elt F) f v Finset.univ : sProp 𝕄) = (s3V).view.loc (tV d L) ↦{fullShare} v := by rw [wr_s3, pts_s3w]
omit [FloatOps F] in
theorem read_xfK : (xfK L).view.read (Elt F) (X.XF d) = X.fRow d (wL L) := by
  funext j
  rw [View.read_apply, emb_xfK]; rfl
omit [FloatOps F] in
theorem read_xdK : (xdK L).view.read (Elt F) (X.XD d) = X.dRow d (Feed.bOf (wL L)) := by
  funext j
  rw [View.read_apply, emb_xdK]; rfl
omit [FloatOps F] in
theorem read_xtK (h : k1_cond1 L = 1#1) : (xtK L h).view.read (Elt F) (X.XT d) = X.tRow d ⟨(wL L).val, wL_lt L h⟩ := by
  funext j
  rw [View.read_apply, emb_xtK]; rfl

omit [FloatOps F] in
theorem pts_s4f (f : S4096.Idx → Elt F .i32) :
    ((s4V).view.loc (tV d L) ↦{fullShare} View.write (Elt F) (s4V).view f ((xdK L).view.read (Elt F) (X.XD d)) Finset.univ : sProp 𝕄)
      = (s4V).view.loc (tV d L) ↦{fullShare} X.dRow d (Feed.bOf (wL L)) := by
  rw [View.write_whole_univ, read_xdK]
omit [FloatOps F] in
theorem pts_s0f (f : S4096.Idx → Elt F .f32) :
    ((s0V).view.loc (tV d L) ↦{fullShare} View.write (Elt F) (s0V).view f ((xfK L).view.read (Elt F) (X.XF d)) Finset.univ : sProp 𝕄)
      = (s0V).view.loc (tV d L) ↦{fullShare} X.fRow d (wL L) := by
  rw [View.write_whole_univ, read_xfK]
omit [FloatOps F] in
theorem pts_s1f (h : k1_cond1 L = 1#1) (f : S4096.Idx → Elt F .i32) :
    ((s1V).view.loc (tV d L) ↦{fullShare} View.write (Elt F) (s1V).view f ((xtK L h).view.read (Elt F) (X.XT d)) Finset.univ : sProp 𝕄)
      = (s1V).view.loc (tV d L) ↦{fullShare} X.tRow d ⟨(wL L).val, wL_lt L h⟩ := by
  rw [View.write_whole_univ, read_xtK]

omit [FloatOps F] in
theorem bOf_wL (h : k1_cond1 L = 1#1) : Feed.bOf (wL L) = ⟨(wL L).val, wL_lt L h⟩ := Fin.ext (Nat.mod_eq_of_lt (wL_lt L h))

theorem done_succ_of {e : EltTy} (r s : Vec F Scat.S4 e) (hr : r = s) (D : IVec Scat.S4 32) (hD : RowOK D) (V : Vec F Scat.S4 e) (t : ℕ)
    (ht : 16 * t + 16 ≤ 4096) (hs : Done D V t s) (ix : IVec Scat.S1 32) (v : Vec F Scat.S1 e)
    (hix : ∀ k : Fin 16, ix (at1 k) = D (at4 ⟨16 * t + k.val, by omega⟩)) (hv : ∀ k : Fin 16, v (at1 k) = V (at4 ⟨16 * t + k.val, by omega⟩))
    (h : ∀ a x, ((![ix] : Fin 1 → IVec Scat.S1 32) a x).toNat < Scat.S4.size a) :
    Done D V (t + 1) (storeIdx (s := Scat.S4) (d := ![16]) r ![ix] v (fun _ => 1#1) false h) := by
  subst hr; exact done_succ D hD V t ht r hs ix v hix hv h

/-- The row of values written out is the rearranged row. -/
theorem of_out (fo : Buf (Elt F) (ofLoc d)) (p s : S4096.Idx → Elt F .f32) (hp : p = s)
    (hs : Done (F := F) (e := .f32) (X.dRow d (Feed.bOf (wL L))) (X.fRow d (wL L)) 256 s) :
    ∀ i ∈ (ofK L).view.set, (ofK L).view.writes (Elt F) fo [⟨Rect.whole S4096, p⟩] i = X.GF hX d i := by
  subst hp
  intro i hi
  obtain ⟨j, -, rfl⟩ := Finset.mem_map.mp hi
  have h := congrFun (View.read_writes_whole (ofK L).view fo p) j
  rw [View.read_apply] at h
  rw [emb_ofK] at h ⊢
  rw [cast_eq] at h
  exact h.trans (done_all _ _ _ hs (back (X.dRow d (Feed.bOf (wL L))) (hX d _) (j 0)) j (pl_back _ _ _).symm)
theorem oi_out (h : k1_cond1 L = 1#1) (fo : Buf (Elt F) (oiLoc d)) (p s : S4096.Idx → Elt F .i32) (hp : p = s)
    (hs : Done (F := F) (e := .i32) (X.dRow d (Feed.bOf (wL L))) (X.tRow d ⟨(wL L).val, wL_lt L h⟩) 256 s) :
    ∀ i ∈ (oiK L h).view.set, (oiK L h).view.writes (Elt F) fo [⟨Rect.whole S4096, p⟩] i = X.GI hX d i := by
  subst hp
  intro i hi
  obtain ⟨j, -, rfl⟩ := Finset.mem_map.mp hi
  have h' := congrFun (View.read_writes_whole (oiK L h).view fo p) j
  rw [View.read_apply] at h'
  rw [emb_oiK] at h' ⊢
  rw [bOf_wL L h] at hs
  rw [cast_eq] at h'
  exact h'.trans (done_all _ _ _ hs (back (X.dRow d ⟨(wL L).val, wL_lt L h⟩) (hX d _) (j 0)) j (pl_back _ _ _).symm)

omit [FloatOps F] in
theorem pay2 (g : S4096.Idx → Elt F .f32) : View.read (Elt F) (s2V).view g = g := rfl
omit [FloatOps F] in
theorem pay3 (g : S4096.Idx → Elt F .i32) : View.read (Elt F) (s3V).view g = g := rfl

omit [FloatOps F] in
theorem t1_trips : Scf.trips k1_t1_loop.lb k1_t1_loop.ub k1_t1_loop.st = 256 := by decide +kernel
omit [FloatOps F] in
theorem t2_trips : Scf.trips k1_t2_loop.lb k1_t2_loop.ub k1_t2_loop.st = 256 := by decide +kernel

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ goT X d (cL L) (jL L)
        ∗ scopedBufs (tV d L) ∗ scopedSems0 (tV d L) ∗ owes (tV d L) O W)
      ⊢ wp frame (wpE (defs₀ (F := F)) 𝒱₀ (tV d L) none) Set.univ
          (cc1__sc_scatter_body L xfV (Memref.isWhole_whole _) xtV (Memref.isWhole_whole _) xdV (Memref.isWhole_whole _)
            ofV (Memref.isWhole_whole _) oiV (Memref.isWhole_whole _) s0V (Memref.isWhole_whole _) s1V (Memref.isWhole_whole _)
            s2V (Memref.isWhole_whole _) s3V (Memref.isWhole_whole _) s4V (Memref.isWhole_whole _) cc1_scoped0 cc1_scoped1 cc1_scoped2 cc1_scoped3 cc1_scoped4)
          fun _ => iprop(tdT X hX d (cL L) (jL L)
            ∗ scopedBufs (tV d L) ∗ scopedSems0 (tV d L)
            ∗ ∃ W', ⌜∀ p ∈ W', p ∈ W ∨ p.2 = none⌝ ∗ owes (tV d L) O W') := by
  simp only [cc1__sc_scatter_body_eq_skeleton]; unfold cc1__sc_scatter_body_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  iintro ⟨#Hlv, -, ⟨⟨Hxf, Hxt, Hxd⟩, ⟨%fo, Hof⟩, Hoi⟩, ⟨⟨%f0, H0⟩, ⟨%f1, H1⟩, ⟨%f2, H2⟩, ⟨%f3, H3⟩, ⟨%f4, H4⟩, Hbufs⟩, ⟨HsA, HsB, HsC, HsD, HsE, Hsems⟩, HO⟩
  ihave Hmw := (show levAts (K (F := F)).L (K (F := F)).lev ⊢ Transfers.MayWaits (tV d L) (default : HIx 1) O from
    (K (F := F)).mayWaits_none (thr := tV d L) hO) $$ Hlv
  ihave Hxf' := (Entails.of_eq (pts_xfV (F := F) d L _ _).symm) $$ Hxf
  ihave Hxt' := (Entails.of_eq (pts_xtV (F := F) d L _ _).symm) $$ Hxt
  ihave Hxd' := (Entails.of_eq (pts_xdV (F := F) d L _ _).symm) $$ Hxd
  ihave Hof' := (Entails.of_eq (pts_ofK (F := F) d L _).symm) $$ Hof
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  sl_exec
  rw [wp_bind]
  sl_for (inv1 X d L) $$ [H4' H0' H2']
  case region =>
    intro k _
    unfold inv1
    iintro ⟨H4, H0, ⟨%s, %hs, H2⟩⟩
    sl_exec
    rw [wp_assume_of _ _ _ _ (show k1_chk1 _ from chk_row _ _ k.val (t1_lt k) (k1_off3_eq k) _ (hX d _))]
    sl_exec
    ihave H2' := (Entails.of_eq (pts_s2w (F := F) d L _).symm) $$ H2
    iapply (SparseCore.wp_vectorStoreIdx 𝒱₀ (tV d L) none Set.univ (base := (s2V))) $$ H2'; iintro H2
    ihave H2' := (Entails.of_eq (pts_s2st (F := F) d L _ _)) $$ H2
    sl_step
    isplitl [H4]; · iexact H4
    isplitl [H0]; · iexact H0
    iexists _; isplitr
    swap; · iexact H2'
    ipureintro
    exact done_succ_of _ s (rd_s2 s) _ (hX d _) _ k.val (by have := t1_lt k; omega) hs _ _ (fun q => lane_s4 _ _ k.val (t1_lt k) (k1_off3_eq k) _ q)
      (fun q => lane_s0 _ _ k.val (t1_lt k) (k1_off3_eq k) _ q) _
  · unfold inv1
    isplitl [H4']
    · iapply (Entails.of_eq (pts_s4f X d L f4)); iexact H4'
    isplitl [H0']
    · iapply (Entails.of_eq (pts_s0f X d L f0)); iexact H0'
    iexists _; isplitr
    swap; · iexact H2'
    ipureintro; exact done_zero _ _ _
  rw [t1_trips]
  unfold inv1
  iintro %_ ⟨H4', H0', ⟨%g, %hg, H2'⟩⟩
  sl_exec
  ihave Hof := (Entails.of_eq (pointsTo_congr (of_out X hX d L fo _ g (pay2 g) hg))) $$ Hof'
  by_cases h1 : k1_cond1 L = 1#1
  · rw [dif_pos h1]
    ihave Hoi := (show oiAny (F := F) d (wN (cL L) (jL L)) ⊢ iprop(∃ f, oiRowPts d ⟨(wL L).val, wL_lt L h1⟩ f) from
      Entails.of_eq (oiAny_pos d _ (wL_lt L h1))) $$ Hoi
    icases Hoi with ⟨%fi, Hoi⟩
    ihave Hoi' := (Entails.of_eq (pts_oiK (F := F) d L h1 _).symm) $$ Hoi
    sl_exec
    sl_for (inv2 X d L ⟨(wL L).val, wL_lt L h1⟩) $$ [H4' H1' H3']
    case region =>
      intro k _
      unfold inv2
      iintro ⟨H4, H1, ⟨%s, %hs, H3⟩⟩
      sl_exec
      rw [wp_assume_of _ _ _ _ (show k1_chk2 L _ from fun _ => chk_row _ _ k.val (t2_lt k) (k1_off5_eq k) _ (hX d _))]
      sl_exec
      ihave H3' := (Entails.of_eq (pts_s3w (F := F) d L _).symm) $$ H3
      iapply (SparseCore.wp_vectorStoreIdx 𝒱₀ (tV d L) none Set.univ (base := (s3V))) $$ H3'; iintro H3
      ihave H3' := (Entails.of_eq (pts_s3st (F := F) d L _ _)) $$ H3
      sl_step
      isplitl [H4]; · iexact H4
      isplitl [H1]; · iexact H1
      iexists _; isplitr
      swap; · iexact H3'
      ipureintro
      exact done_succ_of _ s (rd_s3 s) _ (hX d _) _ k.val (by have := t2_lt k; omega) hs _ _ (fun q => lane_s4 _ _ k.val (t2_lt k) (k1_off5_eq k) _ q)
        (fun q => lane_s1 _ _ k.val (t2_lt k) (k1_off5_eq k) _ q) _
    · unfold inv2
      isplitl [H4']; · iexact H4'
      isplitl [H1']
      · iapply (Entails.of_eq (pts_s1f X d L h1 f1)); iexact H1'
      iexists _; isplitr
      swap; · iexact H3'
      ipureintro; exact done_zero _ _ _
    rw [t2_trips]
    unfold inv2
    iintro %_ ⟨H4', H1', ⟨%gi, %hgi, H3'⟩⟩
    sl_exec
    ihave Hoi := (Entails.of_eq (pointsTo_congr (oi_out X hX d L h1 fi _ gi (pay3 gi) hgi))) $$ Hoi'
    sl_step
    isplitl [Hxf' Hxt' Hxd' Hof Hoi]
    · isplitl [Hxf' Hxt' Hxd']
      · isplitl [Hxf']; · iexact Hxf'
        isplitl [Hxt']; · iexact Hxt'
        iexact Hxd'
      isplitl [Hof]
      · iapply (Entails.of_eq (pts_ofK (F := F) d L _)); iexact Hof
      iapply (show oiRowPts (F := F) d ⟨(wL L).val, wL_lt L h1⟩ (X.GI hX d) ⊢ oiAt d (wN (cL L) (jL L)) (X.GI hX d) from
        Entails.of_eq ((oiAt_pos d _ (wL_lt L h1) _).symm))
      iapply (Entails.of_eq (pts_oiK (F := F) d L h1 _)); iexact Hoi
    isplitl [H0' H1' H2' H3' H4' Hbufs]
    · isplitl [H0']; · iexists _; iexact H0'
      isplitl [H1']; · iexists _; iexact H1'
      isplitl [H2']; · iexists _; iexact H2'
      isplitl [H3']; · iexists _; iexact H3'
      isplitl [H4']; · iexists _; iexact H4'
      iexact Hbufs
    isplitl [HsA HsB HsC HsD HsE Hsems]
    · isplitl [HsA]; · iexact HsA
      isplitl [HsB]; · iexact HsB
      isplitl [HsC]; · iexact HsC
      isplitl [HsD]; · iexact HsD
      isplitl [HsE]; · iexact HsE
      iexact Hsems
    iexists _; isplitr
    swap; · iexact HO
    ipureintro
    intro p hp
    simp only [Finset.mem_insert] at hp
    rcases hp with rfl | rfl | rfl | rfl | rfl | hp
    exacts [.inr rfl, .inr rfl, .inr rfl, .inr rfl, .inr rfl, .inl hp]
  · rw [dif_neg h1]
    sl_step
    isplitl [Hxf' Hxt' Hxd' Hof Hoi]
    · isplitl [Hxf' Hxt' Hxd']
      · isplitl [Hxf']; · iexact Hxf'
        isplitl [Hxt']; · iexact Hxt'
        iexact Hxd'
      isplitl [Hof]
      · iapply (Entails.of_eq (pts_ofK (F := F) d L _)); iexact Hof
      iapply (show oiAny (F := F) d (wN (cL L) (jL L)) ⊢ oiAt d (wN (cL L) (jL L)) (X.GI hX d) from
        Entails.of_eq ((oiAny_neg d _ (wL_nlt L h1)).trans (oiAt_neg d _ (wL_nlt L h1) _).symm)); iexact Hoi
    isplitl [H0' H1' H2' H3' H4' Hbufs]
    · isplitl [H0']; · iexists _; iexact H0'
      isplitl [H1']; · iexists _; iexact H1'
      isplitl [H2']; · iexists _; iexact H2'
      isplitl [H3']; · iexists _; iexact H3'
      isplitl [H4']; · iexists _; iexact H4'
      iexact Hbufs
    isplitl [HsA HsB HsC HsD HsE Hsems]
    · isplitl [HsA]; · iexact HsA
      isplitl [HsB]; · iexact HsB
      isplitl [HsC]; · iexact HsC
      isplitl [HsD]; · iexact HsD
      isplitl [HsE]; · iexact HsE
      iexact Hsems
    iexists _; isplitr
    swap; · iexact HO
    ipureintro
    intro p hp
    simp only [Finset.mem_insert] at hp
    rcases hp with rfl | rfl | rfl | hp
    exacts [.inr rfl, .inr rfl, .inr rfl, .inl hp]

end Cert.Proof.Wh

end
-- ==== Proof.WsLaunch.lean ====
/-
  The SparseCore call's launch: the tiles' obligation, how the arrays are shared out and come back, the host code around
  the call, and the program's run.
-/
module

public import proofs.«01_k».proof.Proof.WsTile

@[expose] public section

noncomputable section

namespace Cert.Proof.Wh

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Cert.Proof.Scat (RowOK back)

variable {F : FTy → Type}

local notation "𝕄" => MT nD τ sig (HIx 1) (Elt F) ℕ UU ℕ

local notation "xfV" => (Memref.whole Cert.WholeIdeal.main_v14_scv : Memref Cert.WholeIdeal.sig Kind.scVector Space.hbm Cert.WholeIdeal.S32x4096 EltTy.f32)
local notation "xtV" => (Memref.whole Cert.WholeIdeal.main_v10_scv : Memref Cert.WholeIdeal.sig Kind.scVector Space.hbm Cert.WholeIdeal.S16x4096 EltTy.i32)
local notation "xdV" => (Memref.whole Cert.WholeIdeal.main_v11_scv : Memref Cert.WholeIdeal.sig Kind.scVector Space.hbm Cert.WholeIdeal.S16x4096 EltTy.i32)
local notation "ofV" => (Memref.whole Cert.WholeIdeal.main_v15_0_scv : Memref Cert.WholeIdeal.sig Kind.scVector Space.hbm Cert.WholeIdeal.S32x4096 EltTy.f32)
local notation "oiV" => (Memref.whole Cert.WholeIdeal.main_v15_1_scv : Memref Cert.WholeIdeal.sig Kind.scVector Space.hbm Cert.WholeIdeal.S16x4096 EltTy.i32)
local notation "s0V" => (Memref.whole Cert.WholeIdeal.cc1_scratch0 : Memref Cert.WholeIdeal.sig Kind.scVector Space.vmem Cert.WholeIdeal.S4096 EltTy.f32)
local notation "s1V" => (Memref.whole Cert.WholeIdeal.cc1_scratch1 : Memref Cert.WholeIdeal.sig Kind.scVector Space.vmem Cert.WholeIdeal.S4096 EltTy.i32)
local notation "s2V" => (Memref.whole Cert.WholeIdeal.cc1_scratch2 : Memref Cert.WholeIdeal.sig Kind.scVector Space.vmem Cert.WholeIdeal.S4096 EltTy.f32)
local notation "s3V" => (Memref.whole Cert.WholeIdeal.cc1_scratch3 : Memref Cert.WholeIdeal.sig Kind.scVector Space.vmem Cert.WholeIdeal.S4096 EltTy.i32)
local notation "s4V" => (Memref.whole Cert.WholeIdeal.cc1_scratch4 : Memref Cert.WholeIdeal.sig Kind.scVector Space.vmem Cert.WholeIdeal.S4096 EltTy.i32)

variable (X : Feed F) (hX : X.OK)

theorem bigSep_none {I : Type} (s : Finset I) : (bigSep s fun _ => iprop(emp)) = (iprop(emp) : sProp 𝕄) := bigSep_emp_const s

/-! ## Sharing out -/

theorem inPts_deal (d : Dev nD) (q : PosShare TreeShare) (n : ℕ) :
    (inPts X d q : sProp 𝕄) = bigSep Finset.univ fun i : Fin (n + 1) => inPts X d (Transfers.dealOf q (Finset.univ : Finset (Fin (n + 1))) i) := by
  rw [bigSep_sep', bigSep_sep']
  rw [← Transfers.pointsTo_deal (Finset.univ : Finset (Fin (n + 1))) Finset.univ_nonempty q,
    ← Transfers.pointsTo_deal (Finset.univ : Finset (Fin (n + 1))) Finset.univ_nonempty q,
    ← Transfers.pointsTo_deal (Finset.univ : Finset (Fin (n + 1))) Finset.univ_nonempty q]

theorem fRowSet_eq (i : Fin 32) : fRowSet i = (frow i).set := by
  show ((View.whole (main_v15_0_scv : Ref sig .scVector)).slice (frow i)).set = _
  rw [View.set_slice]; exact Finset.map_refl
theorem iRowSet_eq (i : Fin 16) : iRowSet i = (irow i).set := by
  show ((View.whole (main_v15_1_scv : Ref sig .scVector)).slice (irow i)).set = _
  rw [View.set_slice]; exact Finset.map_refl
theorem frows_disjoint : ∀ i ∈ (Finset.univ : Finset (Fin 32)), ∀ j ∈ (Finset.univ : Finset (Fin 32)), i ≠ j → Disjoint (fRowSet i) (fRowSet j) :=
  fun i _ j _ h => by rw [fRowSet_eq, fRowSet_eq]; exact Rect.part_disjoint fdiv h
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint idiv h
theorem frows_cover : (Finset.univ : Finset (Fin 32)).biUnion fRowSet = Finset.univ :=
  (Finset.biUnion_congr rfl fun i _ => fRowSet_eq i).trans (Rect.biUnion_part fdiv)
theorem irows_cover : (Finset.univ : Finset (Fin 16)).biUnion iRowSet = Finset.univ :=
  (Finset.biUnion_congr rfl fun i _ => iRowSet_eq i).trans (Rect.biUnion_part idiv)

/-- The tiles are the rows. -/
def wEquiv : Fin 2 × Fin 16 ≃ Fin 32 where
  toFun p := wN p.1 p.2
  invFun r := (⟨r.val % 2, by omega⟩, ⟨r.val / 2, by omega⟩)
  left_inv p := by ext <;> simp [wN] <;> omega
  right_inv r := by ext; simp [wN]; omega

theorem bigSep_tiles (Φ : Fin 32 → sProp 𝕄) :
    bigSep Finset.univ Φ = bigSep Finset.univ fun c : Fin 2 => bigSep Finset.univ fun s : Fin 16 => Φ (wN c s) := by
  rw [bigSep_univ_equiv wEquiv Φ, bigSep_univ_prod]; rfl

theorem of_rows (d : Dev nD) (f : Buf (Elt F) (ofLoc d)) :
    (ofLoc d ↦{fullShare} f : sProp 𝕄) = bigSep Finset.univ fun c : Fin 2 => bigSep Finset.univ fun s : Fin 16 => ofRowPts d (wN c s) f := by
  rw [← bigSep_tiles fun r => ofRowPts d r f, ← pointsTo_biUnion Finset.univ (ℓ := ofLoc d) fRowSet frows_disjoint, frows_cover]

theorem oi_rows (d : Dev nD) (f : Buf (Elt F) (oiLoc d)) :
    (oiLoc d ↦{fullShare} f : sProp 𝕄) = bigSep Finset.univ fun c : Fin 2 => bigSep Finset.univ fun s : Fin 16 => oiAt d (wN c s) f := by
  rw [← bigSep_tiles fun r => oiAt d r f, bigSep_univ_equiv (finSumFinEquiv : Fin 16 ⊕ Fin 16 ≃ Fin 32) fun r => oiAt d r f, bigSep_univ_sum]
  have hr : (bigSep Finset.univ fun b : Fin 16 => oiAt (F := F) d (finSumFinEquiv (Sum.inr b : Fin 16 ⊕ Fin 16) : Fin 32) f) = (iprop(emp) : sProp 𝕄) :=
    (bigSep_congr fun b _ => by
      unfold oiAt
      rw [dif_neg (show ¬ (finSumFinEquiv (Sum.inr b : Fin 16 ⊕ Fin 16) : Fin 32).val < 16 from Nat.not_lt.mpr (Nat.le_add_right 16 b.val))]; rfl).trans (bigSep_emp_const _)
  have hl : (bigSep Finset.univ fun b : Fin 16 => oiAt (F := F) d (finSumFinEquiv (Sum.inl b : Fin 16 ⊕ Fin 16) : Fin 32) f) = (bigSep Finset.univ fun b : Fin 16 => oiRowPts d b f : sProp 𝕄) :=
    bigSep_congr fun b _ => by
      unfold oiAt
      rw [dif_pos (show (finSumFinEquiv (Sum.inl b : Fin 16 ⊕ Fin 16) : Fin 32).val < 16 from b.isLt)]; rfl
  refine Eq.trans ?_ (congrArg₂ (fun A B : sProp 𝕄 => iprop(A ∗ B)) hl hr).symm
  rw [← pointsTo_biUnion Finset.univ (ℓ := oiLoc d) iRowSet irows_disjoint, irows_cover]
  exact (BI.Entails.antisymm sep_emp.1 sep_emp.2).symm

theorem oiAt_any (d : Dev nD) (r : Fin 32) (f : Buf (Elt F) (oiLoc d)) : (oiAt d r f : sProp 𝕄) ⊢ oiAny d r := by
  unfold oiAt oiAny
  split
  · iintro H; iexists f; iexact H
  · iintro H; iexact H

theorem of_any (d : Dev nD) (r : Fin 32) (f : Buf (Elt F) (ofLoc d)) : (ofRowPts d r f : sProp 𝕄) ⊢ iprop(∃ f, ofRowPts d r f) := by
  iintro H; iexists f; iexact H

theorem tiles_cast (Φ : Fin 16 → sProp 𝕄) :
    (bigSep Finset.univ fun i : Fin ((K (F := F)).nSub 0) => Φ (ss (F := F) i)) = bigSep Finset.univ Φ :=
  bigSep_congr fun _ _ => congrArg Φ (Fin.ext rfl)
theorem cores_cast (Φ : Fin 2 → sProp 𝕄) :
    (bigSep Finset.univ fun i : Fin ((K (F := F)).nCore 0) => Φ (cc (F := F) i)) = bigSep Finset.univ Φ :=
  bigSep_congr fun _ _ => congrArg Φ (Fin.ext rfl)

theorem bigSep_sep3 {n : ℕ} (A B C : Fin n → sProp 𝕄) :
    (bigSep Finset.univ fun i => iprop(A i ∗ B i ∗ C i)) = iprop(bigSep Finset.univ A ∗ bigSep Finset.univ B ∗ bigSep Finset.univ C) := by
  rw [bigSep_sep' Finset.univ A fun i => iprop(B i ∗ C i), bigSep_sep' Finset.univ B C]

variable [FloatOps F]

theorem vecSplit : (K (F := F)).VecSplit' (P X hX) 0 := by
  intro d c
  show (stC X d (cc (F := F) c) : sProp 𝕄) ⊢ |={Set.univ}=> iprop(
      (bigSep Finset.univ fun i : Fin ((K (F := F)).nSub 0) => goT X d (cc (F := F) c) (ss (F := F) i))
      ∗ ((bigSep Finset.univ fun i : Fin ((K (F := F)).nSub 0) => tdT X hX d (cc (F := F) c) (ss (F := F) i)) -∗ dnC X hX d (cc (F := F) c)))
  rw [tiles_cast (F := F) (fun i => goT X d (cc (F := F) c) i), tiles_cast (F := F) (fun i => tdT X hX d (cc (F := F) c) i)]
  generalize cc (F := F) c = c
  rw [bigSep_sep3 (fun s => inPts X d (tq c s)) (fun s => iprop(∃ f, ofRowPts (F := F) d (wN c s) f)) (fun s => oiAny (F := F) d (wN c s)),
    bigSep_sep3 (fun s => inPts X d (tq c s)) (fun s => ofRowPts d (wN c s) (X.GF hX d)) (fun s => oiAt d (wN c s) (X.GI hX d)),
    ← inPts_deal X d (cq c) 15]
  iintro H; imodintro
  isplitl [H]; · iexact H
  iintro H; iexact H

theorem stAll (d : Dev nD) (f : Buf (Elt F) (ofLoc d)) (g : Buf (Elt F) (oiLoc d)) :
    iprop(inPts X d fullShare ∗ (ofLoc d ↦{fullShare} f) ∗ (oiLoc d ↦{fullShare} g))
      ⊢ (bigSep Finset.univ fun c : Fin ((K (F := F)).nCore 0) => (P X hX).st 0 d c : sProp 𝕄) := by
  show _ ⊢ (bigSep Finset.univ fun c : Fin ((K (F := F)).nCore 0) => stC X d (cc (F := F) c) : sProp 𝕄)
  rw [cores_cast (F := F) (fun c => stC X d c),
    bigSep_sep3 (fun c => inPts X d (cq c)) (fun c => bigSep Finset.univ fun s : Fin 16 => iprop(∃ f, ofRowPts (F := F) d (wN c s) f))
      (fun c => bigSep Finset.univ fun s : Fin 16 => oiAny (F := F) d (wN c s)),
    ← inPts_deal X d fullShare 1, of_rows, oi_rows]
  refine BIClass.sep_mono (Entails.of_eq rfl) (BIClass.sep_mono ?_ ?_)
  · exact bigSep_mono fun c _ => bigSep_mono fun s _ => of_any d _ f
  · exact bigSep_mono fun c _ => bigSep_mono fun s _ => oiAt_any d _ g

theorem dnAll (d : Dev nD) : (bigSep Finset.univ fun c : Fin ((K (F := F)).nCore 0) => (P X hX).dn 0 d c : sProp 𝕄)
      = iprop(inPts X d fullShare ∗ (ofLoc d ↦{fullShare} X.GF hX d) ∗ (oiLoc d ↦{fullShare} X.GI hX d)) := by
  show (bigSep Finset.univ fun c : Fin ((K (F := F)).nCore 0) => dnC X hX d (cc (F := F) c) : sProp 𝕄) = _
  rw [cores_cast (F := F) (fun c => dnC X hX d c),
    bigSep_sep3 (fun c => inPts X d (cq c)) (fun c => bigSep Finset.univ fun s : Fin 16 => ofRowPts d (wN c s) (X.GF hX d))
      (fun c => bigSep Finset.univ fun s : Fin 16 => oiAt d (wN c s) (X.GI hX d)),
    ← inPts_deal X d fullShare 1, of_rows, oi_rows]

/-! ## The tiles' obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_scatter_body (coordsV c s)
          xfV (Memref.isWhole_whole _) xtV (Memref.isWhole_whole _) xdV (Memref.isWhole_whole _)
            ofV (Memref.isWhole_whole _) oiV (Memref.isWhole_whole _) s0V (Memref.isWhole_whole _) s1V (Memref.isWhole_whole _)
            s2V (Memref.isWhole_whole _) s3V (Memref.isWhole_whole _) s4V (Memref.isWhole_whole _) cc1_scoped0 cc1_scoped1 cc1_scoped2 cc1_scoped3 cc1_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P X hX) v₀ 0 := by
  intro d c i O W hO _ _
  simp only [show (P X hX).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X hX d (coordsV ⟨_, hci.1⟩ ⟨_, hci.2⟩) hF O W hO).trans (wp_mono frame _ _ fun _ => obl_post)

/-! ## The launch element -/

/-- The pipeline's rounds, beside the handshake's. -/
abbrev EP : Emb UP (MT nD τ sig (HIx 1) (Elt F) ℕ UU ℕ) := (Emb.inl : Emb UP (UP × Counters)).trans embR

abbrev adm : (p : Fin 1) → (pcfgs (F := F) p).Adm := fun q => (cfgs q).toPCfg_adm

instance EP_lands : (EP (F := F)).LandsIn (upEmb : UEmb _ (MT nD τ sig (HIx 1) (Elt F) ℕ UU ℕ)) := by unfold EP; infer_instance

/-- What the pipeline's region takes on one device. -/
abbrev Gd (d : Dev nD) : sProp 𝕄 :=
  iprop(Pipeline.cellsGhost (Pipeline.pin (pcfgs (F := F)) adm) EP 0 d ∗ Pipeline.toksInit (Pipeline.pin (pcfgs (F := F)) adm) EP 0 d)

def uP : UP := initOf (Pipeline.cells (nD := nD) (τ := τ) (Pipeline.pin (pcfgs (F := F)) adm) cellOf_inj) (Pipeline.launchToks (nD := nD) (τ := τ) (Pipeline.pin (pcfgs (F := F)) adm) cellOf_inj)

def u₀ : UU := (initOf (K (F := F)).hsCells (K (F := F)).hsToks, (uP (F := F), 1))

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P X hX).x q thr) := by
  unfold u₀
  iintro Hu
  ihave H := (ownU_pair (initOf (K (F := F)).hsCells (K (F := F)).hsToks) ((uP (F := F), 1) : UP × Counters)) $$ Hu
  icases H with ⟨HH, HR⟩
  ihave H2 := (own_pair_emb embR (uP (F := F)) (1 : Counters)) $$ HR
  icases H2 with ⟨HP, -⟩
  unfold uP
  imod (Pipeline.fund_ghost (Pipeline.pin (pcfgs (F := F)) adm) EP cellOf_inj) $$ HP with ⟨Hg, Ht⟩
  imodintro
  isplitl [HH]; · iexact HH
  isplitl [Hg Ht]
  · simp only [bigSep_sep']
    isplitl [Hg]
    · iapply (Entails.of_eq (show (bigSep Finset.univ fun c : Dev nD => bigSep Finset.univ fun p : Fin 1 => (Pipeline.cellsGhost (Pipeline.pin (pcfgs (F := F)) adm) EP p c : sProp 𝕄))
          = bigSep Finset.univ fun c : Dev nD => Pipeline.cellsGhost (Pipeline.pin (pcfgs (F := F)) adm) EP 0 c from
        bigSep_congr fun d _ => bigSep_univ_of_subsingleton (0 : Fin 1)))
      iexact Hg
    · iapply (Entails.of_eq (show (bigSep Finset.univ fun c : Dev nD => bigSep Finset.univ fun p : Fin 1 => (Pipeline.toksInit (Pipeline.pin (pcfgs (F := F)) adm) EP p c : sProp 𝕄))
          = bigSep Finset.univ fun c : Dev nD => Pipeline.toksInit (Pipeline.pin (pcfgs (F := F)) adm) EP 0 c from
        bigSep_congr fun d _ => bigSep_univ_of_subsingleton (0 : Fin 1)))
      iexact Ht
  rw [show (bigSep Finset.univ fun thr : Thread nD τ => bigSep Finset.univ fun q : Fin 1 => (P (F := F) X hX).x q thr) = bigSep Finset.univ fun _ => iprop(emp) from
    bigSep_congr fun _ _ => bigSep_univ_of_subsingleton (0 : Fin 1), bigSep_none]
  iempintro

end Cert.Proof.Wh

end
-- ==== Proof.WtRun.lean ====
/-
  The sender call's run: what its body leaves in the four result buffers, by the loop's invariant, and the launch.
-/
module

public import proofs.«01_k».proof.Proof.Gen.WholeIdeal.Launch
public import proofs.«01_k».proof.Proof.Gen.WholeIdeal.Points
public import proofs.«01_k».proof.Proof.WsLaunch
public import Idealize.ShloMosaic.Lib.Pipeline.Frame
public import Idealize.ShloMosaic.Lib.Tactic
public import proofs.«01_k».proof.Proof.Gen.WholeIdeal.Skeleton
public import Idealize.ShloMosaic.Lib.Claim
public import Idealize.ShloMosaic.Lib.Pipeline.Value
public import Idealize.ShloMosaic.Lib.ValueIdxCore
public import Idealize.ShloMosaic.Lib.VecWindow

@[expose] public section

set_option maxRecDepth 16384

noncomputable section

namespace Cert.Proof.Wt

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (SparseCore.Cfg.HIx 1) (Elt F) ℕ Cert.Proof.Wh.UU ℕ

/-! ## What the body computes -/

/-- The hidden state (transposed) before trip `k`. -/
def hid (x0 : Vec F S256x128 .f32) (x1 : Vec F S512x256 .f32) (x2 : Vec F S512x512 .f32) : Nat → FVec F S512x128 .f32
  | 0 => k0_pay2 x1 x0
  | k + 1 => k0_pay3 x2 (hid x0 x1 x2 k)

/-- Column `i 1` of a row block, for the row that trip `i 0` stores. -/
abbrev col (i : S512x128.Idx) : S1x128.Idx := ValueIdx.ix2 (0 : Fin 1) (i 1)

/-- The tokens: row `k` is what trip `k` stores. -/
def outTok (x0 : Vec F S256x128 .f32) (x1 : Vec F S512x256 .f32) (x2 : Vec F S512x512 .f32) (x3 : Vec F S128x512 .f32) : Vec F S512x128 .i32 :=
  fun i => k0_pay9 x2 x3 (hid x0 x1 x2 (i 0).val) (col i)
/-- The log-probabilities. -/
def outLp (x0 : Vec F S256x128 .f32) (x1 : Vec F S512x256 .f32) (x2 : Vec F S512x512 .f32) (x3 : Vec F S128x512 .f32) : Vec F S512x128 .f32 :=
  fun i => k0_pay11 x2 x3 (hid x0 x1 x2 (i 0).val) (col i)
/-- The entropies. -/
def outEnt (x0 : Vec F S256x128 .f32) (x1 : Vec F S512x256 .f32) (x2 : Vec F S512x512 .f32) (x3 : Vec F S128x512 .f32) : Vec F S512x128 .f32 :=
  fun i => k0_pay12 x2 x3 (hid x0 x1 x2 (i 0).val) (col i)
/-- The places, from the tokens. -/
def outDest (tk : Vec F S512x128 .i32) : Vec F S512x128 .i32 :=
  k0_pay1 (F := F) (iota .tc S512x128 32 [0] iota_S512x128_d0_w32) (k0_pay13 (F := F) tk) (k0_pay14 tk)
    (k0_pay17 (iota .tc S128x128 32 [0] iota_S128x128_d0_w32) (iota .tc S128x128 32 [1] iota_S128x128_d1_w32) 8#32 k0_pay15 k0_pay16 0#32)
    (k0_pay18 (iota .tc S128x128 32 [0] iota_S128x128_d0_w32) (iota .tc S128x128 32 [1] iota_S128x128_d1_w32) 8#32 k0_pay15 k0_pay16 0#32)
    (Scalar.ofBits .f32 0x00000000#32) (k0_pay19 (F := F))

/-! ## The loop -/

theorem trips_eq : k0_t1_loop.trips = 512 := by decide +kernel

/-- The rows before `k` of a buffer are those of `G`. -/
def Rows {e : EltTy} (v : View sig .tc .vmem S512x128 e) (G : Vec F S512x128 e) (k : Nat) (f : v.ty.Contents (Elt F)) : Prop :=
  ∀ i : S512x128.Idx, (i 0).val < k → v.read (Elt F) f i = G i

theorem rows_all {e : EltTy} {v : View sig .tc .vmem S512x128 e} {G : Vec F S512x128 e} {f : v.ty.Contents (Elt F)} (h : Rows v G 512 f) :
    v.read (Elt F) f = G := funext fun i => h i (i 0).isLt

/-- Storing row `k` of `G` fills one more row. -/
theorem rows_succ {e : EltTy} {v : View sig .tc .vmem S512x128 e} {G : Vec F S512x128 e} {k : Fin k0_t1_loop.trips} {f : v.ty.Contents (Elt F)}
    (w : S1x128.Idx → Elt F e) (hw : ∀ i : S512x128.Idx, (i 0).val = k.val → w (col i) = G i) (h : Rows v G k.val f) :
    Rows v G (k.val + 1) (v.writes (Elt F) f [⟨Rect.unit (s := S512x128) (k0_off1 k) S1x128.size (k0_off1_inb k), w⟩]) := by
  intro i hi
  by_cases hk : (i 0).val = k.val
  · rw [View.read_writes_cons_hit_of_coords v f (Rect.unit (s := S512x128) (k0_off1 k) S1x128.size (k0_off1_inb k)) w [] (col i) i, hw i hk]
    intro a
    have := k0_off1_eq k
    fin_cases a
    · simp [this, hk]
    · simp [this]
  · rw [View.read_writes_cons_miss_of_axis v f ⟨Rect.unit (s := S512x128) (k0_off1 k) S1x128.size (k0_off1_inb k), w⟩ [] i 0 k.val 1
      (by simp [k0_off1_eq k]) (by rfl) (by rfl) (by omega)]
    exact h i (by omega)

/-- One store of the whole buffer leaves its payload. -/
theorem read_full_store {e : EltTy} (v : View sig .tc .vmem S512x128 e) (f : v.ty.Contents (Elt F)) (inb : ∀ a, ![0, 0] a + S512x128.size a ≤ S512x128.size a)
    (w : S512x128.Idx → Elt F e) :
    v.read (Elt F) (v.writes (Elt F) f [⟨Rect.unit (s := S512x128) ![0, 0] S512x128.size inb, w⟩]) = w := by
  funext i
  refine View.read_writes_cons_hit_of_coords v f (Rect.unit (s := S512x128) ![0, 0] S512x128.size inb) w [] i i fun a => ?_
  fin_cases a <;> simp

/-! ## The body -/

section

variable (c : Dev nD) (arg0 : Memref sig .tc .vmem S256x128 .f32) (harg0 : arg0.IsWhole) (arg1 : Memref sig .tc .vmem S512x256 .f32) (harg1 : arg1.IsWhole) (arg2 : Memref sig .tc .vmem S512x512 .f32) (harg2 : arg2.IsWhole) (arg3 : Memref sig .tc .vmem S128x512 .f32) (harg3 : arg3.IsWhole) (arg4 : Memref sig .tc .vmem S512x128 .i32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .i32) (harg7 : arg7.IsWhole)
  (x0 : Vec F S256x128 .f32) (x1 : Vec F S512x256 .f32) (x2 : Vec F S512x512 .f32) (x3 : Vec F S128x512 .f32)

/-- The loop's invariant: the state carried, and the rows done in each of the three buffers. -/
def inv (k : Nat) (h : FVec F S512x128 .f32) : sProp 𝕄 :=
  iprop(⌜h = hid x0 x1 x2 k⌝
    ∗ (∃ f, ⌜Rows arg4.view (outTok x0 x1 x2 x3) k f⌝ ∗ arg4.view.loc (c : Thread nD τ) ↦[arg4.view.set]{fullShare} f)
    ∗ (∃ f, ⌜Rows arg5.view (outLp x0 x1 x2 x3) k f⌝ ∗ arg5.view.loc (c : Thread nD τ) ↦[arg5.view.set]{fullShare} f)
    ∗ (∃ f, ⌜Rows arg6.view (outEnt x0 x1 x2 x3) k f⌝ ∗ arg6.view.loc (c : Thread nD τ) ↦[arg6.view.set]{fullShare} f))

set_option maxHeartbeats 2000000 in
/-- The body on whole buffers, the inputs' at their contents and the outputs' at anything: it leaves the four results. -/
theorem body_run (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (outTok x0 x1 x2 x3) ∗ owns (c : Thread nD τ) arg5 fullShare (outLp x0 x1 x2 x3) ∗ owns (c : Thread nD τ) arg6 fullShare (outEnt x0 x1 x2 x3) ∗ owns (c : Thread nD τ) arg7 fullShare (outDest (outTok x0 x1 x2 x3))) -∗ K ⟨⟩))
      ⊢ wp frame (wpE (defs₀ (F := F)) Variants.none c none) E (cc0__rnn_body arg0 harg0 arg1 harg1 arg2 harg2 arg3 harg3 arg4 harg4 arg5 harg5 arg6 harg6 arg7 harg7) K := by
  simp only [cc0__rnn_body_eq_skeleton]; unfold cc0__rnn_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg0.eq_unread hf0; obtain rfl := harg1.eq_unread hf1; obtain rfl := harg2.eq_unread hf2; obtain rfl := harg3.eq_unread hf3
  sl_exec
  simp only [View.readAt_full, hf0, hf1, hf2, hf3]
  sl_for (inv c arg4 arg5 arg6 x0 x1 x2 x3) $$ [H4 H5 H6]
  case region =>
    intro k h
    unfold inv
    iintro ⟨%hh, ⟨%g4, %hg4, H4⟩, ⟨%g5, %hg5, H5⟩, ⟨%g6, %hg6, H6⟩⟩
    sl_exec
    sl_step
    subst hh
    isplitr
    · ipureintro; exact congrArg (fun a => k0_pay3 a (hid x0 x1 x2 k.val)) ((View.readAt_full _ _ _).trans hf2)
    isplitl [H4]
    · iexists _; isplitr
      swap; · iexact H4
      ipureintro
      exact rows_succ _ (fun i hi => (congrFun (congrArg₂ (fun a b => k0_pay9 a b (hid x0 x1 x2 k.val)) ((View.readAt_full _ _ _).trans hf2) ((View.readAt_full _ _ _).trans hf3)) (col i)).trans (by unfold outTok; rw [hi])) hg4
    isplitl [H5]
    · iexists _; isplitr
      swap; · iexact H5
      ipureintro
      exact rows_succ _ (fun i hi => (congrFun (congrArg₂ (fun a b => k0_pay11 a b (hid x0 x1 x2 k.val)) ((View.readAt_full _ _ _).trans hf2) ((View.readAt_full _ _ _).trans hf3)) (col i)).trans (by unfold outLp; rw [hi])) hg5
    iexists _; isplitr
    swap; · iexact H6
    ipureintro
    exact rows_succ _ (fun i hi => (congrFun (congrArg₂ (fun a b => k0_pay12 a b (hid x0 x1 x2 k.val)) ((View.readAt_full _ _ _).trans hf2) ((View.readAt_full _ _ _).trans hf3)) (col i)).trans (by unfold outEnt; rw [hi])) hg6
  · unfold inv
    isplitr
    · ipureintro
      exact congrArg₂ k0_pay2 ((View.readAt_full _ _ _).trans hf1) ((View.readAt_full _ _ _).trans hf0)
    isplitl [H4]
    · iexists _; isplitr
      swap; · iexact H4
      ipureintro; exact fun i hi => absurd hi (Nat.not_lt_zero _)
    isplitl [H5]
    · iexists _; isplitr
      swap; · iexact H5
      ipureintro; exact fun i hi => absurd hi (Nat.not_lt_zero _)
    iexists _; isplitr
    swap; · iexact H6
    ipureintro; exact fun i hi => absurd hi (Nat.not_lt_zero _)
  iintro %h Hinv
  unfold inv
  icases Hinv with ⟨-, ⟨%g4, %hg4, H4⟩, ⟨%g5, %hg5, H5⟩, ⟨%g6, %hg6, H6⟩⟩
  have e4 := rows_all (show Rows arg4.view (outTok x0 x1 x2 x3) 512 g4 from trips_eq ▸ (show Rows arg4.view (outTok x0 x1 x2 x3) k0_t1_loop.trips g4 from hg4))
  have e5 := rows_all (show Rows arg5.view (outLp x0 x1 x2 x3) 512 g5 from trips_eq ▸ (show Rows arg5.view (outLp x0 x1 x2 x3) k0_t1_loop.trips g5 from hg5))
  have e6 := rows_all (show Rows arg6.view (outEnt x0 x1 x2 x3) 512 g6 from trips_eq ▸ (show Rows arg6.view (outEnt x0 x1 x2 x3) k0_t1_loop.trips g6 from hg6))
  sl_exec
  sl_step
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact e4
  isplitl [H5]; · iexists _; isplitr; swap; · iexact H5
                  ipureintro; exact e5
  isplitl [H6]; · iexists _; isplitr; swap; · iexact H6
                  ipureintro; exact e6
  iexists _; isplitr; swap; · iexact H7
  ipureintro
  refine (read_full_store _ _ _ _).trans ?_
  exact congrArg outDest ((View.readAt_full _ _ _).trans e4)

end

end Cert.Proof.Wt

end
-- ==== Proof.WtLaunch.lean ====
/-
  The sender call's launch: its one grid point's data, the body's obligation, the run, and what the four results hold.
-/
module

public import proofs.«01_k».proof.Proof.WtRun
public import Idealize.ShloMosaic.Lib.Claim
public import Idealize.ShloMosaic.Lib.Pipeline.Value
public import Idealize.ShloMosaic.Lib.ValueIdxCore
public import Idealize.ShloMosaic.Lib.Pipeline.ValueKit
public import Idealize.ShloMosaic.Lib.Pipeline.RegionArraysS
public import Idealize.ShloMosaic.Lib.StableHlo.Run
public import Idealize.ShloMosaic.Lib.StableHlo.RunRead

@[expose] public section

set_option maxRecDepth 16384

noncomputable section

namespace Cert.Proof.Wt

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Cert.Proof.Wh (UU K EP adm)
open Idealize.ShloMosaic.Pipeline (Dat Cfg Window BodyObligation cellOf)

variable {F : FTy → Type} [FloatOps F]

local notation "𝕄" => MT nD τ sig (HIx 1) (Elt F) ℕ UU ℕ

variable (m : Dev nD → Valuation τ sig (Elt F))

/-- Window `w`'s block at the point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (m c (Proc.devRef .tc (Pipeline.arrRef spec0 w)))

/-! ## The point's data -/

abbrev tkAt (c : Dev nD) (t : Fin cfg0.N) : Vec F S512x128 .i32 := outTok (iblk m c 0 t) (iblk m c 1 t) (iblk m c 2 t) (iblk m c 3 t)

/-- The arrays as the region finds them; after the body, the inputs' blocks and the four results. -/
def dat (c : Dev nD) : Dat τ (Elt F) (HIx 1) ℕ UU ℕ cfg0 c where
  A w := m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => iblk m c 3 t
    | ⟨4, _⟩ => tkAt m c t
    | ⟨5, _⟩ => outLp (iblk m c 0 t) (iblk m c 1 t) (iblk m c 2 t) (iblk m c 3 t)
    | ⟨6, _⟩ => outEnt (iblk m c 0 t) (iblk m c 1 t) (iblk m c 2 t) (iblk m c 3 t)
    | ⟨7, _⟩ => outDest (tkAt m c t)
  Φ _ := Pipeline.scopedRest spec0 c
  q _ := fullShare
  owed _ := (K (F := F)).Otc c 0
  recorded _ := {p | (K (F := F)).lev ((SparseCore.T c), p.1) p.2 ≤ 8 * 0}

theorem dat_A (c : Dev nD) (w : Fin cfg0.W) : (dat m c).A w = m c (Proc.devRef .tc (Pipeline.arrRef spec0 w)) := by
  dsimp only [dat]

theorem left0 (c : Dev nD) (t : Fin cfg0.N) : (dat m c).after 0 t = iblk m c 0 t := by dsimp only [dat]
theorem left1 (c : Dev nD) (t : Fin cfg0.N) : (dat m c).after 1 t = iblk m c 1 t := by dsimp only [dat]
theorem left2 (c : Dev nD) (t : Fin cfg0.N) : (dat m c).after 2 t = iblk m c 2 t := by dsimp only [dat]
theorem left3 (c : Dev nD) (t : Fin cfg0.N) : (dat m c).after 3 t = iblk m c 3 t := by dsimp only [dat]
theorem left4 (c : Dev nD) (t : Fin cfg0.N) : (dat m c).after 4 t = tkAt m c t := by dsimp only [dat]
theorem left5 (c : Dev nD) (t : Fin cfg0.N) : (dat m c).after 5 t = outLp (iblk m c 0 t) (iblk m c 1 t) (iblk m c 2 t) (iblk m c 3 t) := by dsimp only [dat]
theorem left6 (c : Dev nD) (t : Fin cfg0.N) : (dat m c).after 6 t = outEnt (iblk m c 0 t) (iblk m c 1 t) (iblk m c 2 t) (iblk m c 3 t) := by dsimp only [dat]
theorem left7 (c : Dev nD) (t : Fin cfg0.N) : (dat m c).after 7 t = outDest (tkAt m c t) := by dsimp only [dat]

theorem found0 (c : Dev nD) (t : Fin cfg0.N) (d) : (dat m c).before 0 t d = iblk m c 0 t :=
  ((dat m c).before_in_eq_fetched 0 rfl (fun _ => rfl) (fun _ _ _ => rfl) (fun t => by rw [left0]; unfold Dat.blockOf iblk; rw [dat_A]) t d).trans
    (by unfold Dat.fetched Dat.blockOf iblk; rw [dat_A]; try rfl)
theorem found1 (c : Dev nD) (t : Fin cfg0.N) (d) : (dat m c).before 1 t d = iblk m c 1 t :=
  ((dat m c).before_in_eq_fetched 1 rfl (fun _ => rfl) (fun _ _ _ => rfl) (fun t => by rw [left1]; unfold Dat.blockOf iblk; rw [dat_A]) t d).trans
    (by unfold Dat.fetched Dat.blockOf iblk; rw [dat_A]; try rfl)
theorem found2 (c : Dev nD) (t : Fin cfg0.N) (d) : (dat m c).before 2 t d = iblk m c 2 t :=
  ((dat m c).before_in_eq_fetched 2 rfl (fun _ => rfl) (fun _ _ _ => rfl) (fun t => by rw [left2]; unfold Dat.blockOf iblk; rw [dat_A]) t d).trans
    (by unfold Dat.fetched Dat.blockOf iblk; rw [dat_A]; try rfl)
theorem found3 (c : Dev nD) (t : Fin cfg0.N) (d) : (dat m c).before 3 t d = iblk m c 3 t :=
  ((dat m c).before_in_eq_fetched 3 rfl (fun _ => rfl) (fun _ _ _ => rfl) (fun t => by rw [left3]; unfold Dat.blockOf iblk; rw [dat_A]) t d).trans
    (by unfold Dat.fetched Dat.blockOf iblk; rw [dat_A]; try rfl)

/-! ## The body's obligation -/

/-- What the body is given at the point. -/
def given (c : Dev nD) (t : Fin cfg0.N) : sProp 𝕄 :=
  iprop((dat m c).Φ t.castSucc ∗ (dat m c).owesAt none t.castSucc
    ∗ (∃ d, owns (c : Thread nD τ) (win0_0.stage (cfg0.slots t 0)) fullShare ((dat m c).before 0 t d))
    ∗ (∃ d, owns (c : Thread nD τ) (win0_1.stage (cfg0.slots t 1)) fullShare ((dat m c).before 1 t d))
    ∗ (∃ d, owns (c : Thread nD τ) (win0_2.stage (cfg0.slots t 2)) fullShare ((dat m c).before 2 t d))
    ∗ (∃ d, owns (c : Thread nD τ) (win0_3.stage (cfg0.slots t 3)) fullShare ((dat m c).before 3 t d))
    ∗ (∃ d, owns (c : Thread nD τ) (win0_4.stage (cfg0.slots t 4)) fullShare ((dat m c).before 4 t d))
    ∗ (∃ d, owns (c : Thread nD τ) (win0_5.stage (cfg0.slots t 5)) fullShare ((dat m c).before 5 t d))
    ∗ (∃ d, owns (c : Thread nD τ) (win0_6.stage (cfg0.slots t 6)) fullShare ((dat m c).before 6 t d))
    ∗ (∃ d, owns (c : Thread nD τ) (win0_7.stage (cfg0.slots t 7)) fullShare ((dat m c).before 7 t d)))

/-- What it gives back. -/
def back (c : Dev nD) (t : Fin cfg0.N) : sProp 𝕄 :=
  iprop((dat m c).Φ t.succ ∗ (dat m c).owesAt none t.succ
    ∗ owns (c : Thread nD τ) (win0_0.stage (cfg0.slots t 0)) fullShare ((dat m c).after 0 t)
    ∗ owns (c : Thread nD τ) (win0_1.stage (cfg0.slots t 1)) fullShare ((dat m c).after 1 t)
    ∗ owns (c : Thread nD τ) (win0_2.stage (cfg0.slots t 2)) fullShare ((dat m c).after 2 t)
    ∗ owns (c : Thread nD τ) (win0_3.stage (cfg0.slots t 3)) fullShare ((dat m c).after 3 t)
    ∗ owns (c : Thread nD τ) (win0_4.stage (cfg0.slots t 4)) fullShare ((dat m c).after 4 t)
    ∗ owns (c : Thread nD τ) (win0_5.stage (cfg0.slots t 5)) fullShare ((dat m c).after 5 t)
    ∗ owns (c : Thread nD τ) (win0_6.stage (cfg0.slots t 6)) fullShare ((dat m c).after 6 t)
    ∗ owns (c : Thread nD τ) (win0_7.stage (cfg0.slots t 7)) fullShare ((dat m c).after 7 t))

set_option maxHeartbeats 800000 in
theorem body_ok (c : Dev nD) (t : Fin cfg0.N) :
    given m c t ⊢ wp frame (wpE (defs₀ (F := F)) Variants.none c none) Set.univ (bodyAt0 t) (fun _ => back m c t) := by
  unfold given back bodyAt0
  simp only [found0, found1, found2, found3]
  rw [show (dat m c).Φ t.succ = (dat m c).Φ t.castSucc from rfl,
    show (dat m c).owesAt none t.succ = (dat m c).owesAt none t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row_eq (t : Fin cfg0.N) : defs₀ (F := F) .tc cfg0.body (cfg0.bodyArgs t (cfg0.slots t)) = bodyAt0 t := rfl

theorem obligation (c : Dev nD) : BodyObligation (dat (F := F) m c) (defs₀ (F := F)) Variants.none none Set.univ := fun t => by
  rw [bigSep_W0, bigSep_W0, row_eq]
  exact triple_restated (body_ok m c t) rfl .rfl fun _ => .rfl

/-! ## The region -/

def pdats (_ : Fin 1) (c : Dev nD) : Dat τ (Elt F) (HIx 1) ℕ UU ℕ cfg0 c := dat m c

theorem pdats_eq (p : Fin 1) (c : Dev nD) : pdats m p c = dat m c := rfl

/-- What the core owes across the region, its recorded waits bounded. -/
abbrev owesTc (c : Dev nD) : sProp 𝕄 :=
  iprop(∃ Wd, ⌜(K (F := F)).WBelow (SparseCore.T c) Wd (8 * 0)⌝ ∗ owes (SparseCore.T c) ((K (F := F)).Otc c 0) Wd)

/-- The buffers after the region. -/
def exitV (c : Dev nD) : Valuation τ sig (Elt F) := Pipeline.afterRegion (dat m c) (m c)

theorem otc_none (c : Dev nD) (g : GSem nD τ sig) : (K (F := F)).Otc (nD := nD) c 0 g none = 0 := by
  by_contra h
  have h1 := SparseCore.Cfg.lev_of_Otc_pos (K := K (F := F)) (Nat.pos_of_ne_zero h)
  exact absurd h1 (Nat.not_succ_le_zero _)

theorem owes_in (c : Dev nD) : (owesTc (F := F) c : sProp 𝕄) ⊢ (dat m c).owesAt none 0 := by
  unfold Dat.owesAt Pipeline.owesWithin Dat.bound
  iintro ⟨%Wd, %hW, HO⟩
  iexists Wd; isplitr
  · ipureintro; exact fun p hp => Or.inl (hW p hp)
  iexact HO

theorem owes_out (c : Dev nD) : (dat m c).owesAt none (Fin.last cfg0.N) ⊢ (owesTc (F := F) c : sProp 𝕄) := by
  unfold Dat.owesAt Pipeline.owesWithin Dat.bound
  iintro ⟨%Wd, %hW, HO⟩
  iexists Wd; isplitr
  · ipureintro
    intro p hp
    rcases hW hp with h | ⟨w, s, h⟩
    · exact h
    · rw [show p.2 = none from congrArg Prod.snd h]; exact Nat.le_refl 0
  iexact HO

theorem arrs_in (c : Dev nD) : ((dat m c).arrays (dat m c).A : sProp 𝕄) = StableHlo.held (SparseCore.T c) (Pipeline.arrRefs spec0) (m c) :=
  Pipeline.arrays_held (pcfgs (F := F)) adm (pdats m) 0 launch0.toP c (fun w => (dat m c).share_full (fun _ => rfl) w) (dat m c).A (m c) fun w => dat_A m c w

theorem arrs_out (c : Dev nD) : ((dat m c).arrays ((dat m c).arrAt · cfg0.N) : sProp 𝕄) = StableHlo.held (SparseCore.T c) (Pipeline.arrRefs spec0) (exitV m c) :=
  Pipeline.arrays_held (pcfgs (F := F)) adm (pdats m) 0 launch0.toP c (fun w => (dat m c).share_full (fun _ => rfl) w) ((dat m c).arrAt · cfg0.N) (exitV m c)
    fun w => (Pipeline.afterRegion_arr (dat m c) (m c) launch0.win.arr_inj w).symm

theorem rest_in (c : Dev nD) : (Pipeline.scopedRest spec0 c : sProp 𝕄) ⊢ (dat m c).Φ 0 := by dsimp only [dat]; exact BI.Entails.refl _
theorem rest_out (c : Dev nD) : (dat m c).Φ (Fin.last cfg0.N) ⊢ (Pipeline.scopedRest spec0 c : sProp 𝕄) := by dsimp only [dat]; exact BI.Entails.refl _

theorem drop2 (A B C : sProp 𝕄) : iprop(A ∗ B ∗ C) ⊢ C := by
  iintro ⟨-, -, Hr⟩
  iexact Hr
theorem add2 (C : sProp 𝕄) : C ⊢ iprop(BI.emp ∗ BI.emp ∗ C) := by
  iintro Hr
  isplitr; · iempintro
  isplitr; · iempintro
  iexact Hr

def region : Pipeline.RegionSeg (pcfgs (F := F)) adm (pdats m) none (defs₀ (F := F)) Variants.none (K (F := F)).L (K (F := F)).lev 0 where
  win := launch0.win.to₀
  block_pos := launch0.block_pos
  stage_whole := launch0.stage_whole
  K := PEmpty
  osem k := k.elim
  ho := Pipeline.OwnSemFacts.none _
  hbody c := (obligation m c).loose
  hwaits c := Pipeline.cellsWaits_intro _ _ _ _ _ fun w s t => (K (F := F)).mayWait_none _ (otc_none c)
  pre c := iprop(StableHlo.held (SparseCore.T c) (Pipeline.ucRefs τ sig) (m c) ∗ owesTc c)
  post c := iprop(StableHlo.held (SparseCore.T c) (Pipeline.ucRefs τ sig) (exitV m c) ∗ owesTc c)
  X _ := BI.emp
  Y _ := BI.emp
  Z c := StableHlo.held (SparseCore.T c) (Pipeline.ucRefs τ sig \ Pipeline.arrRefs spec0) (m c)
  hentry c := by
    rw [Pipeline.ownSems0_none, Pipeline.prefHeld_of_none _ rfl]
    rw [StableHlo.held_sub_split (SparseCore.T c) (Pipeline.arrRefs_sub_ucRefs spec0 launch0.win.arr_unscoped) (m c), ← arrs_in m c]
    iintro ⟨⟨⟨Ha, Hr⟩, HO⟩, -, -⟩
    imodintro
    isplitl [Ha]; · iexact Ha
    isplitr; · iempintro
    isplitl [HO]; · iapply (owes_in m c); iexact HO
    isplitr; · iempintro
    iexact Hr
  hin c := (drop2 _ _ _).trans (rest_in m c)
  hout c := by
    rw [Pipeline.ownSems0_none]
    exact (rest_out m c).trans (add2 _)
  hexit c := by
    rw [StableHlo.held_sub_split (SparseCore.T c) (Pipeline.arrRefs_sub_ucRefs spec0 launch0.win.arr_unscoped) (exitV m c), ← arrs_out m c,
      StableHlo.held_congr (SparseCore.T c) (S := Pipeline.ucRefs τ sig \ Pipeline.arrRefs spec0) (V := exitV m c) (V' := m c) (Pipeline.afterRegion_off (dat m c) (m c) _)]
    iintro ⟨Ha, HO, -, Hr⟩
    imodintro
    isplitl [Ha Hr]
    · isplitl [Ha]; · iexact Ha
      iexact Hr
    iapply (owes_out m c); iexact HO

/-! ## What the results hold -/

def X0 (c : Dev nD) : Vec F S256x128 .f32 := m c (Proc.devRef .tc (main_v1 : Ref sig .tc))
def X1 (c : Dev nD) : Vec F S512x256 .f32 := m c (Proc.devRef .tc (main_v2 : Ref sig .tc))
def X2 (c : Dev nD) : Vec F S512x512 .f32 := m c (Proc.devRef .tc (main_v3 : Ref sig .tc))
def X3 (c : Dev nD) : Vec F S128x512 .f32 := m c (Proc.devRef .tc (main_v4 : Ref sig .tc))

theorem blk0 (c : Dev nD) (t : Fin cfg0.N) : iblk m c 0 t = X0 m c := by
  funext y; unfold iblk; blk_simp
  show X0 m c _ = X0 m c y
  refine congrArg (X0 m c) (funext fun a => Fin.ext ?_)
  exact Pipeline.Window.rect_emb_val_of_index_zero win0_0 t a rfl y

theorem blk1 (c : Dev nD) (t : Fin cfg0.N) : iblk m c 1 t = X1 m c := by
  funext y; unfold iblk; blk_simp
  show X1 m c _ = X1 m c y
  refine congrArg (X1 m c) (funext fun a => Fin.ext ?_)
  exact Pipeline.Window.rect_emb_val_of_index_zero win0_1 t a rfl y

theorem blk2 (c : Dev nD) (t : Fin cfg0.N) : iblk m c 2 t = X2 m c := by
  funext y; unfold iblk; blk_simp
  show X2 m c _ = X2 m c y
  refine congrArg (X2 m c) (funext fun a => Fin.ext ?_)
  exact Pipeline.Window.rect_emb_val_of_index_zero win0_2 t a rfl y

theorem blk3 (c : Dev nD) (t : Fin cfg0.N) : iblk m c 3 t = X3 m c := by
  funext y; unfold iblk; blk_simp
  show X3 m c _ = X3 m c y
  refine congrArg (X3 m c) (funext fun a => Fin.ext ?_)
  exact Pipeline.Window.rect_emb_val_of_index_zero win0_3 t a rfl y

theorem res4 (c : Dev nD) : (dat m c).arrAt 4 cfg0.N = outTok (X0 m c) (X1 m c) (X2 m c) (X3 m c) := by
  refine (dat m c).arrAt_eq_of_covers 4 _ (by decide +kernel) fun t hf y => ?_
  blk_simp; rw [left4]; unfold tkAt; rw [blk0, blk1, blk2, blk3]
  refine congrArg (outTok (X0 m c) (X1 m c) (X2 m c) (X3 m c)) (funext fun a => Fin.ext ?_)
  exact (Pipeline.Window.rect_emb_val_of_index_zero win0_4 t a rfl y).symm

theorem res5 (c : Dev nD) : (dat m c).arrAt 5 cfg0.N = outLp (X0 m c) (X1 m c) (X2 m c) (X3 m c) := by
  refine (dat m c).arrAt_eq_of_covers 5 _ (by decide +kernel) fun t hf y => ?_
  blk_simp; rw [left5]; rw [blk0, blk1, blk2, blk3]
  refine congrArg (outLp (X0 m c) (X1 m c) (X2 m c) (X3 m c)) (funext fun a => Fin.ext ?_)
  exact (Pipeline.Window.rect_emb_val_of_index_zero win0_5 t a rfl y).symm

theorem res6 (c : Dev nD) : (dat m c).arrAt 6 cfg0.N = outEnt (X0 m c) (X1 m c) (X2 m c) (X3 m c) := by
  refine (dat m c).arrAt_eq_of_covers 6 _ (by decide +kernel) fun t hf y => ?_
  blk_simp; rw [left6]; rw [blk0, blk1, blk2, blk3]
  refine congrArg (outEnt (X0 m c) (X1 m c) (X2 m c) (X3 m c)) (funext fun a => Fin.ext ?_)
  exact (Pipeline.Window.rect_emb_val_of_index_zero win0_6 t a rfl y).symm

theorem res7 (c : Dev nD) : (dat m c).arrAt 7 cfg0.N = outDest (outTok (X0 m c) (X1 m c) (X2 m c) (X3 m c)) := by
  refine (dat m c).arrAt_eq_of_covers 7 _ (by decide +kernel) fun t hf y => ?_
  blk_simp; rw [left7]; unfold tkAt; rw [blk0, blk1, blk2, blk3]
  refine congrArg (outDest (outTok (X0 m c) (X1 m c) (X2 m c) (X3 m c))) (funext fun a => Fin.ext ?_)
  exact (Pipeline.Window.rect_emb_val_of_index_zero win0_7 t a rfl y).symm

end Cert.Proof.Wt

end
-- ==== Proof.WsRun.lean ====
/-
  The host code around the SparseCore call, and the program's run.
-/
module

public import proofs.«01_k».proof.Proof.WtLaunch
public import Idealize.ShloMosaic.Lib.Pipeline.Frame
public import Idealize.ShloMosaic.Lib.StableHlo.RunRead

@[expose] public section

noncomputable section

namespace Cert.Proof.Wh

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Cert.Proof.Scat (RowOK back)

variable {F : FTy → Type}

local notation "𝕄" => MT nD τ sig (HIx 1) (Elt F) ℕ UU ℕ

variable [FloatOps F]

abbrev op0 : HloOp τ sig (Elt F) := StableHlo.reshape main_arg0 main_v0 (rfl : (.f32 : EltTy) = .f32) shapeCasts_S16x8x256_S128x256
abbrev op1 : HloOp τ sig (Elt F) := StableHlo.unary main_v0 main_v1 ((transpose S256x128 [1, 0] · transposes_S128x256_S256x128_1_0) : (⟨S128x256, .f32⟩ : BufTy).Contents (Elt F) → (⟨S256x128, .f32⟩ : BufTy).Contents (Elt F))
abbrev op2 : HloOp τ sig (Elt F) := StableHlo.unary main_arg1 main_v2 ((transpose S512x256 [1, 0] · transposes_S256x512_S512x256_1_0) : (⟨S256x512, .f32⟩ : BufTy).Contents (Elt F) → (⟨S512x256, .f32⟩ : BufTy).Contents (Elt F))
abbrev op3 : HloOp τ sig (Elt F) := StableHlo.unary main_arg2 main_v3 ((transpose S512x512 [1, 0] · transposes_S512x512_S512x512_1_0) : (⟨S512x512, .f32⟩ : BufTy).Contents (Elt F) → (⟨S512x512, .f32⟩ : BufTy).Contents (Elt F))
abbrev op4 : HloOp τ sig (Elt F) := StableHlo.unary main_arg3 main_v4 ((transpose S128x512 [1, 0] · transposes_S512x128_S128x512_1_0) : (⟨S512x128, .f32⟩ : BufTy).Contents (Elt F) → (⟨S128x512, .f32⟩ : BufTy).Contents (Elt F))
abbrev op5 : HloOp τ sig (Elt F) := StableHlo.unary main_v5_0 main_v6 ((transpose S128x512 [1, 0] · transposes_S512x128_S128x512_1_0) : (⟨S512x128, .i32⟩ : BufTy).Contents (Elt F) → (⟨S128x512, .i32⟩ : BufTy).Contents (Elt F))
abbrev op6 : HloOp τ sig (Elt F) := StableHlo.unary main_v5_1 main_v7 ((transpose S128x512 [1, 0] · transposes_S512x128_S128x512_1_0) : (⟨S512x128, .f32⟩ : BufTy).Contents (Elt F) → (⟨S128x512, .f32⟩ : BufTy).Contents (Elt F))
abbrev op7 : HloOp τ sig (Elt F) := StableHlo.unary main_v5_2 main_v8 ((transpose S128x512 [1, 0] · transposes_S512x128_S128x512_1_0) : (⟨S512x128, .f32⟩ : BufTy).Contents (Elt F) → (⟨S128x512, .f32⟩ : BufTy).Contents (Elt F))
abbrev op8 : HloOp τ sig (Elt F) := StableHlo.unary main_v5_3 main_v9 ((transpose S128x512 [1, 0] · transposes_S512x128_S128x512_1_0) : (⟨S512x128, .i32⟩ : BufTy).Contents (Elt F) → (⟨S128x512, .i32⟩ : BufTy).Contents (Elt F))
abbrev op9 : HloOp τ sig (Elt F) := StableHlo.reshape main_v6 main_v10 (rfl : (.i32 : EltTy) = .i32) shapeCasts_S128x512_S16x4096
abbrev op10 : HloOp τ sig (Elt F) := StableHlo.reshape main_v9 main_v11 (rfl : (.i32 : EltTy) = .i32) shapeCasts_S128x512_S16x4096
abbrev op11 : HloOp τ sig (Elt F) := StableHlo.reshape main_v7 main_v12 (rfl : (.f32 : EltTy) = .f32) shapeCasts_S128x512_S16x4096
abbrev op12 : HloOp τ sig (Elt F) := StableHlo.reshape main_v8 main_v13 (rfl : (.f32 : EltTy) = .f32) shapeCasts_S128x512_S16x4096
abbrev op13 : HloOp τ sig (Elt F) := StableHlo.binary main_v12 main_v13 main_v14 ((fun a b => concatenate S32x4096 0 [⟨S16x4096, a⟩, ⟨S16x4096, b⟩] concatenates_S16x4096_S16x4096_S32x4096_d0) : (⟨S16x4096, .f32⟩ : BufTy).Contents (Elt F) → (⟨S16x4096, .f32⟩ : BufTy).Contents (Elt F) → (⟨S32x4096, .f32⟩ : BufTy).Contents (Elt F))
abbrev op14 : HloOp τ sig (Elt F) := StableHlo.unary main_v15_0 main_v16 ((extractStridedSlice S16x4096 ![0, 0] · slices_S32x4096_S16x4096_0_0) : (⟨S32x4096, .f32⟩ : BufTy).Contents (Elt F) → (⟨S16x4096, .f32⟩ : BufTy).Contents (Elt F))
abbrev op15 : HloOp τ sig (Elt F) := StableHlo.unary main_v15_0 main_v17 ((extractStridedSlice S16x4096 ![16, 0] · slices_S32x4096_S16x4096_16_0) : (⟨S32x4096, .f32⟩ : BufTy).Contents (Elt F) → (⟨S16x4096, .f32⟩ : BufTy).Contents (Elt F))

/-- Before the first call; between the calls; after the second. -/
abbrev preOps : List (HloOp τ sig (Elt F)) := [op0, op1, op2, op3, op4]
abbrev midOps : List (HloOp τ sig (Elt F)) := [op5, op6, op7, op8, op9, op10, op11, op12, op13]
abbrev postOps : List (HloOp τ sig (Elt F)) := [op14, op15]

abbrev xf' : DevRef τ sig := Proc.devRef .tc (main_v14 : Ref sig .tc)
abbrev xt' : DevRef τ sig := Proc.devRef .tc (main_v10 : Ref sig .tc)
abbrev xd' : DevRef τ sig := Proc.devRef .tc (main_v11 : Ref sig .tc)
abbrev of' : DevRef τ sig := Proc.devRef .tc (main_v15_0 : Ref sig .tc)
abbrev oi' : DevRef τ sig := Proc.devRef .tc (main_v15_1 : Ref sig .tc)

theorem hb0 : (op0 (F := F)).bufs ⊆ Pipeline.ucRefs τ sig := show ({(Proc.devRef .tc (main_arg0 : Ref sig .tc) : DevRef τ sig), (Proc.devRef .tc (main_v0 : Ref sig .tc) : DevRef τ sig)} : Finset (DevRef τ sig)) ⊆ Pipeline.ucRefs τ sig by decide

theorem hb1 : (op1 (F := F)).bufs ⊆ Pipeline.ucRefs τ sig := show ({(Proc.devRef .tc (main_v0 : Ref sig .tc) : DevRef τ sig), (Proc.devRef .tc (main_v1 : Ref sig .tc) : DevRef τ sig)} : Finset (DevRef τ sig)) ⊆ Pipeline.ucRefs τ sig by decide

theorem hb2 : (op2 (F := F)).bufs ⊆ Pipeline.ucRefs τ sig := show ({(Proc.devRef .tc (main_arg1 : Ref sig .tc) : DevRef τ sig), (Proc.devRef .tc (main_v2 : Ref sig .tc) : DevRef τ sig)} : Finset (DevRef τ sig)) ⊆ Pipeline.ucRefs τ sig by decide

theorem hb3 : (op3 (F := F)).bufs ⊆ Pipeline.ucRefs τ sig := show ({(Proc.devRef .tc (main_arg2 : Ref sig .tc) : DevRef τ sig), (Proc.devRef .tc (main_v3 : Ref sig .tc) : DevRef τ sig)} : Finset (DevRef τ sig)) ⊆ Pipeline.ucRefs τ sig by decide

theorem hb4 : (op4 (F := F)).bufs ⊆ Pipeline.ucRefs τ sig := show ({(Proc.devRef .tc (main_arg3 : Ref sig .tc) : DevRef τ sig), (Proc.devRef .tc (main_v4 : Ref sig .tc) : DevRef τ sig)} : Finset (DevRef τ sig)) ⊆ Pipeline.ucRefs τ sig by decide

theorem hb5 : (op5 (F := F)).bufs ⊆ Pipeline.ucRefs τ sig := show ({(Proc.devRef .tc (main_v5_0 : Ref sig .tc) : DevRef τ sig), (Proc.devRef .tc (main_v6 : Ref sig .tc) : DevRef τ sig)} : Finset (DevRef τ sig)) ⊆ Pipeline.ucRefs τ sig by decide

theorem hb6 : (op6 (F := F)).bufs ⊆ Pipeline.ucRefs τ sig := show ({(Proc.devRef .tc (main_v5_1 : Ref sig .tc) : DevRef τ sig), (Proc.devRef .tc (main_v7 : Ref sig .tc) : DevRef τ sig)} : Finset (DevRef τ sig)) ⊆ Pipeline.ucRefs τ sig by decide

theorem hb7 : (op7 (F := F)).bufs ⊆ Pipeline.ucRefs τ sig := show ({(Proc.devRef .tc (main_v5_2 : Ref sig .tc) : DevRef τ sig), (Proc.devRef .tc (main_v8 : Ref sig .tc) : DevRef τ sig)} : Finset (DevRef τ sig)) ⊆ Pipeline.ucRefs τ sig by decide

theorem hb8 : (op8 (F := F)).bufs ⊆ Pipeline.ucRefs τ sig := show ({(Proc.devRef .tc (main_v5_3 : Ref sig .tc) : DevRef τ sig), (Proc.devRef .tc (main_v9 : Ref sig .tc) : DevRef τ sig)} : Finset (DevRef τ sig)) ⊆ Pipeline.ucRefs τ sig by decide

theorem hb9 : (op9 (F := F)).bufs ⊆ Pipeline.ucRefs τ sig := show ({(Proc.devRef .tc (main_v6 : Ref sig .tc) : DevRef τ sig), (Proc.devRef .tc (main_v10 : Ref sig .tc) : DevRef τ sig)} : Finset (DevRef τ sig)) ⊆ Pipeline.ucRefs τ sig by decide

theorem hb10 : (op10 (F := F)).bufs ⊆ Pipeline.ucRefs τ sig := show ({(Proc.devRef .tc (main_v9 : Ref sig .tc) : DevRef τ sig), (Proc.devRef .tc (main_v11 : Ref sig .tc) : DevRef τ sig)} : Finset (DevRef τ sig)) ⊆ Pipeline.ucRefs τ sig by decide

theorem hb11 : (op11 (F := F)).bufs ⊆ Pipeline.ucRefs τ sig := show ({(Proc.devRef .tc (main_v7 : Ref sig .tc) : DevRef τ sig), (Proc.devRef .tc (main_v12 : Ref sig .tc) : DevRef τ sig)} : Finset (DevRef τ sig)) ⊆ Pipeline.ucRefs τ sig by decide

theorem hb12 : (op12 (F := F)).bufs ⊆ Pipeline.ucRefs τ sig := show ({(Proc.devRef .tc (main_v8 : Ref sig .tc) : DevRef τ sig), (Proc.devRef .tc (main_v13 : Ref sig .tc) : DevRef τ sig)} : Finset (DevRef τ sig)) ⊆ Pipeline.ucRefs τ sig by decide

theorem hb13 : (op13 (F := F)).bufs ⊆ Pipeline.ucRefs τ sig := show ({(Proc.devRef .tc (main_v12 : Ref sig .tc) : DevRef τ sig), (Proc.devRef .tc (main_v13 : Ref sig .tc) : DevRef τ sig), (Proc.devRef .tc (main_v14 : Ref sig .tc) : DevRef τ sig)} : Finset (DevRef τ sig)) ⊆ Pipeline.ucRefs τ sig by decide

theorem hb14 : (op14 (F := F)).bufs ⊆ Pipeline.ucRefs τ sig := show ({(Proc.devRef .tc (main_v15_0 : Ref sig .tc) : DevRef τ sig), (Proc.devRef .tc (main_v16 : Ref sig .tc) : DevRef τ sig)} : Finset (DevRef τ sig)) ⊆ Pipeline.ucRefs τ sig by decide

theorem hb15 : (op15 (F := F)).bufs ⊆ Pipeline.ucRefs τ sig := show ({(Proc.devRef .tc (main_v15_0 : Ref sig .tc) : DevRef τ sig), (Proc.devRef .tc (main_v17 : Ref sig .tc) : DevRef τ sig)} : Finset (DevRef τ sig)) ⊆ Pipeline.ucRefs τ sig by decide

variable (m : (ℓ : Loc nD τ sig) → Buf (Elt F) ℓ) (ρ : Dev nD → PrngReg)

/-- The launch contents; those before the first call; those after it; those before the second call. -/
def V0 (d : Dev nD) : Valuation τ sig (Elt F) := fun b => m (d, b)
def VP (d : Dev nD) : Valuation τ sig (Elt F) := after preOps (V0 m d)
def VX (d : Dev nD) : Valuation τ sig (Elt F) := Wt.exitV (VP m) d
def VA (d : Dev nD) : Valuation τ sig (Elt F) := after midOps (VX m d)

/-- What the host code hands to the call. -/
def feed : Feed F where
  XF d := VA m d xf'
  XT d := VA m d xt'
  XD d := VA m d xd'

variable (hX : (feed m).OK)

/-- The contents after the call; those at the end. -/
def V1 (d : Dev nD) : Valuation τ sig (Elt F) :=
  Function.update (Function.update (VA m d) of' ((feed m).GF hX d)) oi' ((feed m).GI hX d)
def V2 (d : Dev nD) : Valuation τ sig (Elt F) := after postOps (V1 m hX d)

abbrev SU : Finset (DevRef τ sig) := Pipeline.ucRefs τ sig
/-- The arrays the call works on. -/
abbrev SC5 : Finset (DevRef τ sig) := {xf', xt', xd', of', oi'}

omit [FloatOps F] in
theorem SC5_sub : SC5 ⊆ SU := by decide

omit [FloatOps F] in
theorem held_SC5 (d : Dev nD) (W : Valuation τ sig (Elt F)) :
    (held (T d) SC5 W : sProp 𝕄) = iprop((xfLoc d ↦{fullShare} W xf') ∗ (xtLoc d ↦{fullShare} W xt') ∗ (xdLoc d ↦{fullShare} W xd')
      ∗ (ofLoc d ↦{fullShare} W of') ∗ oiLoc d ↦{fullShare} W oi') := by
  unfold held SC5
  rw [SparseCore.bigSep_insert' (by decide), SparseCore.bigSep_insert' (by decide), SparseCore.bigSep_insert' (by decide),
    SparseCore.bigSep_insert' (by decide), bigSep_singleton]

theorem V1_of (d : Dev nD) : V1 m hX d of' = (feed m).GF hX d :=
  (Function.update_of_ne (show of' ≠ oi' by decide) _ _).trans (Function.update_self _ _ _)
theorem V1_oi (d : Dev nD) : V1 m hX d oi' = (feed m).GI hX d := Function.update_self _ _ _
theorem V1_ne (d : Dev nD) (b : DevRef τ sig) (h1 : b ≠ of') (h2 : b ≠ oi') : V1 m hX d b = VA m d b :=
  (Function.update_of_ne h2 _ _).trans (Function.update_of_ne h1 _ _)

theorem held_before (d : Dev nD) : (held (T d) SU (VA m d) : sProp 𝕄)
    = iprop((inPts (feed m) d fullShare ∗ (ofLoc d ↦{fullShare} VA m d of') ∗ (oiLoc d ↦{fullShare} VA m d oi')) ∗ held (T d) (SU \ SC5) (VA m d)) := by
  rw [held_sub_split (T d) SC5_sub (VA m d), held_SC5]
  have h : ∀ A B C E G : sProp 𝕄, iprop(A ∗ B ∗ C ∗ E ∗ G) = iprop((A ∗ B ∗ C) ∗ E ∗ G) := fun A B C E G => by
    have h1 : iprop(A ∗ B ∗ C ∗ E ∗ G) ⊢ iprop((A ∗ B ∗ C) ∗ E ∗ G) := by
      iintro ⟨HA, HB, HC, HE, HG⟩
      isplitl [HA HB HC]
      · isplitl [HA]; · iexact HA
        isplitl [HB]; · iexact HB
        iexact HC
      isplitl [HE]; · iexact HE
      iexact HG
    have h2 : iprop((A ∗ B ∗ C) ∗ E ∗ G) ⊢ iprop(A ∗ B ∗ C ∗ E ∗ G) := by
      iintro ⟨⟨HA, HB, HC⟩, HE, HG⟩
      isplitl [HA]; · iexact HA
      isplitl [HB]; · iexact HB
      isplitl [HC]; · iexact HC
      isplitl [HE]; · iexact HE
      iexact HG
    exact BI.Entails.antisymm h1 h2
  rw [h]; rfl

theorem held_after (d : Dev nD) :
    iprop((inPts (feed m) d fullShare ∗ (ofLoc d ↦{fullShare} (feed m).GF hX d) ∗ (oiLoc d ↦{fullShare} (feed m).GI hX d)) ∗ held (T d) (SU \ SC5) (VA m d))
      ⊢ (held (T d) SU (V1 m hX d) : sProp 𝕄) := by
  rw [held_sub_split (T d) SC5_sub (V1 m hX d), held_SC5, V1_of, V1_oi, V1_ne m hX d xf' (by decide) (by decide), V1_ne m hX d xt' (by decide) (by decide),
    V1_ne m hX d xd' (by decide) (by decide)]
  rw [show (held (T d) (SU \ SC5) (V1 m hX d) : sProp 𝕄) = held (T d) (SU \ SC5) (VA m d) from held_congr (T d) fun b hb =>
    V1_ne m hX d b (fun e => (Finset.mem_sdiff.mp hb).2 (e ▸ by decide)) (fun e => (Finset.mem_sdiff.mp hb).2 (e ▸ by decide))]
  iintro ⟨⟨⟨HA, HB, HC⟩, HE, HG⟩, HR⟩
  isplitl [HA HB HC HE HG]
  · isplitl [HA]; · iexact HA
    isplitl [HB]; · iexact HB
    isplitl [HC]; · iexact HC
    isplitl [HE]; · iexact HE
    iexact HG
  iexact HR

abbrev FIN (d : Dev nD) : sProp 𝕄 := held (T d) SU (V2 m hX d)

/-- The first call, at the pipeline's own level. -/
abbrev callP : Prog (TpuEff nD τ sig (Elt F) (ΛP (F := F)) .tc) PUnit := .op (.customCall (Pipeline.entry 0) ()) .ret

theorem lift_eq : (Prog.lift (.customCall (SparseCore.inner (Pipeline.entry 0)) ()) : Prog (TpuEff nD τ sig (Elt F) (SparseCore.Sig (ΛP (F := F)) 1) .tc) PUnit)
    = SparseCore.liftProg (Q := 1) (callP (F := F)) := rfl

/-- The first call, from the buffers as it finds them to the buffers as it leaves them. -/
theorem region_step (W : Dev nD → Valuation τ sig (Elt F)) (d : Dev nD) :
    iprop(levAts (K (F := F)).L (K (F := F)).lev ∗ boundary (SparseCore.T d) ∗ held (T d) SU (W d) ∗ Wt.owesTc d ∗ Gd d)
      ⊢ (wp frame (wpE ((K (F := F)).defs (D (F := F))) 𝒱 (SparseCore.T d) none) Set.univ (Prog.lift (.customCall (SparseCore.inner (Pipeline.entry 0)) ()))
          fun _ => iprop(boundary (SparseCore.T d) ∗ held (T d) SU (Wt.exitV W d) ∗ Wt.owesTc d) : sProp 𝕄) := by
  rw [lift_eq]
  have h := (K (F := F)).wp_liftProg (nD := nD) (Val := Elt F) (Name := ℕ) (U := UU) (D (F := F)) 𝒱 (SparseCore.T d) Set.univ none (callP (F := F))
    (fun _ => iprop(boundary (SparseCore.T d) ∗ held (T d) SU (Wt.exitV W d) ∗ Wt.owesTc d))
  refine BI.Entails.trans ?_ h
  refine BI.Entails.trans ?_ (Pipeline.RegionSeg.wp (pcfgs (F := F)) adm (Wt.pdats W) none cellOf_inj EP (defs₀ (F := F)) 𝒱₀ (K (F := F)).L (K (F := F)).lev (Wt.region W) d none
    (fun _ h => nomatch h) .ret _)
  show iprop(levAts (K (F := F)).L (K (F := F)).lev ∗ boundary (SparseCore.T d) ∗ held (T d) SU (W d) ∗ Wt.owesTc d ∗ Gd d)
    ⊢ iprop((iprop(boundary (SparseCore.T d) ∗ held (T d) SU (Wt.exitV W d) ∗ Wt.owesTc d) -∗ wp frame (wpE (D (F := F)) 𝒱 (SparseCore.T d) none) Set.univ (Prog.ret PUnit.unit : Prog (TpuEff nD τ sig (Elt F) (ΛP (F := F)) .tc) PUnit)
          fun _ => iprop(boundary (SparseCore.T d) ∗ held (T d) SU (Wt.exitV W d) ∗ Wt.owesTc d))
        ∗ boundary (SparseCore.T d) ∗ iprop(held (T d) SU (W d) ∗ Wt.owesTc d) ∗ levAts (K (F := F)).L (K (F := F)).lev ∗ Gd d)
  iintro ⟨Hl, Hb, Hh, HO, HG⟩
  isplitr
  · iintro H; rw [wp_ret]; imodintro; iexact H
  isplitl [Hb]; · iexact Hb
  isplitl [Hh HO]
  · isplitl [Hh]; · iexact Hh
    iexact HO
  isplitl [Hl]; · iexact Hl
  iexact HG

theorem tcSt_open (d : Dev nD) : (K (F := F)).tcSt EH d 0 ⊢ (iprop(Wt.owesTc d ∗ (Wt.owesTc d -∗ (K (F := F)).tcSt EH d 0)) : sProp 𝕄) := by
  unfold SparseCore.Cfg.tcSt
  iintro ⟨HO, HR⟩
  isplitl [HO]; · iexact HO
  iintro HO
  isplitl [HO]; · iexact HO
  iexact HR

theorem ctx_levs (κ : GSem nD τ sig → ℕ) : (K (F := F)).ctx EH (P (feed m) hX) κ ⊢ (levAts (K (F := F)).L (K (F := F)).lev : sProp 𝕄) := by
  unfold SparseCore.Cfg.ctx
  iintro ⟨H, -⟩
  iexact H

set_option maxHeartbeats 2000000 in
/-- @main on a device's TensorCore. -/
theorem hmain (κ : GSem nD τ sig → ℕ) (d : Dev nD) :
    iprop((K (F := F)).ctx EH (P (feed m) hX) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m hX d ∗ (K (F := F)).tcEnd d) := by
  unfold SparseCore.Cfg.tcRes SparseCore.Cfg.tcEnd
  rw [show (unscopedBufs d (fun b => m ((SparseCore.T d).loc b)) : sProp 𝕄) = held (T d) SU (V0 m d) from Pipeline.unscopedBufs_held d (V0 m d)]
  simp only [main, wp_bind, wp_pure]
  iintro ⟨#Hctx, Hst, ⟨Hb, Hheld, Hts, -⟩, HG⟩
  iapply (wp_hlo_within 𝒱 (SparseCore.T d) none Set.univ (op := op0) (S := SU) hb0 (V := V0 m d)) $$ [Hb Hheld]
  · isplitl [Hb] <;> iassumption
  iintro ⟨Hb, Hheld⟩
  rw [wp_ret]; imodintro
  iapply (wp_hlo_within 𝒱 (SparseCore.T d) none Set.univ (op := op1) (S := SU) hb1) $$ [Hb Hheld]
  · isplitl [Hb] <;> iassumption
  iintro ⟨Hb, Hheld⟩
  rw [wp_ret]; imodintro
  iapply (wp_hlo_within 𝒱 (SparseCore.T d) none Set.univ (op := op2) (S := SU) hb2) $$ [Hb Hheld]
  · isplitl [Hb] <;> iassumption
  iintro ⟨Hb, Hheld⟩
  rw [wp_ret]; imodintro
  iapply (wp_hlo_within 𝒱 (SparseCore.T d) none Set.univ (op := op3) (S := SU) hb3) $$ [Hb Hheld]
  · isplitl [Hb] <;> iassumption
  iintro ⟨Hb, Hheld⟩
  rw [wp_ret]; imodintro
  iapply (wp_hlo_within 𝒱 (SparseCore.T d) none Set.univ (op := op4) (S := SU) hb4) $$ [Hb Hheld]
  · isplitl [Hb] <;> iassumption
  iintro ⟨Hb, Hheld⟩
  rw [wp_ret]; imodintro
  ihave Hh := (Entails.of_eq (show (held (T d) SU (op4.result (op3.result (op2.result (op1.result (op0.result (V0 m d)))))) : sProp 𝕄) = held (T d) SU (VP m d) from rfl)) $$ Hheld
  ihave H := (tcSt_open d) $$ Hst
  icases H with ⟨HO, Hst⟩
  iapply (wp_wand_r frame _ Set.univ)
  isplitl [Hb Hh HO HG]
  · iapply (region_step (VP m) d)
    isplitr; · iapply (ctx_levs m hX κ); iexact Hctx
    isplitl [Hb]; · iexact Hb
    isplitl [Hh]; · iexact Hh
    isplitl [HO]; · iexact HO
    iexact HG
  iintro %_ ⟨Hb, Hh, HO⟩
  ihave Hheld := (Entails.of_eq (show (held (T d) SU (Wt.exitV (VP m) d) : sProp 𝕄) = held (T d) SU (VX m d) from rfl)) $$ Hh
  ispecialize Hst $$ HO
  iapply (wp_hlo_within 𝒱 (SparseCore.T d) none Set.univ (op := op5) (S := SU) hb5 (V := VX m d)) $$ [Hb Hheld]
  · isplitl [Hb] <;> iassumption
  iintro ⟨Hb, Hheld⟩
  rw [wp_ret]; imodintro
  iapply (wp_hlo_within 𝒱 (SparseCore.T d) none Set.univ (op := op6) (S := SU) hb6) $$ [Hb Hheld]
  · isplitl [Hb] <;> iassumption
  iintro ⟨Hb, Hheld⟩
  rw [wp_ret]; imodintro
  iapply (wp_hlo_within 𝒱 (SparseCore.T d) none Set.univ (op := op7) (S := SU) hb7) $$ [Hb Hheld]
  · isplitl [Hb] <;> iassumption
  iintro ⟨Hb, Hheld⟩
  rw [wp_ret]; imodintro
  iapply (wp_hlo_within 𝒱 (SparseCore.T d) none Set.univ (op := op8) (S := SU) hb8) $$ [Hb Hheld]
  · isplitl [Hb] <;> iassumption
  iintro ⟨Hb, Hheld⟩
  rw [wp_ret]; imodintro
  iapply (wp_hlo_within 𝒱 (SparseCore.T d) none Set.univ (op := op9) (S := SU) hb9) $$ [Hb Hheld]
  · isplitl [Hb] <;> iassumption
  iintro ⟨Hb, Hheld⟩
  rw [wp_ret]; imodintro
  iapply (wp_hlo_within 𝒱 (SparseCore.T d) none Set.univ (op := op10) (S := SU) hb10) $$ [Hb Hheld]
  · isplitl [Hb] <;> iassumption
  iintro ⟨Hb, Hheld⟩
  rw [wp_ret]; imodintro
  iapply (wp_hlo_within 𝒱 (SparseCore.T d) none Set.univ (op := op11) (S := SU) hb11) $$ [Hb Hheld]
  · isplitl [Hb] <;> iassumption
  iintro ⟨Hb, Hheld⟩
  rw [wp_ret]; imodintro
  iapply (wp_hlo_within 𝒱 (SparseCore.T d) none Set.univ (op := op12) (S := SU) hb12) $$ [Hb Hheld]
  · isplitl [Hb] <;> iassumption
  iintro ⟨Hb, Hheld⟩
  rw [wp_ret]; imodintro
  iapply (wp_hlo_within 𝒱 (SparseCore.T d) none Set.univ (op := op13) (S := SU) hb13) $$ [Hb Hheld]
  · isplitl [Hb] <;> iassumption
  iintro ⟨Hb, Hheld⟩
  rw [wp_ret]; imodintro
  ihave Hh := (Entails.of_eq (show (held (T d) SU (op13.result (op12.result (op11.result (op10.result (op9.result (op8.result (op7.result (op6.result (op5.result (VX m d)))))))))) : sProp 𝕄) = _ from held_before m d)) $$ Hheld
  icases Hh with ⟨Hc, Hr⟩
  iapply ((K (F := F)).wp_run (D (F := F)) 𝒱 (EH := EH) (P := P (feed m) hX) κ d 0) $$ [Hst Hc Hr Hb Hts]
  isplitr; · iexact Hctx
  isplitl [Hst]; · iexact Hst
  isplitl [Hc]
  · iapply (stAll (feed m) hX d (VA m d of') (VA m d oi')); iexact Hc
  iintro ⟨Hst, Hdn⟩
  ihave Hc := (Entails.of_eq (dnAll (feed m) hX d)) $$ Hdn
  ihave Hheld := (held_after m hX d) $$ [Hc Hr]
  · isplitl [Hc] <;> iassumption
  iapply (wp_hlo_within 𝒱 (SparseCore.T d) none Set.univ (op := op14) (S := SU) hb14) $$ [Hb Hheld]
  · isplitl [Hb] <;> iassumption
  iintro ⟨Hb, Hheld⟩
  rw [wp_ret]; imodintro
  iapply (wp_hlo_within 𝒱 (SparseCore.T d) none Set.univ (op := op15) (S := SU) hb15) $$ [Hb Hheld]
  · isplitl [Hb] <;> iassumption
  iintro ⟨Hb, Hheld⟩
  rw [wp_ret]; imodintro; imodintro
  isplitl [Hst]; · iexact Hst
  isplitr [Hb Hts]
  · iexact Hheld
  isplitl [Hb] <;> iassumption

def fq (d : Dev nD) (s' : Phys nD τ sig (Elt F)) : Prop := ∀ b ∈ SU, s'.mem.mem (d, b) = V2 m hX d b

set_option maxRecDepth 16384 in
theorem hfin (d : Dev nD) (s' : Phys nD τ sig (Elt F)) : iprop(FIN m hX d ∗ SI s') ⊢ (⌜fq m hX d s'⌝ : sProp 𝕄) := by
  have key : ∀ b : {b // b ∈ SU}, iprop(FIN m hX d ∗ SI s') ⊢ (⌜s'.mem.mem (d, b.1) = V2 m hX d b.1⌝ : sProp 𝕄) := fun b => by
    unfold FIN held
    rw [SparseCore.bigSep_erase' b.2]
    iintro ⟨⟨Hx, -⟩, HSI⟩
    ihave H := (SI_pointsTo_agree (st := s') (ℓ := (d, b.1)) (I := Finset.univ) (q := fullShare) (f := V2 m hX d b.1)) $$ [HSI Hx]
    · isplitl [HSI] <;> iassumption
    icases H with %hx
    ipureintro; exact funext fun i => hx i (Finset.mem_univ i)
  exact ((Laws.forall_intro key).trans Laws.pure_forall.2).trans (Laws.pure_mono fun all b hb => all ⟨b, hb⟩)

/-! ## The program's run -/

def QC : PUnit × MemSt nD τ sig (Elt F) → Prop := fun r => (∀ c : Dev nD, ∀ b ∈ SU, r.2.mem (c, b) = V2 m hX c b) ∧ r.2.sem = fun _ => 0

theorem run_main [∀ e, Nonempty (Elt F e)] :
    θ_run (Cert.WholeIdeal.defs (F := F)) (Cert.WholeIdeal.threads (F := F)) ⟨m, fun _ => 0, ρ⟩ (QC m hX) :=
  SparseCore.Cfg.θ_run_sc_quiescent (K := K (F := F)) (D := D (F := F)) (𝒱 := 𝒱) (EH := EH) (P := P (feed m) hX) (A := ∅) facts v₀
    (fun q hq => match q with | 0 => nomatch hq)
    (fun q _ => match q with | 0 => tileObl (feed m) hX facts)
    (fun q _ => match q with | 0 => SparseCore.Cfg.VecSplit.of_plain (vecSplit (feed m) hX))
    m ρ main (fun d => Gd d) (FIN m hX) (u₀ (F := F)) (sep_elim_left.trans (hu₀ (feed m) hX)) (hmain m ρ hX) (fq m hX) (hfin m hX) (QC m hX) (fun _ h hz => ⟨h, hz⟩)

end Cert.Proof.Wh

end
-- ==== Proof.WsEq.lean ====
/-
  The first call of the whole program computes what the sender's own program computes.
-/
module

public import proofs.«01_k».proof.Proof.WtRun
public import proofs.«01_k».proof.Proof.SDestEq

@[expose] public section

noncomputable section

namespace Cert.Proof.Wh

open Idealize.ShloMosaic

theorem pay1_same : @Cert.WholeIdeal.Gen.k0_pay1 = @Cert.SenderIdeal.Gen.k0_pay1 := rfl
theorem pay2_same : @Cert.WholeIdeal.Gen.k0_pay2 = @Cert.SenderIdeal.Gen.k0_pay2 := rfl
theorem pay3_same : @Cert.WholeIdeal.Gen.k0_pay3 = @Cert.SenderIdeal.Gen.k0_pay3 := rfl
theorem pay9_same : @Cert.WholeIdeal.Gen.k0_pay9 = @Cert.SenderIdeal.Gen.k0_pay9 := rfl
theorem pay11_same : @Cert.WholeIdeal.Gen.k0_pay11 = @Cert.SenderIdeal.Gen.k0_pay11 := rfl
theorem pay12_same : @Cert.WholeIdeal.Gen.k0_pay12 = @Cert.SenderIdeal.Gen.k0_pay12 := rfl
theorem pay13_same : @Cert.WholeIdeal.Gen.k0_pay13 = @Cert.SenderIdeal.Gen.k0_pay13 := rfl
theorem pay14_same : @Cert.WholeIdeal.Gen.k0_pay14 = @Cert.SenderIdeal.Gen.k0_pay14 := rfl
theorem pay15_same : @Cert.WholeIdeal.Gen.k0_pay15 = @Cert.SenderIdeal.Gen.k0_pay15 := rfl
theorem pay16_same : @Cert.WholeIdeal.Gen.k0_pay16 = @Cert.SenderIdeal.Gen.k0_pay16 := rfl
theorem pay17_same : @Cert.WholeIdeal.Gen.k0_pay17 = @Cert.SenderIdeal.Gen.k0_pay17 := rfl
theorem pay18_same : @Cert.WholeIdeal.Gen.k0_pay18 = @Cert.SenderIdeal.Gen.k0_pay18 := rfl
theorem pay19_same : @Cert.WholeIdeal.Gen.k0_pay19 = @Cert.SenderIdeal.Gen.k0_pay19 := rfl

variable {F : FTy → Type} [FloatOps F]
variable (x0 : Vec F Cert.SenderIdeal.S256x128 .f32) (x1 : Vec F Cert.SenderIdeal.S512x256 .f32) (x2 : Vec F Cert.SenderIdeal.S512x512 .f32) (x3 : Vec F Cert.SenderIdeal.S128x512 .f32)

theorem hid_same : ∀ k, Wt.hid x0 x1 x2 k = Tc.hid x0 x1 x2 k
  | 0 => by unfold Wt.hid Tc.hid; rw [pay2_same]
  | k + 1 => by
    unfold Wt.hid Tc.hid
    rw [pay3_same, hid_same k]

theorem tok_same : Wt.outTok x0 x1 x2 x3 = Tc.outTok x0 x1 x2 x3 := by
  funext i
  unfold Wt.outTok Tc.outTok
  rw [pay9_same, hid_same]

theorem lp_same : Wt.outLp x0 x1 x2 x3 = Tc.outLp x0 x1 x2 x3 := by
  funext i
  unfold Wt.outLp Tc.outLp
  rw [pay11_same, hid_same]

theorem ent_same : Wt.outEnt x0 x1 x2 x3 = Tc.outEnt x0 x1 x2 x3 := by
  funext i
  unfold Wt.outEnt Tc.outEnt
  rw [pay12_same, hid_same]

theorem dest_same (t : Vec F Cert.SenderIdeal.S512x128 .i32) : Wt.outDest (F := F) t = Tc.outDest (F := F) t := by
  unfold Wt.outDest Tc.outDest
  rw [pay1_same, pay13_same, pay14_same, pay15_same, pay16_same, pay17_same, pay18_same, pay19_same]

end Cert.Proof.Wh

end
-- ==== Proof.WRef.lean ====
/-
  The whole's reference, run: its operations in order around its one loop, and every buffer at their fold.
-/
module

public import proofs.«01_k».proof.Defs
public import Idealize.ShloMosaic.Lib.StableHlo.Run
public import Idealize.ShloMosaic.Lib.StableHlo.RunRead
public import Idealize.ShloMosaic.Lib.StableHlo.RunLoop
public import Idealize.ShloMosaic.Lib.Scf.Counter
public import Idealize.ShloMosaic.Lib.Scf.ExitTest
public import proofs.«01_k».proof.Proof.Gen.WholeReferenceIdeal

@[expose] public section

noncomputable section

namespace Cert.Proof.WRef

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)
open Cert.WholeReferenceIdeal Cert.WholeReferenceIdeal.Gen

/-- The contents of a buffer of shape `s` and element `t`. -/
abbrev Arr (F : FTy → Type) (s : Shape) (t : EltTy) : Type := (⟨s, t⟩ : BufTy).Contents (Elt F)

variable {F : FTy → Type} [FloatOps F]

/-- Before the loop. -/
abbrev preOps : List (HloOp τ sig (Elt F)) :=
  [ StableHlo.reshape main_arg0 main_v0 (rfl : (.f32 : EltTy) = .f32) shapeCasts_S16x8x256_S128x256,
    StableHlo.binary main_v0 main_arg1 main_v1 ((fun l r => Host.dotGeneral dot_S128x256_S256x512_S128x512_1_0_0_1_n_n none l r) : Arr F S128x256 .f32 → Arr F S256x512 .f32 → Arr F S128x512 .f32),
    StableHlo.unary main_v1 main_v2 (Host.tanh : Arr F S128x512 .f32 → Arr F S128x512 .f32),
    StableHlo.nullary main_cst (constant S_ .f32 0x00000000#32),
    StableHlo.unary main_cst main_v3 (broadcastInDim S512x128x512 ![] bcast_S_S512x128x512 : Arr F S_ .f32 → Arr F S512x128x512 .f32),
    StableHlo.nullary main_c (constantI S_ 32 0#32),
    StableHlo.unary main_arg2 main_v4_0 id,
    StableHlo.unary main_c main_v4_1 id,
    StableHlo.unary main_v2 main_v4_2 id,
    StableHlo.unary main_v3 main_v4_3 id ]

theorem preOps_sub : (preOps : List (HloOp τ sig (Elt F))).Forall fun op => op.bufs ⊆ tcRefs τ sig :=
  ⟨reshape_bufs_sub .., binary_bufs_sub .., unary_bufs_sub .., nullary_bufs_sub .., unary_bufs_sub .., nullary_bufs_sub .., unary_bufs_sub .., unary_bufs_sub .., unary_bufs_sub .., unary_bufs_sub ..⟩

theorem preOps_fresh : ∀ op ∈ (preOps : List (HloOp τ sig (Elt F))), op.fresh = ∅ := by
  intro op h
  fin_cases h <;> rfl

/-- One trip of the loop. -/
abbrev bodyOps : List (HloOp τ sig (Elt F)) :=
  [ StableHlo.binary main_v4_2 main_v4_0 main_while0b_v101 ((fun l r => Host.dotGeneral dot_S128x512_S512x512_S128x512_1_0_0_1_n_n none l r) : Arr F S128x512 .f32 → Arr F S512x512 .f32 → Arr F S128x512 .f32),
    StableHlo.unary main_while0b_v101 main_while0b_v102 (Host.tanh : Arr F S128x512 .f32 → Arr F S128x512 .f32),
    TRef.unary (.of main_while0b_v102 : TRef sig ⟨S128x512, .f32⟩) main_while0b_call0.v0 (broadcastInDim S1x128x512 ![1, 2] bcast_S128x512_S1x128x512_1_2),
    TRef.nullary main_while0b_call0.c (constantI S_ 32 0#32),
    TRef.nullary main_while0b_call0.c_0 (constantI S_ 32 0#32),
    TRef.binaryIndexed (.of main_v4_3 : TRef sig ⟨S512x128x512, .f32⟩) main_while0b_call0.v0 ![(.of main_v4_1 : TRef sig ⟨S_, .i32⟩), main_while0b_call0.c, main_while0b_call0.c_0] main_while0b_call0.v1 (fun x u i => Host.dynamicUpdateSlice x u (fun k => (i k (Shape.Idx.first h_S_)).toInt) updateFits_S512x128x512_S1x128x512),
    StableHlo.nullary main_while0b_c_23 (constantI S_ 32 1#32),
    StableHlo.binary main_v4_1 main_while0b_c_23 main_while0b_v104 (addi : Arr F S_ .i32 → Arr F S_ .i32 → Arr F S_ .i32),
    StableHlo.unary main_while0b_v104 main_v4_1 id,
    StableHlo.unary main_while0b_v102 main_v4_2 id,
    StableHlo.unary main_while0b_v103 main_v4_3 id ]

theorem bodyOps_sub : (bodyOps : List (HloOp τ sig (Elt F))).Forall fun op => op.bufs ⊆ tcRefs τ sig :=
  ⟨binary_bufs_sub .., unary_bufs_sub .., unary_bufs_sub .., nullary_bufs_sub .., nullary_bufs_sub .., binaryIndexed_bufs_sub .., nullary_bufs_sub .., binary_bufs_sub .., unary_bufs_sub .., unary_bufs_sub .., unary_bufs_sub ..⟩

theorem bodyOps_fresh : ∀ op ∈ (bodyOps : List (HloOp τ sig (Elt F))), op.fresh = ∅ := by
  intro op h
  fin_cases h <;> rfl

/-- The logits. -/
abbrev postA0Ops : List (HloOp τ sig (Elt F)) :=
  [ StableHlo.binary main_v4_3 main_arg3 main_v5 ((fun l r => Host.dotGeneral dot_S512x128x512_S512x128_S512x128x128_2_0_01_1_n_n none l r) : Arr F S512x128x512 .f32 → Arr F S512x128 .f32 → Arr F S512x128x128 .f32) ]

theorem postA0Ops_sub : (postA0Ops : List (HloOp τ sig (Elt F))).Forall fun op => op.bufs ⊆ tcRefs τ sig :=
  binary_bufs_sub ..

theorem postA0Ops_fresh : ∀ op ∈ (postA0Ops : List (HloOp τ sig (Elt F))), op.fresh = ∅ := by
  intro op h
  fin_cases h <;> rfl

/-- Their log-softmax. -/
abbrev postA1Ops : List (HloOp τ sig (Elt F)) :=
  [ TRef.nullary main_call1.cst (constant S_ .f32 0xFF800000#32),
    TRef.binary (.of main_v5 : TRef sig ⟨S512x128x128, .f32⟩) main_call1.cst main_call1.v0 (fun x v => Host.reduce FloatOps.maximumf x v reducesTo_S512x128x128_S512x128_d2 h_S_),
    TRef.nullary main_call1.cst_0 (constant S_ .f32 0xFF800000#32),
    TRef.unary main_call1.cst_0 main_call1.v1 (broadcastInDim S512x128 ![] bcast_S_S512x128),
    TRef.binary main_call1.v1 main_call1.v0 main_call1.v2 maximumf,
    TRef.unary main_call1.v2 main_call1.v3 (broadcastInDim S512x128x1 ![0, 1] bcast_S512x128_S512x128x1_0_1),
    TRef.unary main_call1.v3 main_call1.v4 (broadcastInDim S512x128x128 ![0, 1, 2] bcast_S512x128x1_S512x128x128_0_1_2),
    TRef.binary (.of main_v5 : TRef sig ⟨S512x128x128, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S512x128x128_S512x128_d2 h_S_),
    TRef.unary main_call1.v7 main_call1.v8 (broadcastInDim S512x128x1 ![0, 1] bcast_S512x128_S512x128x1_0_1),
    TRef.unary main_call1.v8 main_call1.v9 Host.log,
    TRef.unary main_call1.v9 main_call1.v10 (broadcastInDim S512x128x128 ![0, 1, 2] bcast_S512x128x1_S512x128x128_0_1_2),
    TRef.binary main_call1.v5 main_call1.v10 main_call1.v11 subf ]

theorem postA1Ops_sub : (postA1Ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem postA1Ops_fresh : ∀ op ∈ (postA1Ops : List (HloOp τ sig (Elt F))), op.fresh = ∅ := by
  intro op h
  fin_cases h <;> rfl

/-- The tokens, their log-probabilities and the entropies. -/
abbrev postA2Ops : List (HloOp τ sig (Elt F)) :=
  [ TRef.nullary main_call2.v0 (iotaInDim S512x128x128 32 2),
    TRef.nullary main_call2.cst (constant S_ .f32 0xFF800000#32),
    TRef.nullary main_call2.c (constantI S_ 32 0#32),
    TRef.quaternary (.of main_v5 : TRef sig ⟨S512x128x128, .f32⟩) main_call2.v0 main_call2.cst main_call2.c main_call2.v1_0 (fun x y u v j => (Host.argReduce reducer_argmax_f32_i32 x y u v reducesTo_S512x128x128_S512x128_d2 h_S_ j).1),
    TRef.quaternary (.of main_v5 : TRef sig ⟨S512x128x128, .f32⟩) main_call2.v0 main_call2.cst main_call2.c main_call2.v1_1 (fun x y u v j => (Host.argReduce reducer_argmax_f32_i32 x y u v reducesTo_S512x128x128_S512x128_d2 h_S_ j).2),
    StableHlo.unary main_v7 main_v8 (broadcastInDim S512x128x1 ![0, 1] bcast_S512x128_S512x128x1_0_1 : Arr F S512x128 .i32 → Arr F S512x128x1 .i32),
    TRef.nullary main_call3.c (constantI S_ 32 0#32),
    TRef.unary main_call3.c main_call3.v0 (broadcastInDim S512x128x1 ![] bcast_S_S512x128x1),
    TRef.binary (.of main_v8 : TRef sig ⟨S512x128x1, .i32⟩) main_call3.v0 main_call3.v1 (cmpi .slt),
    TRef.nullary main_call3.c_0 (constantI S_ 32 128#32),
    TRef.unary main_call3.c_0 main_call3.v2 (broadcastInDim S512x128x1 ![] bcast_S_S512x128x1),
    TRef.binary (.of main_v8 : TRef sig ⟨S512x128x1, .i32⟩) main_call3.v2 main_call3.v3 addi,
    TRef.ternary main_call3.v1 main_call3.v3 (.of main_v8 : TRef sig ⟨S512x128x1, .i32⟩) main_call3.v4 select,
    TRef.reshape main_call3.v4 main_call3.v5 (rfl : (.i32 : EltTy) = .i32) shapeCasts_S512x128x1_S512x128x1x1,
    TRef.binary (.of main_v6 : TRef sig ⟨S512x128x128, .f32⟩) main_call3.v5 main_call3.v6 (fun x i => Host.gather gather_S512x128x128_S512x128x1x1_S512x128x1_n_2_01_01_2_3_111 x i),
    StableHlo.reshape main_v9 main_v10 (rfl : (.f32 : EltTy) = .f32) shapeCasts_S512x128x1_S512x128,
    StableHlo.unary main_v6 main_v11 (Host.exp : Arr F S512x128x128 .f32 → Arr F S512x128x128 .f32),
    StableHlo.binary main_v11 main_v6 main_v12 (mulf : Arr F S512x128x128 .f32 → Arr F S512x128x128 .f32 → Arr F S512x128x128 .f32),
    StableHlo.nullary main_cst_0 (constant S_ .f32 0x00000000#32),
    StableHlo.binary main_v12 main_cst_0 main_v13 ((fun x v => Host.reduceAdd x v reducesTo_S512x128x128_S512x128_d2 h_S_) : Arr F S512x128x128 .f32 → Arr F S_ .f32 → Arr F S512x128 .f32),
    StableHlo.unary main_v13 main_v14 (Host.negf : Arr F S512x128 .f32 → Arr F S512x128 .f32) ]

theorem postA2Ops_sub : (postA2Ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., binary_bufs_sub .., reshape_bufs_sub .., unary_bufs_sub .., binary_bufs_sub .., nullary_bufs_sub .., binary_bufs_sub .., unary_bufs_sub ..⟩

theorem postA2Ops_fresh : ∀ op ∈ (postA2Ops : List (HloOp τ sig (Elt F))), op.fresh = ∅ := by
  intro op h
  fin_cases h <;> rfl

/-- The lengths. -/
abbrev postB1Ops : List (HloOp τ sig (Elt F)) :=
  [ StableHlo.unary main_v7 main_v15 ((transpose S128x512 [1, 0] · transposes_S512x128_S128x512_1_0) : Arr F S512x128 .i32 → Arr F S128x512 .i32),
    StableHlo.reshape main_v15 main_v16 (rfl : (.i32 : EltTy) = .i32) shapeCasts_S128x512_S16x8x512,
    StableHlo.unary main_v10 main_v17 ((transpose S128x512 [1, 0] · transposes_S512x128_S128x512_1_0) : Arr F S512x128 .f32 → Arr F S128x512 .f32),
    StableHlo.reshape main_v17 main_v18 (rfl : (.f32 : EltTy) = .f32) shapeCasts_S128x512_S16x8x512,
    StableHlo.unary main_v14 main_v19 ((transpose S128x512 [1, 0] · transposes_S512x128_S128x512_1_0) : Arr F S512x128 .f32 → Arr F S128x512 .f32),
    StableHlo.reshape main_v19 main_v20 (rfl : (.f32 : EltTy) = .f32) shapeCasts_S128x512_S16x8x512,
    StableHlo.nullary main_c_1 (constantI S_ 32 0#32),
    StableHlo.unary main_c_1 main_v21 (broadcastInDim S16x8x512 ![] bcast_S_S16x8x512 : Arr F S_ .i32 → Arr F S16x8x512 .i32),
    StableHlo.binary main_v16 main_v21 main_v22 (cmpi .eq : Arr F S16x8x512 .i32 → Arr F S16x8x512 .i32 → Arr F S16x8x512 .i1),
    TRef.unary (.of main_v22 : TRef sig ⟨S16x8x512, .i1⟩) main_call4.v0 (extui 32 · natLt_1_32),
    TRef.nullary main_call4.call0.c (constantI S_ 32 0#32),
    TRef.unary main_call4.call0.c main_call4.call0.v0 (broadcastInDim S_ ![] bcast_S_S_),
    TRef.binary main_call4.v0 main_call4.call0.v0 main_call4.call0.v1 (fun x v => Host.reduceWindow IntOp.addi ![1, 1, 512] ![1, 1, 1] ![0, 0, 511] ![0, 0, 0] x v reduceWindows_S16x8x512_S16x8x512_w1s1p0_0_w1s1p0_0_w512s1p511_0 h_S_),
    StableHlo.nullary main_c_2 (constantI S_ 32 0#32),
    StableHlo.unary main_c_2 main_v24 (broadcastInDim S16x8x512 ![] bcast_S_S16x8x512 : Arr F S_ .i32 → Arr F S16x8x512 .i32),
    StableHlo.binary main_v23 main_v24 main_v25 (cmpi .sgt : Arr F S16x8x512 .i32 → Arr F S16x8x512 .i32 → Arr F S16x8x512 .i1),
    StableHlo.unary main_v25 main_v26 ((extui 32 · natLt_1_32) : Arr F S16x8x512 .i1 → Arr F S16x8x512 .i32),
    StableHlo.nullary main_c_3 (constantI S_ 32 0#32),
    StableHlo.binary main_v26 main_c_3 main_v27 ((fun x v => Host.reduce IntOp.addi x v reducesTo_S16x8x512_S16x8_d2 h_S_) : Arr F S16x8x512 .i32 → Arr F S_ .i32 → Arr F S16x8 .i32),
    StableHlo.nullary main_c_4 (constantI S_ 32 512#32),
    StableHlo.unary main_c_4 main_v28 (broadcastInDim S16x8 ![] bcast_S_S16x8 : Arr F S_ .i32 → Arr F S16x8 .i32),
    StableHlo.binary main_v28 main_v27 main_v29 (subi : Arr F S16x8 .i32 → Arr F S16x8 .i32 → Arr F S16x8 .i32),
    StableHlo.nullary main_c_5 (constantI S_ 32 1#32),
    StableHlo.unary main_c_5 main_v30 (broadcastInDim S16x8 ![] bcast_S_S16x8 : Arr F S_ .i32 → Arr F S16x8 .i32),
    StableHlo.binary main_v29 main_v30 main_v31 (addi : Arr F S16x8 .i32 → Arr F S16x8 .i32 → Arr F S16x8 .i32),
    StableHlo.nullary main_c_6 (constantI S_ 32 512#32),
    StableHlo.unary main_c_6 main_v32 (broadcastInDim S16x8 ![] bcast_S_S16x8 : Arr F S_ .i32 → Arr F S16x8 .i32),
    StableHlo.binary main_v31 main_v32 main_v33 (minsi : Arr F S16x8 .i32 → Arr F S16x8 .i32 → Arr F S16x8 .i32),
    StableHlo.nullary main_c_7 (constantI S_ 32 1#32),
    StableHlo.unary main_c_7 main_v34 (broadcastInDim S16x8 ![] bcast_S_S16x8 : Arr F S_ .i32 → Arr F S16x8 .i32),
    StableHlo.binary main_v33 main_v34 main_v35 (subi : Arr F S16x8 .i32 → Arr F S16x8 .i32 → Arr F S16x8 .i32) ]

theorem postB1Ops_sub : (postB1Ops : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

theorem postB1Ops_fresh : ∀ op ∈ (postB1Ops : List (HloOp τ sig (Elt F))), op.fresh = ∅ := by
  intro op h
  fin_cases h <;> rfl

/-- Their sums. -/
abbrev postB2Ops : List (HloOp τ sig (Elt F)) :=
  [ TRef.nullary main_call5.call0.c (constantI S_ 32 0#32),
    TRef.unary main_call5.call0.c main_call5.call0.v0 (broadcastInDim S_ ![] bcast_S_S_),
    TRef.binary (.of main_v35 : TRef sig ⟨S16x8, .i32⟩) main_call5.call0.v0 main_call5.call0.v1 (fun x v => Host.reduceWindow IntOp.addi ![1, 8] ![1, 1] ![0, 7] ![0, 0] x v reduceWindows_S16x8_S16x8_w1s1p0_0_w8s1p7_0 h_S_),
    StableHlo.binary main_v36 main_v35 main_v37 (subi : Arr F S16x8 .i32 → Arr F S16x8 .i32 → Arr F S16x8 .i32),
    StableHlo.nullary main_c_8 (constantI S_ 32 0#32),
    StableHlo.binary main_v35 main_c_8 main_v38 ((fun x v => Host.reduce IntOp.addi x v reducesTo_S16x8_S16_d1 h_S_) : Arr F S16x8 .i32 → Arr F S_ .i32 → Arr F S16 .i32),
    StableHlo.nullary main_c_9 (constantI S_ 32 512#32),
    StableHlo.unary main_c_9 main_v39 (broadcastInDim S16x8 ![] bcast_S_S16x8 : Arr F S_ .i32 → Arr F S16x8 .i32),
    StableHlo.binary main_v39 main_v35 main_v40 (subi : Arr F S16x8 .i32 → Arr F S16x8 .i32 → Arr F S16x8 .i32),
    TRef.nullary main_call6.call0.c (constantI S_ 32 0#32),
    TRef.unary main_call6.call0.c main_call6.call0.v0 (broadcastInDim S_ ![] bcast_S_S_),
    TRef.binary (.of main_v40 : TRef sig ⟨S16x8, .i32⟩) main_call6.call0.v0 main_call6.call0.v1 (fun x v => Host.reduceWindow IntOp.addi ![1, 8] ![1, 1] ![0, 7] ![0, 0] x v reduceWindows_S16x8_S16x8_w1s1p0_0_w8s1p7_0 h_S_),
    StableHlo.binary main_v41 main_v40 main_v42 (subi : Arr F S16x8 .i32 → Arr F S16x8 .i32 → Arr F S16x8 .i32) ]

theorem postB2Ops_sub : (postB2Ops : List (HloOp τ sig (Elt F))).Forall fun op => op.bufs ⊆ tcRefs τ sig :=
  ⟨nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub ..⟩

theorem postB2Ops_fresh : ∀ op ∈ (postB2Ops : List (HloOp τ sig (Elt F))), op.fresh = ∅ := by
  intro op h
  fin_cases h <;> rfl

/-- The places from them. -/
abbrev postB3Ops : List (HloOp τ sig (Elt F)) :=
  [ StableHlo.nullary main_v43 (iotaInDim S512 32 0),
    StableHlo.unary main_v43 main_v44 (broadcastInDim S1x1x512 ![2] bcast_S512_S1x1x512_2 : Arr F S512 .i32 → Arr F S1x1x512 .i32),
    StableHlo.unary main_v35 main_v45 (broadcastInDim S16x8x1 ![0, 1] bcast_S16x8_S16x8x1_0_1 : Arr F S16x8 .i32 → Arr F S16x8x1 .i32),
    StableHlo.unary main_v44 main_v46 (broadcastInDim S16x8x512 ![0, 1, 2] bcast_S1x1x512_S16x8x512_0_1_2 : Arr F S1x1x512 .i32 → Arr F S16x8x512 .i32),
    StableHlo.unary main_v45 main_v47 (broadcastInDim S16x8x512 ![0, 1, 2] bcast_S16x8x1_S16x8x512_0_1_2 : Arr F S16x8x1 .i32 → Arr F S16x8x512 .i32),
    StableHlo.binary main_v46 main_v47 main_v48 (cmpi .slt : Arr F S16x8x512 .i32 → Arr F S16x8x512 .i32 → Arr F S16x8x512 .i1),
    StableHlo.unary main_v37 main_v49 (broadcastInDim S16x8x1 ![0, 1] bcast_S16x8_S16x8x1_0_1 : Arr F S16x8 .i32 → Arr F S16x8x1 .i32),
    StableHlo.unary main_v49 main_v50 (broadcastInDim S16x8x512 ![0, 1, 2] bcast_S16x8x1_S16x8x512_0_1_2 : Arr F S16x8x1 .i32 → Arr F S16x8x512 .i32),
    StableHlo.unary main_v44 main_v51 (broadcastInDim S16x8x512 ![0, 1, 2] bcast_S1x1x512_S16x8x512_0_1_2 : Arr F S1x1x512 .i32 → Arr F S16x8x512 .i32),
    StableHlo.binary main_v50 main_v51 main_v52 (addi : Arr F S16x8x512 .i32 → Arr F S16x8x512 .i32 → Arr F S16x8x512 .i32),
    StableHlo.unary main_v38 main_v53 (broadcastInDim S16x1x1 ![0] bcast_S16_S16x1x1_0 : Arr F S16 .i32 → Arr F S16x1x1 .i32),
    StableHlo.unary main_v42 main_v54 (broadcastInDim S16x8x1 ![0, 1] bcast_S16x8_S16x8x1_0_1 : Arr F S16x8 .i32 → Arr F S16x8x1 .i32),
    StableHlo.unary main_v53 main_v55 (broadcastInDim S16x8x1 ![0, 1, 2] bcast_S16x1x1_S16x8x1_0_1_2 : Arr F S16x1x1 .i32 → Arr F S16x8x1 .i32),
    StableHlo.binary main_v55 main_v54 main_v56 (addi : Arr F S16x8x1 .i32 → Arr F S16x8x1 .i32 → Arr F S16x8x1 .i32),
    StableHlo.unary main_v35 main_v57 (broadcastInDim S16x8x1 ![0, 1] bcast_S16x8_S16x8x1_0_1 : Arr F S16x8 .i32 → Arr F S16x8x1 .i32),
    StableHlo.unary main_v44 main_v58 (broadcastInDim S16x8x512 ![0, 1, 2] bcast_S1x1x512_S16x8x512_0_1_2 : Arr F S1x1x512 .i32 → Arr F S16x8x512 .i32),
    StableHlo.unary main_v57 main_v59 (broadcastInDim S16x8x512 ![0, 1, 2] bcast_S16x8x1_S16x8x512_0_1_2 : Arr F S16x8x1 .i32 → Arr F S16x8x512 .i32),
    StableHlo.binary main_v58 main_v59 main_v60 (subi : Arr F S16x8x512 .i32 → Arr F S16x8x512 .i32 → Arr F S16x8x512 .i32),
    StableHlo.unary main_v56 main_v61 (broadcastInDim S16x8x512 ![0, 1, 2] bcast_S16x8x1_S16x8x512_0_1_2 : Arr F S16x8x1 .i32 → Arr F S16x8x512 .i32),
    StableHlo.binary main_v61 main_v60 main_v62 (addi : Arr F S16x8x512 .i32 → Arr F S16x8x512 .i32 → Arr F S16x8x512 .i32),
    TRef.ternary (.of main_v48 : TRef sig ⟨S16x8x512, .i1⟩) (.of main_v52 : TRef sig ⟨S16x8x512, .i32⟩) (.of main_v62 : TRef sig ⟨S16x8x512, .i32⟩) main_call7.v0 select ]

theorem postB3Ops_sub : (postB3Ops : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., binary_bufs_sub .., ternary_bufs_sub ..⟩

theorem postB3Ops_fresh : ∀ op ∈ (postB3Ops : List (HloOp τ sig (Elt F))), op.fresh = ∅ := by
  intro op h
  fin_cases h <;> rfl

/-- The places among all examples' bytes. -/
abbrev postCOps : List (HloOp τ sig (Elt F)) :=
  [ StableHlo.nullary main_v64 (iotaInDim S16 32 0),
    StableHlo.nullary main_c_10 (constantI S_ 32 4096#32),
    StableHlo.unary main_c_10 main_v65 (broadcastInDim S16 ![] bcast_S_S16 : Arr F S_ .i32 → Arr F S16 .i32),
    StableHlo.binary main_v64 main_v65 main_v66 (muli : Arr F S16 .i32 → Arr F S16 .i32 → Arr F S16 .i32),
    StableHlo.unary main_v66 main_v67 (broadcastInDim S16x1x1 ![0] bcast_S16_S16x1x1_0 : Arr F S16 .i32 → Arr F S16x1x1 .i32),
    StableHlo.unary main_v67 main_v68 (broadcastInDim S16x8x512 ![0, 1, 2] bcast_S16x1x1_S16x8x512_0_1_2 : Arr F S16x1x1 .i32 → Arr F S16x8x512 .i32),
    StableHlo.binary main_v68 main_v63 main_v69 (addi : Arr F S16x8x512 .i32 → Arr F S16x8x512 .i32 → Arr F S16x8x512 .i32),
    StableHlo.reshape main_v69 main_v70 (rfl : (.i32 : EltTy) = .i32) shapeCasts_S16x8x512_S65536 ]

theorem postCOps_sub : (postCOps : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., reshape_bufs_sub ..⟩

theorem postCOps_fresh : ∀ op ∈ (postCOps : List (HloOp τ sig (Elt F))), op.fresh = ∅ := by
  intro op h
  fin_cases h <;> rfl

/-- The messages rearranged. -/
abbrev postD0Ops : List (HloOp τ sig (Elt F)) :=
  [ StableHlo.nullary main_c_11 (constantI S_ 32 0#32),
    StableHlo.unary main_c_11 main_v71 (broadcastInDim S65536 ![] bcast_S_S65536 : Arr F S_ .i32 → Arr F S65536 .i32),
    StableHlo.reshape main_v16 main_v72 (rfl : (.i32 : EltTy) = .i32) shapeCasts_S16x8x512_S65536,
    StableHlo.nullary main_c_12 (constantI S_ 32 0#32),
    StableHlo.unary main_c_12 main_v73 (broadcastInDim S65536 ![] bcast_S_S65536 : Arr F S_ .i32 → Arr F S65536 .i32),
    StableHlo.binary main_v70 main_v73 main_v74 (cmpi .slt : Arr F S65536 .i32 → Arr F S65536 .i32 → Arr F S65536 .i1),
    StableHlo.nullary main_c_13 (constantI S_ 32 65536#32),
    StableHlo.unary main_c_13 main_v75 (broadcastInDim S65536 ![] bcast_S_S65536 : Arr F S_ .i32 → Arr F S65536 .i32),
    StableHlo.binary main_v70 main_v75 main_v76 (addi : Arr F S65536 .i32 → Arr F S65536 .i32 → Arr F S65536 .i32),
    StableHlo.ternary main_v74 main_v76 main_v70 main_v77 (select : Arr F S65536 .i1 → Arr F S65536 .i32 → Arr F S65536 .i32 → Arr F S65536 .i32),
    StableHlo.unary main_v77 main_v78 (broadcastInDim S65536x1 ![0] bcast_S65536_S65536x1_0 : Arr F S65536 .i32 → Arr F S65536x1 .i32),
    StableHlo.ternary main_v71 main_v78 main_v72 main_v79 ((fun x i u => Host.scatter scatter_S65536_S65536x1_S65536_n_0_0_1 (fun _ b => b) x i u) : Arr F S65536 .i32 → Arr F S65536x1 .i32 → Arr F S65536 .i32 → Arr F S65536 .i32),
    StableHlo.reshape main_v79 main_v80 (rfl : (.i32 : EltTy) = .i32) shapeCasts_S65536_S16x4096 ]

theorem postD0Ops_sub : (postD0Ops : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩

theorem postD0Ops_fresh : ∀ op ∈ (postD0Ops : List (HloOp τ sig (Elt F))), op.fresh = ∅ := by
  intro op h
  fin_cases h <;> rfl

/-- The log-probabilities rearranged. -/
abbrev postD1Ops : List (HloOp τ sig (Elt F)) :=
  [ StableHlo.nullary main_cst_14 (constant S_ .f32 0x00000000#32),
    StableHlo.unary main_cst_14 main_v81 (broadcastInDim S65536 ![] bcast_S_S65536 : Arr F S_ .f32 → Arr F S65536 .f32),
    StableHlo.reshape main_v18 main_v82 (rfl : (.f32 : EltTy) = .f32) shapeCasts_S16x8x512_S65536,
    StableHlo.nullary main_c_15 (constantI S_ 32 0#32),
    StableHlo.unary main_c_15 main_v83 (broadcastInDim S65536 ![] bcast_S_S65536 : Arr F S_ .i32 → Arr F S65536 .i32),
    StableHlo.binary main_v70 main_v83 main_v84 (cmpi .slt : Arr F S65536 .i32 → Arr F S65536 .i32 → Arr F S65536 .i1),
    StableHlo.nullary main_c_16 (constantI S_ 32 65536#32),
    StableHlo.unary main_c_16 main_v85 (broadcastInDim S65536 ![] bcast_S_S65536 : Arr F S_ .i32 → Arr F S65536 .i32),
    StableHlo.binary main_v70 main_v85 main_v86 (addi : Arr F S65536 .i32 → Arr F S65536 .i32 → Arr F S65536 .i32),
    StableHlo.ternary main_v84 main_v86 main_v70 main_v87 (select : Arr F S65536 .i1 → Arr F S65536 .i32 → Arr F S65536 .i32 → Arr F S65536 .i32),
    StableHlo.unary main_v87 main_v88 (broadcastInDim S65536x1 ![0] bcast_S65536_S65536x1_0 : Arr F S65536 .i32 → Arr F S65536x1 .i32),
    StableHlo.ternary main_v81 main_v88 main_v82 main_v89 ((fun x i u => Host.scatter scatter_S65536_S65536x1_S65536_n_0_0_1 (fun _ b => b) x i u) : Arr F S65536 .f32 → Arr F S65536x1 .i32 → Arr F S65536 .f32 → Arr F S65536 .f32),
    StableHlo.reshape main_v89 main_v90 (rfl : (.f32 : EltTy) = .f32) shapeCasts_S65536_S16x4096 ]

theorem postD1Ops_sub : (postD1Ops : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩

theorem postD1Ops_fresh : ∀ op ∈ (postD1Ops : List (HloOp τ sig (Elt F))), op.fresh = ∅ := by
  intro op h
  fin_cases h <;> rfl

/-- The entropies rearranged. -/
abbrev postD2Ops : List (HloOp τ sig (Elt F)) :=
  [ StableHlo.nullary main_cst_17 (constant S_ .f32 0x00000000#32),
    StableHlo.unary main_cst_17 main_v91 (broadcastInDim S65536 ![] bcast_S_S65536 : Arr F S_ .f32 → Arr F S65536 .f32),
    StableHlo.reshape main_v20 main_v92 (rfl : (.f32 : EltTy) = .f32) shapeCasts_S16x8x512_S65536,
    StableHlo.nullary main_c_18 (constantI S_ 32 0#32),
    StableHlo.unary main_c_18 main_v93 (broadcastInDim S65536 ![] bcast_S_S65536 : Arr F S_ .i32 → Arr F S65536 .i32),
    StableHlo.binary main_v70 main_v93 main_v94 (cmpi .slt : Arr F S65536 .i32 → Arr F S65536 .i32 → Arr F S65536 .i1),
    StableHlo.nullary main_c_19 (constantI S_ 32 65536#32),
    StableHlo.unary main_c_19 main_v95 (broadcastInDim S65536 ![] bcast_S_S65536 : Arr F S_ .i32 → Arr F S65536 .i32),
    StableHlo.binary main_v70 main_v95 main_v96 (addi : Arr F S65536 .i32 → Arr F S65536 .i32 → Arr F S65536 .i32),
    StableHlo.ternary main_v94 main_v96 main_v70 main_v97 (select : Arr F S65536 .i1 → Arr F S65536 .i32 → Arr F S65536 .i32 → Arr F S65536 .i32),
    StableHlo.unary main_v97 main_v98 (broadcastInDim S65536x1 ![0] bcast_S65536_S65536x1_0 : Arr F S65536 .i32 → Arr F S65536x1 .i32),
    StableHlo.ternary main_v91 main_v98 main_v92 main_v99 ((fun x i u => Host.scatter scatter_S65536_S65536x1_S65536_n_0_0_1 (fun _ b => b) x i u) : Arr F S65536 .f32 → Arr F S65536x1 .i32 → Arr F S65536 .f32 → Arr F S65536 .f32),
    StableHlo.reshape main_v99 main_v100 (rfl : (.f32 : EltTy) = .f32) shapeCasts_S65536_S16x4096 ]

theorem postD2Ops_sub : (postD2Ops : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., reshape_bufs_sub ..⟩

theorem postD2Ops_fresh : ∀ op ∈ (postD2Ops : List (HloOp τ sig (Elt F))), op.fresh = ∅ := by
  intro op h
  fin_cases h <;> rfl

/-- The loop's test: the bound, then the comparison. -/
abbrev condOps : List (HloOp τ sig (Elt F)) :=
  [ StableHlo.nullary main_while0c_c_23 (constantI S_ 32 512#32),
    StableHlo.binary main_v4_1 main_while0c_c_23 main_while0c_v101 (cmpi .slt : Arr F S_ .i32 → Arr F S_ .i32 → Arr F S_ .i1) ]

abbrev preI : List (List (HloOp τ sig (Elt F))) := [preOps]
abbrev bodyI : List (List (HloOp τ sig (Elt F))) := [bodyOps]
abbrev postI : List (List (HloOp τ sig (Elt F))) := [postA0Ops, postA1Ops, postA2Ops, postB1Ops, postB2Ops, postB3Ops, postCOps, postD0Ops, postD1Ops, postD2Ops]

theorem hpre : Plain (preI : List (List (HloOp τ sig (Elt F)))) := Plain.cons preOps_sub Plain.nil preOps_fresh
theorem hbody : Plain (bodyI : List (List (HloOp τ sig (Elt F)))) := Plain.cons bodyOps_sub Plain.nil bodyOps_fresh
theorem hpost : Plain (postI : List (List (HloOp τ sig (Elt F)))) :=
  Plain.cons postA0Ops_sub (Plain.cons postA1Ops_sub (Plain.cons postA2Ops_sub (Plain.cons postB1Ops_sub (Plain.cons postB2Ops_sub
    (Plain.cons postB3Ops_sub (Plain.cons postCOps_sub (Plain.cons postD0Ops_sub (Plain.cons postD1Ops_sub (Plain.cons postD2Ops_sub Plain.nil postD2Ops_fresh)
      postD1Ops_fresh) postD0Ops_fresh) postCOps_fresh) postB3Ops_fresh) postB2Ops_fresh) postB1Ops_fresh) postA2Ops_fresh) postA1Ops_fresh) postA0Ops_fresh

set_option maxRecDepth 4096 in
set_option maxHeartbeats 8000000 in
theorem main_eq (c : Dev nD) : main (F := F) c
    = Pipeline.chain ((preI.map fun ops => (seq ops : Prog _ PUnit)) ++ HostLoop.enter 0 :: postI.map fun ops => (seq ops : Prog _ PUnit)) := by
  simp only [main, main_part0, main_part1, main_part2, fn_log_softmax.body, fn_argmax.body, fn_take_along_axis.body, fn_cumsum.body, fn_cumsum_0.body, fn_cumsum_1.body,
    fn_cumsum_2.body, fn_where.body, List.map_cons, List.map_nil, List.cons_append, List.nil_append, Pipeline.chain_cons, Pipeline.chain_nil, seq, bind_assoc, pure_bind]

set_option maxRecDepth 4096 in
set_option maxHeartbeats 4000000 in
theorem body_eq : main_while0_body (F := F) = Pipeline.chain (bodyI.map fun ops => (seq ops : Prog _ PUnit)) := by
  simp only [main_while0_body, fn_dynamic_update_index_in_dim.body, List.map_cons, List.map_nil, Pipeline.chain_cons, Pipeline.chain_nil, seq, bind_assoc, pure_bind]

variable (m : (ℓ : Loc nD τ sig) → Buf (Elt F) ℓ)

/-- Every buffer's contents before the `k`-th test of the loop, counted from 0. -/
abbrev atK (k : ℕ) (c : Dev nD) : Valuation τ sig (Elt F) := atTrip condOps bodyI (entryContents preI m) k c

set_option maxRecDepth 100000 in
theorem ctr_entry (c : Dev nD) : entryContents preI m c (Proc.devRef .tc main_v4_1) = fun _ => 0#32 := by
  show after preOps (launchContents m c) (Proc.devRef .tc main_v4_1) = _
  generalize launchContents m c = V
  after_reads_simp
  rfl

set_option maxRecDepth 100000 in
theorem ctr_cond (V : Valuation τ sig (Elt F)) : after condOps V (Proc.devRef .tc main_v4_1) = V (Proc.devRef .tc main_v4_1) := by
  after_reads_simp

set_option maxRecDepth 100000 in
theorem ctr_step (V : Valuation τ sig (Elt F)) : after bodyOps V (Proc.devRef .tc main_v4_1)
    = (fun i => IntOp.addi ((V (Proc.devRef .tc main_v4_1) : IVec S_ 32) i) 1#32 : IVec S_ 32) := by
  after_reads_simp
  rfl

/-- Before the `k`-th test the counter is `k`. -/
theorem atK_ctr (c : Dev nD) : ∀ k, atK m k c (Proc.devRef .tc main_v4_1) = fun _ => Scf.iv 0#32 1#32 k
  | 0 => by rw [show atK m 0 c = entryContents preI m c from rfl, ctr_entry, Scf.iv_zero]
  | k + 1 => by
    rw [show atK m (k + 1) c = after bodyOps (after condOps (atK m k c)) from rfl, ctr_step, ctr_cond, atK_ctr c k, Scf.iv_succ]
    rfl

-- applying a rule stated for any thread at the TensorCore thread unifies only when unification may unfold plain definitions in a metavariable's type
set_option backward.isDefEq.respectTransparency.types false in
/-- The test holds for the first 512 trips. -/
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_1 HostLoop.idx0)
        (HloOp.result _ (atK m k c) main_while0c_c_23 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

variable (ρ : Dev nD → PrngReg)

/-- From any memory with zero counters, every execution terminates with each buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 512 m c (Proc.devRef .tc b)) :=
  run_loop (pcfgs (F := F)) defs₀ loops main 0 main_while0_cond main_while0_body rfl preI bodyI postI condOps hpre hbody hpost
    main_eq body_eq 512 m ρ (cond_spec m)

end Cert.Proof.WRef

end
-- ==== Proof.WRefVal.lean ====
/-
  The whole's reference, its results as terms of its arguments: the states of the loop, the logits at them, and what follows.
-/
module

public import proofs.«01_k».proof.Proof.WRef
public import proofs.«01_k».proof.Proof.SRun
public import proofs.«01_k».proof.Proof.RefVal
public import proofs.«01_k».proof.Proof.Dest
public import Idealize.ShloMosaic.Lib.Quiescent
public import Idealize.ShloMosaic.Lib.WordCmp

@[expose] public section

set_option maxRecDepth 100000

noncomputable section

namespace Cert.Proof.WRef

open Idealize.ShloMosaic Idealize.ShloMosaic.TcCoe Idealize.ShloMosaic.StableHlo Idealize.SL.Sem
open Cert.WholeReferenceIdeal Cert.WholeReferenceIdeal.Gen
open Cert.Proof.SRef (state0 next state put logits shifted lsm toks words lps ents msgs put_apply)

variable {F : FTy → Type} [FloatOps F]

/-! ## What each list of operations leaves -/

theorem to_v5 (x : Arr F S512x128x128 .f32) : (TRef.of main_v5 : TRef sig ⟨S512x128x128, .f32⟩).toBuf x = x := rfl
theorem of_v5 (x : Arr F S512x128x128 .f32) : (TRef.of main_v5 : TRef sig ⟨S512x128x128, .f32⟩).ofBuf x = x := rfl
theorem to_v6 (x : Arr F S512x128x128 .f32) : (TRef.of main_v6 : TRef sig ⟨S512x128x128, .f32⟩).toBuf x = x := rfl
theorem of_v6 (x : Arr F S512x128x128 .f32) : (TRef.of main_v6 : TRef sig ⟨S512x128x128, .f32⟩).ofBuf x = x := rfl
theorem to_v7 (x : Arr F S512x128 .i32) : (TRef.of main_v7 : TRef sig ⟨S512x128, .i32⟩).toBuf x = x := rfl
theorem of_v7 (x : Arr F S512x128 .i32) : (TRef.of main_v7 : TRef sig ⟨S512x128, .i32⟩).ofBuf x = x := rfl
theorem to_v8 (x : Arr F S512x128x1 .i32) : (TRef.of main_v8 : TRef sig ⟨S512x128x1, .i32⟩).toBuf x = x := rfl
theorem of_v8 (x : Arr F S512x128x1 .i32) : (TRef.of main_v8 : TRef sig ⟨S512x128x1, .i32⟩).ofBuf x = x := rfl
theorem to_v9 (x : Arr F S512x128x1 .f32) : (TRef.of main_v9 : TRef sig ⟨S512x128x1, .f32⟩).toBuf x = x := rfl
theorem of_v9 (x : Arr F S512x128x1 .f32) : (TRef.of main_v9 : TRef sig ⟨S512x128x1, .f32⟩).ofBuf x = x := rfl
theorem to_v22 (x : Arr F S16x8x512 .i1) : (TRef.of main_v22 : TRef sig ⟨S16x8x512, .i1⟩).toBuf x = x := rfl
theorem of_v22 (x : Arr F S16x8x512 .i1) : (TRef.of main_v22 : TRef sig ⟨S16x8x512, .i1⟩).ofBuf x = x := rfl
theorem to_v23 (x : Arr F S16x8x512 .i32) : (TRef.of main_v23 : TRef sig ⟨S16x8x512, .i32⟩).toBuf x = x := rfl
theorem of_v23 (x : Arr F S16x8x512 .i32) : (TRef.of main_v23 : TRef sig ⟨S16x8x512, .i32⟩).ofBuf x = x := rfl
theorem to_v35 (x : Arr F S16x8 .i32) : (TRef.of main_v35 : TRef sig ⟨S16x8, .i32⟩).toBuf x = x := rfl
theorem of_v35 (x : Arr F S16x8 .i32) : (TRef.of main_v35 : TRef sig ⟨S16x8, .i32⟩).ofBuf x = x := rfl
theorem to_v36 (x : Arr F S16x8 .i32) : (TRef.of main_v36 : TRef sig ⟨S16x8, .i32⟩).toBuf x = x := rfl
theorem of_v36 (x : Arr F S16x8 .i32) : (TRef.of main_v36 : TRef sig ⟨S16x8, .i32⟩).ofBuf x = x := rfl
theorem to_v40 (x : Arr F S16x8 .i32) : (TRef.of main_v40 : TRef sig ⟨S16x8, .i32⟩).toBuf x = x := rfl
theorem of_v40 (x : Arr F S16x8 .i32) : (TRef.of main_v40 : TRef sig ⟨S16x8, .i32⟩).ofBuf x = x := rfl
theorem to_v41 (x : Arr F S16x8 .i32) : (TRef.of main_v41 : TRef sig ⟨S16x8, .i32⟩).toBuf x = x := rfl
theorem of_v41 (x : Arr F S16x8 .i32) : (TRef.of main_v41 : TRef sig ⟨S16x8, .i32⟩).ofBuf x = x := rfl
theorem to_v48 (x : Arr F S16x8x512 .i1) : (TRef.of main_v48 : TRef sig ⟨S16x8x512, .i1⟩).toBuf x = x := rfl
theorem of_v48 (x : Arr F S16x8x512 .i1) : (TRef.of main_v48 : TRef sig ⟨S16x8x512, .i1⟩).ofBuf x = x := rfl
theorem to_v52 (x : Arr F S16x8x512 .i32) : (TRef.of main_v52 : TRef sig ⟨S16x8x512, .i32⟩).toBuf x = x := rfl
theorem of_v52 (x : Arr F S16x8x512 .i32) : (TRef.of main_v52 : TRef sig ⟨S16x8x512, .i32⟩).ofBuf x = x := rfl
theorem to_v62 (x : Arr F S16x8x512 .i32) : (TRef.of main_v62 : TRef sig ⟨S16x8x512, .i32⟩).toBuf x = x := rfl
theorem of_v62 (x : Arr F S16x8x512 .i32) : (TRef.of main_v62 : TRef sig ⟨S16x8x512, .i32⟩).ofBuf x = x := rfl
theorem to_v63 (x : Arr F S16x8x512 .i32) : (TRef.of main_v63 : TRef sig ⟨S16x8x512, .i32⟩).toBuf x = x := rfl
theorem of_v63 (x : Arr F S16x8x512 .i32) : (TRef.of main_v63 : TRef sig ⟨S16x8x512, .i32⟩).ofBuf x = x := rfl
theorem to_while0b_v102 (x : Arr F S128x512 .f32) : (TRef.of main_while0b_v102 : TRef sig ⟨S128x512, .f32⟩).toBuf x = x := rfl
theorem of_while0b_v102 (x : Arr F S128x512 .f32) : (TRef.of main_while0b_v102 : TRef sig ⟨S128x512, .f32⟩).ofBuf x = x := rfl
theorem to_while0b_v103 (x : Arr F S512x128x512 .f32) : (TRef.of main_while0b_v103 : TRef sig ⟨S512x128x512, .f32⟩).toBuf x = x := rfl
theorem of_while0b_v103 (x : Arr F S512x128x512 .f32) : (TRef.of main_while0b_v103 : TRef sig ⟨S512x128x512, .f32⟩).ofBuf x = x := rfl
theorem to_v4_3 (x : Arr F S512x128x512 .f32) : (TRef.of main_v4_3 : TRef sig ⟨S512x128x512, .f32⟩).toBuf x = x := rfl
theorem of_v4_3 (x : Arr F S512x128x512 .f32) : (TRef.of main_v4_3 : TRef sig ⟨S512x128x512, .f32⟩).ofBuf x = x := rfl
theorem to_v4_1 (x : Arr F S_ .i32) : (TRef.of main_v4_1 : TRef sig ⟨S_, .i32⟩).toBuf x = x := rfl
theorem of_v4_1 (x : Arr F S_ .i32) : (TRef.of main_v4_1 : TRef sig ⟨S_, .i32⟩).ofBuf x = x := rfl
theorem of_c3v5 (x : Arr F S512x128x1x1 .i32) : (TRef.of main_call3_v5 : TRef sig ⟨S512x128x1x1, .i32⟩).ofBuf x = x := rfl
theorem to_c3v4 (x : Arr F S512x128x1 .i32) : (TRef.of main_call3_v4 : TRef sig ⟨S512x128x1, .i32⟩).toBuf x = x := rfl

/-- The state written, from the index words one by one. -/
theorem put_of (h : FVec F S512x128x512 .f32) (k : IVec S_ 32) (w : FVec F S512x512 .f32) (x : FVec F S128x512 .f32) (f : Fin 3 → ℤ)
    (h0 : f 0 = (k (Shape.Idx.first h_S_)).toInt) (h1 : f 1 = 0) (h2 : f 2 = 0) :
    id (Host.dynamicUpdateSlice h (broadcastInDim S1x128x512 ![1, 2] bcast_S128x512_S1x128x512_1_2
      (Host.tanh (Host.dotGeneral dot_S128x512_S512x512_S128x512_1_0_0_1_n_n none x w))) f updateFits_S512x128x512_S1x128x512) = put h k (next w x) := by
  have e : f = fun a => ((![k, constantI S_ 32 0#32, constantI S_ 32 0#32] : Fin 3 → IVec S_ 32) a (Shape.Idx.first h_S_)).toInt := by
    funext a
    match a with
    | 0 => exact h0
    | 1 => exact h1
    | 2 => exact h2
  rw [e]; rfl

/-- What `preOps` leaves as it was. -/
theorem preOps_keep (V : Valuation τ sig (Elt F)) : after preOps V (Proc.devRef .tc main_arg0) = V (Proc.devRef .tc main_arg0)
    ∧ after preOps V (Proc.devRef .tc main_arg1) = V (Proc.devRef .tc main_arg1)
    ∧ after preOps V (Proc.devRef .tc main_arg2) = V (Proc.devRef .tc main_arg2)
    ∧ after preOps V (Proc.devRef .tc main_arg3) = V (Proc.devRef .tc main_arg3) := by
  refine ⟨?_, ?_, ?_, ?_⟩ <;> after_reads_simp

theorem pre_w (V : Valuation τ sig (Elt F)) : after preOps V (Proc.devRef .tc main_v4_0)
    = V (Proc.devRef .tc main_arg2) := by
  after_reads_simp
  try rfl

theorem pre_state (V : Valuation τ sig (Elt F)) : after preOps V (Proc.devRef .tc main_v4_2)
    = state0 (V (Proc.devRef .tc main_arg0)) (V (Proc.devRef .tc main_arg1)) := by
  after_reads_simp
  try rfl

/-- What `condOps` leaves as it was. -/
theorem condOps_keep (V : Valuation τ sig (Elt F)) : after condOps V (Proc.devRef .tc main_arg0) = V (Proc.devRef .tc main_arg0)
    ∧ after condOps V (Proc.devRef .tc main_arg1) = V (Proc.devRef .tc main_arg1)
    ∧ after condOps V (Proc.devRef .tc main_arg2) = V (Proc.devRef .tc main_arg2)
    ∧ after condOps V (Proc.devRef .tc main_arg3) = V (Proc.devRef .tc main_arg3)
    ∧ after condOps V (Proc.devRef .tc main_v4_0) = V (Proc.devRef .tc main_v4_0)
    ∧ after condOps V (Proc.devRef .tc main_v4_1) = V (Proc.devRef .tc main_v4_1)
    ∧ after condOps V (Proc.devRef .tc main_v4_2) = V (Proc.devRef .tc main_v4_2)
    ∧ after condOps V (Proc.devRef .tc main_v4_3) = V (Proc.devRef .tc main_v4_3) := by
  refine ⟨?_, ?_, ?_, ?_, ?_, ?_, ?_, ?_⟩ <;> after_reads_simp

/-- What `bodyOps` leaves as it was. -/
theorem bodyOps_keep (V : Valuation τ sig (Elt F)) : after bodyOps V (Proc.devRef .tc main_arg0) = V (Proc.devRef .tc main_arg0)
    ∧ after bodyOps V (Proc.devRef .tc main_arg1) = V (Proc.devRef .tc main_arg1)
    ∧ after bodyOps V (Proc.devRef .tc main_arg2) = V (Proc.devRef .tc main_arg2)
    ∧ after bodyOps V (Proc.devRef .tc main_arg3) = V (Proc.devRef .tc main_arg3)
    ∧ after bodyOps V (Proc.devRef .tc main_v4_0) = V (Proc.devRef .tc main_v4_0) := by
  refine ⟨?_, ?_, ?_, ?_, ?_⟩ <;> after_reads_simp

theorem body_state (V : Valuation τ sig (Elt F)) : after bodyOps V (Proc.devRef .tc main_v4_2)
    = next (V (Proc.devRef .tc main_v4_0)) (V (Proc.devRef .tc main_v4_2)) := by
  after_reads_simp
  try rfl

set_option maxHeartbeats 1000000 in
theorem body_put (V : Valuation τ sig (Elt F)) : after bodyOps V (Proc.devRef .tc main_v4_3)
    = put (V (Proc.devRef .tc main_v4_3)) (V (Proc.devRef .tc main_v4_1)) (next (V (Proc.devRef .tc main_v4_0)) (V (Proc.devRef .tc main_v4_2))) := by
  after_reads_simp
  apply put_of
  · dsimp only [Matrix.cons_val]
    after_reads_simp
    rfl
  · dsimp only [Matrix.cons_val]
    after_reads_simp
    rfl
  · dsimp only [Matrix.cons_val]
    after_reads_simp
    rfl

/-- What `postA0Ops` leaves as it was. -/
theorem postA0Ops_keep (V : Valuation τ sig (Elt F)) : after postA0Ops V (Proc.devRef .tc main_arg0) = V (Proc.devRef .tc main_arg0)
    ∧ after postA0Ops V (Proc.devRef .tc main_arg1) = V (Proc.devRef .tc main_arg1)
    ∧ after postA0Ops V (Proc.devRef .tc main_arg2) = V (Proc.devRef .tc main_arg2)
    ∧ after postA0Ops V (Proc.devRef .tc main_arg3) = V (Proc.devRef .tc main_arg3) := by
  refine ⟨?_, ?_, ?_, ?_⟩ <;> after_reads_simp

theorem A0_v5 (V : Valuation τ sig (Elt F)) : after postA0Ops V (Proc.devRef .tc main_v5)
    = logits (V (Proc.devRef .tc main_v4_3)) (V (Proc.devRef .tc main_arg3)) := by
  after_reads_simp
  try rfl

/-- What `postA1Ops` leaves as it was. -/
theorem postA1Ops_keep (V : Valuation τ sig (Elt F)) : after postA1Ops V (Proc.devRef .tc main_arg0) = V (Proc.devRef .tc main_arg0)
    ∧ after postA1Ops V (Proc.devRef .tc main_arg1) = V (Proc.devRef .tc main_arg1)
    ∧ after postA1Ops V (Proc.devRef .tc main_arg2) = V (Proc.devRef .tc main_arg2)
    ∧ after postA1Ops V (Proc.devRef .tc main_arg3) = V (Proc.devRef .tc main_arg3)
    ∧ after postA1Ops V (Proc.devRef .tc main_v5) = V (Proc.devRef .tc main_v5) := by
  refine ⟨?_, ?_, ?_, ?_, ?_⟩ <;> after_reads_simp

theorem A1_v6 (V : Valuation τ sig (Elt F)) : after postA1Ops V (Proc.devRef .tc main_v6)
    = lsm (V (Proc.devRef .tc main_v5)) := by
  after_reads_simp
  try simp only [TRef.ofBuf_toBuf, to_v5, of_v5, to_v6, of_v6, to_v7, of_v7, to_v8, of_v8, to_v9, of_v9, to_v22, of_v22, to_v23, of_v23, to_v35, of_v35, to_v36, of_v36, to_v40, of_v40, to_v41, of_v41, to_v48, of_v48, to_v52, of_v52, to_v62, of_v62, to_v63, of_v63, to_while0b_v102, of_while0b_v102, to_while0b_v103, of_while0b_v103, to_v4_3, of_v4_3, to_v4_1, of_v4_1]
  try rfl

/-- What `postA2Ops` leaves as it was. -/
theorem postA2Ops_keep (V : Valuation τ sig (Elt F)) : after postA2Ops V (Proc.devRef .tc main_arg0) = V (Proc.devRef .tc main_arg0)
    ∧ after postA2Ops V (Proc.devRef .tc main_arg1) = V (Proc.devRef .tc main_arg1)
    ∧ after postA2Ops V (Proc.devRef .tc main_arg2) = V (Proc.devRef .tc main_arg2)
    ∧ after postA2Ops V (Proc.devRef .tc main_arg3) = V (Proc.devRef .tc main_arg3) := by
  refine ⟨?_, ?_, ?_, ?_⟩ <;> after_reads_simp

theorem A2_v7 (V : Valuation τ sig (Elt F)) : after postA2Ops V (Proc.devRef .tc main_v7)
    = toks (V (Proc.devRef .tc main_v5)) := by
  after_reads_simp
  try rfl

theorem A2_v10 (V : Valuation τ sig (Elt F)) : after postA2Ops V (Proc.devRef .tc main_v10)
    = lps (V (Proc.devRef .tc main_v6)) (toks (V (Proc.devRef .tc main_v5))) := by
  after_reads_simp
  try simp only [TRef.ofBuf_toBuf, to_v5, of_v5, to_v6, of_v6, to_v7, of_v7, to_v8, of_v8, to_v9, of_v9, to_v22, of_v22, to_v23, of_v23, to_v35, of_v35, to_v36, of_v36, to_v40, of_v40, to_v41, of_v41, to_v48, of_v48, to_v52, of_v52, to_v62, of_v62, to_v63, of_v63, to_while0b_v102, of_while0b_v102, to_while0b_v103, of_while0b_v103, to_v4_3, of_v4_3, to_v4_1, of_v4_1]
  simp only [of_c3v5, to_c3v4]
  unfold lps words toks
  rfl

theorem A2_v14 (V : Valuation τ sig (Elt F)) : after postA2Ops V (Proc.devRef .tc main_v14)
    = ents (V (Proc.devRef .tc main_v6)) := by
  after_reads_simp
  try rfl

/-- What `postB1Ops` leaves as it was. -/
theorem postB1Ops_keep (V : Valuation τ sig (Elt F)) : after postB1Ops V (Proc.devRef .tc main_arg0) = V (Proc.devRef .tc main_arg0)
    ∧ after postB1Ops V (Proc.devRef .tc main_arg1) = V (Proc.devRef .tc main_arg1)
    ∧ after postB1Ops V (Proc.devRef .tc main_arg2) = V (Proc.devRef .tc main_arg2)
    ∧ after postB1Ops V (Proc.devRef .tc main_arg3) = V (Proc.devRef .tc main_arg3) := by
  refine ⟨?_, ?_, ?_, ?_⟩ <;> after_reads_simp

theorem B1_v16 (V : Valuation τ sig (Elt F)) : after postB1Ops V (Proc.devRef .tc main_v16) = msgs (V (Proc.devRef .tc main_v7)) := by
  after_reads_simp
  try rfl

/-- Values by step and example, example by example. -/
def rows (x : FVec F S512x128 .f32) : FVec F S16x8x512 .f32 :=
  shapeCast S16x8x512 (transpose S128x512 [1, 0] x transposes_S512x128_S128x512_1_0) shapeCasts_S128x512_S16x8x512

theorem B1_v18 (V : Valuation τ sig (Elt F)) : after postB1Ops V (Proc.devRef .tc main_v18) = rows (V (Proc.devRef .tc main_v10)) := by
  after_reads_simp
  try rfl

theorem B1_v20 (V : Valuation τ sig (Elt F)) : after postB1Ops V (Proc.devRef .tc main_v20) = rows (V (Proc.devRef .tc main_v14)) := by
  after_reads_simp
  try rfl

theorem B1_v35 (V : Valuation τ sig (Elt F)) : after postB1Ops V (Proc.devRef .tc main_v35)
    = Dest.lens (Dest.ended (msgs (V (Proc.devRef .tc main_v7)))) := by
  after_reads_simp
  try simp only [TRef.ofBuf_toBuf, to_v5, of_v5, to_v6, of_v6, to_v7, of_v7, to_v8, of_v8, to_v9, of_v9, to_v22, of_v22, to_v23, of_v23, to_v35, of_v35, to_v36, of_v36, to_v40, of_v40, to_v41, of_v41, to_v48, of_v48, to_v52, of_v52, to_v62, of_v62, to_v63, of_v63, to_while0b_v102, of_while0b_v102, to_while0b_v103, of_while0b_v103, to_v4_3, of_v4_3, to_v4_1, of_v4_1]
  try rfl

/-- What `postB2Ops` leaves as it was. -/
theorem postB2Ops_keep (V : Valuation τ sig (Elt F)) : after postB2Ops V (Proc.devRef .tc main_arg0) = V (Proc.devRef .tc main_arg0)
    ∧ after postB2Ops V (Proc.devRef .tc main_arg1) = V (Proc.devRef .tc main_arg1)
    ∧ after postB2Ops V (Proc.devRef .tc main_arg2) = V (Proc.devRef .tc main_arg2)
    ∧ after postB2Ops V (Proc.devRef .tc main_arg3) = V (Proc.devRef .tc main_arg3)
    ∧ after postB2Ops V (Proc.devRef .tc main_v16) = V (Proc.devRef .tc main_v16)
    ∧ after postB2Ops V (Proc.devRef .tc main_v18) = V (Proc.devRef .tc main_v18)
    ∧ after postB2Ops V (Proc.devRef .tc main_v20) = V (Proc.devRef .tc main_v20)
    ∧ after postB2Ops V (Proc.devRef .tc main_v35) = V (Proc.devRef .tc main_v35) := by
  refine ⟨?_, ?_, ?_, ?_, ?_, ?_, ?_, ?_⟩ <;> after_reads_simp

theorem B2_v37 (V : Valuation τ sig (Elt F)) : after postB2Ops V (Proc.devRef .tc main_v37)
    = subi (Dest.csum (V (Proc.devRef .tc main_v35))) (V (Proc.devRef .tc main_v35)) := by
  after_reads_simp
  try simp only [TRef.ofBuf_toBuf, to_v5, of_v5, to_v6, of_v6, to_v7, of_v7, to_v8, of_v8, to_v9, of_v9, to_v22, of_v22, to_v23, of_v23, to_v35, of_v35, to_v36, of_v36, to_v40, of_v40, to_v41, of_v41, to_v48, of_v48, to_v52, of_v52, to_v62, of_v62, to_v63, of_v63, to_while0b_v102, of_while0b_v102, to_while0b_v103, of_while0b_v103, to_v4_3, of_v4_3, to_v4_1, of_v4_1]
  try rfl

theorem B2_v38 (V : Valuation τ sig (Elt F)) : after postB2Ops V (Proc.devRef .tc main_v38)
    = Host.reduce IntOp.addi (V (Proc.devRef .tc main_v35)) (constantI S_ 32 0#32) reducesTo_S16x8_S16_d1 h_S_ := by
  after_reads_simp
  try rfl

theorem B2_v42 (V : Valuation τ sig (Elt F)) : after postB2Ops V (Proc.devRef .tc main_v42)
    = subi (Dest.csum (subi (broadcastInDim S16x8 ![] bcast_S_S16x8 (constantI S_ 32 512#32)) (V (Proc.devRef .tc main_v35)))) (subi (broadcastInDim S16x8 ![] bcast_S_S16x8 (constantI S_ 32 512#32)) (V (Proc.devRef .tc main_v35))) := by
  after_reads_simp
  try simp only [TRef.ofBuf_toBuf, to_v5, of_v5, to_v6, of_v6, to_v7, of_v7, to_v8, of_v8, to_v9, of_v9, to_v22, of_v22, to_v23, of_v23, to_v35, of_v35, to_v36, of_v36, to_v40, of_v40, to_v41, of_v41, to_v48, of_v48, to_v52, of_v52, to_v62, of_v62, to_v63, of_v63, to_while0b_v102, of_while0b_v102, to_while0b_v103, of_while0b_v103, to_v4_3, of_v4_3, to_v4_1, of_v4_1]
  try rfl

/-- What `postB3Ops` leaves as it was. -/
theorem postB3Ops_keep (V : Valuation τ sig (Elt F)) : after postB3Ops V (Proc.devRef .tc main_arg0) = V (Proc.devRef .tc main_arg0)
    ∧ after postB3Ops V (Proc.devRef .tc main_arg1) = V (Proc.devRef .tc main_arg1)
    ∧ after postB3Ops V (Proc.devRef .tc main_arg2) = V (Proc.devRef .tc main_arg2)
    ∧ after postB3Ops V (Proc.devRef .tc main_arg3) = V (Proc.devRef .tc main_arg3)
    ∧ after postB3Ops V (Proc.devRef .tc main_v16) = V (Proc.devRef .tc main_v16)
    ∧ after postB3Ops V (Proc.devRef .tc main_v18) = V (Proc.devRef .tc main_v18)
    ∧ after postB3Ops V (Proc.devRef .tc main_v20) = V (Proc.devRef .tc main_v20) := by
  refine ⟨?_, ?_, ?_, ?_, ?_, ?_, ?_⟩ <;> after_reads_simp

theorem B3_v63 (V : Valuation τ sig (Elt F)) : after postB3Ops V (Proc.devRef .tc main_v63)
    = select (cmpi .slt Dest.pos3 (Dest.wide (V (Proc.devRef .tc main_v35)))) (addi (Dest.wide (V (Proc.devRef .tc main_v37))) Dest.pos3)
      (addi (broadcastInDim S16x8x512 ![0, 1, 2] bcast_S16x8x1_S16x8x512_0_1_2
          (addi (broadcastInDim S16x8x1 ![0, 1, 2] bcast_S16x1x1_S16x8x1_0_1_2 (broadcastInDim S16x1x1 ![0] bcast_S16_S16x1x1_0 (V (Proc.devRef .tc main_v38))))
            (broadcastInDim S16x8x1 ![0, 1] bcast_S16x8_S16x8x1_0_1 (V (Proc.devRef .tc main_v42)))))
        (subi Dest.pos3 (Dest.wide (V (Proc.devRef .tc main_v35))))) := by
  after_reads_simp
  try rfl

/-- What `postCOps` leaves as it was. -/
theorem postCOps_keep (V : Valuation τ sig (Elt F)) : after postCOps V (Proc.devRef .tc main_arg0) = V (Proc.devRef .tc main_arg0)
    ∧ after postCOps V (Proc.devRef .tc main_arg1) = V (Proc.devRef .tc main_arg1)
    ∧ after postCOps V (Proc.devRef .tc main_arg2) = V (Proc.devRef .tc main_arg2)
    ∧ after postCOps V (Proc.devRef .tc main_arg3) = V (Proc.devRef .tc main_arg3)
    ∧ after postCOps V (Proc.devRef .tc main_v16) = V (Proc.devRef .tc main_v16)
    ∧ after postCOps V (Proc.devRef .tc main_v18) = V (Proc.devRef .tc main_v18)
    ∧ after postCOps V (Proc.devRef .tc main_v20) = V (Proc.devRef .tc main_v20) := by
  refine ⟨?_, ?_, ?_, ?_, ?_, ?_, ?_⟩ <;> after_reads_simp

theorem C_v70 (V : Valuation τ sig (Elt F)) : after postCOps V (Proc.devRef .tc main_v70) = Ref.flat (V (Proc.devRef .tc main_v63)) := by
  after_reads_simp
  rfl

/-- What the rearrangements are written into. -/
abbrev zi : IVec S65536 32 := broadcastInDim S65536 ![] bcast_S_S65536 (constantI S_ 32 0#32)
abbrev zf : FVec F S65536 .f32 := broadcastInDim S65536 ![] bcast_S_S65536 (constant (F := F) S_ .f32 0x00000000#32)

/-- What `postD0Ops` leaves as it was. -/
theorem postD0Ops_keep (V : Valuation τ sig (Elt F)) : after postD0Ops V (Proc.devRef .tc main_arg0) = V (Proc.devRef .tc main_arg0)
    ∧ after postD0Ops V (Proc.devRef .tc main_arg1) = V (Proc.devRef .tc main_arg1)
    ∧ after postD0Ops V (Proc.devRef .tc main_arg2) = V (Proc.devRef .tc main_arg2)
    ∧ after postD0Ops V (Proc.devRef .tc main_arg3) = V (Proc.devRef .tc main_arg3)
    ∧ after postD0Ops V (Proc.devRef .tc main_v18) = V (Proc.devRef .tc main_v18)
    ∧ after postD0Ops V (Proc.devRef .tc main_v20) = V (Proc.devRef .tc main_v20)
    ∧ after postD0Ops V (Proc.devRef .tc main_v70) = V (Proc.devRef .tc main_v70) := by
  refine ⟨?_, ?_, ?_, ?_, ?_, ?_, ?_⟩ <;> after_reads_simp

theorem D0_v80 (V : Valuation τ sig (Elt F)) : after postD0Ops V (Proc.devRef .tc main_v80)
    = Ref.spread (V (Proc.devRef .tc main_v70)) zi (V (Proc.devRef .tc main_v16)) := by
  after_reads_simp
  rfl

/-- What `postD1Ops` leaves as it was. -/
theorem postD1Ops_keep (V : Valuation τ sig (Elt F)) : after postD1Ops V (Proc.devRef .tc main_arg0) = V (Proc.devRef .tc main_arg0)
    ∧ after postD1Ops V (Proc.devRef .tc main_arg1) = V (Proc.devRef .tc main_arg1)
    ∧ after postD1Ops V (Proc.devRef .tc main_arg2) = V (Proc.devRef .tc main_arg2)
    ∧ after postD1Ops V (Proc.devRef .tc main_arg3) = V (Proc.devRef .tc main_arg3)
    ∧ after postD1Ops V (Proc.devRef .tc main_v20) = V (Proc.devRef .tc main_v20)
    ∧ after postD1Ops V (Proc.devRef .tc main_v70) = V (Proc.devRef .tc main_v70)
    ∧ after postD1Ops V (Proc.devRef .tc main_v80) = V (Proc.devRef .tc main_v80) := by
  refine ⟨?_, ?_, ?_, ?_, ?_, ?_, ?_⟩ <;> after_reads_simp

theorem D1_v90 (V : Valuation τ sig (Elt F)) : after postD1Ops V (Proc.devRef .tc main_v90)
    = Ref.spread (V (Proc.devRef .tc main_v70)) zf (V (Proc.devRef .tc main_v18)) := by
  after_reads_simp
  rfl

/-- What `postD2Ops` leaves as it was. -/
theorem postD2Ops_keep (V : Valuation τ sig (Elt F)) : after postD2Ops V (Proc.devRef .tc main_arg0) = V (Proc.devRef .tc main_arg0)
    ∧ after postD2Ops V (Proc.devRef .tc main_arg1) = V (Proc.devRef .tc main_arg1)
    ∧ after postD2Ops V (Proc.devRef .tc main_arg2) = V (Proc.devRef .tc main_arg2)
    ∧ after postD2Ops V (Proc.devRef .tc main_arg3) = V (Proc.devRef .tc main_arg3)
    ∧ after postD2Ops V (Proc.devRef .tc main_v80) = V (Proc.devRef .tc main_v80)
    ∧ after postD2Ops V (Proc.devRef .tc main_v90) = V (Proc.devRef .tc main_v90) := by
  refine ⟨?_, ?_, ?_, ?_, ?_, ?_⟩ <;> after_reads_simp

theorem D2_v100 (V : Valuation τ sig (Elt F)) : after postD2Ops V (Proc.devRef .tc main_v100)
    = Ref.spread (V (Proc.devRef .tc main_v70)) zf (V (Proc.devRef .tc main_v20)) := by
  after_reads_simp
  rfl

end Cert.Proof.WRef

end
-- ==== Proof.WsOk.lean ====
/-
  The whole program: what the first call hands to the second; every row of places it hands is a rearrangement; and the
  arguments stay.
-/
module

public import proofs.«01_k».proof.Proof.WsRun
public import proofs.«01_k».proof.Proof.WsEq
public import proofs.«01_k».proof.Proof.WRefVal
public import Idealize.ShloMosaic.Lib.Routing.OpsSearch
public import Idealize.ShloMosaic.Lib.Pointwise.Reshape
public import Idealize.ShloMosaic.Lib.ValueLayout

@[expose] public section

noncomputable section

namespace Cert.Proof.Wh

open Cert.WholeIdeal Cert.WholeIdeal.Gen

open Idealize.ShloMosaic hiding ix2 ix3
open Idealize.ShloMosaic.TcCoe Idealize.ShloMosaic.ValueIdx Idealize.ShloMosaic.Routing Idealize.ShloMosaic.StableHlo
open Idealize.SL.Sem
open Cert.Proof.Scat (RowOK back at4)

/-- A row of an example's results is its senders' results one after another. -/
theorem castRow : Cert.ReferenceIdeal.S16x8x512.ShapeCasts S16x4096 := by decide

section
variable {F : FTy → Type} [FloatOps F]

theorem mid_xt (V : Valuation τ sig (Elt F)) : after midOps V xt'
    = shapeCast S16x4096 (SRef.msgs (V (Proc.devRef .tc main_v5_0))) castRow := by
  refine Eq.trans (b := shapeCast S16x4096 (transpose S128x512 [1, 0] (V (Proc.devRef .tc main_v5_0)) transposes_S512x128_S128x512_1_0) shapeCasts_S128x512_S16x4096) ?_ ?_
  · rfl
  · unfold SRef.msgs
    exact (shapeCast_comp _ _ _).symm

theorem cast_rows (x : FVec F S512x128 .f32) : shapeCast S16x4096 (transpose S128x512 [1, 0] x transposes_S512x128_S128x512_1_0) shapeCasts_S128x512_S16x4096
    = shapeCast S16x4096 (WRef.rows x) castRow := by
  unfold WRef.rows
  exact (shapeCast_comp _ _ _).symm

theorem mid_xf (V : Valuation τ sig (Elt F)) : after midOps V xf'
    = concatenate S32x4096 0 [⟨S16x4096, shapeCast S16x4096 (WRef.rows (V (Proc.devRef .tc main_v5_1))) castRow⟩,
        ⟨S16x4096, shapeCast S16x4096 (WRef.rows (V (Proc.devRef .tc main_v5_2))) castRow⟩] concatenates_S16x4096_S16x4096_S32x4096_d0 := by
  rw [← cast_rows, ← cast_rows]
  after_reads_simp
  try rfl

theorem mid_xd (V : Valuation τ sig (Elt F)) : after midOps V xd'
    = shapeCast S16x4096 (transpose S128x512 [1, 0] (V (Proc.devRef .tc main_v5_3)) transposes_S512x128_S128x512_1_0) shapeCasts_S128x512_S16x4096 := by
  rfl

/-- The places in the order of the results, put back in the order of the examples. -/
theorem cast_places (t : IVec S512x128 32) : shapeCast S16x4096 (transpose S128x512 [1, 0] (SRef.places t) transposes_S512x128_S128x512_1_0) shapeCasts_S128x512_S16x4096
    = shapeCast S16x4096 (Dest.dest (Dest.lens (Dest.ended (SRef.msgs t)))) castRow := by
  have e : transpose S128x512 [1, 0] (SRef.places t) transposes_S512x128_S128x512_1_0
      = shapeCast S128x512 (Dest.dest (Dest.lens (Dest.ended (SRef.msgs t)))) Cert.SenderReferenceIdeal.Gen.shapeCasts_S16x8x512_S128x512 := by
    unfold SRef.places
    generalize shapeCast Cert.SenderReferenceIdeal.S128x512 (Dest.dest (Dest.lens (Dest.ended (SRef.msgs t)))) Cert.SenderReferenceIdeal.Gen.shapeCasts_S16x8x512_S128x512 = y
    funext j
    obtain ⟨a, b, rfl⟩ : ∃ (a : Fin 128) (b : Fin 512), j = ix2 a b := ⟨j 0, j 1, by funext a; match a with | 0 => rfl | 1 => rfl⟩
    exact (transpose_ix2_apply _ _ a b).trans (transpose_ix2_apply _ _ b a)
  rw [e]
  exact shapeCast_comp _ _ _

theorem pre_x0 (V : Valuation τ sig (Elt F)) : after preOps V (Proc.devRef .tc main_v1)
    = transpose S256x128 [1, 0] (shapeCast S128x256 (V (Proc.devRef .tc main_arg0)) shapeCasts_S16x8x256_S128x256) transposes_S128x256_S256x128_1_0 := by
  after_reads_simp
  try rfl
theorem pre_x1 (V : Valuation τ sig (Elt F)) : after preOps V (Proc.devRef .tc main_v2)
    = transpose S512x256 [1, 0] (V (Proc.devRef .tc main_arg1)) transposes_S256x512_S512x256_1_0 := by
  after_reads_simp
  try rfl
theorem pre_x2 (V : Valuation τ sig (Elt F)) : after preOps V (Proc.devRef .tc main_v3)
    = transpose S512x512 [1, 0] (V (Proc.devRef .tc main_arg2)) transposes_S512x512_S512x512_1_0 := by
  after_reads_simp
  try rfl
theorem pre_x3 (V : Valuation τ sig (Elt F)) : after preOps V (Proc.devRef .tc main_v4)
    = transpose S128x512 [1, 0] (V (Proc.devRef .tc main_arg3)) transposes_S512x128_S128x512_1_0 := by
  after_reads_simp
  try rfl

theorem pre_args (V : Valuation τ sig (Elt F)) : after preOps V (Proc.devRef .tc main_arg0) = V (Proc.devRef .tc main_arg0)
    ∧ after preOps V (Proc.devRef .tc main_arg1) = V (Proc.devRef .tc main_arg1) ∧ after preOps V (Proc.devRef .tc main_arg2) = V (Proc.devRef .tc main_arg2)
    ∧ after preOps V (Proc.devRef .tc main_arg3) = V (Proc.devRef .tc main_arg3) := by
  refine ⟨?_, ?_, ?_, ?_⟩ <;> after_reads_simp

theorem mid_args (V : Valuation τ sig (Elt F)) : after midOps V (Proc.devRef .tc main_arg0) = V (Proc.devRef .tc main_arg0)
    ∧ after midOps V (Proc.devRef .tc main_arg1) = V (Proc.devRef .tc main_arg1) ∧ after midOps V (Proc.devRef .tc main_arg2) = V (Proc.devRef .tc main_arg2)
    ∧ after midOps V (Proc.devRef .tc main_arg3) = V (Proc.devRef .tc main_arg3) := by
  refine ⟨?_, ?_, ?_, ?_⟩ <;> after_reads_simp

theorem post_args (V : Valuation τ sig (Elt F)) : after postOps V (Proc.devRef .tc main_arg0) = V (Proc.devRef .tc main_arg0)
    ∧ after postOps V (Proc.devRef .tc main_arg1) = V (Proc.devRef .tc main_arg1) ∧ after postOps V (Proc.devRef .tc main_arg2) = V (Proc.devRef .tc main_arg2)
    ∧ after postOps V (Proc.devRef .tc main_arg3) = V (Proc.devRef .tc main_arg3) := by
  refine ⟨?_, ?_, ?_, ?_⟩ <;> after_reads_simp

variable (m : (ℓ : Loc nD τ sig) → Buf (Elt F) ℓ)

theorem VX_args (d : Dev nD) : VX m d (Proc.devRef .tc main_arg0) = VP m d (Proc.devRef .tc main_arg0)
    ∧ VX m d (Proc.devRef .tc main_arg1) = VP m d (Proc.devRef .tc main_arg1) ∧ VX m d (Proc.devRef .tc main_arg2) = VP m d (Proc.devRef .tc main_arg2)
    ∧ VX m d (Proc.devRef .tc main_arg3) = VP m d (Proc.devRef .tc main_arg3) :=
  ⟨Pipeline.afterRegion_of_not_arr (Wt.dat (VP m) d) (VP m d) (b := main_arg0) (by decide), Pipeline.afterRegion_of_not_arr (Wt.dat (VP m) d) (VP m d) (b := main_arg1) (by decide),
    Pipeline.afterRegion_of_not_arr (Wt.dat (VP m) d) (VP m d) (b := main_arg2) (by decide), Pipeline.afterRegion_of_not_arr (Wt.dat (VP m) d) (VP m d) (b := main_arg3) (by decide)⟩

/-- The four operands of the first call. -/
abbrev P0 (d : Dev nD) := Wt.X0 (VP m) d
abbrev P1 (d : Dev nD) := Wt.X1 (VP m) d
abbrev P2 (d : Dev nD) := Wt.X2 (VP m) d
abbrev P3 (d : Dev nD) := Wt.X3 (VP m) d

theorem VX_0 (d : Dev nD) : VX m d (Proc.devRef .tc main_v5_0) = Tc.outTok (P0 m d) (P1 m d) (P2 m d) (P3 m d) :=
  ((Pipeline.afterRegion_arr (Wt.dat (VP m) d) (VP m d) launch0.win.arr_inj 4).trans (Wt.res4 (VP m) d)).trans (tok_same _ _ _ _)
theorem VX_1 (d : Dev nD) : VX m d (Proc.devRef .tc main_v5_1) = Tc.outLp (P0 m d) (P1 m d) (P2 m d) (P3 m d) :=
  ((Pipeline.afterRegion_arr (Wt.dat (VP m) d) (VP m d) launch0.win.arr_inj 5).trans (Wt.res5 (VP m) d)).trans (lp_same _ _ _ _)
theorem VX_2 (d : Dev nD) : VX m d (Proc.devRef .tc main_v5_2) = Tc.outEnt (P0 m d) (P1 m d) (P2 m d) (P3 m d) :=
  ((Pipeline.afterRegion_arr (Wt.dat (VP m) d) (VP m d) launch0.win.arr_inj 6).trans (Wt.res6 (VP m) d)).trans (ent_same _ _ _ _)
theorem VX_3 (d : Dev nD) : VX m d (Proc.devRef .tc main_v5_3) = Tc.outDest (F := F) (Tc.outTok (P0 m d) (P1 m d) (P2 m d) (P3 m d)) :=
  ((Pipeline.afterRegion_arr (Wt.dat (VP m) d) (VP m d) launch0.win.arr_inj 7).trans (Wt.res7 (VP m) d)).trans
    ((dest_same _).trans (congrArg (Tc.outDest (F := F)) (tok_same _ _ _ _)))

variable {m}

theorem V2_args (hX : (feed m).OK) (d : Dev nD) : V2 m hX d (Proc.devRef .tc main_arg0) = m (d, (Proc.devRef .tc main_arg0))
    ∧ V2 m hX d (Proc.devRef .tc main_arg1) = m (d, (Proc.devRef .tc main_arg1)) ∧ V2 m hX d (Proc.devRef .tc main_arg2) = m (d, (Proc.devRef .tc main_arg2))
    ∧ V2 m hX d (Proc.devRef .tc main_arg3) = m (d, (Proc.devRef .tc main_arg3)) := by
  unfold V2
  obtain ⟨p0, p1, p2, p3⟩ := post_args (V1 m hX d)
  obtain ⟨q0, q1, q2, q3⟩ := mid_args (VX m d)
  obtain ⟨x0, x1, x2, x3⟩ := VX_args m d
  obtain ⟨r0, r1, r2, r3⟩ := pre_args (V0 m d)
  exact ⟨p0.trans ((V1_ne m hX d _ (by decide) (by decide)).trans (q0.trans (x0.trans r0))), p1.trans ((V1_ne m hX d _ (by decide) (by decide)).trans (q1.trans (x1.trans r1))),
    p2.trans ((V1_ne m hX d _ (by decide) (by decide)).trans (q2.trans (x2.trans r2))), p3.trans ((V1_ne m hX d _ (by decide) (by decide)).trans (q3.trans (x3.trans r3)))⟩

end

variable (m : (ℓ : Loc nD τ sig) → Buf (Elt Ideal) ℓ) (ρ : Dev nD → PrngReg)

/-- The messages that the first call hands on. -/
abbrev tk (d : Dev nD) : IVec S512x128 32 := Tc.outTok (F := Ideal) (P0 m d) (P1 m d) (P2 m d) (P3 m d)

/-- Their places. -/
abbrev plc (d : Dev nD) : IVec Cert.ReferenceIdeal.S16x8x512 32 := Dest.dest (Dest.lens (Dest.ended (SRef.msgs (tk m d))))

theorem xt_eq (d : Dev nD) : (feed m).XT d = shapeCast S16x4096 (SRef.msgs (tk m d)) castRow := by
  have e := mid_xt (VX m d)
  rw [VX_0] at e
  exact e

theorem xd_eq (d : Dev nD) : (feed m).XD d = shapeCast S16x4096 (plc m d) castRow := by
  have e := mid_xd (VX m d)
  rw [VX_3, SM.dest_eq] at e
  exact e.trans (cast_places _)

/-- Row `b` of the places, byte by byte. -/
theorem dRow_at (d : Dev nD) (b : Fin 16) (s : Fin 8) (l : Fin 512) :
    (feed m).dRow d b (at4 ⟨s.val * 512 + l.val, by omega⟩) = plc m d (ix3 b s l) := by
  have hi : ixi b (⟨s.val * 512 + l.val, by omega⟩ : Fin 4096) = ix2 b (⟨s.val * 512 + l.val, by omega⟩ : Fin 4096) := by
    funext a; match a with | 0 => rfl | 1 => rfl
  show (feed m).XD d (ixi b (⟨s.val * 512 + l.val, by omega⟩ : Fin 4096)) = _
  rw [xd_eq, hi]
  exact cast32 _ castRow rfl b s l ⟨s.val * 512 + l.val, by omega⟩ rfl

theorem feed_ok : (feed m).OK := fun d b =>
  Dest.rowOK _ (fun b s => Dest.lens_le _ b s) b _ fun s l => dRow_at m d b s l

/-- The run, read at its arguments and counters. -/
theorem run_frame :
    θ_run (Cert.WholeIdeal.defs (F := Ideal)) (Cert.WholeIdeal.threads (F := Ideal)) ⟨m, fun _ => 0, ρ⟩ fun r => (∀ c : Dev nD,
      r.2.mem (c, (Proc.devRef .tc main_arg0 : DevRef τ sig)) = m (c, (Proc.devRef .tc main_arg0 : DevRef τ sig)) ∧ r.2.mem (c, (Proc.devRef .tc main_arg1 : DevRef τ sig)) = m (c, (Proc.devRef .tc main_arg1 : DevRef τ sig))
      ∧ r.2.mem (c, (Proc.devRef .tc main_arg2 : DevRef τ sig)) = m (c, (Proc.devRef .tc main_arg2 : DevRef τ sig)) ∧ r.2.mem (c, (Proc.devRef .tc main_arg3 : DevRef τ sig)) = m (c, (Proc.devRef .tc main_arg3 : DevRef τ sig)))
      ∧ r.2.sem = fun _ => 0 :=
  (θ_run (Cert.WholeIdeal.defs (F := Ideal)) _ _).mono (fun r hr => ⟨fun c =>
      ⟨(hr.1 c _ (by decide)).trans (V2_args (feed_ok m) c).1, (hr.1 c _ (by decide)).trans (V2_args (feed_ok m) c).2.1,
        (hr.1 c _ (by decide)).trans (V2_args (feed_ok m) c).2.2.1, (hr.1 c _ (by decide)).trans (V2_args (feed_ok m) c).2.2.2⟩, hr.2⟩)
    (run_main m ρ (feed_ok m))

end Cert.Proof.Wh

end
-- ==== Proof.WsVal.lean ====
/-
  What the whole program leaves, against the reference's rearrangements.
-/
module

public import proofs.«01_k».proof.Proof.WsOk
public import proofs.«01_k».proof.Proof.RefScat
public import proofs.«01_k».proof.Proof.SCol
public import proofs.«01_k».proof.Proof.SPre

@[expose] public section

noncomputable section

namespace Cert.Proof.Wh

open Cert.WholeIdeal Cert.WholeIdeal.Gen

open Idealize.ShloMosaic hiding ix2 ix3
open Idealize.ShloMosaic.TcCoe Idealize.ShloMosaic.ValueIdx Idealize.ShloMosaic.Routing Idealize.ShloMosaic.StableHlo
open Idealize.SL.Sem
open Cert.Proof.Scat (RowOK back at4)

/-- The program's results, taken from its buffers before and after the second call. -/
theorem post_oi {F : FTy → Type} [FloatOps F] (V : Valuation τ sig (Elt F)) : after postOps V (Proc.devRef .tc main_v15_1) = V (Proc.devRef .tc main_v15_1) := by
  after_reads_simp

theorem post_v6 {F : FTy → Type} [FloatOps F] (V : Valuation τ sig (Elt F)) : after postOps V (Proc.devRef .tc main_v16)
    = extractStridedSlice S16x4096 ![0, 0] (V (Proc.devRef .tc main_v15_0)) slices_S32x4096_S16x4096_0_0 := by
  after_reads_simp

theorem post_v7 {F : FTy → Type} [FloatOps F] (V : Valuation τ sig (Elt F)) : after postOps V (Proc.devRef .tc main_v17)
    = extractStridedSlice S16x4096 ![16, 0] (V (Proc.devRef .tc main_v15_0)) slices_S32x4096_S16x4096_16_0 := by
  after_reads_simp

variable (m : (ℓ : Loc nD τ sig) → Buf (Elt Ideal) ℓ)

/-- The other two results of the first call. -/
abbrev lq (d : Dev nD) : FVec Ideal S512x128 .f32 := Tc.outLp (P0 m d) (P1 m d) (P2 m d) (P3 m d)
abbrev eq' (d : Dev nD) : FVec Ideal S512x128 .f32 := Tc.outEnt (P0 m d) (P1 m d) (P2 m d) (P3 m d)

theorem xf_eq (d : Dev nD) : (feed m).XF d = concatenate S32x4096 0 [⟨S16x4096, shapeCast S16x4096 (WRef.rows (lq m d)) castRow⟩,
    ⟨S16x4096, shapeCast S16x4096 (WRef.rows (eq' m d)) castRow⟩] concatenates_S16x4096_S16x4096_S32x4096_d0 := by
  have e := mid_xf (VX m d)
  rw [VX_1, VX_2] at e
  exact e

variable {m}

theorem spread_row {α : Type} (d : Dev nD) (z : Cert.ReferenceIdeal.S65536.Idx → α) (u : Cert.ReferenceIdeal.S16x8x512.Idx → α) (b : Fin 16) (i : Fin 4096)
    (hr : RowOK ((feed m).dRow d b)) :
    Ref.spread (Ref.flat (plc m d)) z u (ix2 b i) = shapeCast S16x4096 u castRow (ix2 b (back ((feed m).dRow d b) hr i)) :=
  Ref.spread_apply _ (fun b s => Dest.lens_le _ b s) z u castRow b _ hr (fun s l => dRow_at m d b s l) i

theorem ixi_eq (b : Fin 16) (i : Fin 4096) : ixi b i = ix2 b i := by funext a; match a with | 0 => rfl | 1 => rfl

theorem res0 (d : Dev nD) (z : Cert.ReferenceIdeal.S65536.Idx → BitVec 32) :
    V2 m (feed_ok m) d (Proc.devRef .tc main_v15_1) = Ref.spread (Ref.flat (plc m d)) z (SRef.msgs (tk m d)) := by
  unfold V2
  rw [post_oi]
  refine (V1_oi m (feed_ok m) d).trans (funext fun j => ?_)
  obtain ⟨b, i, rfl⟩ : ∃ (b : Fin 16) (i : Fin 4096), j = ix2 b i := ⟨j 0, j 1, by funext a; match a with | 0 => rfl | 1 => rfl⟩
  rw [spread_row d z _ b i (feed_ok m d b)]
  have e := xt_eq m d
  show (feed m).XT d (ixi b (back ((feed m).dRow d b) (feed_ok m d b) i)) = _
  rw [e, ixi_eq]

theorem XF_lo (d : Dev nD) (b : Fin 16) (k : Fin 4096) : (feed m).XF d (ixf ⟨b.val, by omega⟩ k)
    = shapeCast S16x4096 (WRef.rows (lq m d)) castRow (ix2 b k) := by
  have e := xf_eq m d
  refine (congrFun e (ixf ⟨b.val, by omega⟩ k)).trans ?_
  exact concatenate_pair_apply_left 0 _ _ concatenates_S16x4096_S16x4096_S32x4096_d0 _ rfl (ix2 b k) fun a => by match a with | 0 => rfl | 1 => rfl

theorem XF_hi (d : Dev nD) (b : Fin 16) (k : Fin 4096) : (feed m).XF d (ixf ⟨16 + b.val, by omega⟩ k)
    = shapeCast S16x4096 (WRef.rows (eq' m d)) castRow (ix2 b k) := by
  have e := xf_eq m d
  refine (congrFun e (ixf ⟨16 + b.val, by omega⟩ k)).trans ?_
  exact concatenate_pair_apply_right 0 _ _ concatenates_S16x4096_S16x4096_S32x4096_d0 _ rfl rfl (ix2 b k)
    (fun a ha => by match a with | 0 => exact absurd rfl ha | 1 => rfl) (Nat.add_comm b.val 16)

theorem res1 (d : Dev nD) (z : Cert.ReferenceIdeal.S65536.Idx → Ideal .f32) :
    V2 m (feed_ok m) d (Proc.devRef .tc main_v16) = Ref.spread (Ref.flat (plc m d)) z (WRef.rows (lq m d)) := by
  unfold V2
  rw [post_v6]
  refine funext fun j => ?_
  obtain ⟨b, i, rfl⟩ : ∃ (b : Fin 16) (i : Fin 4096), j = ix2 b i := ⟨j 0, j 1, by funext a; match a with | 0 => rfl | 1 => rfl⟩
  rw [spread_row d z _ b i (feed_ok m d b)]
  have hb : Feed.bOf ⟨b.val, by omega⟩ = b := Fin.ext (Nat.mod_eq_of_lt b.isLt)
  refine (extractStridedSlice_apply ![0, 0] _ slices_S32x4096_S16x4096_0_0 (ix2 b i) (ixf ⟨b.val, by omega⟩ i)
    (fun a => by match a with | 0 => exact (Nat.zero_add _).symm | 1 => exact (Nat.zero_add _).symm)).trans ?_
  refine (congrFun (V1_of m (feed_ok m) d) _).trans ?_
  show (feed m).XF d (ixf ⟨b.val, by omega⟩ (back ((feed m).dRow d (Feed.bOf ⟨b.val, by omega⟩)) (feed_ok m d _) i)) = _
  rw [XF_lo]
  simp only [hb]

theorem res2 (d : Dev nD) (z : Cert.ReferenceIdeal.S65536.Idx → Ideal .f32) :
    V2 m (feed_ok m) d (Proc.devRef .tc main_v17) = Ref.spread (Ref.flat (plc m d)) z (WRef.rows (eq' m d)) := by
  unfold V2
  rw [post_v7]
  refine funext fun j => ?_
  obtain ⟨b, i, rfl⟩ : ∃ (b : Fin 16) (i : Fin 4096), j = ix2 b i := ⟨j 0, j 1, by funext a; match a with | 0 => rfl | 1 => rfl⟩
  rw [spread_row d z _ b i (feed_ok m d b)]
  have hb : Feed.bOf ⟨16 + b.val, by omega⟩ = b := Fin.ext (by show (16 + b.val) % 16 = b.val; omega)
  refine (extractStridedSlice_apply ![16, 0] _ slices_S32x4096_S16x4096_16_0 (ix2 b i) (ixf ⟨16 + b.val, by omega⟩ i)
    (fun a => by match a with | 0 => rfl | 1 => exact (Nat.zero_add _).symm)).trans ?_
  refine (congrFun (V1_of m (feed_ok m) d) _).trans ?_
  show (feed m).XF d (ixf ⟨16 + b.val, by omega⟩ (back ((feed m).dRow d (Feed.bOf ⟨16 + b.val, by omega⟩)) (feed_ok m d _) i)) = _
  rw [XF_hi]
  simp only [hb]

/-! ## The first call, of the program's arguments -/

variable (m)

theorem P0_eq (d : Dev nD) : P0 m d = SM.Y0 (m (d, (Proc.devRef .tc main_arg0))) := pre_x0 (V0 m d)
theorem P1_eq (d : Dev nD) : P1 m d = SM.Y1 (m (d, (Proc.devRef .tc main_arg1))) := pre_x1 (V0 m d)
theorem P2_eq (d : Dev nD) : P2 m d = SM.Y2 (m (d, (Proc.devRef .tc main_arg2))) := pre_x2 (V0 m d)
theorem P3_eq (d : Dev nD) : P3 m d = SM.Y3 (m (d, (Proc.devRef .tc main_arg3))) := pre_x3 (V0 m d)

/-- The reference's logits, of this program's arguments. -/
abbrev zz (d : Dev nD) := SM.zz (m (d, (Proc.devRef .tc main_arg0))) (m (d, (Proc.devRef .tc main_arg1))) (m (d, (Proc.devRef .tc main_arg2))) (m (d, (Proc.devRef .tc main_arg3)))

variable (hreal : ∀ (d : Dev nD) (j : Fin 512) (k : Fin 128), ∃ r : ℝ, (m (d, (Proc.devRef .tc main_arg3))) (ix2 j k) = (r : EReal))
include hreal

theorem tk_eq (d : Dev nD) : tk m d = SRef.toks (F := Ideal) (zz m d) := by
  unfold tk
  rw [P0_eq, P1_eq, P2_eq, P3_eq]
  exact SM.tok_eq _ _ _ _ (hreal d)

theorem lq_eq (d : Dev nD) : lq m d = SRef.lps (SRef.lsm (zz m d)) (SRef.toks (zz m d)) := by
  unfold lq
  rw [P0_eq, P1_eq, P2_eq, P3_eq]
  exact SM.lp_eq _ _ _ _ (hreal d)

theorem eq_eq (d : Dev nD) : eq' m d = SRef.ents (SRef.lsm (zz m d)) := by
  unfold eq'
  rw [P0_eq, P1_eq, P2_eq, P3_eq]
  exact SM.ent_eq _ _ _ _ (hreal d)

end Cert.Proof.Wh

end
-- ==== Proof.WRefRun.lean ====
/-
  The whole's reference, run: its results and its arguments at the end.
-/
module

public import proofs.«01_k».proof.Proof.WRefVal
public import Idealize.ShloMosaic.Lib.ValueIdx

@[expose] public section

set_option maxRecDepth 100000

noncomputable section

namespace Cert.Proof.WRef

open Idealize.ShloMosaic Idealize.ShloMosaic.TcCoe Idealize.ShloMosaic.StableHlo Idealize.SL.Sem Idealize.ShloMosaic.ValueIdx
open Cert.WholeReferenceIdeal Cert.WholeReferenceIdeal.Gen
open Cert.Proof.SRef (state0 next state put logits shifted lsm toks words lps ents msgs put_apply)

variable {F : FTy → Type} [FloatOps F]

variable (m : (ℓ : Loc nD τ sig) → Buf (Elt F) ℓ) (ρ : Dev nD → PrngReg) (c : Dev nD)

/-- The state after `k` steps, of the arguments as they are at the start. -/
def stateAt (k : ℕ) : FVec F S128x512 .f32 :=
  state (m (c, Proc.devRef .tc main_arg0)) (m (c, Proc.devRef .tc main_arg1)) (m (c, Proc.devRef .tc main_arg2)) k

/-- All the states after a step. -/
def hist : FVec F S512x128x512 .f32 := fun i => stateAt m c ((i 0).val + 1) (ix2 (i 1) (i 2))

theorem atK_keep : ∀ k, atK m k c (Proc.devRef .tc main_arg0) = m (c, (Proc.devRef .tc main_arg0))
    ∧ atK m k c (Proc.devRef .tc main_arg1) = m (c, (Proc.devRef .tc main_arg1))
    ∧ atK m k c (Proc.devRef .tc main_arg2) = m (c, (Proc.devRef .tc main_arg2))
    ∧ atK m k c (Proc.devRef .tc main_arg3) = m (c, (Proc.devRef .tc main_arg3))
    ∧ atK m k c (Proc.devRef .tc main_v4_0) = m (c, (Proc.devRef .tc main_arg2))
    ∧ atK m k c (Proc.devRef .tc main_v4_2) = stateAt m c k
  | 0 => by
    rw [show atK m 0 c = after preOps (fun b => m (c, b)) from rfl]
    obtain ⟨h0, h1, h2, h3⟩ := preOps_keep (fun b => m (c, b))
    exact ⟨h0, h1, h2, h3, pre_w _, pre_state _⟩
  | k + 1 => by
    rw [show atK m (k + 1) c = after bodyOps (after condOps (atK m k c)) from rfl]
    obtain ⟨i0, i1, i2, i3, iw, is⟩ := atK_keep k
    obtain ⟨c0, c1, c2, c3, cw, -, cs, -⟩ := condOps_keep (atK m k c)
    obtain ⟨b0, b1, b2, b3, bw⟩ := bodyOps_keep (after condOps (atK m k c))
    refine ⟨b0.trans (c0.trans i0), b1.trans (c1.trans i1), b2.trans (c2.trans i2), b3.trans (c3.trans i3), bw.trans (cw.trans iw), ?_⟩
    rw [body_state, cw, cs, iw, is]
    rfl

theorem atK_hist : ∀ k, k ≤ 512 → ∀ (i : Fin 512) (n : Fin 128) (j : Fin 512), i.val < k →
    (atK m k c (Proc.devRef .tc main_v4_3) : FVec F S512x128x512 .f32) (ix3 i n j) = stateAt m c (i.val + 1) (ix2 n j)
  | 0, _, i, _, _, h => absurd h (Nat.not_lt_zero _)
  | k + 1, hk, i, n, j, h => by
    obtain ⟨-, -, -, -, iw, is⟩ := atK_keep m c k
    obtain ⟨-, -, -, -, cw, cc, cs, ch⟩ := condOps_keep (atK m k c)
    have e : (atK m (k + 1) c (Proc.devRef .tc main_v4_3) : FVec F S512x128x512 .f32)
        = put (atK m k c (Proc.devRef .tc main_v4_3)) (fun _ => Scf.iv 0#32 1#32 k) (stateAt m c (k + 1)) := by
      rw [show atK m (k + 1) c = after bodyOps (after condOps (atK m k c)) from rfl, body_put, cw, cc, cs, ch, iw, is, atK_ctr]
      rfl
    rw [e, put_apply _ _ _ (by omega)]
    split
    · next hi => rw [hi]
    · next hi => exact atK_hist k (by omega) i n j (by omega)

/-- The buffers after the loop. -/
abbrev V5 : Valuation τ sig (Elt F) := after condOps (atK m 512 c)

theorem V5_hist : (V5 m c (Proc.devRef .tc main_v4_3) : FVec F S512x128x512 .f32) = hist m c := by
  rw [show V5 m c = after condOps (atK m 512 c) from rfl, (condOps_keep _).2.2.2.2.2.2.2]
  funext i
  have e : i = ix3 (i 0) (i 1) (i 2) := by
    funext a
    match a with
    | 0 => rfl
    | 1 => rfl
    | 2 => rfl
  rw [e]
  exact atK_hist m c 512 (Nat.le_refl _) (i 0) (i 1) (i 2) (i 0).isLt

theorem V5_args : V5 m c (Proc.devRef .tc main_arg0) = m (c, (Proc.devRef .tc main_arg0))
    ∧ V5 m c (Proc.devRef .tc main_arg1) = m (c, (Proc.devRef .tc main_arg1))
    ∧ V5 m c (Proc.devRef .tc main_arg2) = m (c, (Proc.devRef .tc main_arg2))
    ∧ V5 m c (Proc.devRef .tc main_arg3) = m (c, (Proc.devRef .tc main_arg3)) := by
  obtain ⟨i0, i1, i2, i3, -, -⟩ := atK_keep m c 512
  obtain ⟨k0, k1, k2, k3, -⟩ := condOps_keep (atK m 512 c)
  exact ⟨k0.trans i0, k1.trans i1, k2.trans i2, k3.trans i3⟩

/-- The logits of all steps. -/
def zs : FVec F S512x128x128 .f32 := logits (hist m c) (m (c, (Proc.devRef .tc main_arg3)))

/-- The buffers at the end. -/
abbrev VE : Valuation τ sig (Elt F) := finalContents condOps preI bodyI postI 512 m c

theorem v5_eq : (after postA0Ops (V5 m c) (Proc.devRef .tc main_v5) : FVec F S512x128x128 .f32) = zs m c := by
  rw [A0_v5, V5_hist, (V5_args m c).2.2.2]
  rfl

/-- The buffers when the tokens, the log-probabilities and the entropies are there. -/
def VT : Valuation τ sig (Elt F) := after postA2Ops (after postA1Ops (after postA0Ops (V5 m c)))

theorem VT_v7 : VT m c (Proc.devRef .tc main_v7) = toks (zs m c) := by
  unfold VT
  rw [A2_v7, (postA1Ops_keep _).2.2.2.2, v5_eq]

theorem VT_v10 : VT m c (Proc.devRef .tc main_v10) = lps (lsm (zs m c)) (toks (zs m c)) := by
  unfold VT
  rw [A2_v10, (postA1Ops_keep _).2.2.2.2, A1_v6, v5_eq]

theorem VT_v14 : VT m c (Proc.devRef .tc main_v14) = ents (lsm (zs m c)) := by
  unfold VT
  rw [A2_v14, A1_v6, v5_eq]

/-- The buffers when the places are there, among all examples' bytes. -/
def VF : Valuation τ sig (Elt F) := after postCOps (after postB3Ops (after postB2Ops (after postB1Ops (VT m c))))

theorem VF_v16 : VF m c (Proc.devRef .tc main_v16) = msgs (toks (zs m c)) := by
  unfold VF
  rw [(postCOps_keep _).2.2.2.2.1, (postB3Ops_keep _).2.2.2.2.1, (postB2Ops_keep _).2.2.2.2.1, B1_v16, VT_v7]

theorem VF_v18 : VF m c (Proc.devRef .tc main_v18) = rows (lps (lsm (zs m c)) (toks (zs m c))) := by
  unfold VF
  rw [(postCOps_keep _).2.2.2.2.2.1, (postB3Ops_keep _).2.2.2.2.2.1, (postB2Ops_keep _).2.2.2.2.2.1, B1_v18, VT_v10]

theorem VF_v20 : VF m c (Proc.devRef .tc main_v20) = rows (ents (lsm (zs m c))) := by
  unfold VF
  rw [(postCOps_keep _).2.2.2.2.2.2, (postB3Ops_keep _).2.2.2.2.2.2, (postB2Ops_keep _).2.2.2.2.2.2.1, B1_v20, VT_v14]

/-- The places among all examples' bytes, from the logits. -/
abbrev spots : IVec S65536 32 := Ref.flat (Dest.dest (Dest.lens (Dest.ended (msgs (toks (zs m c))))))

theorem VF_v70 : VF m c (Proc.devRef .tc main_v70) = spots m c := by
  unfold VF
  rw [C_v70, B3_v63, B2_v37, B2_v38, B2_v42, (postB2Ops_keep _).2.2.2.2.2.2.2, B1_v35, VT_v7]
  rfl

theorem VE_eq : VE m c = after postD2Ops (after postD1Ops (after postD0Ops (VF m c))) := rfl

theorem VE_args : VE m c (Proc.devRef .tc main_arg0) = m (c, (Proc.devRef .tc main_arg0))
    ∧ VE m c (Proc.devRef .tc main_arg1) = m (c, (Proc.devRef .tc main_arg1))
    ∧ VE m c (Proc.devRef .tc main_arg2) = m (c, (Proc.devRef .tc main_arg2))
    ∧ VE m c (Proc.devRef .tc main_arg3) = m (c, (Proc.devRef .tc main_arg3)) := by
  rw [VE_eq]
  unfold VF VT
  refine ⟨?_, ?_, ?_, ?_⟩
  · rw [(postD2Ops_keep _).1, (postD1Ops_keep _).1, (postD0Ops_keep _).1, (postCOps_keep _).1, (postB3Ops_keep _).1, (postB2Ops_keep _).1, (postB1Ops_keep _).1, (postA2Ops_keep _).1, (postA1Ops_keep _).1, (postA0Ops_keep _).1, (V5_args m c).1]
  · rw [(postD2Ops_keep _).2.1, (postD1Ops_keep _).2.1, (postD0Ops_keep _).2.1, (postCOps_keep _).2.1, (postB3Ops_keep _).2.1, (postB2Ops_keep _).2.1, (postB1Ops_keep _).2.1, (postA2Ops_keep _).2.1, (postA1Ops_keep _).2.1, (postA0Ops_keep _).2.1, (V5_args m c).2.1]
  · rw [(postD2Ops_keep _).2.2.1, (postD1Ops_keep _).2.2.1, (postD0Ops_keep _).2.2.1, (postCOps_keep _).2.2.1, (postB3Ops_keep _).2.2.1, (postB2Ops_keep _).2.2.1, (postB1Ops_keep _).2.2.1, (postA2Ops_keep _).2.2.1, (postA1Ops_keep _).2.2.1, (postA0Ops_keep _).2.2.1, (V5_args m c).2.2.1]
  · rw [(postD2Ops_keep _).2.2.2.1, (postD1Ops_keep _).2.2.2.1, (postD0Ops_keep _).2.2.2.1, (postCOps_keep _).2.2.2.1, (postB3Ops_keep _).2.2.2.1, (postB2Ops_keep _).2.2.2.1, (postB1Ops_keep _).2.2.2, (postA2Ops_keep _).2.2.2, (postA1Ops_keep _).2.2.2.1, (postA0Ops_keep _).2.2.2, (V5_args m c).2.2.2]

theorem VE_v80 : VE m c (Proc.devRef .tc main_v80) = Ref.spread (spots m c) zi (msgs (toks (zs m c))) := by
  rw [VE_eq, (postD2Ops_keep _).2.2.2.2.1, (postD1Ops_keep _).2.2.2.2.2.2, D0_v80, VF_v70, VF_v16]

theorem VE_v90 : VE m c (Proc.devRef .tc main_v90) = Ref.spread (spots m c) zf (rows (lps (lsm (zs m c)) (toks (zs m c)))) := by
  rw [VE_eq, (postD2Ops_keep _).2.2.2.2.2, D1_v90, (postD0Ops_keep _).2.2.2.2.2.2, (postD0Ops_keep _).2.2.2.2.1, VF_v70, VF_v18]

theorem VE_v100 : VE m c (Proc.devRef .tc main_v100) = Ref.spread (spots m c) zf (rows (ents (lsm (zs m c)))) := by
  rw [VE_eq, D2_v100, (postD1Ops_keep _).2.2.2.2.2.1, (postD0Ops_keep _).2.2.2.2.2.2, (postD1Ops_keep _).2.2.2.2.1, (postD0Ops_keep _).2.2.2.2.2.1, VF_v70, VF_v20]

/-- From any memory with zero counters, every execution ends with the results at their terms, the arguments as they were and
    the counters at zero. -/
theorem run_vals : θ_run (defs (F := F)) (onTc (τ := τ) (main (F := F))) ⟨m, fun _ => 0, ρ⟩ (fun r => (∀ c : Dev nD,
      r.2.mem ((c.tc : Thread nD τ).loc main_v80) = Ref.spread (spots m c) zi (msgs (toks (zs m c)))
      ∧ r.2.mem ((c.tc : Thread nD τ).loc main_v90) = Ref.spread (spots m c) zf (rows (lps (lsm (zs m c)) (toks (zs m c))))
      ∧ r.2.mem ((c.tc : Thread nD τ).loc main_v100) = Ref.spread (spots m c) zf (rows (ents (lsm (zs m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun r h => ⟨fun c =>
      ⟨(h c main_v80 (by decide)).trans (VE_v80 m c), (h c main_v90 (by decide)).trans (VE_v90 m c), (h c main_v100 (by decide)).trans (VE_v100 m c),
        (h c main_arg0 (by decide)).trans (VE_args m c).1, (h c main_arg1 (by decide)).trans (VE_args m c).2.1,
        (h c main_arg2 (by decide)).trans (VE_args m c).2.2.1, (h c main_arg3 (by decide)).trans (VE_args m c).2.2.2⟩,
      Idealize.ShloMosaic.sem_eq_zero_of_no_sems (by decide) r.2⟩)
    (run_fold m ρ)

end Cert.Proof.WRef

end
-- ==== Proof.lean ====
/-
  The claims, from the two programs' runs and the reference's.
-/
module

public import proofs.«01_k».proof.Defs
public import proofs.«01_k».proof.Proof.ScVal
public import proofs.«01_k».proof.Proof.ScOkB
public import proofs.«01_k».proof.Proof.TcLaunchB
public import proofs.«01_k».proof.Proof.SRun
public import proofs.«01_k».proof.Proof.SCol
public import proofs.«01_k».proof.Proof.SPre
public import proofs.«01_k».proof.Proof.SDestEq
public import proofs.«01_k».proof.Proof.WsVal
public import proofs.«01_k».proof.Proof.WRefRun
public import proofs.«01_k».proof.Proof.Gen.Kernel
public import proofs.«01_k».proof.Proof.Gen.KernelIdeal
public import proofs.«01_k».proof.Proof.Gen.ReferenceIdeal
public import proofs.«01_k».proof.Proof.Gen.Pre_dest_of_messages
public import proofs.«01_k».proof.Proof.Gen.Pre_finite_readout
public import proofs.«01_k».proof.Proof.Gen.Sender.Skeleton
public import proofs.«01_k».proof.Proof.Gen.SenderIdeal.Skeleton
public import proofs.«01_k».proof.Proof.Gen.SenderReferenceIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.WholeReferenceIdeal
public import Idealize.ShloMosaic.Lib.Quiescent

@[expose] public section

noncomputable section

namespace Cert.Proof

open Idealize.ShloMosaic Idealize.ShloMosaic.TcCoe Idealize.ShloMosaic.StableHlo Idealize.SL.Sem

theorem placed_P (m : (ℓ : Loc Cert.Kernel.nD Cert.Kernel.τ Cert.Kernel.sig) → Buf (Elt Bits) ℓ) (h : Cert.Pre_Kernel m) : ScB.Placed m := fun d =>
  Dest.of_pre (F := Bits) _ _ _ _ (fun a => a.elim0) (congrFun (h d) (fun a => a.elim0))

theorem placed_PI (m : (ℓ : Loc Cert.KernelIdeal.nD Cert.KernelIdeal.τ Cert.KernelIdeal.sig) → Buf (Elt Ideal) ℓ) (h : Cert.Pre_KernelIdeal m) : Sc.Placed m := fun d =>
  Dest.of_pre (F := Ideal) _ _ _ _ (fun a => a.elim0) (congrFun (h d) (fun a => a.elim0))

theorem frame_P : Cert.quiescent_Kernel := fun m g h => ScB.run_frame g (placed_P m h)

theorem frame_PI : Cert.quiescent_KernelIdeal := fun m g h => Sc.run_frame g (placed_PI m h)

/-- The reference's run, read at its arguments and counters. -/
theorem run_RI (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c =>
      ⟨(h c Cert.ReferenceIdeal.main_arg0).trans (Ref.args_eq _).1, (h c Cert.ReferenceIdeal.main_arg1).trans (Ref.args_eq _).2.1,
        (h c Cert.ReferenceIdeal.main_arg2).trans (Ref.args_eq _).2.2.1, (h c Cert.ReferenceIdeal.main_arg3).trans (Ref.args_eq _).2.2.2⟩,
      Idealize.ShloMosaic.sem_eq_zero_of_no_sems (by decide) r.2⟩)
    (Ref.run_main (F := Ideal) m g)

theorem frame_RI : Cert.quiescent_ReferenceIdeal := fun m g _ => run_RI m g

theorem frame_RI_pre : Cert.quiescent_ReferenceIdeal_pre_dest_of_messages := fun m g _ => run_RI m g

theorem conforms : Cert.algebraic_KernelIdeal_ReferenceIdeal := by
  intro m g m' g' hpre hagree
  have hP := placed_PI m hpre
  refine ⟨fun c => Sc.V2 m (Sc.feed_ok hP) c (Cert.KernelIdeal.main_v5_1 : DevRef Cert.KernelIdeal.τ Cert.KernelIdeal.sig),
    fun c => Sc.V2 m (Sc.feed_ok hP) c (Cert.KernelIdeal.main_v6 : DevRef Cert.KernelIdeal.τ Cert.KernelIdeal.sig),
    fun c => Sc.V2 m (Sc.feed_ok hP) c (Cert.KernelIdeal.main_v7 : DevRef Cert.KernelIdeal.τ Cert.KernelIdeal.sig), ?_, ?_⟩
  · refine (θ_run Cert.KernelIdeal.defs _ _).mono (fun r hr c => ?_) (Sc.run_main m g (Sc.feed_ok hP))
    have ha := Sc.V2_args (Sc.feed_ok hP) c
    exact ⟨(hr.1 c (Cert.KernelIdeal.main_v5_1 : DevRef Cert.KernelIdeal.τ Cert.KernelIdeal.sig) (by decide)),
      (hr.1 c (Cert.KernelIdeal.main_v6 : DevRef Cert.KernelIdeal.τ Cert.KernelIdeal.sig) (by decide)),
      (hr.1 c (Cert.KernelIdeal.main_v7 : DevRef Cert.KernelIdeal.τ Cert.KernelIdeal.sig) (by decide)),
      (hr.1 c (Cert.KernelIdeal.main_arg0 : DevRef Cert.KernelIdeal.τ Cert.KernelIdeal.sig) (by decide)).trans ha.1,
      (hr.1 c (Cert.KernelIdeal.main_arg1 : DevRef Cert.KernelIdeal.τ Cert.KernelIdeal.sig) (by decide)).trans ha.2.1,
      (hr.1 c (Cert.KernelIdeal.main_arg2 : DevRef Cert.KernelIdeal.τ Cert.KernelIdeal.sig) (by decide)).trans ha.2.2.1,
      (hr.1 c (Cert.KernelIdeal.main_arg3 : DevRef Cert.KernelIdeal.τ Cert.KernelIdeal.sig) (by decide)).trans ha.2.2.2⟩
  · refine (θ_run Cert.ReferenceIdeal.defs _ _).mono (fun r hr c => ?_) (Ref.run_main (F := Ideal) m' g')
    obtain ⟨e0, e1, e2, e3⟩ := hagree c
    have hf : Ref.at0 (launchContents m' c) = Sc.places m c :=
      congrArg (fun x => Ref.flat (Dest.dest (Dest.lens (Dest.ended x)))) e0
    refine ⟨?_, ?_, ?_, (hr c Cert.ReferenceIdeal.main_arg0).trans (Ref.args_eq _).1, (hr c Cert.ReferenceIdeal.main_arg1).trans (Ref.args_eq _).2.1,
        (hr c Cert.ReferenceIdeal.main_arg2).trans (Ref.args_eq _).2.2.1, (hr c Cert.ReferenceIdeal.main_arg3).trans (Ref.args_eq _).2.2.2⟩
    · refine (hr c Cert.ReferenceIdeal.main_v59).trans ((Ref.res0_eq _).trans ?_)
      rw [hf]
      exact (congrArg (Ref.spread _ _) e0).trans (Sc.res0 hP c _).symm
    · refine (hr c Cert.ReferenceIdeal.main_v69).trans ((Ref.res1_eq _).trans ?_)
      rw [hf]
      exact (congrArg (Ref.spread _ _) e1).trans (Sc.res1 hP c _).symm
    · refine (hr c Cert.ReferenceIdeal.main_v79).trans ((Ref.res2_eq _).trans ?_)
      rw [hf]
      exact (congrArg (Ref.spread _ _) e2).trans (Sc.res2 hP c _).symm

/-! ## The sender -/

theorem frame_SP : Cert.quiescent_Sender := fun m g _ => TcB.run_frame m g

theorem frame_SPI : Cert.quiescent_SenderIdeal := fun m g _ => Tc.run_frame m g

theorem frame_SPI_pre : Cert.quiescent_SenderIdeal_pre_finite_readout := fun m g _ => Tc.run_frame m g

/-- The sender's reference's run, read at its arguments and counters. -/
theorem frame_SRI : Cert.quiescent_SenderReferenceIdeal := fun m g _ =>
  (θ_run Cert.SenderReferenceIdeal.defs _ _).mono (fun _ h => ⟨fun c => (h.1 c).2.2.2.2, h.2⟩) (SRef.run_vals (F := Ideal) m g)

theorem frame_SRI_pre : Cert.quiescent_SenderReferenceIdeal_pre_finite_readout := fun m g _ => frame_SRI m g trivial

/-- The reference's logits, from its arguments. -/
theorem zs_eq (m' : (ℓ : Loc Cert.SenderReferenceIdeal.nD Cert.SenderReferenceIdeal.τ Cert.SenderReferenceIdeal.sig) → Buf (Elt Ideal) ℓ) (c : Dev Cert.SenderReferenceIdeal.nD) :
    SRef.zs m' c = SM.zz (m' ((c.tc : Thread Cert.SenderReferenceIdeal.nD Cert.SenderReferenceIdeal.τ).loc Cert.SenderReferenceIdeal.main_arg0))
      (m' ((c.tc : Thread Cert.SenderReferenceIdeal.nD Cert.SenderReferenceIdeal.τ).loc Cert.SenderReferenceIdeal.main_arg1))
      (m' ((c.tc : Thread Cert.SenderReferenceIdeal.nD Cert.SenderReferenceIdeal.τ).loc Cert.SenderReferenceIdeal.main_arg2))
      (m' ((c.tc : Thread Cert.SenderReferenceIdeal.nD Cert.SenderReferenceIdeal.τ).loc Cert.SenderReferenceIdeal.main_arg3)) := rfl

theorem conforms_S : Cert.algebraic_SenderIdeal_SenderReferenceIdeal_pre_finite_readout := by
  intro m g m' g' hpre hagree
  have hz : ∀ c : Dev Cert.SenderIdeal.nD, SRef.zs m' c = SM.zz (m ((c.tc : Thread Cert.SenderIdeal.nD Cert.SenderIdeal.τ).loc Cert.SenderIdeal.main_arg0))
      (m ((c.tc : Thread Cert.SenderIdeal.nD Cert.SenderIdeal.τ).loc Cert.SenderIdeal.main_arg1))
      (m ((c.tc : Thread Cert.SenderIdeal.nD Cert.SenderIdeal.τ).loc Cert.SenderIdeal.main_arg2))
      (m ((c.tc : Thread Cert.SenderIdeal.nD Cert.SenderIdeal.τ).loc Cert.SenderIdeal.main_arg3)) := fun c => by
    obtain ⟨e0, e1, e2, e3⟩ := hagree c
    rw [zs_eq]
    exact congr (congr (congrArg₂ SM.zz e0 e1) e2) e3
  have hreal : ∀ c : Dev Cert.SenderIdeal.nD, ∀ (j : Fin 512) (k : Fin 128), ∃ r : ℝ,
      (m ((c.tc : Thread Cert.SenderIdeal.nD Cert.SenderIdeal.τ).loc Cert.SenderIdeal.main_arg3)) (ix2 j k) = (r : EReal) := fun c j k =>
    SM.real_of_pre _ _ _ _ (hpre c) j k
  have htok : ∀ c : Dev Cert.SenderIdeal.nD, Tc.outTok (F := Ideal) (Tc.X0 m c) (Tc.X1 m c) (Tc.X2 m c) (Tc.X3 m c) = SRef.toks (F := Ideal) (SRef.zs m' c) := fun c => by
    rw [hz c]
    exact SM.tok_eq _ _ _ _ (hreal c)
  refine ⟨fun c => Tc.outTok (Tc.X0 m c) (Tc.X1 m c) (Tc.X2 m c) (Tc.X3 m c), fun c => Tc.outLp (Tc.X0 m c) (Tc.X1 m c) (Tc.X2 m c) (Tc.X3 m c),
    fun c => Tc.outEnt (Tc.X0 m c) (Tc.X1 m c) (Tc.X2 m c) (Tc.X3 m c), fun c => Tc.outDest (Tc.outTok (Tc.X0 m c) (Tc.X1 m c) (Tc.X2 m c) (Tc.X3 m c)), ?_, ?_⟩
  · refine (θ_run Cert.SenderIdeal.defs _ _).mono (fun r hr c => ?_) (θ_run_and (Tc.run_vals m g) (Tc.run_frame m g))
    obtain ⟨h0, h1, h2, h3⟩ := hr.1 c
    exact ⟨h0, h1, h2, h3, hr.2.1 c⟩
  · refine (θ_run Cert.SenderReferenceIdeal.defs _ _).mono (fun r hr c => ?_) (SRef.run_vals (F := Ideal) m' g')
    obtain ⟨h0, h1, h2, h3, h4⟩ := hr.1 c
    refine ⟨h0.trans (htok c).symm, h1.trans ?_, h2.trans ?_, h3.trans ?_, h4⟩
    · rw [hz c]
      exact (SM.lp_eq _ _ _ _ (hreal c)).symm
    · rw [hz c]
      exact (SM.ent_eq _ _ _ _ (hreal c)).symm
    · exact (SM.dest_eq _).symm.trans (congrArg (Tc.outDest (F := Ideal)) (htok c).symm)

/-! ## The two calls as one program -/

theorem frame_WPI : Cert.quiescent_WholeIdeal := fun m g _ => Wh.run_frame m g

theorem frame_WPI_pre : Cert.quiescent_WholeIdeal_pre_finite_readout := fun m g _ => Wh.run_frame m g

/-- The whole program's reference's run, read at its arguments and counters. -/
theorem frame_WRI : Cert.quiescent_WholeReferenceIdeal := fun m g _ =>
  (θ_run Cert.WholeReferenceIdeal.defs _ _).mono (fun _ h => ⟨fun c => (h.1 c).2.2.2, h.2⟩) (WRef.run_vals (F := Ideal) m g)

theorem frame_WRI_pre : Cert.quiescent_WholeReferenceIdeal_pre_finite_readout := fun m g _ => frame_WRI m g trivial

/-- The whole program's reference's logits, from its arguments. -/
theorem wzs_eq (m' : (ℓ : Loc Cert.WholeReferenceIdeal.nD Cert.WholeReferenceIdeal.τ Cert.WholeReferenceIdeal.sig) → Buf (Elt Ideal) ℓ) (c : Dev Cert.WholeReferenceIdeal.nD) :
    WRef.zs m' c = SM.zz (m' ((c.tc : Thread Cert.WholeReferenceIdeal.nD Cert.WholeReferenceIdeal.τ).loc Cert.WholeReferenceIdeal.main_arg0))
      (m' ((c.tc : Thread Cert.WholeReferenceIdeal.nD Cert.WholeReferenceIdeal.τ).loc Cert.WholeReferenceIdeal.main_arg1))
      (m' ((c.tc : Thread Cert.WholeReferenceIdeal.nD Cert.WholeReferenceIdeal.τ).loc Cert.WholeReferenceIdeal.main_arg2))
      (m' ((c.tc : Thread Cert.WholeReferenceIdeal.nD Cert.WholeReferenceIdeal.τ).loc Cert.WholeReferenceIdeal.main_arg3)) := rfl

theorem conforms_W : Cert.algebraic_WholeIdeal_WholeReferenceIdeal_pre_finite_readout := by
  intro m g m' g' hpre hagree
  have hz : ∀ c : Dev Cert.WholeIdeal.nD, WRef.zs m' c = Wh.zz m c := fun c => by
    obtain ⟨e0, e1, e2, e3⟩ := hagree c
    rw [wzs_eq]
    exact congr (congr (congrArg₂ SM.zz e0 e1) e2) e3
  have hreal : ∀ (c : Dev Cert.WholeIdeal.nD) (j : Fin 512) (k : Fin 128), ∃ r : ℝ,
      (m ((c.tc : Thread Cert.WholeIdeal.nD Cert.WholeIdeal.τ).loc Cert.WholeIdeal.main_arg3)) (ix2 j k) = (r : EReal) := fun c j k =>
    SM.real_of_pre _ _ _ _ (hpre c) j k
  have hp : ∀ c : Dev Cert.WholeIdeal.nD, WRef.spots m' c = Ref.flat (Wh.plc m c) := fun c => by
    unfold WRef.spots
    rw [hz c, ← Wh.tk_eq m hreal c]
  refine ⟨fun c => Wh.V2 m (Wh.feed_ok m) c (Proc.devRef .tc Cert.WholeIdeal.main_v15_1), fun c => Wh.V2 m (Wh.feed_ok m) c (Proc.devRef .tc Cert.WholeIdeal.main_v16),
    fun c => Wh.V2 m (Wh.feed_ok m) c (Proc.devRef .tc Cert.WholeIdeal.main_v17), ?_, ?_⟩
  · refine (θ_run Cert.WholeIdeal.defs _ _).mono (fun r hr c => ?_) (Wh.run_main m g (Wh.feed_ok m))
    have ha := Wh.V2_args (Wh.feed_ok m) c
    exact ⟨hr.1 c (Proc.devRef .tc Cert.WholeIdeal.main_v15_1) (by decide), hr.1 c (Proc.devRef .tc Cert.WholeIdeal.main_v16) (by decide),
      hr.1 c (Proc.devRef .tc Cert.WholeIdeal.main_v17) (by decide), (hr.1 c (Proc.devRef .tc Cert.WholeIdeal.main_arg0) (by decide)).trans ha.1,
      (hr.1 c (Proc.devRef .tc Cert.WholeIdeal.main_arg1) (by decide)).trans ha.2.1, (hr.1 c (Proc.devRef .tc Cert.WholeIdeal.main_arg2) (by decide)).trans ha.2.2.1,
      (hr.1 c (Proc.devRef .tc Cert.WholeIdeal.main_arg3) (by decide)).trans ha.2.2.2⟩
  · refine (θ_run Cert.WholeReferenceIdeal.defs _ _).mono (fun r hr c => ?_) (WRef.run_vals (F := Ideal) m' g')
    obtain ⟨h0, h1, h2, h4⟩ := hr.1 c
    refine ⟨h0.trans ?_, h1.trans ?_, h2.trans ?_, h4⟩
    · rw [hp c, hz c, ← Wh.tk_eq m hreal c]
      exact (Wh.res0 c _).symm
    · rw [hp c, hz c, ← Wh.lq_eq m hreal c]
      exact (Wh.res1 c _).symm
    · rw [hp c, hz c, ← Wh.eq_eq m hreal c]
      exact (Wh.res2 c _).symm

theorem claim : Cert.Claim :=
  ⟨Cert.Kernel.Gen.facts, Cert.KernelIdeal.Gen.facts, Cert.ReferenceIdeal.Gen.facts, Cert.Sender.Gen.facts, Cert.SenderIdeal.Gen.facts,
    Cert.SenderReferenceIdeal.Gen.facts, Cert.WholeIdeal.Gen.facts, Cert.WholeReferenceIdeal.Gen.facts, Cert.Pre_dest_of_messages.Gen.facts, Cert.Pre_finite_readout.Gen.facts,
    frame_P, frame_PI, frame_RI, frame_RI_pre, frame_SP, frame_SPI, frame_SPI_pre, frame_SRI, frame_SRI_pre, frame_WPI, frame_WPI_pre, frame_WRI, frame_WRI_pre,
    trivial, conforms, trivial, conforms_S, conforms_W⟩

end Cert.Proof

end
